-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_LnQuant (m : (ℓ : Loc Cert.LnQuant.nD Cert.LnQuant.τ Cert.LnQuant.sig) → Buf (Elt Bits) ℓ) : Prop :=
  True

def Pre_LnQuantIdeal (m : (ℓ : Loc Cert.LnQuantIdeal.nD Cert.LnQuantIdeal.τ Cert.LnQuantIdeal.sig) → Buf (Elt Ideal) ℓ) : Prop :=
  True

def Pre_LnQuantRefIdeal (m : (ℓ : Loc Cert.LnQuantRefIdeal.nD Cert.LnQuantRefIdeal.τ Cert.LnQuantRefIdeal.sig) → Buf (Elt Ideal) ℓ) : Prop :=
  True

def Pre_Linear1 (m : (ℓ : Loc Cert.Linear1.nD Cert.Linear1.τ Cert.Linear1.sig) → Buf (Elt Bits) ℓ) : Prop :=
  True

def Pre_Linear1Ideal (m : (ℓ : Loc Cert.Linear1Ideal.nD Cert.Linear1Ideal.τ Cert.Linear1Ideal.sig) → Buf (Elt Ideal) ℓ) : Prop :=
  True

def Pre_Linear1RefIdeal (m : (ℓ : Loc Cert.Linear1RefIdeal.nD Cert.Linear1RefIdeal.τ Cert.Linear1RefIdeal.sig) → Buf (Elt Ideal) ℓ) : Prop :=
  True

def Pre_Linear2 (m : (ℓ : Loc Cert.Linear2.nD Cert.Linear2.τ Cert.Linear2.sig) → Buf (Elt Bits) ℓ) : Prop :=
  True

def Pre_Linear2Ideal (m : (ℓ : Loc Cert.Linear2Ideal.nD Cert.Linear2Ideal.τ Cert.Linear2Ideal.sig) → Buf (Elt Ideal) ℓ) : Prop :=
  True

def Pre_Linear2RefIdeal (m : (ℓ : Loc Cert.Linear2RefIdeal.nD Cert.Linear2RefIdeal.τ Cert.Linear2RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_LnQuant [hLnQuant : Cert.LnQuant.Facts] : Prop :=
  ∀ (m : (ℓ : Loc Cert.LnQuant.nD Cert.LnQuant.τ Cert.LnQuant.sig) → Buf (Elt Bits) ℓ) (g : Dev Cert.LnQuant.nD → PrngReg), Pre_LnQuant m →
    θ_run (Cert.LnQuant.defs (F := Bits)) (onTc (τ := Cert.LnQuant.τ) (Cert.LnQuant.main (F := Bits))) ⟨m, fun _ => 0, g⟩ (fun r => (∀ c : Dev Cert.LnQuant.nD,
      r.2.mem ((c.tc : Thread Cert.LnQuant.nD Cert.LnQuant.τ).loc Cert.LnQuant.main_arg0) = m ((c.tc : Thread Cert.LnQuant.nD Cert.LnQuant.τ).loc Cert.LnQuant.main_arg0)
      ∧ r.2.mem ((c.tc : Thread Cert.LnQuant.nD Cert.LnQuant.τ).loc Cert.LnQuant.main_arg1) = m ((c.tc : Thread Cert.LnQuant.nD Cert.LnQuant.τ).loc Cert.LnQuant.main_arg1)
      ∧ r.2.mem ((c.tc : Thread Cert.LnQuant.nD Cert.LnQuant.τ).loc Cert.LnQuant.main_arg2) = m ((c.tc : Thread Cert.LnQuant.nD Cert.LnQuant.τ).loc Cert.LnQuant.main_arg2))
      ∧ r.2.sem = fun _ => 0)

def quiescent_LnQuantIdeal [hLnQuantIdeal : Cert.LnQuantIdeal.Facts] : Prop :=
  ∀ (m : (ℓ : Loc Cert.LnQuantIdeal.nD Cert.LnQuantIdeal.τ Cert.LnQuantIdeal.sig) → Buf (Elt Ideal) ℓ) (g : Dev Cert.LnQuantIdeal.nD → PrngReg), Pre_LnQuantIdeal m →
    θ_run (Cert.LnQuantIdeal.defs (F := Ideal)) (onTc (τ := Cert.LnQuantIdeal.τ) (Cert.LnQuantIdeal.main (F := Ideal))) ⟨m, fun _ => 0, g⟩ (fun r => (∀ c : Dev Cert.LnQuantIdeal.nD,
      r.2.mem ((c.tc : Thread Cert.LnQuantIdeal.nD Cert.LnQuantIdeal.τ).loc Cert.LnQuantIdeal.main_arg0) = m ((c.tc : Thread Cert.LnQuantIdeal.nD Cert.LnQuantIdeal.τ).loc Cert.LnQuantIdeal.main_arg0)
      ∧ r.2.mem ((c.tc : Thread Cert.LnQuantIdeal.nD Cert.LnQuantIdeal.τ).loc Cert.LnQuantIdeal.main_arg1) = m ((c.tc : Thread Cert.LnQuantIdeal.nD Cert.LnQuantIdeal.τ).loc Cert.LnQuantIdeal.main_arg1)
      ∧ r.2.mem ((c.tc : Thread Cert.LnQuantIdeal.nD Cert.LnQuantIdeal.τ).loc Cert.LnQuantIdeal.main_arg2) = m ((c.tc : Thread Cert.LnQuantIdeal.nD Cert.LnQuantIdeal.τ).loc Cert.LnQuantIdeal.main_arg2))
      ∧ r.2.sem = fun _ => 0)

def quiescent_LnQuantRefIdeal [hLnQuantRefIdeal : Cert.LnQuantRefIdeal.Facts] : Prop :=
  ∀ (m : (ℓ : Loc Cert.LnQuantRefIdeal.nD Cert.LnQuantRefIdeal.τ Cert.LnQuantRefIdeal.sig) → Buf (Elt Ideal) ℓ) (g : Dev Cert.LnQuantRefIdeal.nD → PrngReg), Pre_LnQuantRefIdeal m →
    θ_run (Cert.LnQuantRefIdeal.defs (F := Ideal)) (onTc (τ := Cert.LnQuantRefIdeal.τ) (Cert.LnQuantRefIdeal.main (F := Ideal))) ⟨m, fun _ => 0, g⟩ (fun r => (∀ c : Dev Cert.LnQuantRefIdeal.nD,
      r.2.mem ((c.tc : Thread Cert.LnQuantRefIdeal.nD Cert.LnQuantRefIdeal.τ).loc Cert.LnQuantRefIdeal.main_arg0) = m ((c.tc : Thread Cert.LnQuantRefIdeal.nD Cert.LnQuantRefIdeal.τ).loc Cert.LnQuantRefIdeal.main_arg0)
      ∧ r.2.mem ((c.tc : Thread Cert.LnQuantRefIdeal.nD Cert.LnQuantRefIdeal.τ).loc Cert.LnQuantRefIdeal.main_arg1) = m ((c.tc : Thread Cert.LnQuantRefIdeal.nD Cert.LnQuantRefIdeal.τ).loc Cert.LnQuantRefIdeal.main_arg1)
      ∧ r.2.mem ((c.tc : Thread Cert.LnQuantRefIdeal.nD Cert.LnQuantRefIdeal.τ).loc Cert.LnQuantRefIdeal.main_arg2) = m ((c.tc : Thread Cert.LnQuantRefIdeal.nD Cert.LnQuantRefIdeal.τ).loc Cert.LnQuantRefIdeal.main_arg2))
      ∧ r.2.sem = fun _ => 0)

def quiescent_Linear1 [hLinear1 : Cert.Linear1.Facts] : Prop :=
  ∀ (m : (ℓ : Loc Cert.Linear1.nD Cert.Linear1.τ Cert.Linear1.sig) → Buf (Elt Bits) ℓ) (g : Dev Cert.Linear1.nD → PrngReg), Pre_Linear1 m →
    θ_run (Cert.Linear1.defs (F := Bits)) (onTc (τ := Cert.Linear1.τ) (Cert.Linear1.main (F := Bits))) ⟨m, fun _ => 0, g⟩ (fun r => (∀ c : Dev Cert.Linear1.nD,
      r.2.mem ((c.tc : Thread Cert.Linear1.nD Cert.Linear1.τ).loc Cert.Linear1.main_arg0) = m ((c.tc : Thread Cert.Linear1.nD Cert.Linear1.τ).loc Cert.Linear1.main_arg0)
      ∧ r.2.mem ((c.tc : Thread Cert.Linear1.nD Cert.Linear1.τ).loc Cert.Linear1.main_arg1) = m ((c.tc : Thread Cert.Linear1.nD Cert.Linear1.τ).loc Cert.Linear1.main_arg1)
      ∧ r.2.mem ((c.tc : Thread Cert.Linear1.nD Cert.Linear1.τ).loc Cert.Linear1.main_arg2) = m ((c.tc : Thread Cert.Linear1.nD Cert.Linear1.τ).loc Cert.Linear1.main_arg2)
      ∧ r.2.mem ((c.tc : Thread Cert.Linear1.nD Cert.Linear1.τ).loc Cert.Linear1.main_arg3) = m ((c.tc : Thread Cert.Linear1.nD Cert.Linear1.τ).loc Cert.Linear1.main_arg3)
      ∧ r.2.mem ((c.tc : Thread Cert.Linear1.nD Cert.Linear1.τ).loc Cert.Linear1.main_arg4) = m ((c.tc : Thread Cert.Linear1.nD Cert.Linear1.τ).loc Cert.Linear1.main_arg4))
      ∧ r.2.sem = fun _ => 0)

def quiescent_Linear1Ideal [hLinear1Ideal : Cert.Linear1Ideal.Facts] : Prop :=
  ∀ (m : (ℓ : Loc Cert.Linear1Ideal.nD Cert.Linear1Ideal.τ Cert.Linear1Ideal.sig) → Buf (Elt Ideal) ℓ) (g : Dev Cert.Linear1Ideal.nD → PrngReg), Pre_Linear1Ideal m →
    θ_run (Cert.Linear1Ideal.defs (F := Ideal)) (onTc (τ := Cert.Linear1Ideal.τ) (Cert.Linear1Ideal.main (F := Ideal))) ⟨m, fun _ => 0, g⟩ (fun r => (∀ c : Dev Cert.Linear1Ideal.nD,
      r.2.mem ((c.tc : Thread Cert.Linear1Ideal.nD Cert.Linear1Ideal.τ).loc Cert.Linear1Ideal.main_arg0) = m ((c.tc : Thread Cert.Linear1Ideal.nD Cert.Linear1Ideal.τ).loc Cert.Linear1Ideal.main_arg0)
      ∧ r.2.mem ((c.tc : Thread Cert.Linear1Ideal.nD Cert.Linear1Ideal.τ).loc Cert.Linear1Ideal.main_arg1) = m ((c.tc : Thread Cert.Linear1Ideal.nD Cert.Linear1Ideal.τ).loc Cert.Linear1Ideal.main_arg1)
      ∧ r.2.mem ((c.tc : Thread Cert.Linear1Ideal.nD Cert.Linear1Ideal.τ).loc Cert.Linear1Ideal.main_arg2) = m ((c.tc : Thread Cert.Linear1Ideal.nD Cert.Linear1Ideal.τ).loc Cert.Linear1Ideal.main_arg2)
      ∧ r.2.mem ((c.tc : Thread Cert.Linear1Ideal.nD Cert.Linear1Ideal.τ).loc Cert.Linear1Ideal.main_arg3) = m ((c.tc : Thread Cert.Linear1Ideal.nD Cert.Linear1Ideal.τ).loc Cert.Linear1Ideal.main_arg3)
      ∧ r.2.mem ((c.tc : Thread Cert.Linear1Ideal.nD Cert.Linear1Ideal.τ).loc Cert.Linear1Ideal.main_arg4) = m ((c.tc : Thread Cert.Linear1Ideal.nD Cert.Linear1Ideal.τ).loc Cert.Linear1Ideal.main_arg4))
      ∧ r.2.sem = fun _ => 0)

def quiescent_Linear1RefIdeal [hLinear1RefIdeal : Cert.Linear1RefIdeal.Facts] : Prop :=
  ∀ (m : (ℓ : Loc Cert.Linear1RefIdeal.nD Cert.Linear1RefIdeal.τ Cert.Linear1RefIdeal.sig) → Buf (Elt Ideal) ℓ) (g : Dev Cert.Linear1RefIdeal.nD → PrngReg), Pre_Linear1RefIdeal m →
    θ_run (Cert.Linear1RefIdeal.defs (F := Ideal)) (onTc (τ := Cert.Linear1RefIdeal.τ) (Cert.Linear1RefIdeal.main (F := Ideal))) ⟨m, fun _ => 0, g⟩ (fun r => (∀ c : Dev Cert.Linear1RefIdeal.nD,
      r.2.mem ((c.tc : Thread Cert.Linear1RefIdeal.nD Cert.Linear1RefIdeal.τ).loc Cert.Linear1RefIdeal.main_arg0) = m ((c.tc : Thread Cert.Linear1RefIdeal.nD Cert.Linear1RefIdeal.τ).loc Cert.Linear1RefIdeal.main_arg0)
      ∧ r.2.mem ((c.tc : Thread Cert.Linear1RefIdeal.nD Cert.Linear1RefIdeal.τ).loc Cert.Linear1RefIdeal.main_arg1) = m ((c.tc : Thread Cert.Linear1RefIdeal.nD Cert.Linear1RefIdeal.τ).loc Cert.Linear1RefIdeal.main_arg1)
      ∧ r.2.mem ((c.tc : Thread Cert.Linear1RefIdeal.nD Cert.Linear1RefIdeal.τ).loc Cert.Linear1RefIdeal.main_arg2) = m ((c.tc : Thread Cert.Linear1RefIdeal.nD Cert.Linear1RefIdeal.τ).loc Cert.Linear1RefIdeal.main_arg2)
      ∧ r.2.mem ((c.tc : Thread Cert.Linear1RefIdeal.nD Cert.Linear1RefIdeal.τ).loc Cert.Linear1RefIdeal.main_arg3) = m ((c.tc : Thread Cert.Linear1RefIdeal.nD Cert.Linear1RefIdeal.τ).loc Cert.Linear1RefIdeal.main_arg3)
      ∧ r.2.mem ((c.tc : Thread Cert.Linear1RefIdeal.nD Cert.Linear1RefIdeal.τ).loc Cert.Linear1RefIdeal.main_arg4) = m ((c.tc : Thread Cert.Linear1RefIdeal.nD Cert.Linear1RefIdeal.τ).loc Cert.Linear1RefIdeal.main_arg4))
      ∧ r.2.sem = fun _ => 0)

def quiescent_Linear2 [hLinear2 : Cert.Linear2.Facts] : Prop :=
  ∀ (m : (ℓ : Loc Cert.Linear2.nD Cert.Linear2.τ Cert.Linear2.sig) → Buf (Elt Bits) ℓ) (g : Dev Cert.Linear2.nD → PrngReg), Pre_Linear2 m →
    θ_run (Cert.Linear2.defs (F := Bits)) (onTc (τ := Cert.Linear2.τ) (Cert.Linear2.main (F := Bits))) ⟨m, fun _ => 0, g⟩ (fun r => (∀ c : Dev Cert.Linear2.nD,
      r.2.mem ((c.tc : Thread Cert.Linear2.nD Cert.Linear2.τ).loc Cert.Linear2.main_arg0) = m ((c.tc : Thread Cert.Linear2.nD Cert.Linear2.τ).loc Cert.Linear2.main_arg0)
      ∧ r.2.mem ((c.tc : Thread Cert.Linear2.nD Cert.Linear2.τ).loc Cert.Linear2.main_arg1) = m ((c.tc : Thread Cert.Linear2.nD Cert.Linear2.τ).loc Cert.Linear2.main_arg1)
      ∧ r.2.mem ((c.tc : Thread Cert.Linear2.nD Cert.Linear2.τ).loc Cert.Linear2.main_arg2) = m ((c.tc : Thread Cert.Linear2.nD Cert.Linear2.τ).loc Cert.Linear2.main_arg2)
      ∧ r.2.mem ((c.tc : Thread Cert.Linear2.nD Cert.Linear2.τ).loc Cert.Linear2.main_arg3) = m ((c.tc : Thread Cert.Linear2.nD Cert.Linear2.τ).loc Cert.Linear2.main_arg3)
      ∧ r.2.mem ((c.tc : Thread Cert.Linear2.nD Cert.Linear2.τ).loc Cert.Linear2.main_arg4) = m ((c.tc : Thread Cert.Linear2.nD Cert.Linear2.τ).loc Cert.Linear2.main_arg4))
      ∧ r.2.sem = fun _ => 0)

def quiescent_Linear2Ideal [hLinear2Ideal : Cert.Linear2Ideal.Facts] : Prop :=
  ∀ (m : (ℓ : Loc Cert.Linear2Ideal.nD Cert.Linear2Ideal.τ Cert.Linear2Ideal.sig) → Buf (Elt Ideal) ℓ) (g : Dev Cert.Linear2Ideal.nD → PrngReg), Pre_Linear2Ideal m →
    θ_run (Cert.Linear2Ideal.defs (F := Ideal)) (onTc (τ := Cert.Linear2Ideal.τ) (Cert.Linear2Ideal.main (F := Ideal))) ⟨m, fun _ => 0, g⟩ (fun r => (∀ c : Dev Cert.Linear2Ideal.nD,
      r.2.mem ((c.tc : Thread Cert.Linear2Ideal.nD Cert.Linear2Ideal.τ).loc Cert.Linear2Ideal.main_arg0) = m ((c.tc : Thread Cert.Linear2Ideal.nD Cert.Linear2Ideal.τ).loc Cert.Linear2Ideal.main_arg0)
      ∧ r.2.mem ((c.tc : Thread Cert.Linear2Ideal.nD Cert.Linear2Ideal.τ).loc Cert.Linear2Ideal.main_arg1) = m ((c.tc : Thread Cert.Linear2Ideal.nD Cert.Linear2Ideal.τ).loc Cert.Linear2Ideal.main_arg1)
      ∧ r.2.mem ((c.tc : Thread Cert.Linear2Ideal.nD Cert.Linear2Ideal.τ).loc Cert.Linear2Ideal.main_arg2) = m ((c.tc : Thread Cert.Linear2Ideal.nD Cert.Linear2Ideal.τ).loc Cert.Linear2Ideal.main_arg2)
      ∧ r.2.mem ((c.tc : Thread Cert.Linear2Ideal.nD Cert.Linear2Ideal.τ).loc Cert.Linear2Ideal.main_arg3) = m ((c.tc : Thread Cert.Linear2Ideal.nD Cert.Linear2Ideal.τ).loc Cert.Linear2Ideal.main_arg3)
      ∧ r.2.mem ((c.tc : Thread Cert.Linear2Ideal.nD Cert.Linear2Ideal.τ).loc Cert.Linear2Ideal.main_arg4) = m ((c.tc : Thread Cert.Linear2Ideal.nD Cert.Linear2Ideal.τ).loc Cert.Linear2Ideal.main_arg4))
      ∧ r.2.sem = fun _ => 0)

def quiescent_Linear2RefIdeal [hLinear2RefIdeal : Cert.Linear2RefIdeal.Facts] : Prop :=
  ∀ (m : (ℓ : Loc Cert.Linear2RefIdeal.nD Cert.Linear2RefIdeal.τ Cert.Linear2RefIdeal.sig) → Buf (Elt Ideal) ℓ) (g : Dev Cert.Linear2RefIdeal.nD → PrngReg), Pre_Linear2RefIdeal m →
    θ_run (Cert.Linear2RefIdeal.defs (F := Ideal)) (onTc (τ := Cert.Linear2RefIdeal.τ) (Cert.Linear2RefIdeal.main (F := Ideal))) ⟨m, fun _ => 0, g⟩ (fun r => (∀ c : Dev Cert.Linear2RefIdeal.nD,
      r.2.mem ((c.tc : Thread Cert.Linear2RefIdeal.nD Cert.Linear2RefIdeal.τ).loc Cert.Linear2RefIdeal.main_arg0) = m ((c.tc : Thread Cert.Linear2RefIdeal.nD Cert.Linear2RefIdeal.τ).loc Cert.Linear2RefIdeal.main_arg0)
      ∧ r.2.mem ((c.tc : Thread Cert.Linear2RefIdeal.nD Cert.Linear2RefIdeal.τ).loc Cert.Linear2RefIdeal.main_arg1) = m ((c.tc : Thread Cert.Linear2RefIdeal.nD Cert.Linear2RefIdeal.τ).loc Cert.Linear2RefIdeal.main_arg1)
      ∧ r.2.mem ((c.tc : Thread Cert.Linear2RefIdeal.nD Cert.Linear2RefIdeal.τ).loc Cert.Linear2RefIdeal.main_arg2) = m ((c.tc : Thread Cert.Linear2RefIdeal.nD Cert.Linear2RefIdeal.τ).loc Cert.Linear2RefIdeal.main_arg2)
      ∧ r.2.mem ((c.tc : Thread Cert.Linear2RefIdeal.nD Cert.Linear2RefIdeal.τ).loc Cert.Linear2RefIdeal.main_arg3) = m ((c.tc : Thread Cert.Linear2RefIdeal.nD Cert.Linear2RefIdeal.τ).loc Cert.Linear2RefIdeal.main_arg3)
      ∧ r.2.mem ((c.tc : Thread Cert.Linear2RefIdeal.nD Cert.Linear2RefIdeal.τ).loc Cert.Linear2RefIdeal.main_arg4) = m ((c.tc : Thread Cert.Linear2RefIdeal.nD Cert.Linear2RefIdeal.τ).loc Cert.Linear2RefIdeal.main_arg4))
      ∧ r.2.sem = fun _ => 0)

def preserves_Kernel_KernelIdeal : Prop :=
  IdealRules.bf16_pair.Statement Cert.KernelIdeal.S32x128 Cert.KernelIdeal.S16x128
  ∧ IdealRules.bf16_pair.Statement Cert.KernelIdeal.S64x128 Cert.KernelIdeal.S32x128
  ∧ IdealRules.named_const.Statement Cert.KernelIdeal.κ "inv_k" .f32 0x38A3D70A#32 ((1 / 12800 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v6_0)) (v4 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_v6_0) = v3 c
          ∧ r.2.mem ((c.tc : Thread Cert.KernelIdeal.nD Cert.KernelIdeal.τ).loc Cert.KernelIdeal.main_v6_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_v9_3) = v3 c
          ∧ r.2.mem ((c.tc : Thread Cert.ReferenceIdeal.nD Cert.ReferenceIdeal.τ).loc Cert.ReferenceIdeal.main_v9_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_LnQuant_LnQuantIdeal : Prop :=
  IdealRules.bf16_pair.Statement Cert.LnQuantIdeal.S32x128 Cert.LnQuantIdeal.S16x128
  ∧ IdealRules.bf16_pair.Statement Cert.LnQuantIdeal.S64x128 Cert.LnQuantIdeal.S32x128
  ∧ IdealRules.named_const.Statement Cert.LnQuantIdeal.κ "inv_k" .f32 0x38A3D70A#32 ((1 / 12800 : ℝ) : EReal)

def algebraic_LnQuantIdeal_LnQuantRefIdeal [hLnQuantIdeal : Cert.LnQuantIdeal.Facts] [hLnQuantRefIdeal : Cert.LnQuantRefIdeal.Facts] : Prop :=
  ∀ (m : (ℓ : Loc Cert.LnQuantIdeal.nD Cert.LnQuantIdeal.τ Cert.LnQuantIdeal.sig) → Buf (Elt Ideal) ℓ) (g : Dev Cert.LnQuantIdeal.nD → PrngReg)
    (m' : (ℓ : Loc Cert.LnQuantRefIdeal.nD Cert.LnQuantRefIdeal.τ Cert.LnQuantRefIdeal.sig) → Buf (Elt Ideal) ℓ) (g' : Dev Cert.LnQuantRefIdeal.nD → PrngReg), Pre_LnQuantIdeal m →
    (∀ c : Dev Cert.LnQuantIdeal.nD,
      m' ((c.tc : Thread Cert.LnQuantRefIdeal.nD Cert.LnQuantRefIdeal.τ).loc Cert.LnQuantRefIdeal.main_arg0) = m ((c.tc : Thread Cert.LnQuantIdeal.nD Cert.LnQuantIdeal.τ).loc Cert.LnQuantIdeal.main_arg0)
      ∧ m' ((c.tc : Thread Cert.LnQuantRefIdeal.nD Cert.LnQuantRefIdeal.τ).loc Cert.LnQuantRefIdeal.main_arg1) = m ((c.tc : Thread Cert.LnQuantIdeal.nD Cert.LnQuantIdeal.τ).loc Cert.LnQuantIdeal.main_arg1)
      ∧ m' ((c.tc : Thread Cert.LnQuantRefIdeal.nD Cert.LnQuantRefIdeal.τ).loc Cert.LnQuantRefIdeal.main_arg2) = m ((c.tc : Thread Cert.LnQuantIdeal.nD Cert.LnQuantIdeal.τ).loc Cert.LnQuantIdeal.main_arg2)) →
    ∃ (v0 : (c : Dev Cert.LnQuantIdeal.nD) → Buf (Elt Ideal) ((c.tc : Thread Cert.LnQuantIdeal.nD Cert.LnQuantIdeal.τ).loc Cert.LnQuantIdeal.main_v3_0)) (v1 : (c : Dev Cert.LnQuantIdeal.nD) → Buf (Elt Ideal) ((c.tc : Thread Cert.LnQuantIdeal.nD Cert.LnQuantIdeal.τ).loc Cert.LnQuantIdeal.main_v3_1)),
      θ_run (Cert.LnQuantIdeal.defs (F := Ideal)) (onTc (τ := Cert.LnQuantIdeal.τ) (Cert.LnQuantIdeal.main (F := Ideal))) ⟨m, fun _ => 0, g⟩ (fun r => ∀ c : Dev Cert.LnQuantIdeal.nD,
          r.2.mem ((c.tc : Thread Cert.LnQuantIdeal.nD Cert.LnQuantIdeal.τ).loc Cert.LnQuantIdeal.main_v3_0) = v0 c
          ∧ r.2.mem ((c.tc : Thread Cert.LnQuantIdeal.nD Cert.LnQuantIdeal.τ).loc Cert.LnQuantIdeal.main_v3_1) = v1 c
          ∧ r.2.mem ((c.tc : Thread Cert.LnQuantIdeal.nD Cert.LnQuantIdeal.τ).loc Cert.LnQuantIdeal.main_arg0) = m ((c.tc : Thread Cert.LnQuantIdeal.nD Cert.LnQuantIdeal.τ).loc Cert.LnQuantIdeal.main_arg0)
          ∧ r.2.mem ((c.tc : Thread Cert.LnQuantIdeal.nD Cert.LnQuantIdeal.τ).loc Cert.LnQuantIdeal.main_arg1) = m ((c.tc : Thread Cert.LnQuantIdeal.nD Cert.LnQuantIdeal.τ).loc Cert.LnQuantIdeal.main_arg1)
          ∧ r.2.mem ((c.tc : Thread Cert.LnQuantIdeal.nD Cert.LnQuantIdeal.τ).loc Cert.LnQuantIdeal.main_arg2) = m ((c.tc : Thread Cert.LnQuantIdeal.nD Cert.LnQuantIdeal.τ).loc Cert.LnQuantIdeal.main_arg2))
      ∧ θ_run (Cert.LnQuantRefIdeal.defs (F := Ideal)) (onTc (τ := Cert.LnQuantRefIdeal.τ) (Cert.LnQuantRefIdeal.main (F := Ideal))) ⟨m', fun _ => 0, g'⟩ (fun r => ∀ c : Dev Cert.LnQuantRefIdeal.nD,
          r.2.mem ((c.tc : Thread Cert.LnQuantRefIdeal.nD Cert.LnQuantRefIdeal.τ).loc Cert.LnQuantRefIdeal.main_v5_0) = v0 c
          ∧ r.2.mem ((c.tc : Thread Cert.LnQuantRefIdeal.nD Cert.LnQuantRefIdeal.τ).loc Cert.LnQuantRefIdeal.main_v5_1) = v1 c
          ∧ r.2.mem ((c.tc : Thread Cert.LnQuantRefIdeal.nD Cert.LnQuantRefIdeal.τ).loc Cert.LnQuantRefIdeal.main_arg0) = m' ((c.tc : Thread Cert.LnQuantRefIdeal.nD Cert.LnQuantRefIdeal.τ).loc Cert.LnQuantRefIdeal.main_arg0)
          ∧ r.2.mem ((c.tc : Thread Cert.LnQuantRefIdeal.nD Cert.LnQuantRefIdeal.τ).loc Cert.LnQuantRefIdeal.main_arg1) = m' ((c.tc : Thread Cert.LnQuantRefIdeal.nD Cert.LnQuantRefIdeal.τ).loc Cert.LnQuantRefIdeal.main_arg1)
          ∧ r.2.mem ((c.tc : Thread Cert.LnQuantRefIdeal.nD Cert.LnQuantRefIdeal.τ).loc Cert.LnQuantRefIdeal.main_arg2) = m' ((c.tc : Thread Cert.LnQuantRefIdeal.nD Cert.LnQuantRefIdeal.τ).loc Cert.LnQuantRefIdeal.main_arg2))

def preserves_Linear1_Linear1Ideal : Prop :=
  True

def algebraic_Linear1Ideal_Linear1RefIdeal [hLinear1Ideal : Cert.Linear1Ideal.Facts] [hLinear1RefIdeal : Cert.Linear1RefIdeal.Facts] : Prop :=
  ∀ (m : (ℓ : Loc Cert.Linear1Ideal.nD Cert.Linear1Ideal.τ Cert.Linear1Ideal.sig) → Buf (Elt Ideal) ℓ) (g : Dev Cert.Linear1Ideal.nD → PrngReg)
    (m' : (ℓ : Loc Cert.Linear1RefIdeal.nD Cert.Linear1RefIdeal.τ Cert.Linear1RefIdeal.sig) → Buf (Elt Ideal) ℓ) (g' : Dev Cert.Linear1RefIdeal.nD → PrngReg), Pre_Linear1Ideal m →
    (∀ c : Dev Cert.Linear1Ideal.nD,
      m' ((c.tc : Thread Cert.Linear1RefIdeal.nD Cert.Linear1RefIdeal.τ).loc Cert.Linear1RefIdeal.main_arg0) = m ((c.tc : Thread Cert.Linear1Ideal.nD Cert.Linear1Ideal.τ).loc Cert.Linear1Ideal.main_arg0)
      ∧ m' ((c.tc : Thread Cert.Linear1RefIdeal.nD Cert.Linear1RefIdeal.τ).loc Cert.Linear1RefIdeal.main_arg1) = m ((c.tc : Thread Cert.Linear1Ideal.nD Cert.Linear1Ideal.τ).loc Cert.Linear1Ideal.main_arg1)
      ∧ m' ((c.tc : Thread Cert.Linear1RefIdeal.nD Cert.Linear1RefIdeal.τ).loc Cert.Linear1RefIdeal.main_arg2) = m ((c.tc : Thread Cert.Linear1Ideal.nD Cert.Linear1Ideal.τ).loc Cert.Linear1Ideal.main_arg2)
      ∧ m' ((c.tc : Thread Cert.Linear1RefIdeal.nD Cert.Linear1RefIdeal.τ).loc Cert.Linear1RefIdeal.main_arg3) = m ((c.tc : Thread Cert.Linear1Ideal.nD Cert.Linear1Ideal.τ).loc Cert.Linear1Ideal.main_arg3)
      ∧ m' ((c.tc : Thread Cert.Linear1RefIdeal.nD Cert.Linear1RefIdeal.τ).loc Cert.Linear1RefIdeal.main_arg4) = m ((c.tc : Thread Cert.Linear1Ideal.nD Cert.Linear1Ideal.τ).loc Cert.Linear1Ideal.main_arg4)) →
    ∃ (v0 : (c : Dev Cert.Linear1Ideal.nD) → Buf (Elt Ideal) ((c.tc : Thread Cert.Linear1Ideal.nD Cert.Linear1Ideal.τ).loc Cert.Linear1Ideal.main_v2_0)) (v1 : (c : Dev Cert.Linear1Ideal.nD) → Buf (Elt Ideal) ((c.tc : Thread Cert.Linear1Ideal.nD Cert.Linear1Ideal.τ).loc Cert.Linear1Ideal.main_v2_1)),
      θ_run (Cert.Linear1Ideal.defs (F := Ideal)) (onTc (τ := Cert.Linear1Ideal.τ) (Cert.Linear1Ideal.main (F := Ideal))) ⟨m, fun _ => 0, g⟩ (fun r => ∀ c : Dev Cert.Linear1Ideal.nD,
          r.2.mem ((c.tc : Thread Cert.Linear1Ideal.nD Cert.Linear1Ideal.τ).loc Cert.Linear1Ideal.main_v2_0) = v0 c
          ∧ r.2.mem ((c.tc : Thread Cert.Linear1Ideal.nD Cert.Linear1Ideal.τ).loc Cert.Linear1Ideal.main_v2_1) = v1 c
          ∧ r.2.mem ((c.tc : Thread Cert.Linear1Ideal.nD Cert.Linear1Ideal.τ).loc Cert.Linear1Ideal.main_arg0) = m ((c.tc : Thread Cert.Linear1Ideal.nD Cert.Linear1Ideal.τ).loc Cert.Linear1Ideal.main_arg0)
          ∧ r.2.mem ((c.tc : Thread Cert.Linear1Ideal.nD Cert.Linear1Ideal.τ).loc Cert.Linear1Ideal.main_arg1) = m ((c.tc : Thread Cert.Linear1Ideal.nD Cert.Linear1Ideal.τ).loc Cert.Linear1Ideal.main_arg1)
          ∧ r.2.mem ((c.tc : Thread Cert.Linear1Ideal.nD Cert.Linear1Ideal.τ).loc Cert.Linear1Ideal.main_arg2) = m ((c.tc : Thread Cert.Linear1Ideal.nD Cert.Linear1Ideal.τ).loc Cert.Linear1Ideal.main_arg2)
          ∧ r.2.mem ((c.tc : Thread Cert.Linear1Ideal.nD Cert.Linear1Ideal.τ).loc Cert.Linear1Ideal.main_arg3) = m ((c.tc : Thread Cert.Linear1Ideal.nD Cert.Linear1Ideal.τ).loc Cert.Linear1Ideal.main_arg3)
          ∧ r.2.mem ((c.tc : Thread Cert.Linear1Ideal.nD Cert.Linear1Ideal.τ).loc Cert.Linear1Ideal.main_arg4) = m ((c.tc : Thread Cert.Linear1Ideal.nD Cert.Linear1Ideal.τ).loc Cert.Linear1Ideal.main_arg4))
      ∧ θ_run (Cert.Linear1RefIdeal.defs (F := Ideal)) (onTc (τ := Cert.Linear1RefIdeal.τ) (Cert.Linear1RefIdeal.main (F := Ideal))) ⟨m', fun _ => 0, g'⟩ (fun r => ∀ c : Dev Cert.Linear1RefIdeal.nD,
          r.2.mem ((c.tc : Thread Cert.Linear1RefIdeal.nD Cert.Linear1RefIdeal.τ).loc Cert.Linear1RefIdeal.main_v2_0) = v0 c
          ∧ r.2.mem ((c.tc : Thread Cert.Linear1RefIdeal.nD Cert.Linear1RefIdeal.τ).loc Cert.Linear1RefIdeal.main_v2_1) = v1 c
          ∧ r.2.mem ((c.tc : Thread Cert.Linear1RefIdeal.nD Cert.Linear1RefIdeal.τ).loc Cert.Linear1RefIdeal.main_arg0) = m' ((c.tc : Thread Cert.Linear1RefIdeal.nD Cert.Linear1RefIdeal.τ).loc Cert.Linear1RefIdeal.main_arg0)
          ∧ r.2.mem ((c.tc : Thread Cert.Linear1RefIdeal.nD Cert.Linear1RefIdeal.τ).loc Cert.Linear1RefIdeal.main_arg1) = m' ((c.tc : Thread Cert.Linear1RefIdeal.nD Cert.Linear1RefIdeal.τ).loc Cert.Linear1RefIdeal.main_arg1)
          ∧ r.2.mem ((c.tc : Thread Cert.Linear1RefIdeal.nD Cert.Linear1RefIdeal.τ).loc Cert.Linear1RefIdeal.main_arg2) = m' ((c.tc : Thread Cert.Linear1RefIdeal.nD Cert.Linear1RefIdeal.τ).loc Cert.Linear1RefIdeal.main_arg2)
          ∧ r.2.mem ((c.tc : Thread Cert.Linear1RefIdeal.nD Cert.Linear1RefIdeal.τ).loc Cert.Linear1RefIdeal.main_arg3) = m' ((c.tc : Thread Cert.Linear1RefIdeal.nD Cert.Linear1RefIdeal.τ).loc Cert.Linear1RefIdeal.main_arg3)
          ∧ r.2.mem ((c.tc : Thread Cert.Linear1RefIdeal.nD Cert.Linear1RefIdeal.τ).loc Cert.Linear1RefIdeal.main_arg4) = m' ((c.tc : Thread Cert.Linear1RefIdeal.nD Cert.Linear1RefIdeal.τ).loc Cert.Linear1RefIdeal.main_arg4))

def preserves_Linear2_Linear2Ideal : Prop :=
  True

def algebraic_Linear2Ideal_Linear2RefIdeal [hLinear2Ideal : Cert.Linear2Ideal.Facts] [hLinear2RefIdeal : Cert.Linear2RefIdeal.Facts] : Prop :=
  ∀ (m : (ℓ : Loc Cert.Linear2Ideal.nD Cert.Linear2Ideal.τ Cert.Linear2Ideal.sig) → Buf (Elt Ideal) ℓ) (g : Dev Cert.Linear2Ideal.nD → PrngReg)
    (m' : (ℓ : Loc Cert.Linear2RefIdeal.nD Cert.Linear2RefIdeal.τ Cert.Linear2RefIdeal.sig) → Buf (Elt Ideal) ℓ) (g' : Dev Cert.Linear2RefIdeal.nD → PrngReg), Pre_Linear2Ideal m →
    (∀ c : Dev Cert.Linear2Ideal.nD,
      m' ((c.tc : Thread Cert.Linear2RefIdeal.nD Cert.Linear2RefIdeal.τ).loc Cert.Linear2RefIdeal.main_arg0) = m ((c.tc : Thread Cert.Linear2Ideal.nD Cert.Linear2Ideal.τ).loc Cert.Linear2Ideal.main_arg0)
      ∧ m' ((c.tc : Thread Cert.Linear2RefIdeal.nD Cert.Linear2RefIdeal.τ).loc Cert.Linear2RefIdeal.main_arg1) = m ((c.tc : Thread Cert.Linear2Ideal.nD Cert.Linear2Ideal.τ).loc Cert.Linear2Ideal.main_arg1)
      ∧ m' ((c.tc : Thread Cert.Linear2RefIdeal.nD Cert.Linear2RefIdeal.τ).loc Cert.Linear2RefIdeal.main_arg2) = m ((c.tc : Thread Cert.Linear2Ideal.nD Cert.Linear2Ideal.τ).loc Cert.Linear2Ideal.main_arg2)
      ∧ m' ((c.tc : Thread Cert.Linear2RefIdeal.nD Cert.Linear2RefIdeal.τ).loc Cert.Linear2RefIdeal.main_arg3) = m ((c.tc : Thread Cert.Linear2Ideal.nD Cert.Linear2Ideal.τ).loc Cert.Linear2Ideal.main_arg3)
      ∧ m' ((c.tc : Thread Cert.Linear2RefIdeal.nD Cert.Linear2RefIdeal.τ).loc Cert.Linear2RefIdeal.main_arg4) = m ((c.tc : Thread Cert.Linear2Ideal.nD Cert.Linear2Ideal.τ).loc Cert.Linear2Ideal.main_arg4)) →
    ∃ (v0 : (c : Dev Cert.Linear2Ideal.nD) → Buf (Elt Ideal) ((c.tc : Thread Cert.Linear2Ideal.nD Cert.Linear2Ideal.τ).loc Cert.Linear2Ideal.main_v2)),
      θ_run (Cert.Linear2Ideal.defs (F := Ideal)) (onTc (τ := Cert.Linear2Ideal.τ) (Cert.Linear2Ideal.main (F := Ideal))) ⟨m, fun _ => 0, g⟩ (fun r => ∀ c : Dev Cert.Linear2Ideal.nD,
          r.2.mem ((c.tc : Thread Cert.Linear2Ideal.nD Cert.Linear2Ideal.τ).loc Cert.Linear2Ideal.main_v2) = v0 c
          ∧ r.2.mem ((c.tc : Thread Cert.Linear2Ideal.nD Cert.Linear2Ideal.τ).loc Cert.Linear2Ideal.main_arg0) = m ((c.tc : Thread Cert.Linear2Ideal.nD Cert.Linear2Ideal.τ).loc Cert.Linear2Ideal.main_arg0)
          ∧ r.2.mem ((c.tc : Thread Cert.Linear2Ideal.nD Cert.Linear2Ideal.τ).loc Cert.Linear2Ideal.main_arg1) = m ((c.tc : Thread Cert.Linear2Ideal.nD Cert.Linear2Ideal.τ).loc Cert.Linear2Ideal.main_arg1)
          ∧ r.2.mem ((c.tc : Thread Cert.Linear2Ideal.nD Cert.Linear2Ideal.τ).loc Cert.Linear2Ideal.main_arg2) = m ((c.tc : Thread Cert.Linear2Ideal.nD Cert.Linear2Ideal.τ).loc Cert.Linear2Ideal.main_arg2)
          ∧ r.2.mem ((c.tc : Thread Cert.Linear2Ideal.nD Cert.Linear2Ideal.τ).loc Cert.Linear2Ideal.main_arg3) = m ((c.tc : Thread Cert.Linear2Ideal.nD Cert.Linear2Ideal.τ).loc Cert.Linear2Ideal.main_arg3)
          ∧ r.2.mem ((c.tc : Thread Cert.Linear2Ideal.nD Cert.Linear2Ideal.τ).loc Cert.Linear2Ideal.main_arg4) = m ((c.tc : Thread Cert.Linear2Ideal.nD Cert.Linear2Ideal.τ).loc Cert.Linear2Ideal.main_arg4))
      ∧ θ_run (Cert.Linear2RefIdeal.defs (F := Ideal)) (onTc (τ := Cert.Linear2RefIdeal.τ) (Cert.Linear2RefIdeal.main (F := Ideal))) ⟨m', fun _ => 0, g'⟩ (fun r => ∀ c : Dev Cert.Linear2RefIdeal.nD,
          r.2.mem ((c.tc : Thread Cert.Linear2RefIdeal.nD Cert.Linear2RefIdeal.τ).loc Cert.Linear2RefIdeal.main_v2) = v0 c
          ∧ r.2.mem ((c.tc : Thread Cert.Linear2RefIdeal.nD Cert.Linear2RefIdeal.τ).loc Cert.Linear2RefIdeal.main_arg0) = m' ((c.tc : Thread Cert.Linear2RefIdeal.nD Cert.Linear2RefIdeal.τ).loc Cert.Linear2RefIdeal.main_arg0)
          ∧ r.2.mem ((c.tc : Thread Cert.Linear2RefIdeal.nD Cert.Linear2RefIdeal.τ).loc Cert.Linear2RefIdeal.main_arg1) = m' ((c.tc : Thread Cert.Linear2RefIdeal.nD Cert.Linear2RefIdeal.τ).loc Cert.Linear2RefIdeal.main_arg1)
          ∧ r.2.mem ((c.tc : Thread Cert.Linear2RefIdeal.nD Cert.Linear2RefIdeal.τ).loc Cert.Linear2RefIdeal.main_arg2) = m' ((c.tc : Thread Cert.Linear2RefIdeal.nD Cert.Linear2RefIdeal.τ).loc Cert.Linear2RefIdeal.main_arg2)
          ∧ r.2.mem ((c.tc : Thread Cert.Linear2RefIdeal.nD Cert.Linear2RefIdeal.τ).loc Cert.Linear2RefIdeal.main_arg3) = m' ((c.tc : Thread Cert.Linear2RefIdeal.nD Cert.Linear2RefIdeal.τ).loc Cert.Linear2RefIdeal.main_arg3)
          ∧ r.2.mem ((c.tc : Thread Cert.Linear2RefIdeal.nD Cert.Linear2RefIdeal.τ).loc Cert.Linear2RefIdeal.main_arg4) = m' ((c.tc : Thread Cert.Linear2RefIdeal.nD Cert.Linear2RefIdeal.τ).loc Cert.Linear2RefIdeal.main_arg4))

def Claim : Prop :=
  ∃ (hKernel : Cert.Kernel.Facts) (hKernelIdeal : Cert.KernelIdeal.Facts) (hReferenceIdeal : Cert.ReferenceIdeal.Facts) (hLnQuant : Cert.LnQuant.Facts) (hLnQuantIdeal : Cert.LnQuantIdeal.Facts) (hLnQuantRefIdeal : Cert.LnQuantRefIdeal.Facts) (hLinear1 : Cert.Linear1.Facts) (hLinear1Ideal : Cert.Linear1Ideal.Facts) (hLinear1RefIdeal : Cert.Linear1RefIdeal.Facts) (hLinear2 : Cert.Linear2.Facts) (hLinear2Ideal : Cert.Linear2Ideal.Facts) (hLinear2RefIdeal : Cert.Linear2RefIdeal.Facts),
    quiescent_Kernel (hKernel := hKernel)
    ∧ quiescent_KernelIdeal (hKernelIdeal := hKernelIdeal)
    ∧ quiescent_ReferenceIdeal (hReferenceIdeal := hReferenceIdeal)
    ∧ quiescent_LnQuant (hLnQuant := hLnQuant)
    ∧ quiescent_LnQuantIdeal (hLnQuantIdeal := hLnQuantIdeal)
    ∧ quiescent_LnQuantRefIdeal (hLnQuantRefIdeal := hLnQuantRefIdeal)
    ∧ quiescent_Linear1 (hLinear1 := hLinear1)
    ∧ quiescent_Linear1Ideal (hLinear1Ideal := hLinear1Ideal)
    ∧ quiescent_Linear1RefIdeal (hLinear1RefIdeal := hLinear1RefIdeal)
    ∧ quiescent_Linear2 (hLinear2 := hLinear2)
    ∧ quiescent_Linear2Ideal (hLinear2Ideal := hLinear2Ideal)
    ∧ quiescent_Linear2RefIdeal (hLinear2RefIdeal := hLinear2RefIdeal)
    ∧ preserves_Kernel_KernelIdeal
    ∧ algebraic_KernelIdeal_ReferenceIdeal (hKernelIdeal := hKernelIdeal) (hReferenceIdeal := hReferenceIdeal)
    ∧ preserves_LnQuant_LnQuantIdeal
    ∧ algebraic_LnQuantIdeal_LnQuantRefIdeal (hLnQuantIdeal := hLnQuantIdeal) (hLnQuantRefIdeal := hLnQuantRefIdeal)
    ∧ preserves_Linear1_Linear1Ideal
    ∧ algebraic_Linear1Ideal_Linear1RefIdeal (hLinear1Ideal := hLinear1Ideal) (hLinear1RefIdeal := hLinear1RefIdeal)
    ∧ preserves_Linear2_Linear2Ideal
    ∧ algebraic_Linear2Ideal_Linear2RefIdeal (hLinear2Ideal := hLinear2Ideal) (hLinear2RefIdeal := hLinear2RefIdeal)
-- ==== Kernel.lean ====
abbrev S24x32x32x3200 : Shape := ⟨4, ![24, 32, 32, 3200]⟩
abbrev S12800 : Shape := ⟨1, ![12800]⟩
abbrev S12800x7168 : Shape := ⟨2, ![12800, 7168]⟩
abbrev S7168 : Shape := ⟨1, ![7168]⟩
abbrev S7168x7168 : Shape := ⟨2, ![7168, 7168]⟩
abbrev S384x2x32x3200 : Shape := ⟨4, ![384, 2, 32, 3200]⟩
abbrev S1x12800 : Shape := ⟨2, ![1, 12800]⟩
abbrev S6144x12800 : Shape := ⟨2, ![6144, 12800]⟩
abbrev S6144x100 : Shape := ⟨2, ![6144, 100]⟩
abbrev S2x2x32x3200 : Shape := ⟨4, ![2, 2, 32, 3200]⟩
abbrev S32x12800 : Shape := ⟨2, ![32, 12800]⟩
abbrev S32x100 : Shape := ⟨2, ![32, 100]⟩
abbrev S32x128 : Shape := ⟨2, ![32, 128]⟩
abbrev S1x1x32x128 : Shape := ⟨4, ![1, 1, 32, 128]⟩
abbrev S16x128 : Shape := ⟨2, ![16, 128]⟩
abbrev S32 : Shape := ⟨1, ![32]⟩
abbrev S32x1 : Shape := ⟨2, ![32, 1]⟩
abbrev S1x128 : Shape := ⟨2, ![1, 128]⟩
abbrev S1x7168 : Shape := ⟨2, ![1, 7168]⟩
abbrev S6144x7168 : Shape := ⟨2, ![6144, 7168]⟩
abbrev S6144x56 : Shape := ⟨2, ![6144, 56]⟩
abbrev S512x12800 : Shape := ⟨2, ![512, 12800]⟩
abbrev S512x100 : Shape := ⟨2, ![512, 100]⟩
abbrev S12800x512 : Shape := ⟨2, ![12800, 512]⟩
abbrev S1x512 : Shape := ⟨2, ![1, 512]⟩
abbrev S512x512 : Shape := ⟨2, ![512, 512]⟩
abbrev S512x56 : Shape := ⟨2, ![512, 56]⟩
abbrev S512x1 : Shape := ⟨2, ![512, 1]⟩
abbrev S512x128 : Shape := ⟨2, ![512, 128]⟩
abbrev S512 : Shape := ⟨1, ![512]⟩
abbrev S512x7168 : Shape := ⟨2, ![512, 7168]⟩
abbrev S7168x512 : Shape := ⟨2, ![7168, 512]⟩

abbrev nBuf : Space → Nat
  | .hbm => 21
  | .vmem => 36
  | .smem => 0
  | _ => 0

abbrev bufTy : (tb : Table) → Fin (tcTables nBuf tb) → BufTy
  | .hbm, ⟨0, _⟩ => ⟨S24x32x32x3200, .bf16⟩
  | .hbm, ⟨1, _⟩ => ⟨S12800, .f32⟩
  | .hbm, ⟨2, _⟩ => ⟨S12800, .f32⟩
  | .hbm, ⟨3, _⟩ => ⟨S12800x7168, .fp8e4m3⟩
  | .hbm, ⟨4, _⟩ => ⟨S7168, .f32⟩
  | .hbm, ⟨5, _⟩ => ⟨S7168, .f32⟩
  | .hbm, ⟨6, _⟩ => ⟨S7168x7168, .fp8e4m3⟩
  | .hbm, ⟨7, _⟩ => ⟨S7168, .f32⟩
  | .hbm, ⟨8, _⟩ => ⟨S7168, .f32⟩
  | .hbm, ⟨9, _⟩ => ⟨S384x2x32x3200, .bf16⟩
  | .hbm, ⟨10, _⟩ => ⟨S1x12800, .f32⟩
  | .hbm, ⟨11, _⟩ => ⟨S1x12800, .f32⟩
  | .hbm, ⟨12, _⟩ => ⟨S6144x12800, .fp8e4m3⟩
  | .hbm, ⟨13, _⟩ => ⟨S6144x100, .f32⟩
  | .hbm, ⟨14, _⟩ => ⟨S1x7168, .f32⟩
  | .hbm, ⟨15, _⟩ => ⟨S1x7168, .f32⟩
  | .hbm, ⟨16, _⟩ => ⟨S6144x7168, .fp8e4m3⟩
  | .hbm, ⟨17, _⟩ => ⟨S6144x56, .f32⟩
  | .hbm, ⟨18, _⟩ => ⟨S1x7168, .f32⟩
  | .hbm, ⟨19, _⟩ => ⟨S1x7168, .f32⟩
  | .hbm, ⟨20, _⟩ => ⟨S6144x7168, .bf16⟩
  | .local _ .vmem, ⟨0, _⟩ => ⟨S2x2x32x3200, .bf16⟩
  | .local _ .vmem, ⟨1, _⟩ => ⟨S2x2x32x3200, .bf16⟩
  | .local _ .vmem, ⟨2, _⟩ => ⟨S1x12800, .f32⟩
  | .local _ .vmem, ⟨3, _⟩ => ⟨S1x12800, .f32⟩
  | .local _ .vmem, ⟨4, _⟩ => ⟨S32x12800, .fp8e4m3⟩
  | .local _ .vmem, ⟨5, _⟩ => ⟨S32x12800, .fp8e4m3⟩
  | .local _ .vmem, ⟨6, _⟩ => ⟨S32x100, .f32⟩
  | .local _ .vmem, ⟨7, _⟩ => ⟨S32x100, .f32⟩
  | .local _ .vmem, ⟨8, _⟩ => ⟨S512x12800, .fp8e4m3⟩
  | .local _ .vmem, ⟨9, _⟩ => ⟨S512x12800, .fp8e4m3⟩
  | .local _ .vmem, ⟨10, _⟩ => ⟨S512x100, .f32⟩
  | .local _ .vmem, ⟨11, _⟩ => ⟨S512x100, .f32⟩
  | .local _ .vmem, ⟨12, _⟩ => ⟨S12800x512, .fp8e4m3⟩
  | .local _ .vmem, ⟨13, _⟩ => ⟨S12800x512, .fp8e4m3⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .fp8e4m3⟩
  | .local _ .vmem, ⟨19, _⟩ => ⟨S512x512, .fp8e4m3⟩
  | .local _ .vmem, ⟨20, _⟩ => ⟨S512x56, .f32⟩
  | .local _ .vmem, ⟨21, _⟩ => ⟨S512x56, .f32⟩
  | .local _ .vmem, ⟨22, _⟩ => ⟨S512x12800, .bf16⟩
  | .local _ .vmem, ⟨23, _⟩ => ⟨S512x7168, .fp8e4m3⟩
  | .local _ .vmem, ⟨24, _⟩ => ⟨S512x7168, .fp8e4m3⟩
  | .local _ .vmem, ⟨25, _⟩ => ⟨S512x56, .f32⟩
  | .local _ .vmem, ⟨26, _⟩ => ⟨S512x56, .f32⟩
  | .local _ .vmem, ⟨27, _⟩ => ⟨S7168x512, .fp8e4m3⟩
  | .local _ .vmem, ⟨28, _⟩ => ⟨S7168x512, .fp8e4m3⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S512x512, .bf16⟩
  | .local _ .vmem, ⟨34, _⟩ => ⟨S512x512, .bf16⟩
  | .local _ .vmem, ⟨35, _⟩ => ⟨S512x7168, .bf16⟩
  | _, _ => ⟨S24x32x32x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc2_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33

abbrev nD : Nat := 1
abbrev τ : Topo := Topo.v7x

variable {F : FTy → Type} [BitOps F]

abbrev grid0 : Pipeline.Grid := ⟨1, ![192], ![false]⟩

@[reducible] def k0_t1_loop : Scf.Loop 32 :=
  let c0_i32 : BitVec 32 := 0#32
  let c25_i32 : BitVec 32 := 25#32
  let v1 : BitVec 32 := Scalar.addi c0_i32 c25_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v21 : BitVec 32 := Scalar.muli arg6 c128_i32
  v21
def k0_off1 (k0_t1 : Fin k0_t1_loop.trips) : Fin 4 → Nat :=
  let c0_15 : Index := 0#32
  let c0_16 : Index := 0#32
  let c0_17 : Index := 0#32
  let c0_i32 : BitVec 32 := 0#32
  let c1_i32 : BitVec 32 := 1#32
  let arg6 : BitVec 32 := Scf.iv c0_i32 c1_i32 k0_t1
  let c128_i32 : BitVec 32 := 128#32
  let v21 : BitVec 32 := Scalar.muli arg6 c128_i32
  let v22 : BitVec 32 := v21
  let v23 : Index := Scalar.indexCast v22
  ![0, 0, 0, v23.toNat]
def k0_off2 (k0_t1 : Fin k0_t1_loop.trips) : Fin 4 → Nat :=
  let c1 : Index := 1#32
  let c0_18 : Index := 0#32
  let c0_19 : Index := 0#32
  let c0_i32 : BitVec 32 := 0#32
  let c1_i32 : BitVec 32 := 1#32
  let arg6 : BitVec 32 := Scf.iv c0_i32 c1_i32 k0_t1
  let c128_i32 : BitVec 32 := 128#32
  let v21 : BitVec 32 := Scalar.muli arg6 c128_i32
  let v22 : BitVec 32 := v21
  let v27 : Index := Scalar.indexCast v22
  ![1, 0, 0, v27.toNat]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32_20 : BitVec 32 := 128#32
  let v40 : BitVec 32 := Scalar.muli arg6 c128_i32_20
  v40
def k0_off3 (k0_t1 : Fin k0_t1_loop.trips) : Fin 4 → Nat :=
  let c0_21 : Index := 0#32
  let c1_22 : Index := 1#32
  let c0_23 : Index := 0#32
  let c0_i32 : BitVec 32 := 0#32
  let c1_i32 : BitVec 32 := 1#32
  let arg6 : BitVec 32 := Scf.iv c0_i32 c1_i32 k0_t1
  let c128_i32_20 : BitVec 32 := 128#32
  let v40 : BitVec 32 := Scalar.muli arg6 c128_i32_20
  let v41 : BitVec 32 := v40
  let v42 : Index := Scalar.indexCast v41
  ![0, 1, 0, v42.toNat]
def k0_off4 (k0_t1 : Fin k0_t1_loop.trips) : Fin 4 → Nat :=
  let c1_24 : Index := 1#32
  let c1_25 : Index := 1#32
  let c0_26 : Index := 0#32
  let c0_i32 : BitVec 32 := 0#32
  let c1_i32 : BitVec 32 := 1#32
  let arg6 : BitVec 32 := Scf.iv c0_i32 c1_i32 k0_t1
  let c128_i32_20 : BitVec 32 := 128#32
  let v40 : BitVec 32 := Scalar.muli arg6 c128_i32_20
  let v41 : BitVec 32 := v40
  let v46 : Index := Scalar.indexCast v41
  ![1, 1, 0, v46.toNat]
@[reducible] def k0_t2_loop : Scf.Loop 32 :=
  let c0_i32_3 : BitVec 32 := 0#32
  let c25_i32_4 : BitVec 32 := 25#32
  let v7 : BitVec 32 := Scalar.addi c0_i32_3 c25_i32_4
  let c1_i32_5 : BitVec 32 := 1#32
  ⟨c0_i32_3, v7, c1_i32_5⟩
def k0_mult3 (k0_t2 : Fin k0_t2_loop.trips) : BitVec 32 :=
  let c0_i32_3 : BitVec 32 := 0#32
  let c1_i32_5 : BitVec 32 := 1#32
  let arg6 : BitVec 32 := Scf.iv c0_i32_3 c1_i32_5 k0_t2
  let c128_i32 : BitVec 32 := 128#32
  let v21 : BitVec 32 := Scalar.muli arg6 c128_i32
  v21
def k0_off5 (k0_t2 : Fin k0_t2_loop.trips) : Fin 4 → Nat :=
  let c0_15 : Index := 0#32
  let c0_16 : Index := 0#32
  let c0_17 : Index := 0#32
  let c0_i32_3 : BitVec 32 := 0#32
  let c1_i32_5 : BitVec 32 := 1#32
  let arg6 : BitVec 32 := Scf.iv c0_i32_3 c1_i32_5 k0_t2
  let c128_i32 : BitVec 32 := 128#32
  let v21 : BitVec 32 := Scalar.muli arg6 c128_i32
  let v22 : BitVec 32 := v21
  let v23 : Index := Scalar.indexCast v22
  ![0, 0, 0, v23.toNat]
def k0_off6 (k0_t2 : Fin k0_t2_loop.trips) : Fin 4 → Nat :=
  let c1 : Index := 1#32
  let c0_18 : Index := 0#32
  let c0_19 : Index := 0#32
  let c0_i32_3 : BitVec 32 := 0#32
  let c1_i32_5 : BitVec 32 := 1#32
  let arg6 : BitVec 32 := Scf.iv c0_i32_3 c1_i32_5 k0_t2
  let c128_i32 : BitVec 32 := 128#32
  let v21 : BitVec 32 := Scalar.muli arg6 c128_i32
  let v22 : BitVec 32 := v21
  let v27 : Index := Scalar.indexCast v22
  ![1, 0, 0, v27.toNat]
def k0_mult4 (k0_t2 : Fin k0_t2_loop.trips) : BitVec 32 :=
  let c0_i32_3 : BitVec 32 := 0#32
  let c1_i32_5 : BitVec 32 := 1#32
  let arg6 : BitVec 32 := Scf.iv c0_i32_3 c1_i32_5 k0_t2
  let c128_i32_20 : BitVec 32 := 128#32
  let v46 : BitVec 32 := Scalar.muli arg6 c128_i32_20
  v46
def k0_off7 (k0_t2 : Fin k0_t2_loop.trips) : Fin 4 → Nat :=
  let c0_21 : Index := 0#32
  let c1_22 : Index := 1#32
  let c0_23 : Index := 0#32
  let c0_i32_3 : BitVec 32 := 0#32
  let c1_i32_5 : BitVec 32 := 1#32
  let arg6 : BitVec 32 := Scf.iv c0_i32_3 c1_i32_5 k0_t2
  let c128_i32_20 : BitVec 32 := 128#32
  let v46 : BitVec 32 := Scalar.muli arg6 c128_i32_20
  let v47 : BitVec 32 := v46
  let v48 : Index := Scalar.indexCast v47
  ![0, 1, 0, v48.toNat]
def k0_off8 (k0_t2 : Fin k0_t2_loop.trips) : Fin 4 → Nat :=
  let c1_24 : Index := 1#32
  let c1_25 : Index := 1#32
  let c0_26 : Index := 0#32
  let c0_i32_3 : BitVec 32 := 0#32
  let c1_i32_5 : BitVec 32 := 1#32
  let arg6 : BitVec 32 := Scf.iv c0_i32_3 c1_i32_5 k0_t2
  let c128_i32_20 : BitVec 32 := 128#32
  let v46 : BitVec 32 := Scalar.muli arg6 c128_i32_20
  let v47 : BitVec 32 := v46
  let v52 : Index := Scalar.indexCast v47
  ![1, 1, 0, v52.toNat]
@[reducible] def k0_t3_loop : Scf.Loop 32 :=
  let c0_i32_10 : BitVec 32 := 0#32
  let c25_i32_11 : BitVec 32 := 25#32
  let v17 : BitVec 32 := Scalar.addi c0_i32_10 c25_i32_11
  let c1_i32_12 : BitVec 32 := 1#32
  ⟨c0_i32_10, v17, c1_i32_12⟩
def k0_mult5 (k0_t3 : Fin k0_t3_loop.trips) : BitVec 32 :=
  let c0_i32_10 : BitVec 32 := 0#32
  let c1_i32_12 : BitVec 32 := 1#32
  let arg6 : BitVec 32 := Scf.iv c0_i32_10 c1_i32_12 k0_t3
  let c128_i32 : BitVec 32 := 128#32
  let v21 : BitVec 32 := Scalar.muli arg6 c128_i32
  v21
def k0_off9 (k0_t3 : Fin k0_t3_loop.trips) : Fin 4 → Nat :=
  let c0_15 : Index := 0#32
  let c0_16 : Index := 0#32
  let c0_17 : Index := 0#32
  let c0_i32_10 : BitVec 32 := 0#32
  let c1_i32_12 : BitVec 32 := 1#32
  let arg6 : BitVec 32 := Scf.iv c0_i32_10 c1_i32_12 k0_t3
  let c128_i32 : BitVec 32 := 128#32
  let v21 : BitVec 32 := Scalar.muli arg6 c128_i32
  let v22 : BitVec 32 := v21
  let v23 : Index := Scalar.indexCast v22
  ![0, 0, 0, v23.toNat]
def k0_off10 (k0_t3 : Fin k0_t3_loop.trips) : Fin 4 → Nat :=
  let c1 : Index := 1#32
  let c0_18 : Index := 0#32
  let c0_19 : Index := 0#32
  let c0_i32_10 : BitVec 32 := 0#32
  let c1_i32_12 : BitVec 32 := 1#32
  let arg6 : BitVec 32 := Scf.iv c0_i32_10 c1_i32_12 k0_t3
  let c128_i32 : BitVec 32 := 128#32
  let v21 : BitVec 32 := Scalar.muli arg6 c128_i32
  let v22 : BitVec 32 := v21
  let v27 : Index := Scalar.indexCast v22
  ![1, 0, 0, v27.toNat]
def k0_mult6 (k0_t3 : Fin k0_t3_loop.trips) : BitVec 32 :=
  let c0_i32_20 : BitVec 32 := 0#32
  let c0_i32_10 : BitVec 32 := 0#32
  let c1_i32_12 : BitVec 32 := 1#32
  let arg6 : BitVec 32 := Scf.iv c0_i32_10 c1_i32_12 k0_t3
  let v38 : BitVec 32 := Scalar.addi c0_i32_20 arg6
  let c128_i32_21 : BitVec 32 := 128#32
  let v39 : BitVec 32 := Scalar.muli v38 c128_i32_21
  v39
def k0_off11 (k0_t3 : Fin k0_t3_loop.trips) (c0_i32_20 : BitVec 32) : Fin 2 → Nat :=
  let c0_22 : Index := 0#32
  let c0_i32_10 : BitVec 32 := 0#32
  let c1_i32_12 : BitVec 32 := 1#32
  let arg6 : BitVec 32 := Scf.iv c0_i32_10 c1_i32_12 k0_t3
  let v38 : BitVec 32 := Scalar.addi c0_i32_20 arg6
  let c128_i32_21 : BitVec 32 := 128#32
  let v39 : BitVec 32 := Scalar.muli v38 c128_i32_21
  let v40 : BitVec 32 := v39
  let v45 : Index := Scalar.indexCast v40
  ![0, v45.toNat]
def k0_off12 (k0_t3 : Fin k0_t3_loop.trips) (c0_i32_20 : BitVec 32) : Fin 2 → Nat :=
  let c0_33 : Index := 0#32
  let c0_i32_10 : BitVec 32 := 0#32
  let c1_i32_12 : BitVec 32 := 1#32
  let arg6 : BitVec 32 := Scf.iv c0_i32_10 c1_i32_12 k0_t3
  let v38 : BitVec 32 := Scalar.addi c0_i32_20 arg6
  let c128_i32_21 : BitVec 32 := 128#32
  let v39 : BitVec 32 := Scalar.muli v38 c128_i32_21
  let v40 : BitVec 32 := v39
  let v82 : Index := Scalar.indexCast v40
  ![0, v82.toNat]
def k0_mult7 (k0_t3 : Fin k0_t3_loop.trips) : BitVec 32 :=
  let c25_i32_34 : BitVec 32 := 25#32
  let c0_i32_10 : BitVec 32 := 0#32
  let c1_i32_12 : BitVec 32 := 1#32
  let arg6 : BitVec 32 := Scf.iv c0_i32_10 c1_i32_12 k0_t3
  let v89 : BitVec 32 := Scalar.addi c25_i32_34 arg6
  let c128_i32_35 : BitVec 32 := 128#32
  let v90 : BitVec 32 := Scalar.muli v89 c128_i32_35
  v90
def k0_mult8 (k0_t3 : Fin k0_t3_loop.trips) : BitVec 32 :=
  let c0_i32_10 : BitVec 32 := 0#32
  let c1_i32_12 : BitVec 32 := 1#32
  let arg6 : BitVec 32 := Scf.iv c0_i32_10 c1_i32_12 k0_t3
  let c128_i32_48 : BitVec 32 := 128#32
  let v140 : BitVec 32 := Scalar.muli arg6 c128_i32_48
  v140
def k0_off13 (k0_t3 : Fin k0_t3_loop.trips) : Fin 4 → Nat :=
  let c0_49 : Index := 0#32
  let c1_50 : Index := 1#32
  let c0_51 : Index := 0#32
  let c0_i32_10 : BitVec 32 := 0#32
  let c1_i32_12 : BitVec 32 := 1#32
  let arg6 : BitVec 32 := Scf.iv c0_i32_10 c1_i32_12 k0_t3
  let c128_i32_48 : BitVec 32 := 128#32
  let v140 : BitVec 32 := Scalar.muli arg6 c128_i32_48
  let v141 : BitVec 32 := v140
  let v142 : Index := Scalar.indexCast v141
  ![0, 1, 0, v142.toNat]
def k0_off14 (k0_t3 : Fin k0_t3_loop.trips) : Fin 4 → Nat :=
  let c1_52 : Index := 1#32
  let c1_53 : Index := 1#32
  let c0_54 : Index := 0#32
  let c0_i32_10 : BitVec 32 := 0#32
  let c1_i32_12 : BitVec 32 := 1#32
  let arg6 : BitVec 32 := Scf.iv c0_i32_10 c1_i32_12 k0_t3
  let c128_i32_48 : BitVec 32 := 128#32
  let v140 : BitVec 32 := Scalar.muli arg6 c128_i32_48
  let v141 : BitVec 32 := v140
  let v146 : Index := Scalar.indexCast v141
  ![1, 1, 0, v146.toNat]
def k0_mult9 (k0_t3 : Fin k0_t3_loop.trips) : BitVec 32 :=
  let c50_i32 : BitVec 32 := 50#32
  let c0_i32_10 : BitVec 32 := 0#32
  let c1_i32_12 : BitVec 32 := 1#32
  let arg6 : BitVec 32 := Scf.iv c0_i32_10 c1_i32_12 k0_t3
  let v157 : BitVec 32 := Scalar.addi c50_i32 arg6
  let c128_i32_57 : BitVec 32 := 128#32
  let v158 : BitVec 32 := Scalar.muli v157 c128_i32_57
  v158
def k0_mult10 (k0_t3 : Fin k0_t3_loop.trips) : BitVec 32 :=
  let c75_i32 : BitVec 32 := 75#32
  let c0_i32_10 : BitVec 32 := 0#32
  let c1_i32_12 : BitVec 32 := 1#32
  let arg6 : BitVec 32 := Scf.iv c0_i32_10 c1_i32_12 k0_t3
  let v208 : BitVec 32 := Scalar.addi c75_i32 arg6
  let c128_i32_70 : BitVec 32 := 128#32
  let v209 : BitVec 32 := Scalar.muli v208 c128_i32_70
  v209
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x2x32x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x12800 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x12800 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![12, 14], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x12800 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S12800x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x512 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x56 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![12, 14], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x7168 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x56 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S7168x512 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S512x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== KernelIdeal.lean ====
abbrev S64x128 : Shape := ⟨2, ![64, 128]⟩
variable {F : FTy → Type} [FloatOps F] [Named F]
def κ : String → Option EReal := fun
  | "inv_k" => some ((1 / 12800 : ℝ) : EReal)
  | _ => none
-- ==== ReferenceIdeal.lean ====
abbrev S24x32x32x3200 : Shape := ⟨4, ![24, 32, 32, 3200]⟩
abbrev S12800 : Shape := ⟨1, ![12800]⟩
abbrev S12800x7168 : Shape := ⟨2, ![12800, 7168]⟩
abbrev S7168 : Shape := ⟨1, ![7168]⟩
abbrev S7168x7168 : Shape := ⟨2, ![7168, 7168]⟩
abbrev S24x16x2x16x2x3200 : Shape := ⟨6, ![24, 16, 2, 16, 2, 3200]⟩
abbrev S24x16x16x2x2x3200 : Shape := ⟨6, ![24, 16, 16, 2, 2, 3200]⟩
abbrev S6144x12800 : Shape := ⟨2, ![6144, 12800]⟩
abbrev S1x12800 : Shape := ⟨2, ![1, 12800]⟩
abbrev S1x7168 : Shape := ⟨2, ![1, 7168]⟩
abbrev S6144x7168 : Shape := ⟨2, ![6144, 7168]⟩
abbrev S6144x100 : Shape := ⟨2, ![6144, 100]⟩
abbrev S6144x56 : Shape := ⟨2, ![6144, 56]⟩
abbrev S6144 : Shape := ⟨1, ![6144]⟩
abbrev S6144x1 : Shape := ⟨2, ![6144, 1]⟩
abbrev S6144x100x128 : Shape := ⟨3, ![6144, 100, 128]⟩
abbrev S6144x100x1 : Shape := ⟨3, ![6144, 100, 1]⟩
abbrev S6144x56x128 : Shape := ⟨3, ![6144, 56, 128]⟩
abbrev S6144x56x1 : Shape := ⟨3, ![6144, 56, 1]⟩

abbrev nBuf : Space → Nat
  | .hbm => 23
  | .vmem => 14
  | .smem => 0
  | _ => 0

abbrev bufTy : (tb : Table) → Fin (tcTables nBuf tb) → BufTy
  | .hbm, ⟨0, _⟩ => ⟨S24x32x32x3200, .bf16⟩
  | .hbm, ⟨1, _⟩ => ⟨S12800, .f32⟩
  | .hbm, ⟨2, _⟩ => ⟨S12800, .f32⟩
  | .hbm, ⟨3, _⟩ => ⟨S12800x7168, .fp8e4m3⟩
  | .hbm, ⟨4, _⟩ => ⟨S7168, .f32⟩
  | .hbm, ⟨5, _⟩ => ⟨S7168, .f32⟩
  | .hbm, ⟨6, _⟩ => ⟨S7168x7168, .fp8e4m3⟩
  | .hbm, ⟨7, _⟩ => ⟨S7168, .f32⟩
  | .hbm, ⟨8, _⟩ => ⟨S7168, .f32⟩
  | .hbm, ⟨9, _⟩ => ⟨S24x16x2x16x2x3200, .bf16⟩
  | .hbm, ⟨10, _⟩ => ⟨S24x16x16x2x2x3200, .bf16⟩
  | .hbm, ⟨11, _⟩ => ⟨S6144x12800, .bf16⟩
  | .hbm, ⟨12, _⟩ => ⟨S1x12800, .f32⟩
  | .hbm, ⟨13, _⟩ => ⟨S1x12800, .f32⟩
  | .hbm, ⟨14, _⟩ => ⟨S1x7168, .f32⟩
  | .hbm, ⟨15, _⟩ => ⟨S1x7168, .f32⟩
  | .hbm, ⟨16, _⟩ => ⟨S1x7168, .f32⟩
  | .hbm, ⟨17, _⟩ => ⟨S1x7168, .f32⟩
  | .hbm, ⟨18, _⟩ => ⟨S6144x7168, .bf16⟩
  | .hbm, ⟨19, _⟩ => ⟨S6144x12800, .fp8e4m3⟩
  | .hbm, ⟨20, _⟩ => ⟨S6144x100, .f32⟩
  | .hbm, ⟨21, _⟩ => ⟨S6144x7168, .fp8e4m3⟩
  | .hbm, ⟨22, _⟩ => ⟨S6144x56, .f32⟩
  | .local _ .vmem, ⟨0, _⟩ => ⟨S6144x12800, .bf16⟩
  | .local _ .vmem, ⟨1, _⟩ => ⟨S1x12800, .f32⟩
  | .local _ .vmem, ⟨2, _⟩ => ⟨S1x12800, .f32⟩
  | .local _ .vmem, ⟨3, _⟩ => ⟨S12800x7168, .fp8e4m3⟩
  | .local _ .vmem, ⟨4, _⟩ => ⟨S1x7168, .f32⟩
  | .local _ .vmem, ⟨5, _⟩ => ⟨S1x7168, .f32⟩
  | .local _ .vmem, ⟨6, _⟩ => ⟨S7168x7168, .fp8e4m3⟩
  | .local _ .vmem, ⟨7, _⟩ => ⟨S1x7168, .f32⟩
  | .local _ .vmem, ⟨8, _⟩ => ⟨S1x7168, .f32⟩
  | .local _ .vmem, ⟨9, _⟩ => ⟨S6144x7168, .bf16⟩
  | .local _ .vmem, ⟨10, _⟩ => ⟨S6144x12800, .fp8e4m3⟩
  | .local _ .vmem, ⟨11, _⟩ => ⟨S6144x100, .f32⟩
  | .local _ .vmem, ⟨12, _⟩ => ⟨S6144x7168, .fp8e4m3⟩
  | .local _ .vmem, ⟨13, _⟩ => ⟨S6144x56, .f32⟩
  | _, _ => ⟨S24x32x32x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S6144x12800 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x12800 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x12800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12800x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x7168 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x12800 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6144x100 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6144x7168 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6144x56 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== LnQuant.lean ====
abbrev S24x32x32x3200 : Shape := ⟨4, ![24, 32, 32, 3200]⟩
abbrev S12800 : Shape := ⟨1, ![12800]⟩
abbrev S384x2x32x3200 : Shape := ⟨4, ![384, 2, 32, 3200]⟩
abbrev S1x12800 : Shape := ⟨2, ![1, 12800]⟩
abbrev S6144x12800 : Shape := ⟨2, ![6144, 12800]⟩
abbrev S6144x100 : Shape := ⟨2, ![6144, 100]⟩
abbrev S2x2x32x3200 : Shape := ⟨4, ![2, 2, 32, 3200]⟩
abbrev S32x12800 : Shape := ⟨2, ![32, 12800]⟩
abbrev S32x100 : Shape := ⟨2, ![32, 100]⟩
abbrev S32x128 : Shape := ⟨2, ![32, 128]⟩
abbrev S1x1x32x128 : Shape := ⟨4, ![1, 1, 32, 128]⟩
abbrev S16x128 : Shape := ⟨2, ![16, 128]⟩
abbrev S32 : Shape := ⟨1, ![32]⟩
abbrev S32x1 : Shape := ⟨2, ![32, 1]⟩
abbrev S1x128 : Shape := ⟨2, ![1, 128]⟩

abbrev nBuf : Space → Nat
  | .hbm => 8
  | .vmem => 8
  | .smem => 0
  | _ => 0

abbrev bufTy : (tb : Table) → Fin (tcTables nBuf tb) → BufTy
  | .hbm, ⟨0, _⟩ => ⟨S24x32x32x3200, .bf16⟩
  | .hbm, ⟨1, _⟩ => ⟨S12800, .f32⟩
  | .hbm, ⟨2, _⟩ => ⟨S12800, .f32⟩
  | .hbm, ⟨3, _⟩ => ⟨S384x2x32x3200, .bf16⟩
  | .hbm, ⟨4, _⟩ => ⟨S1x12800, .f32⟩
  | .hbm, ⟨5, _⟩ => ⟨S1x12800, .f32⟩
  | .hbm, ⟨6, _⟩ => ⟨S6144x12800, .fp8e4m3⟩
  | .hbm, ⟨7, _⟩ => ⟨S6144x100, .f32⟩
  | .local _ .vmem, ⟨0, _⟩ => ⟨S2x2x32x3200, .bf16⟩
  | .local _ .vmem, ⟨1, _⟩ => ⟨S2x2x32x3200, .bf16⟩
  | .local _ .vmem, ⟨2, _⟩ => ⟨S1x12800, .f32⟩
  | .local _ .vmem, ⟨3, _⟩ => ⟨S1x12800, .f32⟩
  | .local _ .vmem, ⟨4, _⟩ => ⟨S32x12800, .fp8e4m3⟩
  | .local _ .vmem, ⟨5, _⟩ => ⟨S32x12800, .fp8e4m3⟩
  | .local _ .vmem, ⟨6, _⟩ => ⟨S32x100, .f32⟩
  | .local _ .vmem, ⟨7, _⟩ => ⟨S32x100, .f32⟩
  | _, _ => ⟨S24x32x32x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![192], ![false]⟩

@[reducible] def k0_t1_loop : Scf.Loop 32 :=
  let c0_i32 : BitVec 32 := 0#32
  let c25_i32 : BitVec 32 := 25#32
  let v1 : BitVec 32 := Scalar.addi c0_i32 c25_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v21 : BitVec 32 := Scalar.muli arg6 c128_i32
  v21
def k0_off1 (k0_t1 : Fin k0_t1_loop.trips) : Fin 4 → Nat :=
  let c0_15 : Index := 0#32
  let c0_16 : Index := 0#32
  let c0_17 : Index := 0#32
  let c0_i32 : BitVec 32 := 0#32
  let c1_i32 : BitVec 32 := 1#32
  let arg6 : BitVec 32 := Scf.iv c0_i32 c1_i32 k0_t1
  let c128_i32 : BitVec 32 := 128#32
  let v21 : BitVec 32 := Scalar.muli arg6 c128_i32
  let v22 : BitVec 32 := v21
  let v23 : Index := Scalar.indexCast v22
  ![0, 0, 0, v23.toNat]
def k0_off2 (k0_t1 : Fin k0_t1_loop.trips) : Fin 4 → Nat :=
  let c1 : Index := 1#32
  let c0_18 : Index := 0#32
  let c0_19 : Index := 0#32
  let c0_i32 : BitVec 32 := 0#32
  let c1_i32 : BitVec 32 := 1#32
  let arg6 : BitVec 32 := Scf.iv c0_i32 c1_i32 k0_t1
  let c128_i32 : BitVec 32 := 128#32
  let v21 : BitVec 32 := Scalar.muli arg6 c128_i32
  let v22 : BitVec 32 := v21
  let v27 : Index := Scalar.indexCast v22
  ![1, 0, 0, v27.toNat]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32_20 : BitVec 32 := 128#32
  let v40 : BitVec 32 := Scalar.muli arg6 c128_i32_20
  v40
def k0_off3 (k0_t1 : Fin k0_t1_loop.trips) : Fin 4 → Nat :=
  let c0_21 : Index := 0#32
  let c1_22 : Index := 1#32
  let c0_23 : Index := 0#32
  let c0_i32 : BitVec 32 := 0#32
  let c1_i32 : BitVec 32 := 1#32
  let arg6 : BitVec 32 := Scf.iv c0_i32 c1_i32 k0_t1
  let c128_i32_20 : BitVec 32 := 128#32
  let v40 : BitVec 32 := Scalar.muli arg6 c128_i32_20
  let v41 : BitVec 32 := v40
  let v42 : Index := Scalar.indexCast v41
  ![0, 1, 0, v42.toNat]
def k0_off4 (k0_t1 : Fin k0_t1_loop.trips) : Fin 4 → Nat :=
  let c1_24 : Index := 1#32
  let c1_25 : Index := 1#32
  let c0_26 : Index := 0#32
  let c0_i32 : BitVec 32 := 0#32
  let c1_i32 : BitVec 32 := 1#32
  let arg6 : BitVec 32 := Scf.iv c0_i32 c1_i32 k0_t1
  let c128_i32_20 : BitVec 32 := 128#32
  let v40 : BitVec 32 := Scalar.muli arg6 c128_i32_20
  let v41 : BitVec 32 := v40
  let v46 : Index := Scalar.indexCast v41
  ![1, 1, 0, v46.toNat]
@[reducible] def k0_t2_loop : Scf.Loop 32 :=
  let c0_i32_3 : BitVec 32 := 0#32
  let c25_i32_4 : BitVec 32 := 25#32
  let v7 : BitVec 32 := Scalar.addi c0_i32_3 c25_i32_4
  let c1_i32_5 : BitVec 32 := 1#32
  ⟨c0_i32_3, v7, c1_i32_5⟩
def k0_mult3 (k0_t2 : Fin k0_t2_loop.trips) : BitVec 32 :=
  let c0_i32_3 : BitVec 32 := 0#32
  let c1_i32_5 : BitVec 32 := 1#32
  let arg6 : BitVec 32 := Scf.iv c0_i32_3 c1_i32_5 k0_t2
  let c128_i32 : BitVec 32 := 128#32
  let v21 : BitVec 32 := Scalar.muli arg6 c128_i32
  v21
def k0_off5 (k0_t2 : Fin k0_t2_loop.trips) : Fin 4 → Nat :=
  let c0_15 : Index := 0#32
  let c0_16 : Index := 0#32
  let c0_17 : Index := 0#32
  let c0_i32_3 : BitVec 32 := 0#32
  let c1_i32_5 : BitVec 32 := 1#32
  let arg6 : BitVec 32 := Scf.iv c0_i32_3 c1_i32_5 k0_t2
  let c128_i32 : BitVec 32 := 128#32
  let v21 : BitVec 32 := Scalar.muli arg6 c128_i32
  let v22 : BitVec 32 := v21
  let v23 : Index := Scalar.indexCast v22
  ![0, 0, 0, v23.toNat]
def k0_off6 (k0_t2 : Fin k0_t2_loop.trips) : Fin 4 → Nat :=
  let c1 : Index := 1#32
  let c0_18 : Index := 0#32
  let c0_19 : Index := 0#32
  let c0_i32_3 : BitVec 32 := 0#32
  let c1_i32_5 : BitVec 32 := 1#32
  let arg6 : BitVec 32 := Scf.iv c0_i32_3 c1_i32_5 k0_t2
  let c128_i32 : BitVec 32 := 128#32
  let v21 : BitVec 32 := Scalar.muli arg6 c128_i32
  let v22 : BitVec 32 := v21
  let v27 : Index := Scalar.indexCast v22
  ![1, 0, 0, v27.toNat]
def k0_mult4 (k0_t2 : Fin k0_t2_loop.trips) : BitVec 32 :=
  let c0_i32_3 : BitVec 32 := 0#32
  let c1_i32_5 : BitVec 32 := 1#32
  let arg6 : BitVec 32 := Scf.iv c0_i32_3 c1_i32_5 k0_t2
  let c128_i32_20 : BitVec 32 := 128#32
  let v46 : BitVec 32 := Scalar.muli arg6 c128_i32_20
  v46
def k0_off7 (k0_t2 : Fin k0_t2_loop.trips) : Fin 4 → Nat :=
  let c0_21 : Index := 0#32
  let c1_22 : Index := 1#32
  let c0_23 : Index := 0#32
  let c0_i32_3 : BitVec 32 := 0#32
  let c1_i32_5 : BitVec 32 := 1#32
  let arg6 : BitVec 32 := Scf.iv c0_i32_3 c1_i32_5 k0_t2
  let c128_i32_20 : BitVec 32 := 128#32
  let v46 : BitVec 32 := Scalar.muli arg6 c128_i32_20
  let v47 : BitVec 32 := v46
  let v48 : Index := Scalar.indexCast v47
  ![0, 1, 0, v48.toNat]
def k0_off8 (k0_t2 : Fin k0_t2_loop.trips) : Fin 4 → Nat :=
  let c1_24 : Index := 1#32
  let c1_25 : Index := 1#32
  let c0_26 : Index := 0#32
  let c0_i32_3 : BitVec 32 := 0#32
  let c1_i32_5 : BitVec 32 := 1#32
  let arg6 : BitVec 32 := Scf.iv c0_i32_3 c1_i32_5 k0_t2
  let c128_i32_20 : BitVec 32 := 128#32
  let v46 : BitVec 32 := Scalar.muli arg6 c128_i32_20
  let v47 : BitVec 32 := v46
  let v52 : Index := Scalar.indexCast v47
  ![1, 1, 0, v52.toNat]
@[reducible] def k0_t3_loop : Scf.Loop 32 :=
  let c0_i32_10 : BitVec 32 := 0#32
  let c25_i32_11 : BitVec 32 := 25#32
  let v17 : BitVec 32 := Scalar.addi c0_i32_10 c25_i32_11
  let c1_i32_12 : BitVec 32 := 1#32
  ⟨c0_i32_10, v17, c1_i32_12⟩
def k0_mult5 (k0_t3 : Fin k0_t3_loop.trips) : BitVec 32 :=
  let c0_i32_10 : BitVec 32 := 0#32
  let c1_i32_12 : BitVec 32 := 1#32
  let arg6 : BitVec 32 := Scf.iv c0_i32_10 c1_i32_12 k0_t3
  let c128_i32 : BitVec 32 := 128#32
  let v21 : BitVec 32 := Scalar.muli arg6 c128_i32
  v21
def k0_off9 (k0_t3 : Fin k0_t3_loop.trips) : Fin 4 → Nat :=
  let c0_15 : Index := 0#32
  let c0_16 : Index := 0#32
  let c0_17 : Index := 0#32
  let c0_i32_10 : BitVec 32 := 0#32
  let c1_i32_12 : BitVec 32 := 1#32
  let arg6 : BitVec 32 := Scf.iv c0_i32_10 c1_i32_12 k0_t3
  let c128_i32 : BitVec 32 := 128#32
  let v21 : BitVec 32 := Scalar.muli arg6 c128_i32
  let v22 : BitVec 32 := v21
  let v23 : Index := Scalar.indexCast v22
  ![0, 0, 0, v23.toNat]
def k0_off10 (k0_t3 : Fin k0_t3_loop.trips) : Fin 4 → Nat :=
  let c1 : Index := 1#32
  let c0_18 : Index := 0#32
  let c0_19 : Index := 0#32
  let c0_i32_10 : BitVec 32 := 0#32
  let c1_i32_12 : BitVec 32 := 1#32
  let arg6 : BitVec 32 := Scf.iv c0_i32_10 c1_i32_12 k0_t3
  let c128_i32 : BitVec 32 := 128#32
  let v21 : BitVec 32 := Scalar.muli arg6 c128_i32
  let v22 : BitVec 32 := v21
  let v27 : Index := Scalar.indexCast v22
  ![1, 0, 0, v27.toNat]
def k0_mult6 (k0_t3 : Fin k0_t3_loop.trips) : BitVec 32 :=
  let c0_i32_20 : BitVec 32 := 0#32
  let c0_i32_10 : BitVec 32 := 0#32
  let c1_i32_12 : BitVec 32 := 1#32
  let arg6 : BitVec 32 := Scf.iv c0_i32_10 c1_i32_12 k0_t3
  let v38 : BitVec 32 := Scalar.addi c0_i32_20 arg6
  let c128_i32_21 : BitVec 32 := 128#32
  let v39 : BitVec 32 := Scalar.muli v38 c128_i32_21
  v39
def k0_off11 (k0_t3 : Fin k0_t3_loop.trips) (c0_i32_20 : BitVec 32) : Fin 2 → Nat :=
  let c0_22 : Index := 0#32
  let c0_i32_10 : BitVec 32 := 0#32
  let c1_i32_12 : BitVec 32 := 1#32
  let arg6 : BitVec 32 := Scf.iv c0_i32_10 c1_i32_12 k0_t3
  let v38 : BitVec 32 := Scalar.addi c0_i32_20 arg6
  let c128_i32_21 : BitVec 32 := 128#32
  let v39 : BitVec 32 := Scalar.muli v38 c128_i32_21
  let v40 : BitVec 32 := v39
  let v45 : Index := Scalar.indexCast v40
  ![0, v45.toNat]
def k0_off12 (k0_t3 : Fin k0_t3_loop.trips) (c0_i32_20 : BitVec 32) : Fin 2 → Nat :=
  let c0_33 : Index := 0#32
  let c0_i32_10 : BitVec 32 := 0#32
  let c1_i32_12 : BitVec 32 := 1#32
  let arg6 : BitVec 32 := Scf.iv c0_i32_10 c1_i32_12 k0_t3
  let v38 : BitVec 32 := Scalar.addi c0_i32_20 arg6
  let c128_i32_21 : BitVec 32 := 128#32
  let v39 : BitVec 32 := Scalar.muli v38 c128_i32_21
  let v40 : BitVec 32 := v39
  let v82 : Index := Scalar.indexCast v40
  ![0, v82.toNat]
def k0_mult7 (k0_t3 : Fin k0_t3_loop.trips) : BitVec 32 :=
  let c25_i32_34 : BitVec 32 := 25#32
  let c0_i32_10 : BitVec 32 := 0#32
  let c1_i32_12 : BitVec 32 := 1#32
  let arg6 : BitVec 32 := Scf.iv c0_i32_10 c1_i32_12 k0_t3
  let v89 : BitVec 32 := Scalar.addi c25_i32_34 arg6
  let c128_i32_35 : BitVec 32 := 128#32
  let v90 : BitVec 32 := Scalar.muli v89 c128_i32_35
  v90
def k0_mult8 (k0_t3 : Fin k0_t3_loop.trips) : BitVec 32 :=
  let c0_i32_10 : BitVec 32 := 0#32
  let c1_i32_12 : BitVec 32 := 1#32
  let arg6 : BitVec 32 := Scf.iv c0_i32_10 c1_i32_12 k0_t3
  let c128_i32_48 : BitVec 32 := 128#32
  let v140 : BitVec 32 := Scalar.muli arg6 c128_i32_48
  v140
def k0_off13 (k0_t3 : Fin k0_t3_loop.trips) : Fin 4 → Nat :=
  let c0_49 : Index := 0#32
  let c1_50 : Index := 1#32
  let c0_51 : Index := 0#32
  let c0_i32_10 : BitVec 32 := 0#32
  let c1_i32_12 : BitVec 32 := 1#32
  let arg6 : BitVec 32 := Scf.iv c0_i32_10 c1_i32_12 k0_t3
  let c128_i32_48 : BitVec 32 := 128#32
  let v140 : BitVec 32 := Scalar.muli arg6 c128_i32_48
  let v141 : BitVec 32 := v140
  let v142 : Index := Scalar.indexCast v141
  ![0, 1, 0, v142.toNat]
def k0_off14 (k0_t3 : Fin k0_t3_loop.trips) : Fin 4 → Nat :=
  let c1_52 : Index := 1#32
  let c1_53 : Index := 1#32
  let c0_54 : Index := 0#32
  let c0_i32_10 : BitVec 32 := 0#32
  let c1_i32_12 : BitVec 32 := 1#32
  let arg6 : BitVec 32 := Scf.iv c0_i32_10 c1_i32_12 k0_t3
  let c128_i32_48 : BitVec 32 := 128#32
  let v140 : BitVec 32 := Scalar.muli arg6 c128_i32_48
  let v141 : BitVec 32 := v140
  let v146 : Index := Scalar.indexCast v141
  ![1, 1, 0, v146.toNat]
def k0_mult9 (k0_t3 : Fin k0_t3_loop.trips) : BitVec 32 :=
  let c50_i32 : BitVec 32 := 50#32
  let c0_i32_10 : BitVec 32 := 0#32
  let c1_i32_12 : BitVec 32 := 1#32
  let arg6 : BitVec 32 := Scf.iv c0_i32_10 c1_i32_12 k0_t3
  let v157 : BitVec 32 := Scalar.addi c50_i32 arg6
  let c128_i32_57 : BitVec 32 := 128#32
  let v158 : BitVec 32 := Scalar.muli v157 c128_i32_57
  v158
def k0_mult10 (k0_t3 : Fin k0_t3_loop.trips) : BitVec 32 :=
  let c75_i32 : BitVec 32 := 75#32
  let c0_i32_10 : BitVec 32 := 0#32
  let c1_i32_12 : BitVec 32 := 1#32
  let arg6 : BitVec 32 := Scf.iv c0_i32_10 c1_i32_12 k0_t3
  let v208 : BitVec 32 := Scalar.addi c75_i32 arg6
  let c128_i32_70 : BitVec 32 := 128#32
  let v209 : BitVec 32 := Scalar.muli v208 c128_i32_70
  v209
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x2x32x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x12800 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x12800 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnQuantIdeal.lean ====
abbrev S64x128 : Shape := ⟨2, ![64, 128]⟩
variable {F : FTy → Type} [FloatOps F] [Named F]
def κ : String → Option EReal := fun
  | "inv_k" => some ((1 / 12800 : ℝ) : EReal)
  | _ => none
-- ==== LnQuantRefIdeal.lean ====
abbrev S24x32x32x3200 : Shape := ⟨4, ![24, 32, 32, 3200]⟩
abbrev S12800 : Shape := ⟨1, ![12800]⟩
abbrev S24x16x2x16x2x3200 : Shape := ⟨6, ![24, 16, 2, 16, 2, 3200]⟩
abbrev S24x16x16x2x2x3200 : Shape := ⟨6, ![24, 16, 16, 2, 2, 3200]⟩
abbrev S6144x12800 : Shape := ⟨2, ![6144, 12800]⟩
abbrev S1x12800 : Shape := ⟨2, ![1, 12800]⟩
abbrev S6144x100 : Shape := ⟨2, ![6144, 100]⟩
abbrev S6144 : Shape := ⟨1, ![6144]⟩
abbrev S6144x1 : Shape := ⟨2, ![6144, 1]⟩
abbrev S6144x100x128 : Shape := ⟨3, ![6144, 100, 128]⟩
abbrev S6144x100x1 : Shape := ⟨3, ![6144, 100, 1]⟩

abbrev nBuf : Space → Nat
  | .hbm => 10
  | .vmem => 5
  | .smem => 0
  | _ => 0

abbrev bufTy : (tb : Table) → Fin (tcTables nBuf tb) → BufTy
  | .hbm, ⟨0, _⟩ => ⟨S24x32x32x3200, .bf16⟩
  | .hbm, ⟨1, _⟩ => ⟨S12800, .f32⟩
  | .hbm, ⟨2, _⟩ => ⟨S12800, .f32⟩
  | .hbm, ⟨3, _⟩ => ⟨S24x16x2x16x2x3200, .bf16⟩
  | .hbm, ⟨4, _⟩ => ⟨S24x16x16x2x2x3200, .bf16⟩
  | .hbm, ⟨5, _⟩ => ⟨S6144x12800, .bf16⟩
  | .hbm, ⟨6, _⟩ => ⟨S1x12800, .f32⟩
  | .hbm, ⟨7, _⟩ => ⟨S1x12800, .f32⟩
  | .hbm, ⟨8, _⟩ => ⟨S6144x12800, .fp8e4m3⟩
  | .hbm, ⟨9, _⟩ => ⟨S6144x100, .f32⟩
  | .local _ .vmem, ⟨0, _⟩ => ⟨S6144x12800, .bf16⟩
  | .local _ .vmem, ⟨1, _⟩ => ⟨S1x12800, .f32⟩
  | .local _ .vmem, ⟨2, _⟩ => ⟨S1x12800, .f32⟩
  | .local _ .vmem, ⟨3, _⟩ => ⟨S6144x12800, .fp8e4m3⟩
  | .local _ .vmem, ⟨4, _⟩ => ⟨S6144x100, .f32⟩
  | _, _ => ⟨S24x32x32x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x12800 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x12800 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x12800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x12800 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Linear1.lean ====
abbrev S6144x12800 : Shape := ⟨2, ![6144, 12800]⟩
abbrev S6144x100 : Shape := ⟨2, ![6144, 100]⟩
abbrev S12800x7168 : Shape := ⟨2, ![12800, 7168]⟩
abbrev S7168 : Shape := ⟨1, ![7168]⟩
abbrev S1x7168 : Shape := ⟨2, ![1, 7168]⟩
abbrev S6144x7168 : Shape := ⟨2, ![6144, 7168]⟩
abbrev S6144x56 : Shape := ⟨2, ![6144, 56]⟩
abbrev S512x12800 : Shape := ⟨2, ![512, 12800]⟩
abbrev S512x100 : Shape := ⟨2, ![512, 100]⟩
abbrev S12800x512 : Shape := ⟨2, ![12800, 512]⟩
abbrev S1x512 : Shape := ⟨2, ![1, 512]⟩
abbrev S512x512 : Shape := ⟨2, ![512, 512]⟩
abbrev S512x56 : Shape := ⟨2, ![512, 56]⟩
abbrev S512x1 : Shape := ⟨2, ![512, 1]⟩
abbrev S512x128 : Shape := ⟨2, ![512, 128]⟩
abbrev S512 : Shape := ⟨1, ![512]⟩

abbrev nBuf : Space → Nat
  | .hbm => 9
  | .vmem => 15
  | .smem => 0
  | _ => 0

abbrev bufTy : (tb : Table) → Fin (tcTables nBuf tb) → BufTy
  | .hbm, ⟨0, _⟩ => ⟨S6144x12800, .fp8e4m3⟩
  | .hbm, ⟨1, _⟩ => ⟨S6144x100, .f32⟩
  | .hbm, ⟨2, _⟩ => ⟨S12800x7168, .fp8e4m3⟩
  | .hbm, ⟨3, _⟩ => ⟨S7168, .f32⟩
  | .hbm, ⟨4, _⟩ => ⟨S7168, .f32⟩
  | .hbm, ⟨5, _⟩ => ⟨S1x7168, .f32⟩
  | .hbm, ⟨6, _⟩ => ⟨S1x7168, .f32⟩
  | .hbm, ⟨7, _⟩ => ⟨S6144x7168, .fp8e4m3⟩
  | .hbm, ⟨8, _⟩ => ⟨S6144x56, .f32⟩
  | .local _ .vmem, ⟨0, _⟩ => ⟨S512x12800, .fp8e4m3⟩
  | .local _ .vmem, ⟨1, _⟩ => ⟨S512x12800, .fp8e4m3⟩
  | .local _ .vmem, ⟨2, _⟩ => ⟨S512x100, .f32⟩
  | .local _ .vmem, ⟨3, _⟩ => ⟨S512x100, .f32⟩
  | .local _ .vmem, ⟨4, _⟩ => ⟨S12800x512, .fp8e4m3⟩
  | .local _ .vmem, ⟨5, _⟩ => ⟨S12800x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .fp8e4m3⟩
  | .local _ .vmem, ⟨11, _⟩ => ⟨S512x512, .fp8e4m3⟩
  | .local _ .vmem, ⟨12, _⟩ => ⟨S512x56, .f32⟩
  | .local _ .vmem, ⟨13, _⟩ => ⟨S512x56, .f32⟩
  | .local _ .vmem, ⟨14, _⟩ => ⟨S512x12800, .bf16⟩
  | _, _ => ⟨S6144x12800, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x12800 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S12800x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x56 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Linear1RefIdeal.lean ====
abbrev S6144x12800 : Shape := ⟨2, ![6144, 12800]⟩
abbrev S6144x100 : Shape := ⟨2, ![6144, 100]⟩
abbrev S12800x7168 : Shape := ⟨2, ![12800, 7168]⟩
abbrev S7168 : Shape := ⟨1, ![7168]⟩
abbrev S1x7168 : Shape := ⟨2, ![1, 7168]⟩
abbrev S6144x7168 : Shape := ⟨2, ![6144, 7168]⟩
abbrev S6144x56 : Shape := ⟨2, ![6144, 56]⟩
abbrev S6144x100x128 : Shape := ⟨3, ![6144, 100, 128]⟩
abbrev S6144x100x1 : Shape := ⟨3, ![6144, 100, 1]⟩
abbrev S6144x56x128 : Shape := ⟨3, ![6144, 56, 128]⟩
abbrev S6144x56x1 : Shape := ⟨3, ![6144, 56, 1]⟩

abbrev nBuf : Space → Nat
  | .hbm => 9
  | .vmem => 7
  | .smem => 0
  | _ => 0

abbrev bufTy : (tb : Table) → Fin (tcTables nBuf tb) → BufTy
  | .hbm, ⟨0, _⟩ => ⟨S6144x12800, .fp8e4m3⟩
  | .hbm, ⟨1, _⟩ => ⟨S6144x100, .f32⟩
  | .hbm, ⟨2, _⟩ => ⟨S12800x7168, .fp8e4m3⟩
  | .hbm, ⟨3, _⟩ => ⟨S7168, .f32⟩
  | .hbm, ⟨4, _⟩ => ⟨S7168, .f32⟩
  | .hbm, ⟨5, _⟩ => ⟨S1x7168, .f32⟩
  | .hbm, ⟨6, _⟩ => ⟨S1x7168, .f32⟩
  | .hbm, ⟨7, _⟩ => ⟨S6144x7168, .fp8e4m3⟩
  | .hbm, ⟨8, _⟩ => ⟨S6144x56, .f32⟩
  | .local _ .vmem, ⟨0, _⟩ => ⟨S6144x12800, .fp8e4m3⟩
  | .local _ .vmem, ⟨1, _⟩ => ⟨S6144x100, .f32⟩
  | .local _ .vmem, ⟨2, _⟩ => ⟨S12800x7168, .fp8e4m3⟩
  | .local _ .vmem, ⟨3, _⟩ => ⟨S1x7168, .f32⟩
  | .local _ .vmem, ⟨4, _⟩ => ⟨S1x7168, .f32⟩
  | .local _ .vmem, ⟨5, _⟩ => ⟨S6144x7168, .fp8e4m3⟩
  | .local _ .vmem, ⟨6, _⟩ => ⟨S6144x56, .f32⟩
  | _, _ => ⟨S6144x12800, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x12800 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12800x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x56 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Linear2.lean ====
abbrev S6144x7168 : Shape := ⟨2, ![6144, 7168]⟩
abbrev S6144x56 : Shape := ⟨2, ![6144, 56]⟩
abbrev S7168x7168 : Shape := ⟨2, ![7168, 7168]⟩
abbrev S7168 : Shape := ⟨1, ![7168]⟩
abbrev S1x7168 : Shape := ⟨2, ![1, 7168]⟩
abbrev S512x7168 : Shape := ⟨2, ![512, 7168]⟩
abbrev S512x56 : Shape := ⟨2, ![512, 56]⟩
abbrev S7168x512 : Shape := ⟨2, ![7168, 512]⟩
abbrev S1x512 : Shape := ⟨2, ![1, 512]⟩
abbrev S512x512 : Shape := ⟨2, ![512, 512]⟩
abbrev S512x1 : Shape := ⟨2, ![512, 1]⟩
abbrev S512x128 : Shape := ⟨2, ![512, 128]⟩

abbrev nBuf : Space → Nat
  | .hbm => 8
  | .vmem => 13
  | .smem => 0
  | _ => 0

abbrev bufTy : (tb : Table) → Fin (tcTables nBuf tb) → BufTy
  | .hbm, ⟨0, _⟩ => ⟨S6144x7168, .fp8e4m3⟩
  | .hbm, ⟨1, _⟩ => ⟨S6144x56, .f32⟩
  | .hbm, ⟨2, _⟩ => ⟨S7168x7168, .fp8e4m3⟩
  | .hbm, ⟨3, _⟩ => ⟨S7168, .f32⟩
  | .hbm, ⟨4, _⟩ => ⟨S7168, .f32⟩
  | .hbm, ⟨5, _⟩ => ⟨S1x7168, .f32⟩
  | .hbm, ⟨6, _⟩ => ⟨S1x7168, .f32⟩
  | .hbm, ⟨7, _⟩ => ⟨S6144x7168, .bf16⟩
  | .local _ .vmem, ⟨0, _⟩ => ⟨S512x7168, .fp8e4m3⟩
  | .local _ .vmem, ⟨1, _⟩ => ⟨S512x7168, .fp8e4m3⟩
  | .local _ .vmem, ⟨2, _⟩ => ⟨S512x56, .f32⟩
  | .local _ .vmem, ⟨3, _⟩ => ⟨S512x56, .f32⟩
  | .local _ .vmem, ⟨4, _⟩ => ⟨S7168x512, .fp8e4m3⟩
  | .local _ .vmem, ⟨5, _⟩ => ⟨S7168x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S512x7168, .bf16⟩
  | _, _ => ⟨S6144x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S7168x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Linear2RefIdeal.lean ====
abbrev S6144x7168 : Shape := ⟨2, ![6144, 7168]⟩
abbrev S6144x56 : Shape := ⟨2, ![6144, 56]⟩
abbrev S7168x7168 : Shape := ⟨2, ![7168, 7168]⟩
abbrev S7168 : Shape := ⟨1, ![7168]⟩
abbrev S1x7168 : Shape := ⟨2, ![1, 7168]⟩
abbrev S6144x56x128 : Shape := ⟨3, ![6144, 56, 128]⟩
abbrev S6144x56x1 : Shape := ⟨3, ![6144, 56, 1]⟩

abbrev nBuf : Space → Nat
  | .hbm => 8
  | .vmem => 6
  | .smem => 0
  | _ => 0

abbrev bufTy : (tb : Table) → Fin (tcTables nBuf tb) → BufTy
  | .hbm, ⟨0, _⟩ => ⟨S6144x7168, .fp8e4m3⟩
  | .hbm, ⟨1, _⟩ => ⟨S6144x56, .f32⟩
  | .hbm, ⟨2, _⟩ => ⟨S7168x7168, .fp8e4m3⟩
  | .hbm, ⟨3, _⟩ => ⟨S7168, .f32⟩
  | .hbm, ⟨4, _⟩ => ⟨S7168, .f32⟩
  | .hbm, ⟨5, _⟩ => ⟨S1x7168, .f32⟩
  | .hbm, ⟨6, _⟩ => ⟨S1x7168, .f32⟩
  | .hbm, ⟨7, _⟩ => ⟨S6144x7168, .bf16⟩
  | .local _ .vmem, ⟨0, _⟩ => ⟨S6144x7168, .fp8e4m3⟩
  | .local _ .vmem, ⟨1, _⟩ => ⟨S6144x56, .f32⟩
  | .local _ .vmem, ⟨2, _⟩ => ⟨S7168x7168, .fp8e4m3⟩
  | .local _ .vmem, ⟨3, _⟩ => ⟨S1x7168, .f32⟩
  | .local _ .vmem, ⟨4, _⟩ => ⟨S1x7168, .f32⟩
  | .local _ .vmem, ⟨5, _⟩ => ⟨S6144x7168, .bf16⟩
  | _, _ => ⟨S6144x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelLnCall.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
The layer norm's call (call 0) of the whole program, entered with any contents `V` of the buffers: its body's run, what each
grid point leaves in its outputs, and that the body meets its obligation.
-/

@[expose] public section

-- membership in a rectangle of production extents (`View.cover_of_tiled`): the elaborator's structural look
-- recurses once per coordinate of the long axes
set_option maxRecDepth 16384

noncomputable section

namespace Cert.Kernel.Whole

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S32x12800 .fp8e4m3 := (Memref.whole cc0_stg3_0 : Memref sig .tc .vmem S32x12800 .fp8e4m3).view
/-- One staging buffer of output window 4, through which its contents are stated (`View.read_writes_of_cover`: the
    choice does not matter). -/
abbrev VO0_4 : View sig .tc .vmem S32x100 .f32 := (Memref.whole cc0_stg4_0 : Memref sig .tc .vmem S32x100 .f32).view
/-- Each window's current staging memref at point `t`, spelled as the pipeline passes it (`bodyAt0`), and its wholeness. -/
abbrev ms0_0 (t : Fin cfg0.N) : Memref sig .tc .vmem S2x2x32x3200 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x12800 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x12800 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x12800 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x100 .f32 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S2x2x32x3200 .bf16) (harg1 : arg1.IsWhole) (arg2 : Memref sig .tc .vmem S1x12800 .f32) (harg2 : arg2.IsWhole) (arg3 : Memref sig .tc .vmem S1x12800 .f32) (harg3 : arg3.IsWhole) (arg4 : Memref sig .tc .vmem S32x12800 .fp8e4m3) (harg4 : arg4.IsWhole) (arg5 : Memref sig .tc .vmem S32x100 .f32) (harg5 : arg5.IsWhole)
    (x0 : Vec F S2x2x32x3200 .bf16) (x1 : Vec F S1x12800 .f32) (x2 : Vec F S1x12800 .f32) :
    Σ' (L3 : List (View.Piece (Elt F) S32x12800 .fp8e4m3)), { L4 : List (View.Piece (Elt F) S32x100 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_ln_quant i arg1 harg1 arg2 harg2 arg3 harg3 arg4 harg4 arg5 harg5) K } := by
  refine ⟨?_, ?_, fun E K => ?run⟩
  case run =>
    simp only [cc0_ln_quant_eq_skeleton]; unfold cc0_ln_quant_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-- The run's pieces for output 3 tile its block (100 stores of `S32x128`, checked by evaluation), so they cover it. -/
theorem cover0_A_3 (c : Dev nD) (i : grid0.Coords) (arg1 : Memref sig .tc .vmem S2x2x32x3200 .bf16) (harg1 : arg1.IsWhole) (arg2 : Memref sig .tc .vmem S1x12800 .f32) (harg2 : arg2.IsWhole) (arg3 : Memref sig .tc .vmem S1x12800 .f32) (harg3 : arg3.IsWhole) (arg4 : Memref sig .tc .vmem S32x12800 .fp8e4m3) (harg4 : arg4.IsWhole) (arg5 : Memref sig .tc .vmem S32x100 .f32) (harg5 : arg5.IsWhole)
    (x0 : Vec F S2x2x32x3200 .bf16) (x1 : Vec F S1x12800 .f32) (x2 : Vec F S1x12800 .f32) (y : S32x12800.Idx) :
    ∃ pc ∈ (kernelRun0_A c i arg1 harg1 arg2 harg2 arg3 harg3 arg4 harg4 arg5 harg5 x0 x1 x2).1, y ∈ pc.1.set :=
  View.cover_of_tiledL (kernelRun0_A c i arg1 harg1 arg2 harg2 arg3 harg3 arg4 harg4 arg5 harg5 x0 x1 x2).1 S32x128.size (by sl_kernel_rfl) y

/-- What the run leaves in output 3's staging buffer: its pieces read back over junk. -/
def out0_A_3 (c : Dev nD) (i : grid0.Coords) (arg1 : Memref sig .tc .vmem S2x2x32x3200 .bf16) (harg1 : arg1.IsWhole) (arg2 : Memref sig .tc .vmem S1x12800 .f32) (harg2 : arg2.IsWhole) (arg3 : Memref sig .tc .vmem S1x12800 .f32) (harg3 : arg3.IsWhole) (arg4 : Memref sig .tc .vmem S32x12800 .fp8e4m3) (harg4 : arg4.IsWhole) (arg5 : Memref sig .tc .vmem S32x100 .f32) (harg5 : arg5.IsWhole)
    (x0 : Vec F S2x2x32x3200 .bf16) (x1 : Vec F S1x12800 .f32) (x2 : Vec F S1x12800 .f32) : Vec F S32x12800 .fp8e4m3 :=
  VO0_3.read (Elt F) (VO0_3.writes (Elt F) VO0_3.junk (kernelRun0_A c i arg1 harg1 arg2 harg2 arg3 harg3 arg4 harg4 arg5 harg5 x0 x1 x2).1)

/-- The run's pieces for output 4 tile its block (1 store of `S32x100`, checked by evaluation), so they cover it. -/
theorem cover0_A_4 (c : Dev nD) (i : grid0.Coords) (arg1 : Memref sig .tc .vmem S2x2x32x3200 .bf16) (harg1 : arg1.IsWhole) (arg2 : Memref sig .tc .vmem S1x12800 .f32) (harg2 : arg2.IsWhole) (arg3 : Memref sig .tc .vmem S1x12800 .f32) (harg3 : arg3.IsWhole) (arg4 : Memref sig .tc .vmem S32x12800 .fp8e4m3) (harg4 : arg4.IsWhole) (arg5 : Memref sig .tc .vmem S32x100 .f32) (harg5 : arg5.IsWhole)
    (x0 : Vec F S2x2x32x3200 .bf16) (x1 : Vec F S1x12800 .f32) (x2 : Vec F S1x12800 .f32) (y : S32x100.Idx) :
    ∃ pc ∈ (kernelRun0_A c i arg1 harg1 arg2 harg2 arg3 harg3 arg4 harg4 arg5 harg5 x0 x1 x2).2.1, y ∈ pc.1.set :=
  View.cover_of_tiledL (kernelRun0_A c i arg1 harg1 arg2 harg2 arg3 harg3 arg4 harg4 arg5 harg5 x0 x1 x2).2.1 S32x100.size (by sl_kernel_rfl) y

/-- What the run leaves in output 4's staging buffer: its pieces read back over junk. -/
def out0_A_4 (c : Dev nD) (i : grid0.Coords) (arg1 : Memref sig .tc .vmem S2x2x32x3200 .bf16) (harg1 : arg1.IsWhole) (arg2 : Memref sig .tc .vmem S1x12800 .f32) (harg2 : arg2.IsWhole) (arg3 : Memref sig .tc .vmem S1x12800 .f32) (harg3 : arg3.IsWhole) (arg4 : Memref sig .tc .vmem S32x12800 .fp8e4m3) (harg4 : arg4.IsWhole) (arg5 : Memref sig .tc .vmem S32x100 .f32) (harg5 : arg5.IsWhole)
    (x0 : Vec F S2x2x32x3200 .bf16) (x1 : Vec F S1x12800 .f32) (x2 : Vec F S1x12800 .f32) : Vec F S32x100 .f32 :=
  VO0_4.read (Elt F) (VO0_4.writes (Elt F) VO0_4.junk (kernelRun0_A c i arg1 harg1 arg2 harg2 arg3 harg3 arg4 harg4 arg5 harg5 x0 x1 x2).2.1)

/-! ## What the outputs hold after each point -/

/-- What the outputs' staging buffers hold after the body at point `t` (as a tuple, in window order): the run's contents at
    the point's memrefs and input blocks. -/
def outsAt0 (c : Dev nD) (t : Fin cfg0.N) : Vec F S32x12800 .fp8e4m3 × Vec F S32x100 .f32 :=
  (out0_A_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t).1 := by dsimp only [dat0]
theorem after0_4 (c : Dev nD) (t : Fin cfg0.N) : (dat0 V c).after 4 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0
  unfold out0_A_3 out0_A_4; (try dsimp only)
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _)
  unfold owns; iexists _; isplitr
  swap; · iexact H4
  ipureintro; exact View.read_writes_of_cover _ _ _ _ _ (cover0_A_4 c _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Whole

end
-- ==== Proof.KernelLinear1Call.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
The first linear layer's call (call 1) of the whole program, entered with any contents `V` of the buffers: its body's run with
the left factor freshly stored and with it carried over, what each grid point leaves in its outputs and its scratch, and that the
body meets its obligation.
-/

@[expose] public section

-- membership in a rectangle of production extents (`View.cover_of_tiled`): the elaborator's structural look
-- recurses once per coordinate of the long axes
set_option maxRecDepth 16384

noncomputable section

namespace Cert.Kernel.Whole

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 14) — by arithmetic of the point. -/
theorem hcond1_0 : ∀ t : Fin cfg1.N, cond1_0 (grid1.coords t) ↔ t.val % 14 = 0 :=
  (fun t => by
    have ht : t.val < 168 := Nat.lt_of_lt_of_eq t.isLt N_1
    have e0 : (grid1.coords t 0).val = t.val / 14 % 12 := Pipeline.Grid.coords_val t 0 (by decide) rfl
    have e1 : (grid1.coords t 1).val = t.val / 1 % 14 := Pipeline.Grid.coords_val t 1 (by decide) rfl
    simp only [cond1_0, e0, e1]
    word_cmp
   : ∀ t : Fin grid1.N, cond1_0 (grid1.coords t) ↔ t.val % 14 = 0)

/-! ## The kernel body on any staging memrefs: a subtype the run finds -/

/-- One staging buffer of output window 5, through which its contents are stated (`View.read_writes_of_cover`: the
    choice does not matter). -/
abbrev VO1_5 : View sig .tc .vmem S512x512 .fp8e4m3 := (Memref.whole cc1_stg5_0 : Memref sig .tc .vmem S512x512 .fp8e4m3).view
/-- One staging buffer of output window 6, through which its contents are stated (`View.read_writes_of_cover`: the
    choice does not matter). -/
abbrev VO1_6 : View sig .tc .vmem S512x56 .f32 := (Memref.whole cc1_stg6_0 : Memref sig .tc .vmem S512x56 .f32).view
/-- Each window's current staging memref at point `t`, spelled as the pipeline passes it (`bodyAt1`), and its wholeness. -/
abbrev ms1_0 (t : Fin cfg1.N) : Memref sig .tc .vmem S512x12800 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x100 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S12800x512 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .fp8e4m3 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x56 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S512x12800 .bf16 := Memref.whole cc1_scratch0
/-- The scratch `arg9` the kernel carries between points, as a view: what it holds is stated through it. -/
abbrev VS1_0 : View sig .tc .vmem S512x12800 .bf16 := scM1_0.view

/-- The scoped buffers that are neither a staging buffer of this call nor its scratch, each at some contents: carried
    unopened from point to point. -/
abbrev Rest1 (c : Dev nD) : sProp 𝕄 := Pipeline.scopedRestBut spec1 c [cc1_scratch0]

/-- The frame kit's invariant with the scratch operand as a memref owned at some contents: what the body obligation hands
    the run and takes back. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA; rw [Pipeline.scopedRest_split_of_list spec1 c [cc1_scratch0] (by decide) (by decide)]
  simp only [scM1_0, owns_whole]; rfl

-- (the run's proof term is large: the definition's epilogue — `abstractNestedProofs` — walks it past the default budget)
set_option maxHeartbeats 2408000 in
/-- What the body's stores leave in each output's staging memref, as pieces (last first) IN CASE A (`scf.if` 0 taken: points 0, 14, … 154: 12 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : cond1_0 i)
    (x0 : Vec F S512x12800 .fp8e4m3) (x1 : Vec F S512x100 .f32) (x2 : Vec F S12800x512 .fp8e4m3) (x3 : Vec F S1x512 .f32) (x4 : Vec F S1x512 .f32) :
    Σ' (L5 : List (View.Piece (Elt F) S512x512 .fp8e4m3)), Σ' (L6 : List (View.Piece (Elt F) S512x56 .f32)), { LS0 : List (View.Piece (Elt F) S512x12800 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1_linear1_gelu_quant i arg2 harg2 arg3 harg3 arg4 harg4 arg5 harg5 arg6 harg6 arg7 harg7 arg8 harg8 arg9 harg9) K } := by
  refine ⟨?_, ?_, ?_, fun E K => ?run⟩
  case run =>
    simp only [cc1_linear1_gelu_quant_eq_skeleton]; unfold cc1_linear1_gelu_quant_skel
    simp only [k1_part31_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part32_eq_skeleton, k1_part33_eq_skeleton, k1_part34_eq_skeleton, k1_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

section CaseA

variable (c : Dev nD) (i : grid1.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : cond1_0 i)
    (x0 : Vec F S512x12800 .fp8e4m3) (x1 : Vec F S512x100 .f32) (x2 : Vec F S12800x512 .fp8e4m3) (x3 : Vec F S1x512 .f32) (x4 : Vec F S1x512 .f32)

/-- Case A's pieces for output 5 tile its block (4 stores of `S512x128`, checked by evaluation), so they cover it. -/
theorem cover1_A_5 (y : S512x512.Idx) :
    ∃ pc ∈ (kernelRun1_A c i arg2 harg2 arg3 harg3 arg4 harg4 arg5 harg5 arg6 harg6 arg7 harg7 arg8 harg8 arg9 harg9 hc0 x0 x1 x2 x3 x4).1, y ∈ pc.1.set :=
  View.cover_of_tiledL (kernelRun1_A c i arg2 harg2 arg3 harg3 arg4 harg4 arg5 harg5 arg6 harg6 arg7 harg7 arg8 harg8 arg9 harg9 hc0 x0 x1 x2 x3 x4).1 S512x128.size (by sl_kernel_rfl) y

/-- What case A leaves in output 5's staging buffer: its pieces read back over junk. -/
def out1_A_5 : Vec F S512x512 .fp8e4m3 :=
  VO1_5.read (Elt F) (VO1_5.writes (Elt F) VO1_5.junk (kernelRun1_A c i arg2 harg2 arg3 harg3 arg4 harg4 arg5 harg5 arg6 harg6 arg7 harg7 arg8 harg8 arg9 harg9 hc0 x0 x1 x2 x3 x4).1)

/-- Case A's pieces for output 6 tile its block (2 stores of `S512x56`, checked by evaluation), so they cover it. -/
theorem cover1_A_6 (y : S512x56.Idx) :
    ∃ pc ∈ (kernelRun1_A c i arg2 harg2 arg3 harg3 arg4 harg4 arg5 harg5 arg6 harg6 arg7 harg7 arg8 harg8 arg9 harg9 hc0 x0 x1 x2 x3 x4).2.1, y ∈ pc.1.set :=
  View.cover_of_tiledL (kernelRun1_A c i arg2 harg2 arg3 harg3 arg4 harg4 arg5 harg5 arg6 harg6 arg7 harg7 arg8 harg8 arg9 harg9 hc0 x0 x1 x2 x3 x4).2.1 S512x56.size (by sl_kernel_rfl) y

/-- What case A leaves in output 6's staging buffer: its pieces read back over junk. -/
def out1_A_6 : Vec F S512x56 .f32 :=
  VO1_6.read (Elt F) (VO1_6.writes (Elt F) VO1_6.junk (kernelRun1_A c i arg2 harg2 arg3 harg3 arg4 harg4 arg5 harg5 arg6 harg6 arg7 harg7 arg8 harg8 arg9 harg9 hc0 x0 x1 x2 x3 x4).2.1)

/-- Case A's pieces for scratch `arg9`, which the kernel carries between points, cover it: 100 pieces of `S512x128` tiling it (Lib/Ring.lean `Piece.tiledL`). -/
theorem scover1_A_0 (y : S512x12800.Idx) :
    ∃ pc ∈ (kernelRun1_A c i arg2 harg2 arg3 harg3 arg4 harg4 arg5 harg5 arg6 harg6 arg7 harg7 arg8 harg8 arg9 harg9 hc0 x0 x1 x2 x3 x4).2.2.1, y ∈ pc.1.set :=
  View.cover_of_tiledL (kernelRun1_A c i arg2 harg2 arg3 harg3 arg4 harg4 arg5 harg5 arg6 harg6 arg7 harg7 arg8 harg8 arg9 harg9 hc0 x0 x1 x2 x3 x4).2.2.1 S512x128.size (by sl_kernel_rfl) y

/-- What case A leaves in scratch `arg9`: its pieces read back over junk. -/
def sout1_A_0 : Vec F S512x12800 .bf16 :=
  VS1_0.read (Elt F) (VS1_0.writes (Elt F) VS1_0.junk (kernelRun1_A c i arg2 harg2 arg3 harg3 arg4 harg4 arg5 harg5 arg6 harg6 arg7 harg7 arg8 harg8 arg9 harg9 hc0 x0 x1 x2 x3 x4).2.2.1)

end CaseA

-- (the run's proof term is large: the definition's epilogue — `abstractNestedProofs` — walks it past the default budget)
set_option maxHeartbeats 1000000 in
/-- What the body's stores leave in each output's staging memref, as pieces (last first) IN CASE B (`scf.if` 0 not taken: points 1, 2, … 167: 156 of 168), WITH the
    proof that on whole staging memrefs — the inputs' at their contents, the outputs it reads before covering (6) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : ¬cond1_0 i)
    (x0 : Vec F S512x12800 .fp8e4m3) (x1 : Vec F S512x100 .f32) (x2 : Vec F S12800x512 .fp8e4m3) (x3 : Vec F S1x512 .f32) (x4 : Vec F S1x512 .f32) (xo6 : Vec F S512x56 .f32) (xs0 : Vec F S512x12800 .bf16) :
    Σ' (L5 : List (View.Piece (Elt F) S512x512 .fp8e4m3)), Σ' (L6 : List (View.Piece (Elt F) S512x56 .f32)), { LS0 : List (View.Piece (Elt F) S512x12800 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0) -∗ K ⟨⟩))
          ⊢ wp frame (wpE (defs₀ (F := F)) Variants.none c none) E (cc1_linear1_gelu_quant i arg2 harg2 arg3 harg3 arg4 harg4 arg5 harg5 arg6 harg6 arg7 harg7 arg8 harg8 arg9 harg9) K } := by
  refine ⟨?_, ?_, [], fun E K => ?run⟩
  case run =>
    simp only [cc1_linear1_gelu_quant_eq_skeleton]; unfold cc1_linear1_gelu_quant_skel
    simp only [k1_part31_eq_skeleton, k1_part32_eq_skeleton, k1_part33_eq_skeleton, k1_part34_eq_skeleton, k1_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; isplitr; · ipureintro; exact harg9.read_unread _
    iexact HS0

section CaseB

variable (c : Dev nD) (i : grid1.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : ¬cond1_0 i)
    (x0 : Vec F S512x12800 .fp8e4m3) (x1 : Vec F S512x100 .f32) (x2 : Vec F S12800x512 .fp8e4m3) (x3 : Vec F S1x512 .f32) (x4 : Vec F S1x512 .f32) (xo6 : Vec F S512x56 .f32) (xs0 : Vec F S512x12800 .bf16)

/-- Case B's pieces for output 5 tile its block (4 stores of `S512x128`, checked by evaluation), so they cover it. -/
theorem cover1_B_5 (y : S512x512.Idx) :
    ∃ pc ∈ (kernelRun1_B c i arg2 harg2 arg3 harg3 arg4 harg4 arg5 harg5 arg6 harg6 arg7 harg7 arg8 harg8 arg9 harg9 hc0 x0 x1 x2 x3 x4 xo6 xs0).1, y ∈ pc.1.set :=
  View.cover_of_tiledL (kernelRun1_B c i arg2 harg2 arg3 harg3 arg4 harg4 arg5 harg5 arg6 harg6 arg7 harg7 arg8 harg8 arg9 harg9 hc0 x0 x1 x2 x3 x4 xo6 xs0).1 S512x128.size (by sl_kernel_rfl) y

/-- What case B leaves in output 5's staging buffer: its pieces read back over junk. -/
def out1_B_5 : Vec F S512x512 .fp8e4m3 :=
  VO1_5.read (Elt F) (VO1_5.writes (Elt F) VO1_5.junk (kernelRun1_B c i arg2 harg2 arg3 harg3 arg4 harg4 arg5 harg5 arg6 harg6 arg7 harg7 arg8 harg8 arg9 harg9 hc0 x0 x1 x2 x3 x4 xo6 xs0).1)

/-- Case B's pieces for output 6 tile its block (1 store of `S512x56`, checked by evaluation), so they cover it. -/
theorem cover1_B_6 (y : S512x56.Idx) :
    ∃ pc ∈ (kernelRun1_B c i arg2 harg2 arg3 harg3 arg4 harg4 arg5 harg5 arg6 harg6 arg7 harg7 arg8 harg8 arg9 harg9 hc0 x0 x1 x2 x3 x4 xo6 xs0).2.1, y ∈ pc.1.set :=
  View.cover_of_tiledL (kernelRun1_B c i arg2 harg2 arg3 harg3 arg4 harg4 arg5 harg5 arg6 harg6 arg7 harg7 arg8 harg8 arg9 harg9 hc0 x0 x1 x2 x3 x4 xo6 xs0).2.1 S512x56.size (by sl_kernel_rfl) y

/-- What case B leaves in output 6's staging buffer: its pieces read back over junk. -/
def out1_B_6 : Vec F S512x56 .f32 :=
  VO1_6.read (Elt F) (VO1_6.writes (Elt F) VO1_6.junk (kernelRun1_B c i arg2 harg2 arg3 harg3 arg4 harg4 arg5 harg5 arg6 harg6 arg7 harg7 arg8 harg8 arg9 harg9 hc0 x0 x1 x2 x3 x4 xo6 xs0).2.1)

end CaseB

/-- Case B stores nothing into scratch `arg9`: it holds what the point before left. -/
def sout1_B_0 (c : Dev nD) (i : grid1.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : ¬cond1_0 i)
    (x0 : Vec F S512x12800 .fp8e4m3) (x1 : Vec F S512x100 .f32) (x2 : Vec F S12800x512 .fp8e4m3) (x3 : Vec F S1x512 .f32) (x4 : Vec F S1x512 .f32) (xo6 : Vec F S512x56 .f32) (xs0 : Vec F S512x12800 .bf16) : Vec F S512x12800 .bf16 := xs0

/-! ## What the outputs hold after each point -/

/-- What case A leaves at point `t`, run at the point's memrefs and input blocks: the outputs in window order, then the scratch. -/
abbrev outsA1 (c : Dev nD) (t : Fin cfg1.N) (h0 : t.val % 14 = 0) : Vec F S512x512 .fp8e4m3 × Vec F S512x56 .f32 × Vec F S512x12800 .bf16 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk1 V c 0 t) (iblk1 V c 1 t) (iblk1 V c 2 t) (iblk1 V c 3 t) (iblk1 V c 4 t),
    out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk1 V c 0 t) (iblk1 V c 1 t) (iblk1 V c 2 t) (iblk1 V c 3 t) (iblk1 V c 4 t),
    sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk1 V c 0 t) (iblk1 V c 1 t) (iblk1 V c 2 t) (iblk1 V c 3 t) (iblk1 V c 4 t))

/-- The same for case B, over what the point before left. -/
abbrev outsB1 (c : Dev nD) (t : Fin cfg1.N) (h0 : ¬t.val % 14 = 0) (xo6 : Vec F S512x56 .f32) (xs0 : Vec F S512x12800 .bf16) : Vec F S512x512 .fp8e4m3 × Vec F S512x56 .f32 × Vec F S512x12800 .bf16 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (iblk1 V c 0 t) (iblk1 V c 1 t) (iblk1 V c 2 t) (iblk1 V c 3 t) (iblk1 V c 4 t) xo6 xs0,
    out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (iblk1 V c 0 t) (iblk1 V c 1 t) (iblk1 V c 2 t) (iblk1 V c 3 t) (iblk1 V c 4 t) xo6 xs0,
    sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (iblk1 V c 0 t) (iblk1 V c 1 t) (iblk1 V c 2 t) (iblk1 V c 3 t) (iblk1 V c 4 t) xo6 xs0)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S512x512 .fp8e4m3 × Vec F S512x56 .f32 × Vec F S512x12800 .bf16
  | 0, hn => outsA1 V c ⟨0, hn⟩ (Nat.zero_mod _)
  | n + 1, hn =>
    if h0 : (n + 1) % 14 = 0 then outsA1 V c ⟨n + 1, hn⟩ h0
    else outsB1 V c ⟨n + 1, hn⟩ h0 (outsAt1 c n (Nat.lt_of_succ_lt hn)).2.1 (outsAt1 c n (Nat.lt_of_succ_lt hn)).2.2

/-- `outsAt1` at a point of case A: that case's contents. -/
theorem outsAt1_A (c : Dev nD) (t : Fin cfg1.N) (h0 : t.val % 14 = 0) :
    outsAt1 V c t.val t.isLt = outsA1 V c t h0 := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 14 = 0) :
    outsAt1 V c t.val t.isLt = outsB1 V c t h0 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Rest1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(owns (c : Thread nD τ) scM1_0 fullShare ((outsAt1 V c n hn).2.2) ∗ Rest1 c) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ Rest1 c) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
/-- At a point of case B output 6's current staging buffer holds what the body left at the point before: the point is
    not the first, the buffer was not written back between (`flush1_6`), the window is live and uncut (Lib/Pipeline/Frame.lean
    `Dat.before_out_kept`). -/
theorem before1_6_B (c : Dev nD) (t : Fin cfg1.N) (h0 : ¬t.val % 14 = 0) (d) :
    (dat1 V c).before 6 t d = (outsAt1 V c (t.val - 1) (Nat.lt_of_le_of_lt (Nat.sub_le _ _) t.isLt)).2.1 := by
  have hN : t.val < 168 := lt_of_lt_of_eq t.isLt (show cfg1.N = 168 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 6400000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    after1_0, after1_1, after1_2, after1_3, after1_4, after1_5, after1_6]
  rw [show (dat1 V c).Φ t.succ = PhiS1 V c (t.val + 1) t.isLt from rfl, PhiS1_succ]
  have hN : t.val < 168 := lt_of_lt_of_eq t.isLt (show cfg1.N = 168 from N_1)
  by_cases h0 : t.val % 14 = 0
  · by_cases hz : t.val = 0
    · rw [PhiS1_castSucc V c t, PhiS1_zero V c _ _ hz, PhiA1_eq]
      rw [outsAt1_A V c t h0]
      unfold outsA1 out1_A_5 out1_A_6 sout1_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _)
      unfold owns; iexists _; isplitr
      swap; · iexact H6
      ipureintro; exact View.read_writes_of_cover _ _ _ _ _ (cover1_A_6 c _ _ _ _ _ _ _ _ _ _ _ _ _ _ _ _ _ _ _ _ _ _ _)
    · rw [PhiS1_castSucc V c t, PhiS1_pos V c _ _ hz]
      rw [outsAt1_A V c t h0]
      unfold outsA1 out1_A_5 out1_A_6 sout1_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexists _; iexact HS0
      iintro ⟨H0, H1, H2, H3, H4, ⟨%e5, H5⟩, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _)
      unfold owns; iexists _; isplitr
      swap; · iexact H6
      ipureintro; exact View.read_writes_of_cover _ _ _ _ _ (cover1_A_6 c _ _ _ _ _ _ _ _ _ _ _ _ _ _ _ _ _ _ _ _ _ _ _)
  · by_cases hz : t.val = 0
    · exfalso; have hN : t.val < 168 := lt_of_lt_of_eq t.isLt (show cfg1.N = 168 from N_1); omega
    · rw [PhiS1_castSucc V c t, PhiS1_pos V c _ _ hz]
      rw [outsAt1_B V c t h0]
      simp only [before1_6_B V c t h0]
      unfold out1_B_5 out1_B_6 sout1_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (iblk1 V c 0 t) (iblk1 V c 1 t) (iblk1 V c 2 t) (iblk1 V c 3 t) (iblk1 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, ⟨%e6, H6⟩, HS0⟩
      isplitl [HS0 HR Hg]
      · isplitl [HS0 HR]
        · isplitl [HS0]
          · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_B_5 c _ _ _ _ _ _ _ _ _ _ _ _ _ _ _ _ _ _ _ _ _ _ _ _ _)
      unfold owns; iexists _; isplitr
      swap; · iexact H6
      ipureintro; exact View.read_writes_of_cover _ _ _ _ _ (cover1_B_6 c _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 168 := N_1; omega)

end Regions

end Cert.Kernel.Whole

end
-- ==== Proof.KernelLinear2Call.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
The second linear layer's call (call 2) of the whole program, entered with any contents `V` of the buffers: its body's run with
the left factor freshly stored and with it carried over, what each grid point leaves in its output and its scratch, and that the
body meets its obligation.
-/

@[expose] public section

-- membership in a rectangle of production extents (`View.cover_of_tiled`): the elaborator's structural look
-- recurses once per coordinate of the long axes
set_option maxRecDepth 16384

noncomputable section

namespace Cert.Kernel.Whole

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 1).val) 0#32)) 0#32) = 1#1
/-- It holds at the points ≡ 0 (mod 14) — by arithmetic of the point. -/
theorem hcond2_0 : ∀ t : Fin cfg2.N, cond2_0 (grid2.coords t) ↔ t.val % 14 = 0 :=
  (fun t => by
    have ht : t.val < 168 := Nat.lt_of_lt_of_eq t.isLt N_2
    have e0 : (grid2.coords t 0).val = t.val / 14 % 12 := Pipeline.Grid.coords_val t 0 (by decide) rfl
    have e1 : (grid2.coords t 1).val = t.val / 1 % 14 := Pipeline.Grid.coords_val t 1 (by decide) rfl
    simp only [cond2_0, e0, e1]
    word_cmp
   : ∀ t : Fin grid2.N, cond2_0 (grid2.coords t) ↔ t.val % 14 = 0)

/-! ## The kernel body on any staging memrefs: a subtype the run finds -/

/-- One staging buffer of output window 5, through which its contents are stated (`View.read_writes_of_cover`: the
    choice does not matter). -/
abbrev VO2_5 : View sig .tc .vmem S512x512 .bf16 := (Memref.whole cc2_stg5_0 : Memref sig .tc .vmem S512x512 .bf16).view
/-- Each window's current staging memref at point `t`, spelled as the pipeline passes it (`bodyAt2`), and its wholeness. -/
abbrev ms2_0 (t : Fin cfg2.N) : Memref sig .tc .vmem S512x7168 .fp8e4m3 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x56 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S7168x512 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x512 .bf16 := win2_5.stage (cfg2.slots t 5)
abbrev hs2_5 (t : Fin cfg2.N) : (ms2_5 t).IsWhole := hstage2_5 ((cfg2.slots t 5).cast nbuf2_5)
/-- The scratch operands: whole scoped buffers of the kernel's own, passed beside the windows. -/
abbrev scM2_0 : Memref sig .tc .vmem S512x7168 .bf16 := Memref.whole cc2_scratch0
/-- The scratch `arg8` the kernel carries between points, as a view: what it holds is stated through it. -/
abbrev VS2_0 : View sig .tc .vmem S512x7168 .bf16 := scM2_0.view

/-- The scoped buffers that are neither a staging buffer of this call nor its scratch, each at some contents: carried
    unopened from point to point. -/
abbrev Rest2 (c : Dev nD) : sProp 𝕄 := Pipeline.scopedRestBut spec2 c [cc2_scratch0]

/-- The frame kit's invariant with the scratch operand as a memref owned at some contents: what the body obligation hands
    the run and takes back. -/
theorem PhiA2_eq (c : Dev nD) :
    (Pipeline.ΦA spec2 c : sProp 𝕄)
      = iprop(iprop((∃ d, owns (c : Thread nD τ) scM2_0 fullShare d) ∗ Rest2 c) ∗ (∃ r, prngReg c r)) := by
  unfold Pipeline.ΦA; rw [Pipeline.scopedRest_split_of_list spec2 c [cc2_scratch0] (by decide) (by decide)]
  simp only [scM2_0, owns_whole]; rfl

-- (the run's proof term is large: the definition's epilogue — `abstractNestedProofs` — walks it past the default budget)
set_option maxHeartbeats 1312000 in
/-- What the body's stores leave in each output's staging memref, as pieces (last first) IN CASE A (`scf.if` 0 taken: points 0, 14, … 154: 12 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : cond2_0 i)
    (x0 : Vec F S512x7168 .fp8e4m3) (x1 : Vec F S512x56 .f32) (x2 : Vec F S7168x512 .fp8e4m3) (x3 : Vec F S1x512 .f32) (x4 : Vec F S1x512 .f32) :
    Σ' (L5 : List (View.Piece (Elt F) S512x512 .bf16)), { LS0 : List (View.Piece (Elt F) S512x7168 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2_linear2 i arg2 harg2 arg3 harg3 arg4 harg4 arg5 harg5 arg6 harg6 arg7 harg7 arg8 harg8) K } := by
  refine ⟨?_, ?_, fun E K => ?run⟩
  case run =>
    simp only [cc2_linear2_eq_skeleton]; unfold cc2_linear2_skel
    simp only [k2_part17_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

section CaseA

variable (c : Dev nD) (i : grid2.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : cond2_0 i)
    (x0 : Vec F S512x7168 .fp8e4m3) (x1 : Vec F S512x56 .f32) (x2 : Vec F S7168x512 .fp8e4m3) (x3 : Vec F S1x512 .f32) (x4 : Vec F S1x512 .f32)

/-- Case A's pieces for output 5 tile its block (1 store of `S512x512`, checked by evaluation), so they cover it. -/
theorem cover2_A_5 (y : S512x512.Idx) :
    ∃ pc ∈ (kernelRun2_A c i arg2 harg2 arg3 harg3 arg4 harg4 arg5 harg5 arg6 harg6 arg7 harg7 arg8 harg8 hc0 x0 x1 x2 x3 x4).1, y ∈ pc.1.set :=
  View.cover_of_tiledL (kernelRun2_A c i arg2 harg2 arg3 harg3 arg4 harg4 arg5 harg5 arg6 harg6 arg7 harg7 arg8 harg8 hc0 x0 x1 x2 x3 x4).1 S512x512.size (by sl_kernel_rfl) y

/-- What case A leaves in output 5's staging buffer: its pieces read back over junk. -/
def out2_A_5 : Vec F S512x512 .bf16 :=
  VO2_5.read (Elt F) (VO2_5.writes (Elt F) VO2_5.junk (kernelRun2_A c i arg2 harg2 arg3 harg3 arg4 harg4 arg5 harg5 arg6 harg6 arg7 harg7 arg8 harg8 hc0 x0 x1 x2 x3 x4).1)

/-- Case A's pieces for scratch `arg8`, which the kernel carries between points, cover it: 56 pieces of `S512x128` tiling it (Lib/Ring.lean `Piece.tiledL`). -/
theorem scover2_A_0 (y : S512x7168.Idx) :
    ∃ pc ∈ (kernelRun2_A c i arg2 harg2 arg3 harg3 arg4 harg4 arg5 harg5 arg6 harg6 arg7 harg7 arg8 harg8 hc0 x0 x1 x2 x3 x4).2.1, y ∈ pc.1.set :=
  View.cover_of_tiledL (kernelRun2_A c i arg2 harg2 arg3 harg3 arg4 harg4 arg5 harg5 arg6 harg6 arg7 harg7 arg8 harg8 hc0 x0 x1 x2 x3 x4).2.1 S512x128.size (by sl_kernel_rfl) y

/-- What case A leaves in scratch `arg8`: its pieces read back over junk. -/
def sout2_A_0 : Vec F S512x7168 .bf16 :=
  VS2_0.read (Elt F) (VS2_0.writes (Elt F) VS2_0.junk (kernelRun2_A c i arg2 harg2 arg3 harg3 arg4 harg4 arg5 harg5 arg6 harg6 arg7 harg7 arg8 harg8 hc0 x0 x1 x2 x3 x4).2.1)

end CaseA

-- (the run's proof term is large: the definition's epilogue — `abstractNestedProofs` — walks it past the default budget)
set_option maxHeartbeats 1000000 in
/-- What the body's stores leave in each output's staging memref, as pieces (last first) IN CASE B (`scf.if` 0 not taken: points 1, 2, … 167: 156 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : ¬cond2_0 i)
    (x0 : Vec F S512x7168 .fp8e4m3) (x1 : Vec F S512x56 .f32) (x2 : Vec F S7168x512 .fp8e4m3) (x3 : Vec F S1x512 .f32) (x4 : Vec F S1x512 .f32) (xs0 : Vec F S512x7168 .bf16) :
    Σ' (L5 : List (View.Piece (Elt F) S512x512 .bf16)), { LS0 : List (View.Piece (Elt F) S512x7168 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc2_linear2 i arg2 harg2 arg3 harg3 arg4 harg4 arg5 harg5 arg6 harg6 arg7 harg7 arg8 harg8) K } := by
  refine ⟨?_, [], fun E K => ?run⟩
  case run =>
    simp only [cc2_linear2_eq_skeleton]; unfold cc2_linear2_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

section CaseB

variable (c : Dev nD) (i : grid2.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : ¬cond2_0 i)
    (x0 : Vec F S512x7168 .fp8e4m3) (x1 : Vec F S512x56 .f32) (x2 : Vec F S7168x512 .fp8e4m3) (x3 : Vec F S1x512 .f32) (x4 : Vec F S1x512 .f32) (xs0 : Vec F S512x7168 .bf16)

/-- Case B's pieces for output 5 tile its block (1 store of `S512x512`, checked by evaluation), so they cover it. -/
theorem cover2_B_5 (y : S512x512.Idx) :
    ∃ pc ∈ (kernelRun2_B c i arg2 harg2 arg3 harg3 arg4 harg4 arg5 harg5 arg6 harg6 arg7 harg7 arg8 harg8 hc0 x0 x1 x2 x3 x4 xs0).1, y ∈ pc.1.set :=
  View.cover_of_tiledL (kernelRun2_B c i arg2 harg2 arg3 harg3 arg4 harg4 arg5 harg5 arg6 harg6 arg7 harg7 arg8 harg8 hc0 x0 x1 x2 x3 x4 xs0).1 S512x512.size (by sl_kernel_rfl) y

/-- What case B leaves in output 5's staging buffer: its pieces read back over junk. -/
def out2_B_5 : Vec F S512x512 .bf16 :=
  VO2_5.read (Elt F) (VO2_5.writes (Elt F) VO2_5.junk (kernelRun2_B c i arg2 harg2 arg3 harg3 arg4 harg4 arg5 harg5 arg6 harg6 arg7 harg7 arg8 harg8 hc0 x0 x1 x2 x3 x4 xs0).1)

end CaseB

/-- Case B stores nothing into scratch `arg8`: it holds what the point before left. -/
def sout2_B_0 (c : Dev nD) (i : grid2.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : ¬cond2_0 i)
    (x0 : Vec F S512x7168 .fp8e4m3) (x1 : Vec F S512x56 .f32) (x2 : Vec F S7168x512 .fp8e4m3) (x3 : Vec F S1x512 .f32) (x4 : Vec F S1x512 .f32) (xs0 : Vec F S512x7168 .bf16) : Vec F S512x7168 .bf16 := xs0

/-! ## What the outputs hold after each point -/

/-- What case A leaves at point `t`, run at the point's memrefs and input blocks: the outputs in window order, then the scratch. -/
abbrev outsA2 (c : Dev nD) (t : Fin cfg2.N) (h0 : t.val % 14 = 0) : Vec F S512x512 .bf16 × Vec F S512x7168 .bf16 :=
  (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (iblk2 V c 0 t) (iblk2 V c 1 t) (iblk2 V c 2 t) (iblk2 V c 3 t) (iblk2 V c 4 t),
    sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (iblk2 V c 0 t) (iblk2 V c 1 t) (iblk2 V c 2 t) (iblk2 V c 3 t) (iblk2 V c 4 t))

/-- The same for case B, over what the point before left. -/
abbrev outsB2 (c : Dev nD) (t : Fin cfg2.N) (h0 : ¬t.val % 14 = 0) (xs0 : Vec F S512x7168 .bf16) : Vec F S512x512 .bf16 × Vec F S512x7168 .bf16 :=
  (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (iblk2 V c 0 t) (iblk2 V c 1 t) (iblk2 V c 2 t) (iblk2 V c 3 t) (iblk2 V c 4 t) xs0,
    sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (iblk2 V c 0 t) (iblk2 V c 1 t) (iblk2 V c 2 t) (iblk2 V c 3 t) (iblk2 V c 4 t) xs0)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S512x512 .bf16 × Vec F S512x7168 .bf16
  | 0, hn => outsA2 V c ⟨0, hn⟩ (Nat.zero_mod _)
  | n + 1, hn =>
    if h0 : (n + 1) % 14 = 0 then outsA2 V c ⟨n + 1, hn⟩ h0
    else outsB2 V c ⟨n + 1, hn⟩ h0 (outsAt2 c n (Nat.lt_of_succ_lt hn)).2

/-- `outsAt2` at a point of case A: that case's contents. -/
theorem outsAt2_A (c : Dev nD) (t : Fin cfg2.N) (h0 : t.val % 14 = 0) :
    outsAt2 V c t.val t.isLt = outsA2 V c t h0 := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 14 = 0) :
    outsAt2 V c t.val t.isLt = outsB2 V c t h0 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt2`'s scratch components), the others at anything, and the generator register
    at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Rest2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(owns (c : Thread nD τ) scM2_0 fullShare ((outsAt2 V c n hn).2) ∗ Rest2 c) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Rest2 c) ∗ (∃ r, prngReg c r)) := by
  cases n with
  | zero => exact absurd rfl hz
  | succ n => rfl

/-! ## The pipeline's proof data -/

/-- The proof data of pipeline 2 on core `c`: the arrays as the region finds them (`V`); after the body at
    point `t` each input's buffer at its block and the outputs' at `outsAt2`; the invariant the class's
    (`PhiS2`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 3200000 in
/-- The body at any point: the inputs' memrefs hold their blocks (`before2_W`); the closed forms say which case the point is in (`by_cases`), an output the case reads before covering holds what the point before left (`before2_W_κ`); so the
    run applies; the invariant hands the body the carried scratch at what the point before left (`PhiS2_pos`; at anything at the first point, `PhiS2_zero`), the other scratch buffers and the generator register at some state, and takes the carried scratch back at this point's contents (`PhiS2_succ`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl,
    after2_0, after2_1, after2_2, after2_3, after2_4, after2_5]
  rw [show (dat2 V c).Φ t.succ = PhiS2 V c (t.val + 1) t.isLt from rfl, PhiS2_succ]
  have hN : t.val < 168 := lt_of_lt_of_eq t.isLt (show cfg2.N = 168 from N_2)
  by_cases h0 : t.val % 14 = 0
  · by_cases hz : t.val = 0
    · rw [PhiS2_castSucc V c t, PhiS2_zero V c _ _ hz, PhiA2_eq]
      rw [outsAt2_A V c t h0]
      unfold outsA2 out2_A_5 sout2_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (iblk2 V c 0 t) (iblk2 V c 1 t) (iblk2 V c 2 t) (iblk2 V c 3 t) (iblk2 V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]; swap; · iexact HR
          unfold owns; iexists _; isplitr
          swap; · iexact HS0
          ipureintro; exact View.read_writes_of_cover _ _ _ _ _ (scover2_A_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_A_5 c _ _ _ _ _ _ _ _ _ _ _ _ _ _ _ _ _ _ _ _ _)
    · rw [PhiS2_castSucc V c t, PhiS2_pos V c _ _ hz]
      rw [outsAt2_A V c t h0]
      unfold outsA2 out2_A_5 sout2_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (iblk2 V c 0 t) (iblk2 V c 1 t) (iblk2 V c 2 t) (iblk2 V c 3 t) (iblk2 V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 HR Hg]
      · isplitl [HS0 HR]
        · isplitl [HS0]; swap; · iexact HR
          unfold owns; iexists _; isplitr
          swap; · iexact HS0
          ipureintro; exact View.read_writes_of_cover _ _ _ _ _ (scover2_A_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_A_5 c _ _ _ _ _ _ _ _ _ _ _ _ _ _ _ _ _ _ _ _ _)
  · by_cases hz : t.val = 0
    · exfalso; have hN : t.val < 168 := lt_of_lt_of_eq t.isLt (show cfg2.N = 168 from N_2); omega
    · rw [PhiS2_castSucc V c t, PhiS2_pos V c _ _ hz]
      rw [outsAt2_B V c t h0]
      unfold outsB2 out2_B_5 sout2_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, HS0⟩
      isplitl [HS0 HR Hg]
      · isplitl [HS0 HR]
        · isplitl [HS0]; swap; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_B_5 c _ _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives `ΦA` back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]; swap; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 168 := N_2; omega)

end Regions

end Cert.Kernel.Whole

end
-- ==== Proof.KernelHosts.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
What the host's stretches between the calls write: none of the arguments.
-/

@[expose] public section

-- membership in a rectangle of production extents (`View.cover_of_tiled`): the elaborator's structural look
-- recurses once per coordinate of the long axes
set_option maxRecDepth 16384

noncomputable section

namespace Cert.Kernel.Whole

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v4, main_v5]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7, main_v8]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

end Cert.Kernel.Whole

end
-- ==== Proof.KernelBuffers.lean ====
module

public import proofs.«01_k».proof.Proof.KernelLnCall
public import proofs.«01_k».proof.Proof.KernelLinear1Call
public import proofs.«01_k».proof.Proof.KernelLinear2Call
public import proofs.«01_k».proof.Proof.KernelHosts

/-!
The contents of the buffers before and after each call, one after another from the launch.
-/

@[expose] public section

-- membership in a rectangle of production extents (`View.cover_of_tiled`): the elaborator's structural look
-- recurses once per coordinate of the long axes
set_option maxRecDepth 16384

noncomputable section

namespace Cert.Kernel.Whole

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
end Cert.Kernel.Whole

end
-- ==== Proof.KernelState.lean ====
module

public import proofs.«01_k».proof.Proof.KernelBuffers

/-!
The proof data of the three calls, each at the contents it is entered with, and what a core holds between them.
-/

@[expose] public section

-- membership in a rectangle of production extents (`View.cover_of_tiled`): the elaborator's structural look
-- recurses once per coordinate of the long axes
set_option maxRecDepth 16384

noncomputable section

namespace Cert.Kernel.Whole

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

end Cert.Kernel.Whole

end
-- ==== Proof.KernelLnSegment.lean ====
module

public import proofs.«01_k».proof.Proof.KernelState

/-!
The layer norm's call as a segment of the program.
-/

@[expose] public section

-- membership in a rectangle of production extents (`View.cover_of_tiled`): the elaborator's structural look
-- recurses once per coordinate of the long axes
set_option maxRecDepth 16384

noncomputable section

namespace Cert.Kernel.Whole

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.KernelLinear1Segment.lean ====
module

public import proofs.«01_k».proof.Proof.KernelState

/-!
The first linear layer's call as a segment of the program.
-/

@[expose] public section

-- membership in a rectangle of production extents (`View.cover_of_tiled`): the elaborator's structural look
-- recurses once per coordinate of the long axes
set_option maxRecDepth 16384

noncomputable section

namespace Cert.Kernel.Whole

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c); unfold Pipeline.ΦA
    iintro ⟨Hp, -, Hr⟩
    isplitl [Hr]; · iexact Hr
    iexact Hp
  hout c := by
    rw [Pipeline.ownSems0_none]; refine (hout1 (V3 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.KernelLinear2Segment.lean ====
module

public import proofs.«01_k».proof.Proof.KernelState

/-!
The second linear layer's call as a segment of the program.
-/

@[expose] public section

-- membership in a rectangle of production extents (`View.cover_of_tiled`): the elaborator's structural look
-- recurses once per coordinate of the long axes
set_option maxRecDepth 16384

noncomputable section

namespace Cert.Kernel.Whole

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m ρ) c); unfold Pipeline.ΦA
    iintro ⟨Hp, -, Hr⟩
    isplitl [Hr]; · iexact Hr
    iexact Hp
  hout c := by
    rw [Pipeline.ownSems0_none]; refine (hout2 (V5 m ρ) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Whole

end
-- ==== Proof.KernelFrame.lean ====
module

public import proofs.«01_k».proof.Proof.KernelLnSegment
public import proofs.«01_k».proof.Proof.KernelLinear1Segment
public import proofs.«01_k».proof.Proof.KernelLinear2Segment

/-!
The run of the whole program: its three calls and the host's stretches between them, launched.
-/

@[expose] public section

-- membership in a rectangle of production extents (`View.cover_of_tiled`): the elaborator's structural look
-- recurses once per coordinate of the long axes
set_option maxRecDepth 16384

noncomputable section

namespace Cert.Kernel.Whole

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run of the whole program, at any `F`: from any memory with zero counters, every weakly fair execution of @main on the
    TensorCores terminates, nothing faulting, and every final state holds each unscoped buffer at the contents after the last call,
    with every semaphore counter of the machine at zero. -/
theorem run : θ_run defs (onTc (τ := τ) (main (F := F))) ⟨m, fun _ => 0, ρ⟩ (fun r => (∀ c : Dev nD, ∀ b ∈ Pipeline.ucRefs τ sig,
      r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c b hb => h c b hb, funext fun g => hz g (.inr (no_unscoped g.2))⟩)

/-- The frame: every weakly fair execution terminates, nothing faulting, the arguments end as launched and every semaphore
    counter of the machine at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c),
       (h.1 c _ (mem_uc main_arg5 (by decide))).trans (W6_main_arg5 m ρ c),
       (h.1 c _ (mem_uc main_arg6 (by decide))).trans (W6_main_arg6 m ρ c),
       (h.1 c _ (mem_uc main_arg7 (by decide))).trans (W6_main_arg7 m ρ c),
       (h.1 c _ (mem_uc main_arg8 (by decide))).trans (W6_main_arg8 m ρ c)⟩, h.2⟩) (run m ρ)

end Cert.Kernel.Whole

end
-- ==== Proof.KernelIdealLnCall.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
The layer norm's call (call 0) of the whole program, entered with any contents `V` of the buffers: its body's run, what each
grid point leaves in its outputs, and that the body meets its obligation.
-/

@[expose] public section

-- membership in a rectangle of production extents (`View.cover_of_tiled`): the elaborator's structural look
-- recurses once per coordinate of the long axes
set_option maxRecDepth 16384

noncomputable section

namespace Cert.KernelIdeal.Whole

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S32x12800 .fp8e4m3 := (Memref.whole cc0_stg3_0 : Memref sig .tc .vmem S32x12800 .fp8e4m3).view
/-- One staging buffer of output window 4, through which its contents are stated (`View.read_writes_of_cover`: the
    choice does not matter). -/
abbrev VO0_4 : View sig .tc .vmem S32x100 .f32 := (Memref.whole cc0_stg4_0 : Memref sig .tc .vmem S32x100 .f32).view
/-- Each window's current staging memref at point `t`, spelled as the pipeline passes it (`bodyAt0`), and its wholeness. -/
abbrev ms0_0 (t : Fin cfg0.N) : Memref sig .tc .vmem S2x2x32x3200 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x12800 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x12800 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x12800 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x100 .f32 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S2x2x32x3200 .bf16) (harg1 : arg1.IsWhole) (arg2 : Memref sig .tc .vmem S1x12800 .f32) (harg2 : arg2.IsWhole) (arg3 : Memref sig .tc .vmem S1x12800 .f32) (harg3 : arg3.IsWhole) (arg4 : Memref sig .tc .vmem S32x12800 .fp8e4m3) (harg4 : arg4.IsWhole) (arg5 : Memref sig .tc .vmem S32x100 .f32) (harg5 : arg5.IsWhole)
    (x0 : Vec F S2x2x32x3200 .bf16) (x1 : Vec F S1x12800 .f32) (x2 : Vec F S1x12800 .f32) :
    Σ' (L3 : List (View.Piece (Elt F) S32x12800 .fp8e4m3)), { L4 : List (View.Piece (Elt F) S32x100 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_ln_quant i arg1 harg1 arg2 harg2 arg3 harg3 arg4 harg4 arg5 harg5) K } := by
  refine ⟨?_, ?_, fun E K => ?run⟩
  case run =>
    simp only [cc0_ln_quant_eq_skeleton]; unfold cc0_ln_quant_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-- The run's pieces for output 3 tile its block (100 stores of `S32x128`, checked by evaluation), so they cover it. -/
theorem cover0_A_3 (c : Dev nD) (i : grid0.Coords) (arg1 : Memref sig .tc .vmem S2x2x32x3200 .bf16) (harg1 : arg1.IsWhole) (arg2 : Memref sig .tc .vmem S1x12800 .f32) (harg2 : arg2.IsWhole) (arg3 : Memref sig .tc .vmem S1x12800 .f32) (harg3 : arg3.IsWhole) (arg4 : Memref sig .tc .vmem S32x12800 .fp8e4m3) (harg4 : arg4.IsWhole) (arg5 : Memref sig .tc .vmem S32x100 .f32) (harg5 : arg5.IsWhole)
    (x0 : Vec F S2x2x32x3200 .bf16) (x1 : Vec F S1x12800 .f32) (x2 : Vec F S1x12800 .f32) (y : S32x12800.Idx) :
    ∃ pc ∈ (kernelRun0_A c i arg1 harg1 arg2 harg2 arg3 harg3 arg4 harg4 arg5 harg5 x0 x1 x2).1, y ∈ pc.1.set :=
  View.cover_of_tiledL (kernelRun0_A c i arg1 harg1 arg2 harg2 arg3 harg3 arg4 harg4 arg5 harg5 x0 x1 x2).1 S32x128.size (by sl_kernel_rfl) y

/-- What the run leaves in output 3's staging buffer: its pieces read back over junk. -/
def out0_A_3 (c : Dev nD) (i : grid0.Coords) (arg1 : Memref sig .tc .vmem S2x2x32x3200 .bf16) (harg1 : arg1.IsWhole) (arg2 : Memref sig .tc .vmem S1x12800 .f32) (harg2 : arg2.IsWhole) (arg3 : Memref sig .tc .vmem S1x12800 .f32) (harg3 : arg3.IsWhole) (arg4 : Memref sig .tc .vmem S32x12800 .fp8e4m3) (harg4 : arg4.IsWhole) (arg5 : Memref sig .tc .vmem S32x100 .f32) (harg5 : arg5.IsWhole)
    (x0 : Vec F S2x2x32x3200 .bf16) (x1 : Vec F S1x12800 .f32) (x2 : Vec F S1x12800 .f32) : Vec F S32x12800 .fp8e4m3 :=
  VO0_3.read (Elt F) (VO0_3.writes (Elt F) VO0_3.junk (kernelRun0_A c i arg1 harg1 arg2 harg2 arg3 harg3 arg4 harg4 arg5 harg5 x0 x1 x2).1)

/-- The run's pieces for output 4 tile its block (1 store of `S32x100`, checked by evaluation), so they cover it. -/
theorem cover0_A_4 (c : Dev nD) (i : grid0.Coords) (arg1 : Memref sig .tc .vmem S2x2x32x3200 .bf16) (harg1 : arg1.IsWhole) (arg2 : Memref sig .tc .vmem S1x12800 .f32) (harg2 : arg2.IsWhole) (arg3 : Memref sig .tc .vmem S1x12800 .f32) (harg3 : arg3.IsWhole) (arg4 : Memref sig .tc .vmem S32x12800 .fp8e4m3) (harg4 : arg4.IsWhole) (arg5 : Memref sig .tc .vmem S32x100 .f32) (harg5 : arg5.IsWhole)
    (x0 : Vec F S2x2x32x3200 .bf16) (x1 : Vec F S1x12800 .f32) (x2 : Vec F S1x12800 .f32) (y : S32x100.Idx) :
    ∃ pc ∈ (kernelRun0_A c i arg1 harg1 arg2 harg2 arg3 harg3 arg4 harg4 arg5 harg5 x0 x1 x2).2.1, y ∈ pc.1.set :=
  View.cover_of_tiledL (kernelRun0_A c i arg1 harg1 arg2 harg2 arg3 harg3 arg4 harg4 arg5 harg5 x0 x1 x2).2.1 S32x100.size (by sl_kernel_rfl) y

/-- What the run leaves in output 4's staging buffer: its pieces read back over junk. -/
def out0_A_4 (c : Dev nD) (i : grid0.Coords) (arg1 : Memref sig .tc .vmem S2x2x32x3200 .bf16) (harg1 : arg1.IsWhole) (arg2 : Memref sig .tc .vmem S1x12800 .f32) (harg2 : arg2.IsWhole) (arg3 : Memref sig .tc .vmem S1x12800 .f32) (harg3 : arg3.IsWhole) (arg4 : Memref sig .tc .vmem S32x12800 .fp8e4m3) (harg4 : arg4.IsWhole) (arg5 : Memref sig .tc .vmem S32x100 .f32) (harg5 : arg5.IsWhole)
    (x0 : Vec F S2x2x32x3200 .bf16) (x1 : Vec F S1x12800 .f32) (x2 : Vec F S1x12800 .f32) : Vec F S32x100 .f32 :=
  VO0_4.read (Elt F) (VO0_4.writes (Elt F) VO0_4.junk (kernelRun0_A c i arg1 harg1 arg2 harg2 arg3 harg3 arg4 harg4 arg5 harg5 x0 x1 x2).2.1)

/-! ## What the outputs hold after each point -/

/-- What the outputs' staging buffers hold after the body at point `t` (as a tuple, in window order): the run's contents at
    the point's memrefs and input blocks. -/
def outsAt0 (c : Dev nD) (t : Fin cfg0.N) : Vec F S32x12800 .fp8e4m3 × Vec F S32x100 .f32 :=
  (out0_A_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t).1 := by dsimp only [dat0]
theorem after0_4 (c : Dev nD) (t : Fin cfg0.N) : (dat0 V c).after 4 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0
  unfold out0_A_3 out0_A_4; (try dsimp only)
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _)
  unfold owns; iexists _; isplitr
  swap; · iexact H4
  ipureintro; exact View.read_writes_of_cover _ _ _ _ _ (cover0_A_4 c _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Whole

end
-- ==== Proof.KernelIdealLinear1Call.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
The first linear layer's call (call 1) of the whole program, entered with any contents `V` of the buffers: its body's run with
the left factor freshly stored and with it carried over, what each grid point leaves in its outputs and its scratch, and that the
body meets its obligation.
-/

@[expose] public section

-- membership in a rectangle of production extents (`View.cover_of_tiled`): the elaborator's structural look
-- recurses once per coordinate of the long axes
set_option maxRecDepth 16384

noncomputable section

namespace Cert.KernelIdeal.Whole

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 14) — by arithmetic of the point. -/
theorem hcond1_0 : ∀ t : Fin cfg1.N, cond1_0 (grid1.coords t) ↔ t.val % 14 = 0 :=
  (fun t => by
    have ht : t.val < 168 := Nat.lt_of_lt_of_eq t.isLt N_1
    have e0 : (grid1.coords t 0).val = t.val / 14 % 12 := Pipeline.Grid.coords_val t 0 (by decide) rfl
    have e1 : (grid1.coords t 1).val = t.val / 1 % 14 := Pipeline.Grid.coords_val t 1 (by decide) rfl
    simp only [cond1_0, e0, e1]
    word_cmp
   : ∀ t : Fin grid1.N, cond1_0 (grid1.coords t) ↔ t.val % 14 = 0)

/-! ## The kernel body on any staging memrefs: a subtype the run finds -/

/-- One staging buffer of output window 5, through which its contents are stated (`View.read_writes_of_cover`: the
    choice does not matter). -/
abbrev VO1_5 : View sig .tc .vmem S512x512 .fp8e4m3 := (Memref.whole cc1_stg5_0 : Memref sig .tc .vmem S512x512 .fp8e4m3).view
/-- One staging buffer of output window 6, through which its contents are stated (`View.read_writes_of_cover`: the
    choice does not matter). -/
abbrev VO1_6 : View sig .tc .vmem S512x56 .f32 := (Memref.whole cc1_stg6_0 : Memref sig .tc .vmem S512x56 .f32).view
/-- Each window's current staging memref at point `t`, spelled as the pipeline passes it (`bodyAt1`), and its wholeness. -/
abbrev ms1_0 (t : Fin cfg1.N) : Memref sig .tc .vmem S512x12800 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x100 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S12800x512 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .fp8e4m3 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x56 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S512x12800 .bf16 := Memref.whole cc1_scratch0
/-- The scratch `arg9` the kernel carries between points, as a view: what it holds is stated through it. -/
abbrev VS1_0 : View sig .tc .vmem S512x12800 .bf16 := scM1_0.view

/-- The scoped buffers that are neither a staging buffer of this call nor its scratch, each at some contents: carried
    unopened from point to point. -/
abbrev Rest1 (c : Dev nD) : sProp 𝕄 := Pipeline.scopedRestBut spec1 c [cc1_scratch0]

/-- The frame kit's invariant with the scratch operand as a memref owned at some contents: what the body obligation hands
    the run and takes back. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA; rw [Pipeline.scopedRest_split_of_list spec1 c [cc1_scratch0] (by decide) (by decide)]
  simp only [scM1_0, owns_whole]; rfl

-- (the run's proof term is large: the definition's epilogue — `abstractNestedProofs` — walks it past the default budget)
set_option maxHeartbeats 2408000 in
/-- What the body's stores leave in each output's staging memref, as pieces (last first) IN CASE A (`scf.if` 0 taken: points 0, 14, … 154: 12 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : cond1_0 i)
    (x0 : Vec F S512x12800 .fp8e4m3) (x1 : Vec F S512x100 .f32) (x2 : Vec F S12800x512 .fp8e4m3) (x3 : Vec F S1x512 .f32) (x4 : Vec F S1x512 .f32) :
    Σ' (L5 : List (View.Piece (Elt F) S512x512 .fp8e4m3)), Σ' (L6 : List (View.Piece (Elt F) S512x56 .f32)), { LS0 : List (View.Piece (Elt F) S512x12800 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1_linear1_gelu_quant i arg2 harg2 arg3 harg3 arg4 harg4 arg5 harg5 arg6 harg6 arg7 harg7 arg8 harg8 arg9 harg9) K } := by
  refine ⟨?_, ?_, ?_, fun E K => ?run⟩
  case run =>
    simp only [cc1_linear1_gelu_quant_eq_skeleton]; unfold cc1_linear1_gelu_quant_skel
    simp only [k1_part31_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part32_eq_skeleton, k1_part33_eq_skeleton, k1_part34_eq_skeleton, k1_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

section CaseA

variable (c : Dev nD) (i : grid1.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : cond1_0 i)
    (x0 : Vec F S512x12800 .fp8e4m3) (x1 : Vec F S512x100 .f32) (x2 : Vec F S12800x512 .fp8e4m3) (x3 : Vec F S1x512 .f32) (x4 : Vec F S1x512 .f32)

/-- Case A's pieces for output 5 tile its block (4 stores of `S512x128`, checked by evaluation), so they cover it. -/
theorem cover1_A_5 (y : S512x512.Idx) :
    ∃ pc ∈ (kernelRun1_A c i arg2 harg2 arg3 harg3 arg4 harg4 arg5 harg5 arg6 harg6 arg7 harg7 arg8 harg8 arg9 harg9 hc0 x0 x1 x2 x3 x4).1, y ∈ pc.1.set :=
  View.cover_of_tiledL (kernelRun1_A c i arg2 harg2 arg3 harg3 arg4 harg4 arg5 harg5 arg6 harg6 arg7 harg7 arg8 harg8 arg9 harg9 hc0 x0 x1 x2 x3 x4).1 S512x128.size (by sl_kernel_rfl) y

/-- What case A leaves in output 5's staging buffer: its pieces read back over junk. -/
def out1_A_5 : Vec F S512x512 .fp8e4m3 :=
  VO1_5.read (Elt F) (VO1_5.writes (Elt F) VO1_5.junk (kernelRun1_A c i arg2 harg2 arg3 harg3 arg4 harg4 arg5 harg5 arg6 harg6 arg7 harg7 arg8 harg8 arg9 harg9 hc0 x0 x1 x2 x3 x4).1)

/-- Case A's pieces for output 6 tile its block (2 stores of `S512x56`, checked by evaluation), so they cover it. -/
theorem cover1_A_6 (y : S512x56.Idx) :
    ∃ pc ∈ (kernelRun1_A c i arg2 harg2 arg3 harg3 arg4 harg4 arg5 harg5 arg6 harg6 arg7 harg7 arg8 harg8 arg9 harg9 hc0 x0 x1 x2 x3 x4).2.1, y ∈ pc.1.set :=
  View.cover_of_tiledL (kernelRun1_A c i arg2 harg2 arg3 harg3 arg4 harg4 arg5 harg5 arg6 harg6 arg7 harg7 arg8 harg8 arg9 harg9 hc0 x0 x1 x2 x3 x4).2.1 S512x56.size (by sl_kernel_rfl) y

/-- What case A leaves in output 6's staging buffer: its pieces read back over junk. -/
def out1_A_6 : Vec F S512x56 .f32 :=
  VO1_6.read (Elt F) (VO1_6.writes (Elt F) VO1_6.junk (kernelRun1_A c i arg2 harg2 arg3 harg3 arg4 harg4 arg5 harg5 arg6 harg6 arg7 harg7 arg8 harg8 arg9 harg9 hc0 x0 x1 x2 x3 x4).2.1)

/-- Case A's pieces for scratch `arg9`, which the kernel carries between points, cover it: 100 pieces of `S512x128` tiling it (Lib/Ring.lean `Piece.tiledL`). -/
theorem scover1_A_0 (y : S512x12800.Idx) :
    ∃ pc ∈ (kernelRun1_A c i arg2 harg2 arg3 harg3 arg4 harg4 arg5 harg5 arg6 harg6 arg7 harg7 arg8 harg8 arg9 harg9 hc0 x0 x1 x2 x3 x4).2.2.1, y ∈ pc.1.set :=
  View.cover_of_tiledL (kernelRun1_A c i arg2 harg2 arg3 harg3 arg4 harg4 arg5 harg5 arg6 harg6 arg7 harg7 arg8 harg8 arg9 harg9 hc0 x0 x1 x2 x3 x4).2.2.1 S512x128.size (by sl_kernel_rfl) y

/-- What case A leaves in scratch `arg9`: its pieces read back over junk. -/
def sout1_A_0 : Vec F S512x12800 .bf16 :=
  VS1_0.read (Elt F) (VS1_0.writes (Elt F) VS1_0.junk (kernelRun1_A c i arg2 harg2 arg3 harg3 arg4 harg4 arg5 harg5 arg6 harg6 arg7 harg7 arg8 harg8 arg9 harg9 hc0 x0 x1 x2 x3 x4).2.2.1)

end CaseA

-- (the run's proof term is large: the definition's epilogue — `abstractNestedProofs` — walks it past the default budget)
set_option maxHeartbeats 1000000 in
/-- What the body's stores leave in each output's staging memref, as pieces (last first) IN CASE B (`scf.if` 0 not taken: points 1, 2, … 167: 156 of 168), WITH the
    proof that on whole staging memrefs — the inputs' at their contents, the outputs it reads before covering (6) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : ¬cond1_0 i)
    (x0 : Vec F S512x12800 .fp8e4m3) (x1 : Vec F S512x100 .f32) (x2 : Vec F S12800x512 .fp8e4m3) (x3 : Vec F S1x512 .f32) (x4 : Vec F S1x512 .f32) (xo6 : Vec F S512x56 .f32) (xs0 : Vec F S512x12800 .bf16) :
    Σ' (L5 : List (View.Piece (Elt F) S512x512 .fp8e4m3)), Σ' (L6 : List (View.Piece (Elt F) S512x56 .f32)), { LS0 : List (View.Piece (Elt F) S512x12800 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0) -∗ K ⟨⟩))
          ⊢ wp frame (wpE (defs₀ (F := F)) Variants.none c none) E (cc1_linear1_gelu_quant i arg2 harg2 arg3 harg3 arg4 harg4 arg5 harg5 arg6 harg6 arg7 harg7 arg8 harg8 arg9 harg9) K } := by
  refine ⟨?_, ?_, [], fun E K => ?run⟩
  case run =>
    simp only [cc1_linear1_gelu_quant_eq_skeleton]; unfold cc1_linear1_gelu_quant_skel
    simp only [k1_part31_eq_skeleton, k1_part32_eq_skeleton, k1_part33_eq_skeleton, k1_part34_eq_skeleton, k1_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; isplitr; · ipureintro; exact harg9.read_unread _
    iexact HS0

section CaseB

variable (c : Dev nD) (i : grid1.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : ¬cond1_0 i)
    (x0 : Vec F S512x12800 .fp8e4m3) (x1 : Vec F S512x100 .f32) (x2 : Vec F S12800x512 .fp8e4m3) (x3 : Vec F S1x512 .f32) (x4 : Vec F S1x512 .f32) (xo6 : Vec F S512x56 .f32) (xs0 : Vec F S512x12800 .bf16)

/-- Case B's pieces for output 5 tile its block (4 stores of `S512x128`, checked by evaluation), so they cover it. -/
theorem cover1_B_5 (y : S512x512.Idx) :
    ∃ pc ∈ (kernelRun1_B c i arg2 harg2 arg3 harg3 arg4 harg4 arg5 harg5 arg6 harg6 arg7 harg7 arg8 harg8 arg9 harg9 hc0 x0 x1 x2 x3 x4 xo6 xs0).1, y ∈ pc.1.set :=
  View.cover_of_tiledL (kernelRun1_B c i arg2 harg2 arg3 harg3 arg4 harg4 arg5 harg5 arg6 harg6 arg7 harg7 arg8 harg8 arg9 harg9 hc0 x0 x1 x2 x3 x4 xo6 xs0).1 S512x128.size (by sl_kernel_rfl) y

/-- What case B leaves in output 5's staging buffer: its pieces read back over junk. -/
def out1_B_5 : Vec F S512x512 .fp8e4m3 :=
  VO1_5.read (Elt F) (VO1_5.writes (Elt F) VO1_5.junk (kernelRun1_B c i arg2 harg2 arg3 harg3 arg4 harg4 arg5 harg5 arg6 harg6 arg7 harg7 arg8 harg8 arg9 harg9 hc0 x0 x1 x2 x3 x4 xo6 xs0).1)

/-- Case B's pieces for output 6 tile its block (1 store of `S512x56`, checked by evaluation), so they cover it. -/
theorem cover1_B_6 (y : S512x56.Idx) :
    ∃ pc ∈ (kernelRun1_B c i arg2 harg2 arg3 harg3 arg4 harg4 arg5 harg5 arg6 harg6 arg7 harg7 arg8 harg8 arg9 harg9 hc0 x0 x1 x2 x3 x4 xo6 xs0).2.1, y ∈ pc.1.set :=
  View.cover_of_tiledL (kernelRun1_B c i arg2 harg2 arg3 harg3 arg4 harg4 arg5 harg5 arg6 harg6 arg7 harg7 arg8 harg8 arg9 harg9 hc0 x0 x1 x2 x3 x4 xo6 xs0).2.1 S512x56.size (by sl_kernel_rfl) y

/-- What case B leaves in output 6's staging buffer: its pieces read back over junk. -/
def out1_B_6 : Vec F S512x56 .f32 :=
  VO1_6.read (Elt F) (VO1_6.writes (Elt F) VO1_6.junk (kernelRun1_B c i arg2 harg2 arg3 harg3 arg4 harg4 arg5 harg5 arg6 harg6 arg7 harg7 arg8 harg8 arg9 harg9 hc0 x0 x1 x2 x3 x4 xo6 xs0).2.1)

end CaseB

/-- Case B stores nothing into scratch `arg9`: it holds what the point before left. -/
def sout1_B_0 (c : Dev nD) (i : grid1.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : ¬cond1_0 i)
    (x0 : Vec F S512x12800 .fp8e4m3) (x1 : Vec F S512x100 .f32) (x2 : Vec F S12800x512 .fp8e4m3) (x3 : Vec F S1x512 .f32) (x4 : Vec F S1x512 .f32) (xo6 : Vec F S512x56 .f32) (xs0 : Vec F S512x12800 .bf16) : Vec F S512x12800 .bf16 := xs0

/-! ## What the outputs hold after each point -/

/-- What case A leaves at point `t`, run at the point's memrefs and input blocks: the outputs in window order, then the scratch. -/
abbrev outsA1 (c : Dev nD) (t : Fin cfg1.N) (h0 : t.val % 14 = 0) : Vec F S512x512 .fp8e4m3 × Vec F S512x56 .f32 × Vec F S512x12800 .bf16 :=
  (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk1 V c 0 t) (iblk1 V c 1 t) (iblk1 V c 2 t) (iblk1 V c 3 t) (iblk1 V c 4 t),
    out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk1 V c 0 t) (iblk1 V c 1 t) (iblk1 V c 2 t) (iblk1 V c 3 t) (iblk1 V c 4 t),
    sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (iblk1 V c 0 t) (iblk1 V c 1 t) (iblk1 V c 2 t) (iblk1 V c 3 t) (iblk1 V c 4 t))

/-- The same for case B, over what the point before left. -/
abbrev outsB1 (c : Dev nD) (t : Fin cfg1.N) (h0 : ¬t.val % 14 = 0) (xo6 : Vec F S512x56 .f32) (xs0 : Vec F S512x12800 .bf16) : Vec F S512x512 .fp8e4m3 × Vec F S512x56 .f32 × Vec F S512x12800 .bf16 :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (iblk1 V c 0 t) (iblk1 V c 1 t) (iblk1 V c 2 t) (iblk1 V c 3 t) (iblk1 V c 4 t) xo6 xs0,
    out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (iblk1 V c 0 t) (iblk1 V c 1 t) (iblk1 V c 2 t) (iblk1 V c 3 t) (iblk1 V c 4 t) xo6 xs0,
    sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (iblk1 V c 0 t) (iblk1 V c 1 t) (iblk1 V c 2 t) (iblk1 V c 3 t) (iblk1 V c 4 t) xo6 xs0)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S512x512 .fp8e4m3 × Vec F S512x56 .f32 × Vec F S512x12800 .bf16
  | 0, hn => outsA1 V c ⟨0, hn⟩ (Nat.zero_mod _)
  | n + 1, hn =>
    if h0 : (n + 1) % 14 = 0 then outsA1 V c ⟨n + 1, hn⟩ h0
    else outsB1 V c ⟨n + 1, hn⟩ h0 (outsAt1 c n (Nat.lt_of_succ_lt hn)).2.1 (outsAt1 c n (Nat.lt_of_succ_lt hn)).2.2

/-- `outsAt1` at a point of case A: that case's contents. -/
theorem outsAt1_A (c : Dev nD) (t : Fin cfg1.N) (h0 : t.val % 14 = 0) :
    outsAt1 V c t.val t.isLt = outsA1 V c t h0 := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 14 = 0) :
    outsAt1 V c t.val t.isLt = outsB1 V c t h0 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Rest1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(owns (c : Thread nD τ) scM1_0 fullShare ((outsAt1 V c n hn).2.2) ∗ Rest1 c) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ Rest1 c) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
/-- At a point of case B output 6's current staging buffer holds what the body left at the point before: the point is
    not the first, the buffer was not written back between (`flush1_6`), the window is live and uncut (Lib/Pipeline/Frame.lean
    `Dat.before_out_kept`). -/
theorem before1_6_B (c : Dev nD) (t : Fin cfg1.N) (h0 : ¬t.val % 14 = 0) (d) :
    (dat1 V c).before 6 t d = (outsAt1 V c (t.val - 1) (Nat.lt_of_le_of_lt (Nat.sub_le _ _) t.isLt)).2.1 := by
  have hN : t.val < 168 := lt_of_lt_of_eq t.isLt (show cfg1.N = 168 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 6400000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    after1_0, after1_1, after1_2, after1_3, after1_4, after1_5, after1_6]
  rw [show (dat1 V c).Φ t.succ = PhiS1 V c (t.val + 1) t.isLt from rfl, PhiS1_succ]
  have hN : t.val < 168 := lt_of_lt_of_eq t.isLt (show cfg1.N = 168 from N_1)
  by_cases h0 : t.val % 14 = 0
  · by_cases hz : t.val = 0
    · rw [PhiS1_castSucc V c t, PhiS1_zero V c _ _ hz, PhiA1_eq]
      rw [outsAt1_A V c t h0]
      unfold outsA1 out1_A_5 out1_A_6 sout1_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _)
      unfold owns; iexists _; isplitr
      swap; · iexact H6
      ipureintro; exact View.read_writes_of_cover _ _ _ _ _ (cover1_A_6 c _ _ _ _ _ _ _ _ _ _ _ _ _ _ _ _ _ _ _ _ _ _ _)
    · rw [PhiS1_castSucc V c t, PhiS1_pos V c _ _ hz]
      rw [outsAt1_A V c t h0]
      unfold outsA1 out1_A_5 out1_A_6 sout1_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (iblk1 V c 0 t) (iblk1 V c 1 t) (iblk1 V c 2 t) (iblk1 V c 3 t) (iblk1 V c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexists _; iexact HS0
      iintro ⟨H0, H1, H2, H3, H4, ⟨%e5, H5⟩, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _)
      unfold owns; iexists _; isplitr
      swap; · iexact H6
      ipureintro; exact View.read_writes_of_cover _ _ _ _ _ (cover1_A_6 c _ _ _ _ _ _ _ _ _ _ _ _ _ _ _ _ _ _ _ _ _ _ _)
  · by_cases hz : t.val = 0
    · exfalso; have hN : t.val < 168 := lt_of_lt_of_eq t.isLt (show cfg1.N = 168 from N_1); omega
    · rw [PhiS1_castSucc V c t, PhiS1_pos V c _ _ hz]
      rw [outsAt1_B V c t h0]
      simp only [before1_6_B V c t h0]
      unfold out1_B_5 out1_B_6 sout1_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (iblk1 V c 0 t) (iblk1 V c 1 t) (iblk1 V c 2 t) (iblk1 V c 3 t) (iblk1 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, ⟨%e6, H6⟩, HS0⟩
      isplitl [HS0 HR Hg]
      · isplitl [HS0 HR]
        · isplitl [HS0]
          · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_B_5 c _ _ _ _ _ _ _ _ _ _ _ _ _ _ _ _ _ _ _ _ _ _ _ _ _)
      unfold owns; iexists _; isplitr
      swap; · iexact H6
      ipureintro; exact View.read_writes_of_cover _ _ _ _ _ (cover1_B_6 c _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 168 := N_1; omega)

end Regions

end Cert.KernelIdeal.Whole

end
-- ==== Proof.KernelIdealLinear2Call.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
The second linear layer's call (call 2) of the whole program, entered with any contents `V` of the buffers: its body's run with
the left factor freshly stored and with it carried over, what each grid point leaves in its output and its scratch, and that the
body meets its obligation.
-/

@[expose] public section

-- membership in a rectangle of production extents (`View.cover_of_tiled`): the elaborator's structural look
-- recurses once per coordinate of the long axes
set_option maxRecDepth 16384

noncomputable section

namespace Cert.KernelIdeal.Whole

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 1).val) 0#32)) 0#32) = 1#1
/-- It holds at the points ≡ 0 (mod 14) — by arithmetic of the point. -/
theorem hcond2_0 : ∀ t : Fin cfg2.N, cond2_0 (grid2.coords t) ↔ t.val % 14 = 0 :=
  (fun t => by
    have ht : t.val < 168 := Nat.lt_of_lt_of_eq t.isLt N_2
    have e0 : (grid2.coords t 0).val = t.val / 14 % 12 := Pipeline.Grid.coords_val t 0 (by decide) rfl
    have e1 : (grid2.coords t 1).val = t.val / 1 % 14 := Pipeline.Grid.coords_val t 1 (by decide) rfl
    simp only [cond2_0, e0, e1]
    word_cmp
   : ∀ t : Fin grid2.N, cond2_0 (grid2.coords t) ↔ t.val % 14 = 0)

/-! ## The kernel body on any staging memrefs: a subtype the run finds -/

/-- One staging buffer of output window 5, through which its contents are stated (`View.read_writes_of_cover`: the
    choice does not matter). -/
abbrev VO2_5 : View sig .tc .vmem S512x512 .bf16 := (Memref.whole cc2_stg5_0 : Memref sig .tc .vmem S512x512 .bf16).view
/-- Each window's current staging memref at point `t`, spelled as the pipeline passes it (`bodyAt2`), and its wholeness. -/
abbrev ms2_0 (t : Fin cfg2.N) : Memref sig .tc .vmem S512x7168 .fp8e4m3 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x56 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S7168x512 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x512 .bf16 := win2_5.stage (cfg2.slots t 5)
abbrev hs2_5 (t : Fin cfg2.N) : (ms2_5 t).IsWhole := hstage2_5 ((cfg2.slots t 5).cast nbuf2_5)
/-- The scratch operands: whole scoped buffers of the kernel's own, passed beside the windows. -/
abbrev scM2_0 : Memref sig .tc .vmem S512x7168 .bf16 := Memref.whole cc2_scratch0
/-- The scratch `arg8` the kernel carries between points, as a view: what it holds is stated through it. -/
abbrev VS2_0 : View sig .tc .vmem S512x7168 .bf16 := scM2_0.view

/-- The scoped buffers that are neither a staging buffer of this call nor its scratch, each at some contents: carried
    unopened from point to point. -/
abbrev Rest2 (c : Dev nD) : sProp 𝕄 := Pipeline.scopedRestBut spec2 c [cc2_scratch0]

/-- The frame kit's invariant with the scratch operand as a memref owned at some contents: what the body obligation hands
    the run and takes back. -/
theorem PhiA2_eq (c : Dev nD) :
    (Pipeline.ΦA spec2 c : sProp 𝕄)
      = iprop(iprop((∃ d, owns (c : Thread nD τ) scM2_0 fullShare d) ∗ Rest2 c) ∗ (∃ r, prngReg c r)) := by
  unfold Pipeline.ΦA; rw [Pipeline.scopedRest_split_of_list spec2 c [cc2_scratch0] (by decide) (by decide)]
  simp only [scM2_0, owns_whole]; rfl

-- (the run's proof term is large: the definition's epilogue — `abstractNestedProofs` — walks it past the default budget)
set_option maxHeartbeats 1312000 in
/-- What the body's stores leave in each output's staging memref, as pieces (last first) IN CASE A (`scf.if` 0 taken: points 0, 14, … 154: 12 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : cond2_0 i)
    (x0 : Vec F S512x7168 .fp8e4m3) (x1 : Vec F S512x56 .f32) (x2 : Vec F S7168x512 .fp8e4m3) (x3 : Vec F S1x512 .f32) (x4 : Vec F S1x512 .f32) :
    Σ' (L5 : List (View.Piece (Elt F) S512x512 .bf16)), { LS0 : List (View.Piece (Elt F) S512x7168 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2_linear2 i arg2 harg2 arg3 harg3 arg4 harg4 arg5 harg5 arg6 harg6 arg7 harg7 arg8 harg8) K } := by
  refine ⟨?_, ?_, fun E K => ?run⟩
  case run =>
    simp only [cc2_linear2_eq_skeleton]; unfold cc2_linear2_skel
    simp only [k2_part17_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

section CaseA

variable (c : Dev nD) (i : grid2.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : cond2_0 i)
    (x0 : Vec F S512x7168 .fp8e4m3) (x1 : Vec F S512x56 .f32) (x2 : Vec F S7168x512 .fp8e4m3) (x3 : Vec F S1x512 .f32) (x4 : Vec F S1x512 .f32)

/-- Case A's pieces for output 5 tile its block (1 store of `S512x512`, checked by evaluation), so they cover it. -/
theorem cover2_A_5 (y : S512x512.Idx) :
    ∃ pc ∈ (kernelRun2_A c i arg2 harg2 arg3 harg3 arg4 harg4 arg5 harg5 arg6 harg6 arg7 harg7 arg8 harg8 hc0 x0 x1 x2 x3 x4).1, y ∈ pc.1.set :=
  View.cover_of_tiledL (kernelRun2_A c i arg2 harg2 arg3 harg3 arg4 harg4 arg5 harg5 arg6 harg6 arg7 harg7 arg8 harg8 hc0 x0 x1 x2 x3 x4).1 S512x512.size (by sl_kernel_rfl) y

/-- What case A leaves in output 5's staging buffer: its pieces read back over junk. -/
def out2_A_5 : Vec F S512x512 .bf16 :=
  VO2_5.read (Elt F) (VO2_5.writes (Elt F) VO2_5.junk (kernelRun2_A c i arg2 harg2 arg3 harg3 arg4 harg4 arg5 harg5 arg6 harg6 arg7 harg7 arg8 harg8 hc0 x0 x1 x2 x3 x4).1)

/-- Case A's pieces for scratch `arg8`, which the kernel carries between points, cover it: 56 pieces of `S512x128` tiling it (Lib/Ring.lean `Piece.tiledL`). -/
theorem scover2_A_0 (y : S512x7168.Idx) :
    ∃ pc ∈ (kernelRun2_A c i arg2 harg2 arg3 harg3 arg4 harg4 arg5 harg5 arg6 harg6 arg7 harg7 arg8 harg8 hc0 x0 x1 x2 x3 x4).2.1, y ∈ pc.1.set :=
  View.cover_of_tiledL (kernelRun2_A c i arg2 harg2 arg3 harg3 arg4 harg4 arg5 harg5 arg6 harg6 arg7 harg7 arg8 harg8 hc0 x0 x1 x2 x3 x4).2.1 S512x128.size (by sl_kernel_rfl) y

/-- What case A leaves in scratch `arg8`: its pieces read back over junk. -/
def sout2_A_0 : Vec F S512x7168 .bf16 :=
  VS2_0.read (Elt F) (VS2_0.writes (Elt F) VS2_0.junk (kernelRun2_A c i arg2 harg2 arg3 harg3 arg4 harg4 arg5 harg5 arg6 harg6 arg7 harg7 arg8 harg8 hc0 x0 x1 x2 x3 x4).2.1)

end CaseA

-- (the run's proof term is large: the definition's epilogue — `abstractNestedProofs` — walks it past the default budget)
set_option maxHeartbeats 1000000 in
/-- What the body's stores leave in each output's staging memref, as pieces (last first) IN CASE B (`scf.if` 0 not taken: points 1, 2, … 167: 156 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : ¬cond2_0 i)
    (x0 : Vec F S512x7168 .fp8e4m3) (x1 : Vec F S512x56 .f32) (x2 : Vec F S7168x512 .fp8e4m3) (x3 : Vec F S1x512 .f32) (x4 : Vec F S1x512 .f32) (xs0 : Vec F S512x7168 .bf16) :
    Σ' (L5 : List (View.Piece (Elt F) S512x512 .bf16)), { LS0 : List (View.Piece (Elt F) S512x7168 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc2_linear2 i arg2 harg2 arg3 harg3 arg4 harg4 arg5 harg5 arg6 harg6 arg7 harg7 arg8 harg8) K } := by
  refine ⟨?_, [], fun E K => ?run⟩
  case run =>
    simp only [cc2_linear2_eq_skeleton]; unfold cc2_linear2_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

section CaseB

variable (c : Dev nD) (i : grid2.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : ¬cond2_0 i)
    (x0 : Vec F S512x7168 .fp8e4m3) (x1 : Vec F S512x56 .f32) (x2 : Vec F S7168x512 .fp8e4m3) (x3 : Vec F S1x512 .f32) (x4 : Vec F S1x512 .f32) (xs0 : Vec F S512x7168 .bf16)

/-- Case B's pieces for output 5 tile its block (1 store of `S512x512`, checked by evaluation), so they cover it. -/
theorem cover2_B_5 (y : S512x512.Idx) :
    ∃ pc ∈ (kernelRun2_B c i arg2 harg2 arg3 harg3 arg4 harg4 arg5 harg5 arg6 harg6 arg7 harg7 arg8 harg8 hc0 x0 x1 x2 x3 x4 xs0).1, y ∈ pc.1.set :=
  View.cover_of_tiledL (kernelRun2_B c i arg2 harg2 arg3 harg3 arg4 harg4 arg5 harg5 arg6 harg6 arg7 harg7 arg8 harg8 hc0 x0 x1 x2 x3 x4 xs0).1 S512x512.size (by sl_kernel_rfl) y

/-- What case B leaves in output 5's staging buffer: its pieces read back over junk. -/
def out2_B_5 : Vec F S512x512 .bf16 :=
  VO2_5.read (Elt F) (VO2_5.writes (Elt F) VO2_5.junk (kernelRun2_B c i arg2 harg2 arg3 harg3 arg4 harg4 arg5 harg5 arg6 harg6 arg7 harg7 arg8 harg8 hc0 x0 x1 x2 x3 x4 xs0).1)

end CaseB

/-- Case B stores nothing into scratch `arg8`: it holds what the point before left. -/
def sout2_B_0 (c : Dev nD) (i : grid2.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : ¬cond2_0 i)
    (x0 : Vec F S512x7168 .fp8e4m3) (x1 : Vec F S512x56 .f32) (x2 : Vec F S7168x512 .fp8e4m3) (x3 : Vec F S1x512 .f32) (x4 : Vec F S1x512 .f32) (xs0 : Vec F S512x7168 .bf16) : Vec F S512x7168 .bf16 := xs0

/-! ## What the outputs hold after each point -/

/-- What case A leaves at point `t`, run at the point's memrefs and input blocks: the outputs in window order, then the scratch. -/
abbrev outsA2 (c : Dev nD) (t : Fin cfg2.N) (h0 : t.val % 14 = 0) : Vec F S512x512 .bf16 × Vec F S512x7168 .bf16 :=
  (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (iblk2 V c 0 t) (iblk2 V c 1 t) (iblk2 V c 2 t) (iblk2 V c 3 t) (iblk2 V c 4 t),
    sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (iblk2 V c 0 t) (iblk2 V c 1 t) (iblk2 V c 2 t) (iblk2 V c 3 t) (iblk2 V c 4 t))

/-- The same for case B, over what the point before left. -/
abbrev outsB2 (c : Dev nD) (t : Fin cfg2.N) (h0 : ¬t.val % 14 = 0) (xs0 : Vec F S512x7168 .bf16) : Vec F S512x512 .bf16 × Vec F S512x7168 .bf16 :=
  (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (iblk2 V c 0 t) (iblk2 V c 1 t) (iblk2 V c 2 t) (iblk2 V c 3 t) (iblk2 V c 4 t) xs0,
    sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (iblk2 V c 0 t) (iblk2 V c 1 t) (iblk2 V c 2 t) (iblk2 V c 3 t) (iblk2 V c 4 t) xs0)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S512x512 .bf16 × Vec F S512x7168 .bf16
  | 0, hn => outsA2 V c ⟨0, hn⟩ (Nat.zero_mod _)
  | n + 1, hn =>
    if h0 : (n + 1) % 14 = 0 then outsA2 V c ⟨n + 1, hn⟩ h0
    else outsB2 V c ⟨n + 1, hn⟩ h0 (outsAt2 c n (Nat.lt_of_succ_lt hn)).2

/-- `outsAt2` at a point of case A: that case's contents. -/
theorem outsAt2_A (c : Dev nD) (t : Fin cfg2.N) (h0 : t.val % 14 = 0) :
    outsAt2 V c t.val t.isLt = outsA2 V c t h0 := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 14 = 0) :
    outsAt2 V c t.val t.isLt = outsB2 V c t h0 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt2`'s scratch components), the others at anything, and the generator register
    at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Rest2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(owns (c : Thread nD τ) scM2_0 fullShare ((outsAt2 V c n hn).2) ∗ Rest2 c) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Rest2 c) ∗ (∃ r, prngReg c r)) := by
  cases n with
  | zero => exact absurd rfl hz
  | succ n => rfl

/-! ## The pipeline's proof data -/

/-- The proof data of pipeline 2 on core `c`: the arrays as the region finds them (`V`); after the body at
    point `t` each input's buffer at its block and the outputs' at `outsAt2`; the invariant the class's
    (`PhiS2`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 3200000 in
/-- The body at any point: the inputs' memrefs hold their blocks (`before2_W`); the closed forms say which case the point is in (`by_cases`), an output the case reads before covering holds what the point before left (`before2_W_κ`); so the
    run applies; the invariant hands the body the carried scratch at what the point before left (`PhiS2_pos`; at anything at the first point, `PhiS2_zero`), the other scratch buffers and the generator register at some state, and takes the carried scratch back at this point's contents (`PhiS2_succ`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl,
    after2_0, after2_1, after2_2, after2_3, after2_4, after2_5]
  rw [show (dat2 V c).Φ t.succ = PhiS2 V c (t.val + 1) t.isLt from rfl, PhiS2_succ]
  have hN : t.val < 168 := lt_of_lt_of_eq t.isLt (show cfg2.N = 168 from N_2)
  by_cases h0 : t.val % 14 = 0
  · by_cases hz : t.val = 0
    · rw [PhiS2_castSucc V c t, PhiS2_zero V c _ _ hz, PhiA2_eq]
      rw [outsAt2_A V c t h0]
      unfold outsA2 out2_A_5 sout2_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (iblk2 V c 0 t) (iblk2 V c 1 t) (iblk2 V c 2 t) (iblk2 V c 3 t) (iblk2 V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]; swap; · iexact HR
          unfold owns; iexists _; isplitr
          swap; · iexact HS0
          ipureintro; exact View.read_writes_of_cover _ _ _ _ _ (scover2_A_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_A_5 c _ _ _ _ _ _ _ _ _ _ _ _ _ _ _ _ _ _ _ _ _)
    · rw [PhiS2_castSucc V c t, PhiS2_pos V c _ _ hz]
      rw [outsAt2_A V c t h0]
      unfold outsA2 out2_A_5 sout2_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (iblk2 V c 0 t) (iblk2 V c 1 t) (iblk2 V c 2 t) (iblk2 V c 3 t) (iblk2 V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 HR Hg]
      · isplitl [HS0 HR]
        · isplitl [HS0]; swap; · iexact HR
          unfold owns; iexists _; isplitr
          swap; · iexact HS0
          ipureintro; exact View.read_writes_of_cover _ _ _ _ _ (scover2_A_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_A_5 c _ _ _ _ _ _ _ _ _ _ _ _ _ _ _ _ _ _ _ _ _)
  · by_cases hz : t.val = 0
    · exfalso; have hN : t.val < 168 := lt_of_lt_of_eq t.isLt (show cfg2.N = 168 from N_2); omega
    · rw [PhiS2_castSucc V c t, PhiS2_pos V c _ _ hz]
      rw [outsAt2_B V c t h0]
      unfold outsB2 out2_B_5 sout2_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, HS0⟩
      isplitl [HS0 HR Hg]
      · isplitl [HS0 HR]
        · isplitl [HS0]; swap; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_B_5 c _ _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives `ΦA` back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]; swap; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 168 := N_2; omega)

end Regions

end Cert.KernelIdeal.Whole

end
-- ==== Proof.KernelIdealHosts.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
What the host's stretches between the calls write: none of the arguments.
-/

@[expose] public section

-- membership in a rectangle of production extents (`View.cover_of_tiled`): the elaborator's structural look
-- recurses once per coordinate of the long axes
set_option maxRecDepth 16384

noncomputable section

namespace Cert.KernelIdeal.Whole

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v4, main_v5]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7, main_v8]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

end Cert.KernelIdeal.Whole

end
-- ==== Proof.KernelIdealBuffers.lean ====
module

public import proofs.«01_k».proof.Proof.KernelIdealLnCall
public import proofs.«01_k».proof.Proof.KernelIdealLinear1Call
public import proofs.«01_k».proof.Proof.KernelIdealLinear2Call
public import proofs.«01_k».proof.Proof.KernelIdealHosts

/-!
The contents of the buffers before and after each call, one after another from the launch.
-/

@[expose] public section

-- membership in a rectangle of production extents (`View.cover_of_tiled`): the elaborator's structural look
-- recurses once per coordinate of the long axes
set_option maxRecDepth 16384

noncomputable section

namespace Cert.KernelIdeal.Whole

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
end Cert.KernelIdeal.Whole

end
-- ==== Proof.KernelIdealState.lean ====
module

public import proofs.«01_k».proof.Proof.KernelIdealBuffers

/-!
The proof data of the three calls, each at the contents it is entered with, and what a core holds between them.
-/

@[expose] public section

-- membership in a rectangle of production extents (`View.cover_of_tiled`): the elaborator's structural look
-- recurses once per coordinate of the long axes
set_option maxRecDepth 16384

noncomputable section

namespace Cert.KernelIdeal.Whole

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

end Cert.KernelIdeal.Whole

end
-- ==== Proof.KernelIdealLnSegment.lean ====
module

public import proofs.«01_k».proof.Proof.KernelIdealState

/-!
The layer norm's call as a segment of the program.
-/

@[expose] public section

-- membership in a rectangle of production extents (`View.cover_of_tiled`): the elaborator's structural look
-- recurses once per coordinate of the long axes
set_option maxRecDepth 16384

noncomputable section

namespace Cert.KernelIdeal.Whole

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdealLinear1Segment.lean ====
module

public import proofs.«01_k».proof.Proof.KernelIdealState

/-!
The first linear layer's call as a segment of the program.
-/

@[expose] public section

-- membership in a rectangle of production extents (`View.cover_of_tiled`): the elaborator's structural look
-- recurses once per coordinate of the long axes
set_option maxRecDepth 16384

noncomputable section

namespace Cert.KernelIdeal.Whole

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c); unfold Pipeline.ΦA
    iintro ⟨Hp, -, Hr⟩
    isplitl [Hr]; · iexact Hr
    iexact Hp
  hout c := by
    rw [Pipeline.ownSems0_none]; refine (hout1 (V3 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdealLinear2Segment.lean ====
module

public import proofs.«01_k».proof.Proof.KernelIdealState

/-!
The second linear layer's call as a segment of the program.
-/

@[expose] public section

-- membership in a rectangle of production extents (`View.cover_of_tiled`): the elaborator's structural look
-- recurses once per coordinate of the long axes
set_option maxRecDepth 16384

noncomputable section

namespace Cert.KernelIdeal.Whole

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m ρ) c); unfold Pipeline.ΦA
    iintro ⟨Hp, -, Hr⟩
    isplitl [Hr]; · iexact Hr
    iexact Hp
  hout c := by
    rw [Pipeline.ownSems0_none]; refine (hout2 (V5 m ρ) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Whole

end
-- ==== Proof.KernelIdealFrame.lean ====
module

public import proofs.«01_k».proof.Proof.KernelIdealLnSegment
public import proofs.«01_k».proof.Proof.KernelIdealLinear1Segment
public import proofs.«01_k».proof.Proof.KernelIdealLinear2Segment

/-!
The run of the whole program: its three calls and the host's stretches between them, launched.
-/

@[expose] public section

-- membership in a rectangle of production extents (`View.cover_of_tiled`): the elaborator's structural look
-- recurses once per coordinate of the long axes
set_option maxRecDepth 16384

noncomputable section

namespace Cert.KernelIdeal.Whole

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run of the whole program, at any `F`: from any memory with zero counters, every weakly fair execution of @main on the
    TensorCores terminates, nothing faulting, and every final state holds each unscoped buffer at the contents after the last call,
    with every semaphore counter of the machine at zero. -/
theorem run : θ_run defs (onTc (τ := τ) (main (F := F))) ⟨m, fun _ => 0, ρ⟩ (fun r => (∀ c : Dev nD, ∀ b ∈ Pipeline.ucRefs τ sig,
      r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c b hb => h c b hb, funext fun g => hz g (.inr (no_unscoped g.2))⟩)

/-- The frame: every weakly fair execution terminates, nothing faulting, the arguments end as launched and every semaphore
    counter of the machine at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c),
       (h.1 c _ (mem_uc main_arg5 (by decide))).trans (W6_main_arg5 m ρ c),
       (h.1 c _ (mem_uc main_arg6 (by decide))).trans (W6_main_arg6 m ρ c),
       (h.1 c _ (mem_uc main_arg7 (by decide))).trans (W6_main_arg7 m ρ c),
       (h.1 c _ (mem_uc main_arg8 (by decide))).trans (W6_main_arg8 m ρ c)⟩, h.2⟩) (run m ρ)

end Cert.KernelIdeal.Whole

end
-- ==== Proof.QuantMath.lean ====
module

public import Idealize.ShloMosaic.Lib.Pipeline.ValueKit

/-!
The quantiser of blocks of 128 and the gelu, as functions on the extended reals, with no program in sight.
-/

@[expose] public section

noncomputable section

namespace Cert.QuantMath

open Idealize.ShloMosaic

/-- The number that a word of 32 bits stands for as a float. -/
abbrev f (b : BitVec 32) : EReal := Ideal.ofBits .f32 b

/-- The exponent of a block's scale, from the block's greatest magnitude a: one more than the floor of the base 2 logarithm
    of a / 448, and 0 where a is zero. -/
def expo (a : EReal) : EReal :=
  if a = 0 then 0 else
    Ideal.liftRound Int.floor (Ideal.div (Ideal.log (a * f 0x3B124925#32)) (Ideal.log (f 0x40000000#32))) + 1

/-- The scale: two to the exponent. -/
def scale (a : EReal) : EReal := Ideal.exp2 (expo a)

/-- The code of v in a block of greatest magnitude a: v over the scale, clipped to the code format's range. -/
def code (a v : EReal) : EReal := min (f 0x43E00000#32) (max (f 0xC3E00000#32) (v * Ideal.exp2 (0 - expo a)))

/-- The greatest magnitude in a block of 128. -/
def amax (v : Fin 128 → EReal) : EReal := Finset.fold max (f 0xFF800000#32) (fun x => max (v x) (-(v x))) Finset.univ

/-- 1 / (1 + z / 2), which the fit of erfc is a polynomial in. -/
def recip (z : EReal) : EReal := Ideal.div 1 (1 + f 0x3F000000#32 * z)

/-- The fit's polynomial, by Horner's rule. -/
def horner (t : EReal) : EReal :=
  ((((((((f 0x3E2EF945#32 * t + f 0xBF527892#32) * t + f 0x3FBE87B0#32) * t + f 0xBF914E5D#32) * t + f 0x3E8EC7CC#32) * t
    + f 0xBE3EC24C#32) * t + f 0x3DC636C9#32) * t + f 0x3EBF88FB#32) * t + f 0x3F8000C7#32) * t + f 0xBFA1FC4E#32

/-- The fit's polynomial, as a sum of powers. -/
def powers (t : EReal) : EReal :=
  0 + f 0xBFA1FC4E#32 * 1 + f 0x3F8000C7#32 * t + f 0x3EBF88FB#32 * (t * t) + f 0x3DC636C9#32 * (t * (t * t))
    + f 0xBE3EC24C#32 * (t * t * (t * t)) + f 0x3E8EC7CC#32 * (t * (t * t * (t * t)))
    + f 0xBF914E5D#32 * (t * t * (t * t * (t * t))) + f 0x3FBE87B0#32 * (t * (t * t) * (t * t * (t * t)))
    + f 0xBF527892#32 * (t * t * (t * t) * (t * t * (t * t))) + f 0x3E2EF945#32 * (t * (t * t * (t * t) * (t * t * (t * t))))

/-- The fit of erfc at z ≥ 0, over either form p of its polynomial. -/
def tail (p : EReal → EReal) (z : EReal) : EReal := recip z * Ideal.exp (p (recip z) - z * z)

/-- The gelu as the kernel has it: the fit at |x| / √2, reflected where x is positive. -/
def gelu (x : EReal) : EReal :=
  f 0x3F000000#32 * x * (if 0 < x then f 0x40000000#32 - tail horner (max x (-x) * f 0x3F3504F3#32)
    else tail horner (max x (-x) * f 0x3F3504F3#32))

/-- The gelu as the reference has it: x / 2 times erfc (- x / √2), erfc by the fit with its reflection below zero. -/
def geluErfc (x : EReal) : EReal :=
  f 0x3F000000#32 * x * (if 0 ≤ (0 - x) * f 0x3F3504F3#32
    then tail powers (max ((0 - x) * f 0x3F3504F3#32) (-((0 - x) * f 0x3F3504F3#32)))
    else f 0x40000000#32 - tail powers (max ((0 - x) * f 0x3F3504F3#32) (-((0 - x) * f 0x3F3504F3#32))))

/-- A float whose exponent field is not all ones is a real. -/
theorem f_real {b : BitVec 32} (h : (b.extractLsb' 23 8).toNat ≠ 255) : ∃ r : ℝ, f b = (r : EReal) := by
  show ∃ r : ℝ, Ideal.ieee 8 23 b = (r : EReal)
  unfold Ideal.ieee
  simp only
  rw [if_neg (by simpa using h)]
  split <;> exact ⟨_, rfl⟩

/-- A normal float without its sign bit is a positive real. -/
theorem f_pos {b : BitVec 32} (hs : b.extractLsb' 31 1 ≠ 1#1) (h0 : (b.extractLsb' 23 8).toNat ≠ 0)
    (h1 : (b.extractLsb' 23 8).toNat ≠ 255) : ∃ r : ℝ, 0 < r ∧ f b = (r : EReal) := by
  show ∃ r : ℝ, 0 < r ∧ Ideal.ieee 8 23 b = (r : EReal)
  unfold Ideal.ieee
  simp only
  rw [if_neg (by simpa using h1), if_neg h0]
  refine ⟨_, ?_, rfl⟩
  have : (BitVec.extractLsb' (8 + 23) 1 b == 1#1) = false := by simpa using hs
  rw [this]
  simp only [Bool.false_eq_true, if_false, one_mul]
  positivity

/-- A factor that is a positive real does not move a comparison with zero. -/
theorem mul_pos_iff {c : ℝ} (hc : 0 < c) (x : EReal) : 0 < x * (c : EReal) ↔ 0 < x := by
  induction x with
  | bot => rw [EReal.bot_mul_coe_of_pos hc]
  | top => rw [EReal.top_mul_coe_of_pos hc]
  | coe r =>
    rw [← EReal.coe_mul, ← EReal.coe_zero, EReal.coe_lt_coe_iff, EReal.coe_lt_coe_iff]
    exact ⟨fun h => pos_of_mul_pos_left h hc.le, fun h => mul_pos h hc⟩

/-- Nor one with zero for equality. -/
theorem mul_eq_zero_iff {c : ℝ} (hc : 0 < c) (x : EReal) : x * (c : EReal) = 0 ↔ x = 0 := by
  induction x with
  | bot => rw [EReal.bot_mul_coe_of_pos hc]
  | top => rw [EReal.top_mul_coe_of_pos hc]
  | coe r =>
    rw [← EReal.coe_mul, ← EReal.coe_zero, EReal.coe_eq_coe_iff, EReal.coe_eq_coe_iff]
    exact ⟨fun h => (mul_eq_zero.mp h).resolve_right hc.ne', fun h => by rw [h, zero_mul]⟩

/-- The exponent with its test on a / 448 in place of a: the kernel's spelling. -/
theorem expo_eq (a : EReal) : (if a * f 0x3B124925#32 = 0 then 0 else
    Ideal.liftRound Int.floor (Ideal.div (Ideal.log (a * f 0x3B124925#32)) (Ideal.log (f 0x40000000#32))) + 1) = expo a := by
  obtain ⟨c, hc, e⟩ := f_pos (b := 0x3B124925#32) (by decide) (by decide) (by decide)
  unfold expo
  refine if_congr ?_ rfl rfl
  rw [e]
  exact mul_eq_zero_iff hc a

/-- 1 / (1 + z / 2) is a real at every z ≥ 0, the infinite one included. -/
theorem recip_real {z : EReal} (hz : 0 ≤ z) : ∃ r : ℝ, recip z = (r : EReal) := by
  obtain ⟨h, hh, e⟩ := f_pos (b := 0x3F000000#32) (by decide) (by decide) (by decide)
  unfold recip
  rw [e]
  induction z with
  | bot => exact absurd hz (by simp)
  | top =>
    refine ⟨0, ?_⟩
    rw [EReal.coe_mul_top_of_pos hh, ← EReal.coe_one, EReal.coe_add_top]
    simp [Ideal.div]
  | coe r =>
    have hr : 0 ≤ r := EReal.coe_nonneg.mp hz
    have h1 : (1 : EReal) + (h : EReal) * (r : EReal) = ((1 + h * r : ℝ) : EReal) := by
      rw [EReal.coe_add, EReal.coe_mul, EReal.coe_one]
    have hp : 1 + h * r ≠ 0 := by positivity
    exact ⟨1 * (1 / (1 + h * r)), by rw [h1, Ideal.div_coe hp, EReal.coe_mul, EReal.coe_one]⟩

/-- The two forms of the polynomial agree at a real. -/
theorem powers_eq (r : ℝ) : powers (r : EReal) = horner (r : EReal) := by
  obtain ⟨c9, e9⟩ := f_real (b := 0x3E2EF945#32) (by decide)
  obtain ⟨c8, e8⟩ := f_real (b := 0xBF527892#32) (by decide)
  obtain ⟨c7, e7⟩ := f_real (b := 0x3FBE87B0#32) (by decide)
  obtain ⟨c6, e6⟩ := f_real (b := 0xBF914E5D#32) (by decide)
  obtain ⟨c5, e5⟩ := f_real (b := 0x3E8EC7CC#32) (by decide)
  obtain ⟨c4, e4⟩ := f_real (b := 0xBE3EC24C#32) (by decide)
  obtain ⟨c3, e3⟩ := f_real (b := 0x3DC636C9#32) (by decide)
  obtain ⟨c2, e2⟩ := f_real (b := 0x3EBF88FB#32) (by decide)
  obtain ⟨c1, e1⟩ := f_real (b := 0x3F8000C7#32) (by decide)
  obtain ⟨c0, e0⟩ := f_real (b := 0xBFA1FC4E#32) (by decide)
  unfold powers horner
  rw [e9, e8, e7, e6, e5, e4, e3, e2, e1, e0]
  norm_cast
  ring

/-- The magnitude of - x / √2 is the magnitude of x over √2. -/
theorem abs_eq {c : ℝ} (hc : 0 < c) (x : EReal) :
    max ((0 - x) * (c : EReal)) (-((0 - x) * (c : EReal))) = max x (-x) * (c : EReal) := by
  rw [zero_sub, EReal.neg_mul, neg_neg]
  rcases le_total x (-x) with h | h
  · rw [max_eq_right h, max_eq_left, EReal.neg_mul]
    rw [← EReal.neg_mul]
    exact mul_le_mul_of_nonneg_right h (EReal.coe_nonneg.mpr hc.le)
  · rw [max_eq_left h, max_eq_right]
    rw [← EReal.neg_mul]
    exact mul_le_mul_of_nonneg_right h (EReal.coe_nonneg.mpr hc.le)

/-- The two spellings of the gelu are one function on the extended reals. -/
theorem geluErfc_eq (x : EReal) : geluErfc x = gelu x := by
  obtain ⟨c, hc, e⟩ := f_pos (b := 0x3F3504F3#32) (by decide) (by decide) (by decide)
  have hz : 0 ≤ max x (-x) * (c : EReal) := by
    refine mul_nonneg ?_ (EReal.coe_nonneg.mpr hc.le)
    rcases le_total 0 x with h | h
    · exact h.trans (le_max_left _ _)
    · exact (EReal.neg_nonneg.mpr h).trans (le_max_right _ _)
  have ht : tail powers (max x (-x) * (c : EReal)) = tail horner (max x (-x) * (c : EReal)) := by
    unfold tail
    obtain ⟨r, hr⟩ := recip_real hz
    rw [hr, powers_eq]
  have hs : 0 ≤ (0 - x) * (c : EReal) ↔ ¬ 0 < x := by
    rw [zero_sub, EReal.neg_mul, EReal.neg_nonneg, not_lt, ← not_lt, mul_pos_iff hc, not_lt]
  unfold geluErfc gelu
  rw [e, abs_eq hc, ht]
  by_cases h : 0 < x
  · rw [if_neg (fun h' => hs.mp h' h), if_pos h]
  · rw [if_pos (hs.mpr h), if_neg h]

variable {s : Shape}

/-- The exponents of a vector of greatest magnitudes, as the reference's body has them. -/
theorem expo_vec (w : FVec Ideal s .f32) (y : s.Idx) :
    select (cmpf (F := Ideal) (φ := .f32) .oeq w (broadcast s (Scalar.ofBits .f32 0x00000000#32)))
      (broadcast s (Scalar.ofBits .f32 0x00000000#32))
      (addf (F := Ideal) (φ := .f32) (floor (divf (log (mulf w (broadcast s (Scalar.ofBits .f32 0x3B124925#32))))
        (log (broadcast s (Scalar.ofBits .f32 0x40000000#32))))) (broadcast s (Scalar.ofBits .f32 0x3F800000#32))) y
      = expo (w y) := by
  unfold expo
  pointwise

/-- … and as the kernel's body has them. -/
theorem expo_vec' (w : FVec Ideal s .f32) (y : s.Idx) :
    select (cmpf (F := Ideal) (φ := .f32) .oeq (mulf w (broadcast s (Scalar.ofBits .f32 0x3B124925#32)))
        (broadcast s (Scalar.ofBits .f32 0x00000000#32)))
      (broadcast s (Scalar.ofBits .f32 0x00000000#32))
      (addf (F := Ideal) (φ := .f32) (floor (divf (log (mulf w (broadcast s (Scalar.ofBits .f32 0x3B124925#32))))
        (log (broadcast s (Scalar.ofBits .f32 0x40000000#32))))) (broadcast s (Scalar.ofBits .f32 0x3F800000#32))) y
      = expo (w y) := by
  rw [← expo_eq]
  pointwise

end Cert.QuantMath
-- ==== Proof.LnQuantMath.lean ====
module

public import proofs.«01_k».proof.Proof.QuantMath

/-!
The layer norm of a row of 12800, as functions on the extended reals, and its sums in the order in which the kernel adds.
-/

@[expose] public section

noncomputable section

namespace Cert.LnQuantMath

open Idealize.ShloMosaic Cert.QuantMath

/-- One over the row's length. -/
def invK : EReal := ((1 / 12800 : ℝ) : EReal)

/-- The mean of a row. -/
def mean (v : ℕ → EReal) : EReal := (∑ k ∈ Finset.range 12800, v k) * invK

/-- One over the root of a row's variance, which the constant 1e-5 keeps from zero. -/
def rstd (v : ℕ → EReal) : EReal :=
  Ideal.rsqrt ((∑ k ∈ Finset.range 12800, (v k - mean v) * (v k - mean v)) * invK + f 0x3727C5AC#32)

/-- The layer norm of a row: less the mean, times the reciprocal deviation, times g, plus b. -/
def norm (v g b : ℕ → EReal) (k : ℕ) : EReal := (v k - mean v) * rstd v * g k + b k

/-- The greatest magnitude in block q of a row. -/
def rowMax (v : ℕ → EReal) (q : ℕ) : EReal := amax fun l => v (128 * q + l.val)

/-- A sum over blocks is the sum over all. -/
theorem sum_blocks (g : ℕ → EReal) (a : ℕ) :
    ∑ n ∈ Finset.range a, ∑ l ∈ Finset.range 128, g (128 * n + l) = ∑ k ∈ Finset.range (128 * a), g k := by
  induction a with
  | zero => simp
  | succ a ih => rw [Finset.sum_range_succ, ih, Nat.mul_succ, Finset.sum_range_add]

/-- What one trip adds to lane l: the four quarters of the row, 25 blocks of 128 in each. -/
def four (g : ℕ → EReal) (n : ℕ) : EReal := (g n + g (3200 + n)) + (g (6400 + n) + g (9600 + n))

/-- The sum over lanes of the sums over trips is the sum over the row. -/
theorem sum_lanes (g : ℕ → EReal) :
    ∑ l : Fin 128, ∑ n ∈ Finset.range 25, four g (128 * n + l.val) = ∑ k ∈ Finset.range 12800, g k := by
  rw [← Finset.sum_range fun l => ∑ n ∈ Finset.range 25, four g (128 * n + l), Finset.sum_comm, sum_blocks (four g) 25]
  unfold four
  rw [Finset.sum_add_distrib, Finset.sum_add_distrib, Finset.sum_add_distrib]
  have h1 : ∑ k ∈ Finset.range 12800, g k = _ := Finset.sum_range_add g 6400 6400
  have h2 : ∑ k ∈ Finset.range 6400, g k = _ := Finset.sum_range_add g 3200 3200
  have h3 : ∑ k ∈ Finset.range 6400, g (6400 + k) = _ := Finset.sum_range_add (fun x => g (6400 + x)) 3200 3200
  rw [h1, h2, h3]
  refine congrArg _ (congrArg _ (Finset.sum_congr rfl fun x _ => congrArg g ?_))
  omega

/-- Row R of the patches: column k is the pixel of quarter k / 3200 of patch R, channel k mod 3200. Patch R of image R / 256 is
    the two by two pixels at row R / 16 mod 16 and column R mod 16 of the image's patches. -/
def pixel (x : (⟨4, ![24, 32, 32, 3200]⟩ : Shape).Idx → EReal) (R : Fin 6144) (k : ℕ) : EReal :=
  if h : k < 12800 then
    x (ix4 ⟨R.val / 256, by omega⟩ ⟨2 * (R.val / 16 % 16) + k / 6400, by omega⟩ ⟨2 * (R.val % 16) + k / 3200 % 2, by omega⟩ ⟨k % 3200, by omega⟩)
  else 0

/-- The entries of a vector of parameters. -/
def param (g : (⟨1, ![12800]⟩ : Shape).Idx → EReal) (k : ℕ) : EReal := if h : k < 12800 then g (ix1 ⟨k, h⟩) else 0

/-- The layer norm of row R of the patches. -/
def row (x : (⟨4, ![24, 32, 32, 3200]⟩ : Shape).Idx → EReal) (g b : (⟨1, ![12800]⟩ : Shape).Idx → EReal) (R : Fin 6144) : ℕ → EReal :=
  norm (pixel x R) (param g) (param b)

/-- The codes of the layer norm. -/
def outCodes (x : (⟨4, ![24, 32, 32, 3200]⟩ : Shape).Idx → EReal) (g b : (⟨1, ![12800]⟩ : Shape).Idx → EReal) :
    (⟨2, ![6144, 12800]⟩ : Shape).Idx → EReal := fun i =>
  code (rowMax (row x g b (i 0)) ((i 1).val / 128)) (row x g b (i 0) (i 1).val)

/-- The scales of the layer norm's blocks. -/
def outScales (x : (⟨4, ![24, 32, 32, 3200]⟩ : Shape).Idx → EReal) (g b : (⟨1, ![12800]⟩ : Shape).Idx → EReal) :
    (⟨2, ![6144, 100]⟩ : Shape).Idx → EReal := fun i => scale (rowMax (row x g b (i 0)) (i 1).val)

end Cert.LnQuantMath
-- ==== Proof.LnQuantTile.lean ====
module

public import proofs.«01_k».proof.Proof.KernelIdealLnCall
public import proofs.«01_k».proof.Proof.LnQuantMath

/-!
What one trip of each loop of the layer norm's kernel computes: the pixels it reads, the sums it adds, the normed block, its
codes and its scale.
-/

@[expose] public section

noncomputable section

namespace Cert.KernelIdeal.LnQuant

open Idealize.ShloMosaic Idealize.SL.Sem Cert.KernelIdeal Cert.QuantMath Cert.LnQuantMath

/-- Row r of the 32 rows of patches in a block of the image, as a function of the column: column k of 12800 is channel k mod 3200 of
    the pixel at row k / 6400 and column (k / 3200) mod 2 of the patch. -/
def patch (x0 : Vec Ideal S2x2x32x3200 .bf16) (r : Fin 32) (k : ℕ) : EReal :=
  if h : k < 12800 then
    x0 (ix4 ⟨r.val / 16, by omega⟩ ⟨k / 6400, by omega⟩ ⟨2 * (r.val % 16) + k / 3200 % 2, by omega⟩ ⟨k % 3200, by omega⟩)
  else 0

/-- The pixels of parity p in two rows u and w of 32 pixels, the first row's before the second's. -/
def half (p : Fin 2) (u w : Vec Ideal S1x1x32x128 .bf16) (y : S32x128.Idx) : EReal :=
  if h : (y 0).val < 16 then u (ix4 0 0 ⟨2 * (y 0).val + p.val, by omega⟩ (y 1))
  else w (ix4 0 0 ⟨2 * ((y 0).val - 16) + p.val, by have : (y 0).val < 32 := (y 0).isLt; omega⟩ (y 1))

/-- Of two rows of pixels loaded from the block, at 128 channels, those are a block of 128 columns of the rows of patches. -/
theorem half_ld (x0 : Vec Ideal S2x2x32x3200 .bf16) (p : Fin 2) (q k : ℕ) (hq : q < 2) (hk : k < 25) (off off' : Fin 4 → ℕ)
    (inb : ∀ a, off a + ![1, 1, 32, 128] a ≤ S2x2x32x3200.size a) (inb' : ∀ a, off' a + ![1, 1, 32, 128] a ≤ S2x2x32x3200.size a)
    (h : off = ![0, q, 0, 128 * k]) (h' : off' = ![1, q, 0, 128 * k]) (y : S32x128.Idx) (n : ℕ) (hn : n = 6400 * q + 3200 * p.val + (128 * k + (y 1).val)) :
    half p (View.ld x0 (Rect.unit off ![1, 1, 32, 128] inb)) (View.ld x0 (Rect.unit off' ![1, 1, 32, 128] inb')) y = patch x0 (y 0) n := by
  subst h h'
  have hy0 : (y 0).val < 32 := (y 0).isLt
  have hy1 : (y 1).val < 128 := (y 1).isLt
  unfold half patch
  rw [dif_pos (by omega : n < 12800)]
  split_ifs with h
  · refine View.ld_unit_apply_of _ _ _ _ _ _ fun a => ?_
    match a with
    | ⟨0, _⟩ => show (y 0).val / 16 = 0 + 0; omega
    | ⟨1, _⟩ => show n / 6400 = q + 0; omega
    | ⟨2, _⟩ => show 2 * ((y 0).val % 16) + n / 3200 % 2 = 0 + (2 * (y 0).val + p.val); omega
    | ⟨3, _⟩ => show n % 3200 = 128 * k + (y 1).val; omega
  · refine View.ld_unit_apply_of _ _ _ _ _ _ fun a => ?_
    match a with
    | ⟨0, _⟩ => show (y 0).val / 16 = 1 + 0; omega
    | ⟨1, _⟩ => show n / 6400 = q + 0; omega
    | ⟨2, _⟩ => show 2 * ((y 0).val % 16) + n / 3200 % 2 = 0 + (2 * ((y 0).val - 16) + p.val); omega
    | ⟨3, _⟩ => show n % 3200 = 128 * k + (y 1).val; omega

/-- What a trip of the first loop carries on. -/
theorem sum_apply (acc : FVec Ideal S32x128 .f32) (a b c d : Vec Ideal S1x1x32x128 .bf16) (y : S32x128.Idx) :
    Gen.k0_pay2 acc a b c d y = (acc y : EReal) + (half 0 a b y + half 1 a b y) + (half 0 c d y + half 1 c d y) := by
  unfold Gen.k0_pay2 half
  pointwise

/-- The kernel's named factor. -/
theorem named_invK : Named.named (F := Ideal) (φ := .f32) κ "inv_k" 0x38A3D70A#32 = invK :=
  IdealRules.named_const.ideal_named_scalar _ _ _ _ rfl

/-- The means, from the sums per lane. -/
theorem mean_apply (v : FVec Ideal S32x128 .f32) (z : S32x1.Idx) :
    Gen.k0_pay3 v z = (∑ l : Fin 128, (v (ix2 (z 0) l) : EReal)) * invK := by
  unfold Gen.k0_pay3
  rw [← named_invK]
  pointwise

/-- What a trip of the second loop carries on. -/
theorem var_apply (v2 acc : FVec Ideal S32x128 .f32) (a b c d : Vec Ideal S1x1x32x128 .bf16) (y : S32x128.Idx) :
    Gen.k0_pay4 v2 (Gen.k0_pay9 (Gen.k0_pay3 v2) acc a b) (Gen.k0_pay12 c d) (Gen.k0_pay13 c d) y
      = (acc y : EReal)
        + (half 0 a b y - Gen.k0_pay3 v2 (ix2 (y 0) 0)) * (half 0 a b y - Gen.k0_pay3 v2 (ix2 (y 0) 0))
        + (half 1 a b y - Gen.k0_pay3 v2 (ix2 (y 0) 0)) * (half 1 a b y - Gen.k0_pay3 v2 (ix2 (y 0) 0))
        + (half 0 c d y - Gen.k0_pay3 v2 (ix2 (y 0) 0)) * (half 0 c d y - Gen.k0_pay3 v2 (ix2 (y 0) 0))
        + (half 1 c d y - Gen.k0_pay3 v2 (ix2 (y 0) 0)) * (half 1 c d y - Gen.k0_pay3 v2 (ix2 (y 0) 0)) := by
  unfold Gen.k0_pay4 Gen.k0_pay9 Gen.k0_pay12 Gen.k0_pay13 Gen.k0_pay10 Gen.k0_pay11 half
  generalize Gen.k0_pay3 v2 = m
  pointwise

/-- The reciprocal deviations, from the sums per lane. -/
theorem rstd_apply (v : FVec Ideal S32x128 .f32) (z : S32x1.Idx) :
    Gen.k0_pay5 v z = Ideal.rsqrt ((∑ l : Fin 128, (v (ix2 (z 0) l) : EReal)) * invK + f 0x3727C5AC#32) := by
  unfold Gen.k0_pay5
  rw [← named_invK]
  pointwise

/-- A block of the layer norm of the pixels h of one parity. -/
def normed (m r : FVec Ideal S32x1 .f32) (h : S32x128.Idx → EReal) (g b : Vec Ideal S1x128 .f32) (y : S32x128.Idx) : EReal :=
  (h y - m (ix2 (y 0) 0)) * r (ix2 (y 0) 0) * g (ix2 0 (y 1)) + b (ix2 0 (y 1))

/-- The body's first block of a trip is the layer norm of parity 0 of a row of pixels. -/
theorem normed_0 (m r : FVec Ideal S32x1 .f32) (a b : Vec Ideal S1x1x32x128 .bf16) (g e : Vec Ideal S1x128 .f32) (y : S32x128.Idx) :
    Gen.k0_pay17 m r a b g e y = normed m r (half 0 a b) g e y := by
  unfold Gen.k0_pay17 Gen.k0_pay14 Gen.k0_pay15 normed half
  pointwise

/-- The body's second block of a trip is the layer norm of parity 1 of a row of pixels. -/
theorem normed_1 (m r : FVec Ideal S32x1 .f32) (a b : Vec Ideal S1x1x32x128 .bf16) (g e : Vec Ideal S1x128 .f32) (y : S32x128.Idx) :
    Gen.k0_pay24 m r (Gen.k0_pay16 a b) g e y = normed m r (half 1 a b) g e y := by
  unfold Gen.k0_pay24 Gen.k0_pay16 Gen.k0_pay14 Gen.k0_pay15 normed half
  pointwise

/-- The body's third block of a trip is the layer norm of parity 0 of a row of pixels. -/
theorem normed_2 (m r : FVec Ideal S32x1 .f32) (a b : Vec Ideal S1x1x32x128 .bf16) (g e : Vec Ideal S1x128 .f32) (y : S32x128.Idx) :
    Gen.k0_pay35 m r (Gen.k0_pay33 a b) g e y = normed m r (half 0 a b) g e y := by
  unfold Gen.k0_pay35 Gen.k0_pay33 Gen.k0_pay29 Gen.k0_pay31 normed half
  pointwise

/-- The body's fourth block of a trip is the layer norm of parity 1 of a row of pixels. -/
theorem normed_3 (m r : FVec Ideal S32x1 .f32) (a b : Vec Ideal S1x1x32x128 .bf16) (g e : Vec Ideal S1x128 .f32) (y : S32x128.Idx) :
    Gen.k0_pay42 m r (Gen.k0_pay34 (Gen.k0_pay30 a) (Gen.k0_pay32 b)) g e y = normed m r (half 1 a b) g e y := by
  unfold Gen.k0_pay42 Gen.k0_pay34 Gen.k0_pay30 Gen.k0_pay32 Gen.k0_pay29 Gen.k0_pay31 normed half
  pointwise

/-- The greatest magnitudes of the rows of a block. -/
abbrev blockMax (v : FVec Ideal S32x128 .f32) (r : Fin 32) : EReal := amax fun l => v (ix2 r l)

/-- The codes that the body makes of the first block. -/
theorem codes_0 (m r : FVec Ideal S32x1 .f32) (a b : Vec Ideal S1x1x32x128 .bf16) (g e : Vec Ideal S1x128 .f32) (y : S32x128.Idx) :
    (Gen.k0_pay22 (Gen.k0_pay17 m r a b g e) (Gen.k0_pay19 m r a b g e) (Gen.k0_pay20 m r a b g e) y : EReal)
      = code (blockMax (Gen.k0_pay17 m r a b g e) (y 0)) (Gen.k0_pay17 m r a b g e y) := by
  unfold code blockMax amax
  rw [← expo_eq]
  unfold Gen.k0_pay22 Gen.k0_pay21 Gen.k0_pay19 Gen.k0_pay20 Gen.k0_pay18
  generalize Gen.k0_pay17 m r a b g e = v
  pointwise
  rfl

/-- The codes that the body makes of the second block. -/
theorem codes_1 (m r : FVec Ideal S32x1 .f32) (h : FVec Ideal S32x128 .f32) (g e : Vec Ideal S1x128 .f32) (y : S32x128.Idx) :
    (Gen.k0_pay27 (Gen.k0_pay24 m r h g e) (Gen.k0_pay25 m r h g e) (FloatOps.ofBits .f32 0x3B124925#32) y : EReal)
      = code (blockMax (Gen.k0_pay24 m r h g e) (y 0)) (Gen.k0_pay24 m r h g e y) := by
  unfold code blockMax amax
  rw [← expo_eq]
  unfold Gen.k0_pay27 Gen.k0_pay26 Gen.k0_pay25
  generalize Gen.k0_pay24 m r h g e = v
  pointwise
  rfl

/-- The codes that the body makes of the third block. -/
theorem codes_2 (m r : FVec Ideal S32x1 .f32) (h : FVec Ideal S32x128 .bf16) (g e : Vec Ideal S1x128 .f32) (y : S32x128.Idx) :
    (Gen.k0_pay40 (Gen.k0_pay38 m r h g e) (FloatOps.ofBits .f32 0x43E00000#32) (Gen.k0_pay39 (F := Ideal)) y : EReal)
      = code (blockMax (Gen.k0_pay35 m r h g e) (y 0)) (Gen.k0_pay35 m r h g e y) := by
  unfold code blockMax amax
  rw [← expo_eq]
  unfold Gen.k0_pay40 Gen.k0_pay38 Gen.k0_pay39 Gen.k0_pay36
  generalize Gen.k0_pay35 m r h g e = v
  pointwise
  rfl

/-- The codes that the body makes of the fourth block. -/
theorem codes_3 (m r : FVec Ideal S32x1 .f32) (h : FVec Ideal S32x128 .f32) (g e : Vec Ideal S1x128 .f32) (y : S32x128.Idx) :
    (Gen.k0_pay6 (Gen.k0_pay42 m r h g e) (Gen.k0_pay45 m r h g e) y : EReal)
      = code (blockMax (Gen.k0_pay42 m r h g e) (y 0)) (Gen.k0_pay42 m r h g e y) := by
  unfold code blockMax amax
  rw [← expo_eq]
  unfold Gen.k0_pay6 Gen.k0_pay45 Gen.k0_pay43
  generalize Gen.k0_pay42 m r h g e = v
  pointwise
  rfl

/-- A lane's number against a block's, as words. -/
theorem lane_eq (n : ℕ) (hn : n < 128) (b : BitVec 32) (u v : EReal) :
    Scalar.select (IntOp.cmpi .eq (BitVec.ofNat 32 n) b) u v = if n = b.toNat then u else v := by
  by_cases h : n = b.toNat
  · rw [if_pos h, h]
    simp [Scalar.select, IntOp.cmpi]
  · rw [if_neg h]
    have h2 : BitVec.ofNat 32 n ≠ b := fun hh => h (by
      have := congrArg BitVec.toNat hh
      simp only [BitVec.toNat_ofNat] at this
      omega)
    have h3 : (BitVec.ofNat 32 n == b) = false := beq_eq_false_iff_ne.mpr h2
    simp only [Scalar.select, IntOp.cmpi, h3]
    rfl

/-- The scales so far with one column put in: its lane takes the column, the other lanes are as before. -/
def put (acc : S32x128.Idx → EReal) (b : BitVec 32) (s : FVec Ideal S32x1 .f32) (y : S32x128.Idx) : EReal :=
  if (y 1).val = b.toNat then s (ix2 (y 0) 0) else acc y

/-- The lanes' numbers. -/
abbrev lanes : IVec S32x128 32 := iota .tc S32x128 32 [1] Gen.iota_S32x128_d1_w32

/-- The body puts the first block's scale s in lane b. -/
theorem put_0 (acc : FVec Ideal S32x128 .f32) (b : BitVec 32) (u : IVec S32x1 1) (w : FVec Ideal S32x1 .f32) (y : S32x128.Idx) :
    Gen.k0_pay23 lanes acc b u w y = put acc b (exp2 (Gen.k0_pay21 u w)) y := by
  unfold Gen.k0_pay23
  generalize Gen.k0_pay21 u w = s
  pointwise
  exact lane_eq _ (y 1).isLt _ _ _

/-- The body puts the second block's scale s in lane b. -/
theorem put_1 (acc : FVec Ideal S32x128 .f32) (b : BitVec 32) (w : FVec Ideal S32x1 .f32) (e : Ideal .f32) (y : S32x128.Idx) :
    Gen.k0_pay28 lanes acc b w e y = put acc b (exp2 (Gen.k0_pay26 w e)) y := by
  unfold Gen.k0_pay28
  generalize Gen.k0_pay26 w e = s
  pointwise
  exact lane_eq _ (y 1).isLt _ _ _

/-- The body puts the third block's scale s in lane b. -/
theorem put_2 (acc : FVec Ideal S32x128 .f32) (b : BitVec 32) (s : FVec Ideal S32x1 .f32) (y : S32x128.Idx) :
    Gen.k0_pay41 lanes acc b s y = put acc b s y := by
  unfold Gen.k0_pay41
  pointwise
  exact lane_eq _ (y 1).isLt _ _ _

/-- The body puts the fourth block's scale s in lane b. -/
theorem put_3 (acc : FVec Ideal S32x128 .f32) (b : BitVec 32) (s : FVec Ideal S32x1 .f32) (y : S32x128.Idx) :
    Gen.k0_pay7 acc b s y = put acc b s y := by
  unfold Gen.k0_pay7
  pointwise
  exact lane_eq _ (y 1).isLt _ _ _

/-- The scale that the body makes of the first block. -/
theorem scale_0 (m r : FVec Ideal S32x1 .f32) (a b : Vec Ideal S1x1x32x128 .bf16) (g e : Vec Ideal S1x128 .f32) (z : S32x1.Idx) :
    (exp2 (Gen.k0_pay21 (Gen.k0_pay19 m r a b g e) (Gen.k0_pay20 m r a b g e)) z : EReal) = scale (blockMax (Gen.k0_pay17 m r a b g e) (z 0)) := by
  unfold scale blockMax amax
  rw [← expo_eq]
  unfold Gen.k0_pay21 Gen.k0_pay19 Gen.k0_pay20 Gen.k0_pay18
  generalize Gen.k0_pay17 m r a b g e = v
  pointwise
  rfl

/-- The scale that the body makes of the second block. -/
theorem scale_1 (m r : FVec Ideal S32x1 .f32) (h : FVec Ideal S32x128 .f32) (g e : Vec Ideal S1x128 .f32) (z : S32x1.Idx) :
    (exp2 (Gen.k0_pay26 (Gen.k0_pay25 m r h g e) (FloatOps.ofBits .f32 0x3B124925#32)) z : EReal) = scale (blockMax (Gen.k0_pay24 m r h g e) (z 0)) := by
  unfold scale blockMax amax
  rw [← expo_eq]
  unfold Gen.k0_pay26 Gen.k0_pay25
  generalize Gen.k0_pay24 m r h g e = v
  pointwise
  rfl

/-- The scale that the body makes of the third block. -/
theorem scale_2 (m r : FVec Ideal S32x1 .f32) (h : FVec Ideal S32x128 .bf16) (g e : Vec Ideal S1x128 .f32) (z : S32x1.Idx) :
    (Gen.k0_pay37 m r h g e z : EReal) = scale (blockMax (Gen.k0_pay35 m r h g e) (z 0)) := by
  unfold scale blockMax amax
  rw [← expo_eq]
  unfold Gen.k0_pay37 Gen.k0_pay36
  generalize Gen.k0_pay35 m r h g e = v
  pointwise
  rfl

/-- The scale that the body makes of the fourth block. -/
theorem scale_3 (m r : FVec Ideal S32x1 .f32) (h : FVec Ideal S32x128 .f32) (g e : Vec Ideal S1x128 .f32) (z : S32x1.Idx) :
    (Gen.k0_pay44 m r h g e z : EReal) = scale (blockMax (Gen.k0_pay42 m r h g e) (z 0)) := by
  unfold scale blockMax amax
  rw [← expo_eq]
  unfold Gen.k0_pay44 Gen.k0_pay43
  generalize Gen.k0_pay42 m r h g e = v
  pointwise
  rfl

end Cert.KernelIdeal.LnQuant
-- ==== Proof.LnQuantLoops.lean ====
module

public import proofs.«01_k».proof.Proof.LnQuantTile

/-!
The three loops of the layer norm's kernel: what a trip adds or stores and, for the two loops of sums, what they carry.
-/

@[expose] public section

noncomputable section

namespace Cert.KernelIdeal.LnQuant

open Idealize.ShloMosaic Idealize.SL.Sem Cert.KernelIdeal Cert.QuantMath Cert.LnQuantMath

/-- The first loop has 25 trips. -/
theorem trips_1 : k0_t1_loop.trips = 25 := by decide +kernel

/-- The second loop has 25 trips. -/
theorem trips_2 : k0_t2_loop.trips = 25 := by decide +kernel

/-- The third loop has 25 trips. -/
theorem trips_3 : k0_t3_loop.trips = 25 := by decide +kernel

section trips

variable (𝒱 : Variants) (bd : Option 𝒱.V) (c : Dev nD) (i : grid0.Coords)
  (arg1 : Memref sig .tc .vmem S2x2x32x3200 .bf16) (harg1 : arg1.IsWhole)
  (arg2 : Memref sig .tc .vmem S1x12800 .f32) (harg2 : arg2.IsWhole)
  (arg3 : Memref sig .tc .vmem S1x12800 .f32) (harg3 : arg3.IsWhole)
  (arg4 : Memref sig .tc .vmem S32x12800 .fp8e4m3) (harg4 : arg4.IsWhole)
  (arg5 : Memref sig .tc .vmem S32x100 .f32) (harg5 : arg5.IsWhole)

/-- A trip of the first loop adds its four columns' pixels to each lane. -/
theorem trip_1 (x0 : Vec Ideal S2x2x32x3200 .bf16) (k : Fin k0_t1_loop.trips) (acc : FVec Ideal S32x128 .f32) (y : S32x128.Idx) :
    Gen.tripR_k0_t1 (F := Ideal) 𝒱 c bd i arg1 harg1 arg2 harg2 arg3 harg3 arg4 harg4 arg5 harg5 (harg1.unread x0) k acc y
      = (acc y : EReal) + four (patch x0 (y 0)) (128 * k.val + (y 1).val) := by
  have hk : k.val < 25 := lt_of_lt_of_eq k.isLt trips_1
  unfold Gen.tripR_k0_t1 Gen.trip_k0_t1
  dsimp only
  simp only [View.readAt_eq_ld, Memref.IsWhole.read_unread]
  refine (sum_apply _ _ _ _ _ y).trans ?_
  rw [half_ld x0 0 0 k.val (by omega) hk _ _ _ _ (Gen.k0_off1_eq k) (Gen.k0_off2_eq k) y (128 * k.val + (y 1).val) (by simp),
    half_ld x0 1 0 k.val (by omega) hk _ _ _ _ (Gen.k0_off1_eq k) (Gen.k0_off2_eq k) y (3200 + (128 * k.val + (y 1).val)) (by simp),
    half_ld x0 0 1 k.val (by omega) hk _ _ _ _ (Gen.k0_off3_eq k) (Gen.k0_off4_eq k) y (6400 + (128 * k.val + (y 1).val)) (by simp),
    half_ld x0 1 1 k.val (by omega) hk _ _ _ _ (Gen.k0_off3_eq k) (Gen.k0_off4_eq k) y (9600 + (128 * k.val + (y 1).val)) (by simp), add_assoc]
  rfl

/-- The first loop's carried sums before trip n. -/
theorem state_1 (x0 : Vec Ideal S2x2x32x3200 .bf16) (n : ℕ) (hn : n ≤ 25) (y : S32x128.Idx) :
    Gen.st_k0_t1 (F := Ideal) 𝒱 c bd i arg1 harg1 arg2 harg2 arg3 harg3 arg4 harg4 arg5 harg5 (harg1.unread x0) Gen.k0_pay1 n y
      = ∑ k ∈ Finset.range n, four (patch x0 (y 0)) (128 * k + (y 1).val) := by
  induction n with
  | zero =>
    rw [Finset.sum_range_zero, Gen.st_k0_t1_zero]
    unfold Gen.k0_pay1
    pointwise
  | succ n ih =>
    rw [Gen.st_k0_t1_succ 𝒱 c bd i arg1 harg1 arg2 harg2 arg3 harg3 arg4 harg4 arg5 harg5 (harg1.unread x0) Gen.k0_pay1 ⟨n, by rw [trips_1]; omega⟩, Finset.sum_range_succ, ← ih (by omega)]
    exact trip_1 𝒱 bd c i arg1 harg1 arg2 harg2 arg3 harg3 arg4 harg4 arg5 harg5 x0 ⟨n, _⟩ _ y

/-- A trip of the second loop adds its four columns' squared distances from the mean to each lane. -/
theorem trip_2 (x0 : Vec Ideal S2x2x32x3200 .bf16) (v2 : FVec Ideal S32x128 .f32) (k : Fin k0_t2_loop.trips) (acc : FVec Ideal S32x128 .f32) (y : S32x128.Idx) :
    Gen.tripR_k0_t2 (F := Ideal) 𝒱 c bd i arg1 harg1 arg2 harg2 arg3 harg3 arg4 harg4 arg5 harg5 v2 (harg1.unread x0) k acc y
      = (acc y : EReal) + four (fun n => (patch x0 (y 0) n - Gen.k0_pay3 v2 (ix2 (y 0) 0)) * (patch x0 (y 0) n - Gen.k0_pay3 v2 (ix2 (y 0) 0)))
          (128 * k.val + (y 1).val) := by
  have hk : k.val < 25 := lt_of_lt_of_eq k.isLt trips_2
  obtain ⟨X, hX⟩ : ∃ X, harg1.unread x0 = X := ⟨_, rfl⟩
  have e : x0 = View.read (Elt Ideal) arg1.view X := by rw [← hX, Memref.IsWhole.read_unread]
  rw [hX]
  unfold Gen.tripR_k0_t2 Gen.trip_k0_t2
  refine (var_apply v2 acc (View.ld (View.read (Elt Ideal) arg1.view X) (Rect.unit (k0_off5 k) ![1, 1, 32, 128] (Gen.k0_off5_inb k)))
    (View.ld (View.read (Elt Ideal) arg1.view X) (Rect.unit (k0_off6 k) ![1, 1, 32, 128] (Gen.k0_off6_inb k)))
    (View.ld (View.read (Elt Ideal) arg1.view X) (Rect.unit (k0_off7 k) ![1, 1, 32, 128] (Gen.k0_off7_inb k)))
    (View.ld (View.read (Elt Ideal) arg1.view X) (Rect.unit (k0_off8 k) ![1, 1, 32, 128] (Gen.k0_off8_inb k))) y).trans ?_
  rw [← e, half_ld x0 0 0 k.val (by omega) hk _ _ _ _ (Gen.k0_off5_eq k) (Gen.k0_off6_eq k) y (128 * k.val + (y 1).val) (by simp),
    half_ld x0 1 0 k.val (by omega) hk _ _ _ _ (Gen.k0_off5_eq k) (Gen.k0_off6_eq k) y (3200 + (128 * k.val + (y 1).val)) (by simp),
    half_ld x0 0 1 k.val (by omega) hk _ _ _ _ (Gen.k0_off7_eq k) (Gen.k0_off8_eq k) y (6400 + (128 * k.val + (y 1).val)) (by simp),
    half_ld x0 1 1 k.val (by omega) hk _ _ _ _ (Gen.k0_off7_eq k) (Gen.k0_off8_eq k) y (9600 + (128 * k.val + (y 1).val)) (by simp),
    add_assoc, add_assoc, add_assoc, ← add_assoc (_ * _) (_ * _) (_ + _)]
  rfl

/-- The second loop's carried sums before trip n. -/
theorem state_2 (x0 : Vec Ideal S2x2x32x3200 .bf16) (v2 : FVec Ideal S32x128 .f32) (n : ℕ) (hn : n ≤ 25) (y : S32x128.Idx) :
    Gen.st_k0_t2 (F := Ideal) 𝒱 c bd i arg1 harg1 arg2 harg2 arg3 harg3 arg4 harg4 arg5 harg5 v2 (harg1.unread x0) Gen.k0_pay1 n y
      = ∑ k ∈ Finset.range n, four (fun n => (patch x0 (y 0) n - Gen.k0_pay3 v2 (ix2 (y 0) 0)) * (patch x0 (y 0) n - Gen.k0_pay3 v2 (ix2 (y 0) 0)))
          (128 * k + (y 1).val) := by
  induction n with
  | zero =>
    rw [Finset.sum_range_zero, Gen.st_k0_t2_zero]
    unfold Gen.k0_pay1
    pointwise
  | succ n ih =>
    rw [Gen.st_k0_t2_succ 𝒱 c bd i arg1 harg1 arg2 harg2 arg3 harg3 arg4 harg4 arg5 harg5 v2 (harg1.unread x0) Gen.k0_pay1 ⟨n, by rw [trips_2]; omega⟩, Finset.sum_range_succ, ← ih (by omega)]
    exact trip_2 𝒱 bd c i arg1 harg1 arg2 harg2 arg3 harg3 arg4 harg4 arg5 harg5 x0 v2 ⟨n, _⟩ _ y

/-- After the first loop the means are the rows' means. -/
theorem mean_eq (x0 : Vec Ideal S2x2x32x3200 .bf16) (z : S32x1.Idx) :
    Gen.k0_pay3 (Gen.st_k0_t1 (F := Ideal) 𝒱 c bd i arg1 harg1 arg2 harg2 arg3 harg3 arg4 harg4 arg5 harg5 (harg1.unread x0) Gen.k0_pay1 25) z = mean (patch x0 (z 0)) := by
  refine (mean_apply _ z).trans ?_
  unfold mean
  rw [← sum_lanes]
  exact congrArg (fun u : EReal => u * invK) (Finset.sum_congr rfl fun l _ => state_1 𝒱 bd c i arg1 harg1 arg2 harg2 arg3 harg3 arg4 harg4 arg5 harg5 x0 25 le_rfl (ix2 (z 0) l))

/-- After the second loop, with the rows' means, the deviations are the rows' deviations. -/
theorem rstd_eq (x0 : Vec Ideal S2x2x32x3200 .bf16) (v2 : FVec Ideal S32x128 .f32) (hm : ∀ r, Gen.k0_pay3 v2 (ix2 r 0) = mean (patch x0 r)) (z : S32x1.Idx) :
    Gen.k0_pay5 (Gen.st_k0_t2 (F := Ideal) 𝒱 c bd i arg1 harg1 arg2 harg2 arg3 harg3 arg4 harg4 arg5 harg5 v2 (harg1.unread x0) Gen.k0_pay1 25) z = rstd (patch x0 (z 0)) := by
  refine (rstd_apply _ z).trans ?_
  unfold rstd
  rw [← sum_lanes]
  exact congrArg (fun u : EReal => Ideal.rsqrt (u * invK + f 0x3727C5AC#32))
    (Finset.sum_congr rfl fun l _ => (state_2 𝒱 bd c i arg1 harg1 arg2 harg2 arg3 harg3 arg4 harg4 arg5 harg5 x0 v2 25 le_rfl (ix2 (z 0) l)).trans
      (congrArg (fun m : EReal => ∑ n ∈ Finset.range 25, four (fun k => (patch x0 (z 0) k - m) * (patch x0 (z 0) k - m)) (128 * n + l.val)) (hm (z 0))))

end trips

/-- The entries of a row of parameters, as a function of the column. -/
def entry (x : Vec Ideal S1x12800 .f32) (k : ℕ) : EReal := if h : k < 12800 then x (ix2 0 ⟨k, h⟩) else 0

/-- The layer norm of row r of the patches. -/
def ln (x0 : Vec Ideal S2x2x32x3200 .bf16) (x1 : Vec Ideal S1x12800 .f32) (x2 : Vec Ideal S1x12800 .f32) (r : Fin 32) : ℕ → EReal := LnQuantMath.norm (patch x0 r) (entry x1) (entry x2)

/-- Of 128 columns of a row of parameters, lane l is column n. -/
theorem entry_ld (x : Vec Ideal S1x12800 .f32) (off : Fin 2 → ℕ) (inb : ∀ a, off a + ![1, 128] a ≤ S1x12800.size a) (j : ℕ) (h : off = ![0, j])
    (l : Fin 128) (n : ℕ) (hn : n = j + l.val) : (View.ld x (Rect.unit off ![1, 128] inb) (ix2 0 l) : EReal) = entry x n := by
  subst h
  have hb : j + 128 ≤ 12800 := inb 1
  unfold entry
  rw [dif_pos (by omega : n < 12800)]
  refine View.ld_unit_apply_of _ _ _ _ _ _ fun a => ?_
  match a with
  | ⟨0, _⟩ => rfl
  | ⟨1, _⟩ => exact hn

/-- The normed pixels of one parity of two rows of pixels are a block of the layer norm. -/
theorem normed_ld (x0 : Vec Ideal S2x2x32x3200 .bf16) (x1 : Vec Ideal S1x12800 .f32) (x2 : Vec Ideal S1x12800 .f32) (m r : FVec Ideal S32x1 .f32) (hm : ∀ z, m (ix2 z 0) = mean (patch x0 z)) (hr : ∀ z, r (ix2 z 0) = rstd (patch x0 z))
    (p : Fin 2) (q k : ℕ) (hq : q < 2) (hk : k < 25) (off off' : Fin 4 → ℕ)
    (inb : ∀ a, off a + ![1, 1, 32, 128] a ≤ S2x2x32x3200.size a) (inb' : ∀ a, off' a + ![1, 1, 32, 128] a ≤ S2x2x32x3200.size a)
    (h : off = ![0, q, 0, 128 * k]) (h' : off' = ![1, q, 0, 128 * k])
    (o : Fin 2 → ℕ) (ib : ∀ a, o a + ![1, 128] a ≤ S1x12800.size a) (j : ℕ) (hj : j = 2 * q + p.val) (ho : o = ![0, 3200 * j + 128 * k]) (y : S32x128.Idx) :
    normed m r (half p (View.ld x0 (Rect.unit off ![1, 1, 32, 128] inb)) (View.ld x0 (Rect.unit off' ![1, 1, 32, 128] inb')))
      (View.ld x1 (Rect.unit o ![1, 128] ib)) (View.ld x2 (Rect.unit o ![1, 128] ib)) y = ln x0 x1 x2 (y 0) (3200 * j + 128 * k + (y 1).val) := by
  unfold normed ln LnQuantMath.norm
  rw [half_ld x0 p q k hq hk off off' inb inb' h h' y (3200 * j + 128 * k + (y 1).val) (by omega)]
  exact congrArg₂ (fun u v : EReal => u + v) (congrArg₂ (fun u v : EReal => u * v)
      (congrArg₂ (fun u v : EReal => (patch x0 (y 0) (3200 * j + 128 * k + (y 1).val) - u) * v) (hm (y 0)) (hr (y 0))) (entry_ld x1 o ib _ ho (y 1) _ rfl))
    (entry_ld x2 o ib _ ho (y 1) _ rfl)

section trip3

variable (arg1 : Memref sig .tc .vmem S2x2x32x3200 .bf16) (arg2 : Memref sig .tc .vmem S1x12800 .f32)
  (arg3 : Memref sig .tc .vmem S1x12800 .f32) (v2 v8 : FVec Ideal S32x128 .f32)
  (X1 : BufTy.Contents (Elt Ideal) arg1.view.ty) (X2 : BufTy.Contents (Elt Ideal) arg2.view.ty) (X3 : BufTy.Contents (Elt Ideal) arg3.view.ty)
  (k : Fin k0_t3_loop.trips)

/-- The row of pixels that trip k loads at offsets off. -/
abbrev px (off : Fin 4 → ℕ) (inb : ∀ a, off a + ![1, 1, 32, 128] a ≤ S2x2x32x3200.size a) : Vec Ideal S1x1x32x128 .bf16 :=
  View.ld (View.read (Elt Ideal) arg1.view X1) (Rect.unit off ![1, 1, 32, 128] inb)

/-- The parameters that trip k loads for quarter j. -/
abbrev pg (arg : Memref sig .tc .vmem S1x12800 .f32) (X : BufTy.Contents (Elt Ideal) arg.view.ty) (j : Fin 4) : Vec Ideal S1x128 .f32 :=
  View.ld (View.read (Elt Ideal) arg.view X) (Rect.unit (k0_off11 k (BitVec.ofNat 32 (25 * j.val))) ![1, 128] (Gen.k0_off11_inb k j))

/-- The first block of the layer norm that trip k works out. -/
abbrev v_0 : FVec Ideal S32x128 .f32 := Gen.k0_pay17 (Gen.k0_pay3 v2) (Gen.k0_pay5 v8) (px arg1 X1 (k0_off9 k) (Gen.k0_off9_inb k)) (px arg1 X1 (k0_off10 k) (Gen.k0_off10_inb k)) (pg k arg2 X2 0) (pg k arg3 X3 0)
/-- The second block of the layer norm that trip k works out. -/
abbrev v_1 : FVec Ideal S32x128 .f32 := Gen.k0_pay24 (Gen.k0_pay3 v2) (Gen.k0_pay5 v8) (Gen.k0_pay16 (px arg1 X1 (k0_off9 k) (Gen.k0_off9_inb k)) (px arg1 X1 (k0_off10 k) (Gen.k0_off10_inb k))) (pg k arg2 X2 1) (pg k arg3 X3 1)
/-- The third block of the layer norm that trip k works out. -/
abbrev v_2 : FVec Ideal S32x128 .f32 := Gen.k0_pay35 (Gen.k0_pay3 v2) (Gen.k0_pay5 v8) (Gen.k0_pay33 (px arg1 X1 (k0_off13 k) (Gen.k0_off13_inb k)) (px arg1 X1 (k0_off14 k) (Gen.k0_off14_inb k))) (pg k arg2 X2 2) (pg k arg3 X3 2)
/-- The fourth block of the layer norm that trip k works out. -/
abbrev v_3 : FVec Ideal S32x128 .f32 := Gen.k0_pay42 (Gen.k0_pay3 v2) (Gen.k0_pay5 v8) (Gen.k0_pay34 (Gen.k0_pay30 (px arg1 X1 (k0_off13 k) (Gen.k0_off13_inb k))) (Gen.k0_pay32 (px arg1 X1 (k0_off14 k) (Gen.k0_off14_inb k)))) (pg k arg2 X2 3) (pg k arg3 X3 3)

/-- The first word that trip k stores: the codes of its first block. -/
theorem word_0 (x : S32x128.Idx) : (Gen.trip_k0_t3.sl.v81 arg1 arg2 arg3 v2 v8 X1 X2 X3 k x : EReal)
    = code (blockMax (v_0 arg1 arg2 arg3 v2 v8 X1 X2 X3 k) (x 0)) (v_0 arg1 arg2 arg3 v2 v8 X1 X2 X3 k x) :=
  (show _ = _ from rfl).trans (codes_0 (Gen.k0_pay3 v2) (Gen.k0_pay5 v8) _ _ _ _ x)

/-- The second word that trip k stores: the codes of its second block. -/
theorem word_1 (x : S32x128.Idx) : (Gen.trip_k0_t3.sl.v132 arg1 arg2 arg3 v2 v8 X1 X2 X3 k x : EReal)
    = code (blockMax (v_1 arg1 arg2 arg3 v2 v8 X1 X2 X3 k) (x 0)) (v_1 arg1 arg2 arg3 v2 v8 X1 X2 X3 k x) :=
  (show _ = _ from rfl).trans (codes_1 (Gen.k0_pay3 v2) (Gen.k0_pay5 v8) _ _ _ x)

/-- The third word that trip k stores: the codes of its third block. -/
theorem word_2 (x : S32x128.Idx) : (Gen.trip_k0_t3.sl.v200 arg1 arg2 arg3 v2 v8 X1 X2 X3 k x : EReal)
    = code (blockMax (v_2 arg1 arg2 arg3 v2 v8 X1 X2 X3 k) (x 0)) (v_2 arg1 arg2 arg3 v2 v8 X1 X2 X3 k x) :=
  (show _ = _ from rfl).trans (codes_2 (Gen.k0_pay3 v2) (Gen.k0_pay5 v8) _ _ _ x)

/-- The fourth word that trip k stores: the codes of its fourth block. -/
theorem word_3 (x : S32x128.Idx) : (Gen.k0_pay6 (Gen.trip_k0_t3.sl.v224 arg1 arg2 arg3 v2 v8 X1 X2 X3 k) (Gen.trip_k0_t3.sl.v243 arg1 arg2 arg3 v2 v8 X1 X2 X3 k) x : EReal)
    = code (blockMax (v_3 arg1 arg2 arg3 v2 v8 X1 X2 X3 k) (x 0)) (v_3 arg1 arg2 arg3 v2 v8 X1 X2 X3 k x) :=
  (show _ = _ from rfl).trans (codes_3 (Gen.k0_pay3 v2) (Gen.k0_pay5 v8) _ _ _ x)

end trip3

end Cert.KernelIdeal.LnQuant
-- ==== Proof.LnQuantPoint.lean ====
module

public import proofs.«01_k».proof.Proof.LnQuantLoops

@[expose] public section

/-! What one grid point of the layer norm kernel leaves in its two output blocks: the third loop's trips, and from them
the codes and the scales of 32 rows of the layer norm. -/

noncomputable section

namespace Cert.KernelIdeal.LnQuant

open Idealize.ShloMosaic Idealize.SL.Sem Cert.KernelIdeal Cert.QuantMath Cert.LnQuantMath

/-- The codes of 32 rows: each entry over its block's scale. -/
def codesOf (x0 : Vec Ideal S2x2x32x3200 .bf16) (x1 x2 : Vec Ideal S1x12800 .f32) (y : S32x12800.Idx) : EReal :=
  code (rowMax (ln x0 x1 x2 (y 0)) ((y 1).val / 128)) (ln x0 x1 x2 (y 0) (y 1).val)

/-- The scale of block q of row r. -/
def scaleOf (x0 : Vec Ideal S2x2x32x3200 .bf16) (x1 x2 : Vec Ideal S1x12800 .f32) (r : Fin 32) (q : ℕ) : EReal :=
  scale (rowMax (ln x0 x1 x2 r) q)

section trip3

variable (𝒱 : Variants) (bd : Option 𝒱.V) (c : Dev nD) (i : grid0.Coords)
  (arg1 : Memref sig .tc .vmem S2x2x32x3200 .bf16) (harg1 : arg1.IsWhole)
  (arg2 : Memref sig .tc .vmem S1x12800 .f32) (harg2 : arg2.IsWhole)
  (arg3 : Memref sig .tc .vmem S1x12800 .f32) (harg3 : arg3.IsWhole)
  (arg4 : Memref sig .tc .vmem S32x12800 .fp8e4m3) (harg4 : arg4.IsWhole)
  (arg5 : Memref sig .tc .vmem S32x100 .f32) (harg5 : arg5.IsWhole)
  (v2 v8 : FVec Ideal S32x128 .f32)
  (X1 : BufTy.Contents (Elt Ideal) arg1.view.ty) (X2 : BufTy.Contents (Elt Ideal) arg2.view.ty) (X3 : BufTy.Contents (Elt Ideal) arg3.view.ty)
  (x0 : Vec Ideal S2x2x32x3200 .bf16) (x1 x2 : Vec Ideal S1x12800 .f32)
  (e1 : View.read (Elt Ideal) arg1.view X1 = x0) (e2 : View.read (Elt Ideal) arg2.view X2 = x1) (e3 : View.read (Elt Ideal) arg3.view X3 = x2)
  (hm : ∀ r, Gen.k0_pay3 v2 (ix2 r 0) = mean (patch x0 r)) (hr : ∀ r, Gen.k0_pay5 v8 (ix2 r 0) = rstd (patch x0 r))
  (k : Fin k0_t3_loop.trips)

/-- A trip's number is under 25. -/
theorem lt_25 (k : Fin k0_t3_loop.trips) : k.val < 25 := lt_of_lt_of_eq k.isLt trips_3

include e1 e2 e3 hm hr

/-- Block 0 of trip k is columns 128 k to 128 k + 127 of the layer norm. -/
theorem v_0_apply (y : S32x128.Idx) :
    v_0 arg1 arg2 arg3 v2 v8 X1 X2 X3 k y = ln x0 x1 x2 (y 0) (3200 * 0 + 128 * k.val + (y 1).val) := by
  subst e1 e2 e3
  exact (normed_0 _ _ _ _ _ _ y).trans (normed_ld _ _ _ _ _ hm hr 0 0 k.val (by omega) (lt_25 k) _ _ _ _ (Gen.k0_off9_eq k) (Gen.k0_off10_eq k)
    _ _ 0 rfl (Gen.k0_off11_eq k 0) y)

/-- Block 1 of trip k is columns 3200 + 128 k on. -/
theorem v_1_apply (y : S32x128.Idx) :
    v_1 arg1 arg2 arg3 v2 v8 X1 X2 X3 k y = ln x0 x1 x2 (y 0) (3200 * 1 + 128 * k.val + (y 1).val) := by
  subst e1 e2 e3
  exact (normed_1 _ _ _ _ _ _ y).trans (normed_ld _ _ _ _ _ hm hr 1 0 k.val (by omega) (lt_25 k) _ _ _ _ (Gen.k0_off9_eq k) (Gen.k0_off10_eq k)
    _ _ 1 rfl (Gen.k0_off11_eq k 1) y)

/-- Block 2 of trip k is columns 6400 + 128 k on. -/
theorem v_2_apply (y : S32x128.Idx) :
    v_2 arg1 arg2 arg3 v2 v8 X1 X2 X3 k y = ln x0 x1 x2 (y 0) (3200 * 2 + 128 * k.val + (y 1).val) := by
  subst e1 e2 e3
  exact (normed_2 _ _ _ _ _ _ y).trans (normed_ld _ _ _ _ _ hm hr 0 1 k.val (by omega) (lt_25 k) _ _ _ _ (Gen.k0_off13_eq k) (Gen.k0_off14_eq k)
    _ _ 2 rfl (Gen.k0_off11_eq k 2) y)

/-- Block 3 of trip k is columns 9600 + 128 k on. -/
theorem v_3_apply (y : S32x128.Idx) :
    v_3 arg1 arg2 arg3 v2 v8 X1 X2 X3 k y = ln x0 x1 x2 (y 0) (3200 * 3 + 128 * k.val + (y 1).val) := by
  subst e1 e2 e3
  exact (normed_3 _ _ _ _ _ _ y).trans (normed_ld _ _ _ _ _ hm hr 1 1 k.val (by omega) (lt_25 k) _ _ _ _ (Gen.k0_off13_eq k) (Gen.k0_off14_eq k)
    _ _ 3 rfl (Gen.k0_off11_eq k 3) y)

omit e1 e2 e3 hm hr in
/-- A block of lanes that holds columns 3200 j + 128 k on has the largest magnitude of block 25 j + k. -/
theorem blockMax_eq (v : FVec Ideal S32x128 .f32) (j : ℕ)
    (h : ∀ y : S32x128.Idx, v y = ln x0 x1 x2 (y 0) (3200 * j + 128 * k.val + (y 1).val)) (r : Fin 32) :
    blockMax v r = rowMax (ln x0 x1 x2 r) (25 * j + k.val) := by
  refine congrArg amax (funext fun l => (h (ix2 r l)).trans (congrArg (ln x0 x1 x2 r) ?_))
  show 3200 * j + 128 * k.val + l.val = _
  ring

omit e1 e2 e3 hm hr in
/-- A piece at columns 3200 j + 128 k on that holds its own block's codes agrees with the codes of the rows. -/
theorem piece_eq (v : FVec Ideal S32x128 .f32) (j : Fin 4)
    (h : ∀ y : S32x128.Idx, v y = ln x0 x1 x2 (y 0) (3200 * j.val + 128 * k.val + (y 1).val))
    (off : Fin 2 → ℕ) (inb : ∀ a, off a + ![32, 128] a ≤ S32x12800.size a) (ho : off = ![0, 3200 * j.val + 128 * k.val]) (x : S32x128.Idx) :
    code (blockMax v (x 0)) (v x) = codesOf x0 x1 x2 ((Rect.unit (s := S32x12800) off ![32, 128] inb).emb x) := by
  subst ho
  have hx : (x 1).val < 128 := (x 1).isLt
  unfold codesOf
  have a0 : (Rect.unit (s := S32x12800) ![0, 3200 * j.val + 128 * k.val] ![32, 128] inb).emb x 0 = x 0 :=
    Fin.ext (by simp [Rect.unit, Rect.emb])
  have a1 : ((Rect.unit (s := S32x12800) ![0, 3200 * j.val + 128 * k.val] ![32, 128] inb).emb x 1).val = 3200 * j.val + 128 * k.val + (x 1).val := by
    simp [Rect.unit, Rect.emb]
  have a2 : (3200 * j.val + 128 * k.val + (x 1).val) / 128 = 25 * j.val + k.val := by omega
  rw [a1, a2]
  refine congrArg₂ code ((blockMax_eq x0 x1 x2 k v j.val h (x 0)).trans ?_) ((h x).trans ?_)
  · exact congrArg (fun r => rowMax (ln x0 x1 x2 r) (25 * j.val + k.val)) a0.symm
  · exact congrArg (fun r => ln x0 x1 x2 r (3200 * j.val + 128 * k.val + (x 1).val)) a0.symm

/-- Every piece that trip k writes holds the codes of the columns that it covers. -/
theorem trip_3_codes (acc : FVec Ideal S32x128 .f32) :
    ∀ p ∈ Gen.tripL_k0_t3 (F := Ideal) 𝒱 c bd i arg1 harg1 arg2 harg2 arg3 harg3 arg4 harg4 arg5 harg5 v2 v8 lanes X1 X2 X3 k acc,
      ∀ x, p.2 x = codesOf x0 x1 x2 (p.1.emb x) := by
  unfold Gen.tripL_k0_t3 Gen.trip_k0_t3
  intro p hp
  simp only [List.mem_cons, List.not_mem_nil, or_false] at hp
  rcases hp with rfl | rfl | rfl | rfl
  · intro x
    exact (word_3 arg1 arg2 arg3 v2 v8 X1 X2 X3 k x).trans
      (piece_eq x0 x1 x2 k _ 3 (v_3_apply arg1 arg2 arg3 v2 v8 X1 X2 X3 x0 x1 x2 e1 e2 e3 hm hr k) _ (Gen.k0_off12_inb k 3) (Gen.k0_off12_eq k 3) x)
  · intro x
    exact (word_2 arg1 arg2 arg3 v2 v8 X1 X2 X3 k x).trans
      (piece_eq x0 x1 x2 k _ 2 (v_2_apply arg1 arg2 arg3 v2 v8 X1 X2 X3 x0 x1 x2 e1 e2 e3 hm hr k) _ (Gen.k0_off12_inb k 2) (Gen.k0_off12_eq k 2) x)
  · intro x
    exact (word_1 arg1 arg2 arg3 v2 v8 X1 X2 X3 k x).trans
      (piece_eq x0 x1 x2 k _ 1 (v_1_apply arg1 arg2 arg3 v2 v8 X1 X2 X3 x0 x1 x2 e1 e2 e3 hm hr k) _ (Gen.k0_off12_inb k 1) (Gen.k0_off12_eq k 1) x)
  · intro x
    exact (word_0 arg1 arg2 arg3 v2 v8 X1 X2 X3 k x).trans
      (piece_eq x0 x1 x2 k _ 0 (v_0_apply arg1 arg2 arg3 v2 v8 X1 X2 X3 x0 x1 x2 e1 e2 e3 hm hr k) _ (Gen.k0_off12_inb k 0) (Gen.k0_off12_eq k 0) x)

omit e1 e2 e3 hm hr in
/-- Trip k puts its four blocks' scales in lanes k, 25 + k, 50 + k and 75 + k. -/
theorem trip_3_put (acc : FVec Ideal S32x128 .f32) (y : S32x128.Idx) :
    Gen.tripR_k0_t3 (F := Ideal) 𝒱 c bd i arg1 harg1 arg2 harg2 arg3 harg3 arg4 harg4 arg5 harg5 v2 v8 lanes X1 X2 X3 k acc y
      = if (y 1).val = 75 + k.val then scale (blockMax (v_3 arg1 arg2 arg3 v2 v8 X1 X2 X3 k) (y 0))
        else if (y 1).val = 50 + k.val then scale (blockMax (v_2 arg1 arg2 arg3 v2 v8 X1 X2 X3 k) (y 0))
        else if (y 1).val = 25 + k.val then scale (blockMax (v_1 arg1 arg2 arg3 v2 v8 X1 X2 X3 k) (y 0))
        else if (y 1).val = k.val then scale (blockMax (v_0 arg1 arg2 arg3 v2 v8 X1 X2 X3 k) (y 0)) else acc y := by
  have b0 : ∀ k : Fin k0_t3_loop.trips, (Scalar.addi 0#32 (Scf.iv 0#32 1#32 k.val)).toNat = k.val := by decide +kernel
  have b1 : ∀ k : Fin k0_t3_loop.trips, (Scalar.addi 25#32 (Scf.iv 0#32 1#32 k.val)).toNat = 25 + k.val := by decide +kernel
  have b2 : ∀ k : Fin k0_t3_loop.trips, (Scalar.addi 50#32 (Scf.iv 0#32 1#32 k.val)).toNat = 50 + k.val := by decide +kernel
  have b3 : ∀ k : Fin k0_t3_loop.trips, (Scalar.addi 75#32 (Scf.iv 0#32 1#32 k.val)).toNat = 75 + k.val := by decide +kernel
  unfold Gen.tripR_k0_t3 Gen.trip_k0_t3
  refine (show _ = Gen.k0_pay7 (Gen.k0_pay41 lanes (Gen.k0_pay28 lanes (Gen.k0_pay23 lanes acc (Scalar.addi 0#32 (Scf.iv 0#32 1#32 k.val))
      (Gen.k0_pay19 (Gen.k0_pay3 v2) (Gen.k0_pay5 v8) _ _ _ _) (Gen.k0_pay20 (Gen.k0_pay3 v2) (Gen.k0_pay5 v8) _ _ _ _))
      (Scalar.addi 25#32 (Scf.iv 0#32 1#32 k.val)) (Gen.k0_pay25 (Gen.k0_pay3 v2) (Gen.k0_pay5 v8) _ _ _) (FloatOps.ofBits .f32 0x3B124925#32))
      (Scalar.addi 50#32 (Scf.iv 0#32 1#32 k.val)) (Gen.k0_pay37 (Gen.k0_pay3 v2) (Gen.k0_pay5 v8) _ _ _))
      (Scalar.addi 75#32 (Scf.iv 0#32 1#32 k.val)) (Gen.k0_pay44 (Gen.k0_pay3 v2) (Gen.k0_pay5 v8) _ _ _) y from rfl).trans ?_
  refine (put_3 _ _ _ y).trans ?_
  unfold put
  rw [b3]
  refine if_congr Iff.rfl (scale_3 _ _ _ _ _ (ix2 (y 0) 0)) ?_
  refine (put_2 _ _ _ y).trans ?_
  unfold put
  rw [b2]
  refine if_congr Iff.rfl (scale_2 _ _ _ _ _ (ix2 (y 0) 0)) ?_
  refine (put_1 _ _ _ _ y).trans ?_
  unfold put
  rw [b1]
  refine if_congr Iff.rfl (scale_1 _ _ _ _ _ (ix2 (y 0) 0)) ?_
  refine (put_0 _ _ _ _ y).trans ?_
  unfold put
  rw [b0]
  exact if_congr Iff.rfl (scale_0 _ _ _ _ _ _ (ix2 (y 0) 0)) rfl

/-- What the third loop has written before trip n: pieces of the codes. -/
theorem state_3_codes (init : FVec Ideal S32x128 .f32) (n : ℕ) (hn : n ≤ 25) :
    ∀ p ∈ (Gen.st_k0_t3 (F := Ideal) 𝒱 c bd i arg1 harg1 arg2 harg2 arg3 harg3 arg4 harg4 arg5 harg5 v2 v8 lanes X1 X2 X3 init n).2,
      ∀ x, p.2 x = codesOf x0 x1 x2 (p.1.emb x) := by
  induction n with
  | zero =>
    intro p hp
    exact absurd hp (List.not_mem_nil)
  | succ n ih =>
    rw [Gen.st_k0_t3_succ 𝒱 c bd i arg1 harg1 arg2 harg2 arg3 harg3 arg4 harg4 arg5 harg5 v2 v8 lanes X1 X2 X3 init ⟨n, by rw [trips_3]; omega⟩]
    intro p hp
    rcases List.mem_append.mp hp with h | h
    · exact trip_3_codes 𝒱 bd c i arg1 harg1 arg2 harg2 arg3 harg3 arg4 harg4 arg5 harg5 v2 v8 X1 X2 X3 x0 x1 x2 e1 e2 e3 hm hr ⟨n, _⟩ _ p h
    · exact ih (by omega) p h

/-- What the third loop carries before trip n: in lanes k, 25 + k, 50 + k and 75 + k for k < n, the scales of these blocks. -/
theorem state_3_scales (init : FVec Ideal S32x128 .f32) (n : ℕ) (hn : n ≤ 25) (y : S32x128.Idx) (hy : (y 1).val < 100) (hyn : (y 1).val % 25 < n) :
    (Gen.st_k0_t3 (F := Ideal) 𝒱 c bd i arg1 harg1 arg2 harg2 arg3 harg3 arg4 harg4 arg5 harg5 v2 v8 lanes X1 X2 X3 init n).1 y
      = scaleOf x0 x1 x2 (y 0) (y 1).val := by
  induction n with
  | zero => exact absurd hyn (Nat.not_lt_zero _)
  | succ n ih =>
    rw [Gen.st_k0_t3_succ 𝒱 c bd i arg1 harg1 arg2 harg2 arg3 harg3 arg4 harg4 arg5 harg5 v2 v8 lanes X1 X2 X3 init ⟨n, by rw [trips_3]; omega⟩]
    refine (trip_3_put 𝒱 bd c i arg1 harg1 arg2 harg2 arg3 harg3 arg4 harg4 arg5 harg5 v2 v8 X1 X2 X3 ⟨n, _⟩ _ y).trans ?_
    have hk : n < k0_t3_loop.trips := by rw [trips_3]; omega
    have hb (v : FVec Ideal S32x128 .f32) (j : ℕ)
        (h : ∀ y : S32x128.Idx, v y = ln x0 x1 x2 (y 0) (3200 * j + 128 * n + (y 1).val)) (hj : (y 1).val = 25 * j + n) :
        scale (blockMax v (y 0)) = scaleOf x0 x1 x2 (y 0) (y 1).val := by
      rw [hj]
      exact congrArg scale (blockMax_eq x0 x1 x2 ⟨n, hk⟩ v j h (y 0))
    split_ifs with h3 h2 h1 h0
    · exact hb _ 3 (v_3_apply arg1 arg2 arg3 v2 v8 X1 X2 X3 x0 x1 x2 e1 e2 e3 hm hr ⟨n, hk⟩) h3
    · exact hb _ 2 (v_2_apply arg1 arg2 arg3 v2 v8 X1 X2 X3 x0 x1 x2 e1 e2 e3 hm hr ⟨n, hk⟩) h2
    · exact hb _ 1 (v_1_apply arg1 arg2 arg3 v2 v8 X1 X2 X3 x0 x1 x2 e1 e2 e3 hm hr ⟨n, hk⟩) h1
    · exact hb _ 0 (v_0_apply arg1 arg2 arg3 v2 v8 X1 X2 X3 x0 x1 x2 e1 e2 e3 hm hr ⟨n, hk⟩) (by simpa using h0)
    · exact ih (by omega) (by simp only at h0 h1 h2 h3; omega)

end trip3

/-- The block of scales is the first 100 of the 128 lanes. -/
theorem first_100 (v : FVec Ideal S32x128 .f32) (z : S32x100.Idx) :
    Gen.k0_pay8 v z = v (ix2 (z 0) ⟨(z 1).val, lt_trans (z 1).isLt (by decide)⟩) := by
  unfold Gen.k0_pay8
  pointwise

section point

variable (c : Dev nD) (i : grid0.Coords)
  (arg1 : Memref sig .tc .vmem S2x2x32x3200 .bf16) (harg1 : arg1.IsWhole)
  (arg2 : Memref sig .tc .vmem S1x12800 .f32) (harg2 : arg2.IsWhole)
  (arg3 : Memref sig .tc .vmem S1x12800 .f32) (harg3 : arg3.IsWhole)
  (arg4 : Memref sig .tc .vmem S32x12800 .fp8e4m3) (harg4 : arg4.IsWhole)
  (arg5 : Memref sig .tc .vmem S32x100 .f32) (harg5 : arg5.IsWhole)
  (x0 : Vec Ideal S2x2x32x3200 .bf16) (x1 x2 : Vec Ideal S1x12800 .f32)

/-- A grid point leaves the codes of its 32 rows in the block of codes. -/
theorem out_3 : Whole.out0_A_3 c i arg1 harg1 arg2 harg2 arg3 harg3 arg4 harg4 arg5 harg5 x0 x1 x2 = codesOf x0 x1 x2 := by
  have hcov := Whole.cover0_A_3 (F := Ideal) c i arg1 harg1 arg2 harg2 arg3 harg3 arg4 harg4 arg5 harg5 x0 x1 x2
  funext y
  have hy := hcov y
  unfold Whole.kernelRun0_A at hy
  frame_out
  refine View.canon_apply_of_pieces (codesOf x0 x1 x2) _ ?_ y hy
  exact state_3_codes Variants.none none c i arg1 harg1 arg2 harg2 arg3 harg3 arg4 harg4 arg5 harg5 _ _ _ _ _ x0 x1 x2
    (harg1.read_unread x0) (harg2.read_unread x1) (harg3.read_unread x2)
    (fun r => mean_eq Variants.none none c i arg1 harg1 arg2 harg2 arg3 harg3 arg4 harg4 arg5 harg5 x0 (ix2 r 0))
    (fun r => rstd_eq Variants.none none c i arg1 harg1 arg2 harg2 arg3 harg3 arg4 harg4 arg5 harg5 x0 _
      (fun r => mean_eq Variants.none none c i arg1 harg1 arg2 harg2 arg3 harg3 arg4 harg4 arg5 harg5 x0 (ix2 r 0)) (ix2 r 0)) _ 25 le_rfl

/-- A grid point leaves the scales of its 32 rows in the block of scales. -/
theorem out_4 (z : S32x100.Idx) :
    Whole.out0_A_4 c i arg1 harg1 arg2 harg2 arg3 harg3 arg4 harg4 arg5 harg5 x0 x1 x2 z = scaleOf x0 x1 x2 (z 0) (z 1).val := by
  have hz : (z 1).val < 100 := (z 1).isLt
  have h := state_3_scales Variants.none none c i arg1 harg1 arg2 harg2 arg3 harg3 arg4 harg4 arg5 harg5 _ _ _ _ _ x0 x1 x2
    (harg1.read_unread x0) (harg2.read_unread x1) (harg3.read_unread x2)
    (fun r => mean_eq Variants.none none c i arg1 harg1 arg2 harg2 arg3 harg3 arg4 harg4 arg5 harg5 x0 (ix2 r 0))
    (fun r => rstd_eq Variants.none none c i arg1 harg1 arg2 harg2 arg3 harg3 arg4 harg4 arg5 harg5 x0 _
      (fun r => mean_eq Variants.none none c i arg1 harg1 arg2 harg2 arg3 harg3 arg4 harg4 arg5 harg5 x0 (ix2 r 0)) (ix2 r 0)) Gen.k0_pay1 25 le_rfl
    (ix2 (z 0) ⟨(z 1).val, by omega⟩) hz (by show (z 1).val % 25 < 25; omega)
  refine Eq.trans ?_ h
  frame_out
  exact first_100 _ z

end point

end Cert.KernelIdeal.LnQuant
-- ==== Proof.LnQuantArray.lean ====
module

public import proofs.«01_k».proof.Proof.LnQuantPoint
public import Idealize.ShloMosaic.Lib.Pipeline.ValueKit

/-!
What the two results of the layer norm hold after all 192 grid points: 32 rows of codes and of scales a point.
-/

@[expose] public section

noncomputable section

namespace Cert.KernelIdeal.LnQuant

open Idealize.ShloMosaic Idealize.ShloMosaic.TcCoe Idealize.SL.Sem Cert.KernelIdeal Cert.KernelIdeal.Gen Cert.KernelIdeal.Whole Cert.QuantMath Cert.LnQuantMath

variable (V : (c : Dev nD) → (b : Ref sig .tc) → Buf (Elt Ideal) ((c : Thread nD τ).loc b))

/-- The block of each operand's array that a grid point sees. -/
theorem idx : ∀ t : Fin cfg0.N, win0_0.index t = ![t.val, 0, 0, 0] ∧ win0_1.index t = ![0, 0]
    ∧ win0_2.index t = ![0, 0] ∧ win0_3.index t = ![t.val, 0] ∧ win0_4.index t = ![t.val, 0] :=
  (by decide +kernel : ∀ t : Fin grid0.N, _)

/-- The images, of the array that holds them as rows of patches: rows 2 p and 2 p + 1 of image n are the two rows of row of patches
    16 n + p. -/
def img (v : S384x2x32x3200.Idx → EReal) : S24x32x32x3200.Idx → EReal := fun i =>
  v (ix4 ⟨16 * (i 0).val + (i 1).val / 2, by
      have h0 : (i 0).val < 24 := (i 0).isLt
      have h1 : (i 1).val < 32 := (i 1).isLt
      omega⟩ ⟨(i 1).val % 2, by omega⟩ (i 2) (i 3))

/-- What the first result holds: the codes of the layer norm, at the arrays the call is entered with. -/
def GC (c : Dev nD) : S6144x12800.Idx → Elt Ideal .fp8e4m3 :=
  outCodes (img (V c main_v0)) (fun j => V c main_v1 (ix2 0 (j 0))) (fun j => V c main_v2 (ix2 0 (j 0)))

/-- What the second result holds: the scales of the layer norm, at the arrays the call is entered with. -/
def GS (c : Dev nD) : S6144x100.Idx → Elt Ideal .f32 :=
  outScales (img (V c main_v0)) (fun j => V c main_v1 (ix2 0 (j 0))) (fun j => V c main_v2 (ix2 0 (j 0)))

/-- The patches of a point are rows 32 t on of all patches. -/
theorem patch_blk (c : Dev nD) (t : Fin cfg0.N) (r : Fin 32) :
    patch (iblk0 V c 0 t) r = pixel (img (V c main_v0)) ⟨32 * t.val + r.val, by have ht : t.val < 192 := t.isLt; omega⟩ := by
  funext k
  unfold patch pixel img
  have ht : t.val < 192 := t.isLt
  split_ifs with h
  · blk_ext [iblk0, idx t]
  · rfl

/-- The first parameters of a point are those of the argument. -/
theorem gamma_blk (c : Dev nD) (t : Fin cfg0.N) : entry (iblk0 V c 1 t) = param (fun j => V c main_v1 (ix2 0 (j 0))) := by
  funext k
  unfold entry param
  split_ifs with h
  · blk_ext [iblk0, idx t]
  · rfl

/-- The second parameters of a point are those of the argument. -/
theorem beta_blk (c : Dev nD) (t : Fin cfg0.N) : entry (iblk0 V c 2 t) = param (fun j => V c main_v2 (ix2 0 (j 0))) := by
  funext k
  unfold entry param
  split_ifs with h
  · blk_ext [iblk0, idx t]
  · rfl

/-- The layer norm of a point's row is that of the whole array's row. -/
theorem ln_blk (c : Dev nD) (t : Fin cfg0.N) (r : Fin 32) (R : Fin 6144) (h : R.val = 32 * t.val + r.val) :
    ln (iblk0 V c 0 t) (iblk0 V c 1 t) (iblk0 V c 2 t) r
      = row (img (V c main_v0)) (fun j => V c main_v1 (ix2 0 (j 0))) (fun j => V c main_v2 (ix2 0 (j 0))) R := by
  have e : (⟨32 * t.val + r.val, by have ht : t.val < 192 := t.isLt; omega⟩ : Fin 6144) = R := Fin.ext h.symm
  unfold ln row
  rw [patch_blk, gamma_blk, beta_blk, e]

/-- A point's block of codes is the part of the whole result's codes at its place. -/
theorem point_3 (c : Dev nD) (t : Fin cfg0.N) (y : S32x12800.Idx) :
    (outsAt0 V c t).1 y = GC V c (((cfg0.win 3).blk t).view.emb y) := by
  have hy0 : (y 0).val < 32 := (y 0).isLt
  have hy1 : (y 1).val < 12800 := (y 1).isLt
  have ht : t.val < 192 := t.isLt
  have he : ((cfg0.win 3).blk t).view.emb y = (ix2 (⟨32 * t.val + (y 0).val, by omega⟩ : Fin 6144) (⟨(y 1).val, by omega⟩ : Fin 12800) : S6144x12800.Idx) := by
    blk_ext [idx t]
  rw [he]
  unfold outsAt0
  refine (congrFun (out_3 c _ _ _ _ _ _ _ _ _ _ _ (iblk0 V c 0 t) (iblk0 V c 1 t) (iblk0 V c 2 t)) y).trans ?_
  exact congrArg (fun v => code (rowMax v ((y 1).val / 128)) (v (y 1).val)) (ln_blk V c t (y 0) ⟨32 * t.val + (y 0).val, by omega⟩ rfl)

/-- A point's block of scales is the part of the whole result's scales at its place. -/
theorem point_4 (c : Dev nD) (t : Fin cfg0.N) (y : S32x100.Idx) :
    (outsAt0 V c t).2 y = GS V c (((cfg0.win 4).blk t).view.emb y) := by
  have hy0 : (y 0).val < 32 := (y 0).isLt
  have hy1 : (y 1).val < 100 := (y 1).isLt
  have ht : t.val < 192 := t.isLt
  have he : ((cfg0.win 4).blk t).view.emb y = (ix2 (⟨32 * t.val + (y 0).val, by omega⟩ : Fin 6144) (⟨(y 1).val, by omega⟩ : Fin 100) : S6144x100.Idx) := by
    blk_ext [idx t]
  rw [he]
  unfold outsAt0
  refine (out_4 c _ _ _ _ _ _ _ _ _ _ _ (iblk0 V c 0 t) (iblk0 V c 1 t) (iblk0 V c 2 t) y).trans ?_
  exact congrArg (fun v => scale (rowMax v (y 1).val)) (ln_blk V c t (y 0) ⟨32 * t.val + (y 0).val, by omega⟩ rfl)

/-- The codes, whole. -/
theorem arr_3 (c : Dev nD) : (dat0 V c).arrAt 3 cfg0.N = GC V c := by
  refine (dat0 V c).arrAt_eq_of_covers 3 _ (by decide +kernel) fun t hf y => ?_
  blk_simp
  exact point_3 V c t y

/-- The scales, whole. -/
theorem arr_4 (c : Dev nD) : (dat0 V c).arrAt 4 cfg0.N = GS V c := by
  refine (dat0 V c).arrAt_eq_of_covers 4 _ (by decide +kernel) fun t hf y => ?_
  blk_simp
  exact point_4 V c t y

end Cert.KernelIdeal.LnQuant
-- ==== Proof.Linear1Tile.lean ====
module

public import proofs.«01_k».proof.Proof.KernelIdealLinear1Call
public import proofs.«01_k».proof.Proof.QuantMath

/-!
What one grid point of the first linear layer's kernel leaves in its scratch and its two output blocks.
-/

@[expose] public section

noncomputable section

namespace Cert.KernelIdeal.Linear1

open Idealize.ShloMosaic Idealize.SL.Sem Cert.KernelIdeal Cert.QuantMath

/-- A row tile of the left factor: code (r, k) times the scale of the 128-wide block that k lies in. -/
def deq (x0 : Vec Ideal S512x12800 .fp8e4m3) (x1 : Vec Ideal S512x100 .f32) : Vec Ideal S512x12800 .bf16 :=
  fun y => (x0 y : EReal) * (x1 (ix2 (y 0) ⟨(y 1).val / 128, by have : (y 1).val < 12800 := (y 1).isLt; omega⟩) : EReal)

/-- One 512 by 128 block that the body stores into the scratch: its codes times its column of scales. -/
theorem piece_apply (s : Vec Ideal S512x1 .f32) (b : Vec Ideal S512x128 .fp8e4m3) (x : S512x128.Idx) :
    Gen.k1_pay1 s b x = (b x : EReal) * (s (ix2 (x 0) 0) : EReal) := by
  unfold Gen.k1_pay1
  pointwise

/-- … which is its part of the row tile of the left factor. -/
theorem piece (x0 : Vec Ideal S512x12800 .fp8e4m3) (x1 : Vec Ideal S512x100 .f32) (j k : ℕ) (hk : k = 128 * j)
    (inb1 : ∀ a, ![0, j] a + ![512, 1] a ≤ S512x100.size a) (inb0 : ∀ a, ![0, k] a + ![512, 128] a ≤ S512x12800.size a)
    (x : S512x128.Idx) (y : S512x12800.Idx) (h0 : (y 0).val = (x 0).val) (h1 : (y 1).val = k + (x 1).val) :
    Gen.k1_pay1 (F := Ideal) (View.ld x1 (Rect.unit ![0, j] ![512, 1] inb1)) (View.ld x0 (Rect.unit ![0, k] ![512, 128] inb0)) x = deq x0 x1 y := by
  refine (piece_apply _ _ x).trans ?_
  unfold deq
  have hy1 : (y 1).val < 12800 := (y 1).isLt
  refine congrArg₂ (fun u v : EReal => u * v) (View.ld_unit_apply_of _ _ _ _ _ y fun a => ?_)
    (View.ld_unit_apply_of _ _ _ _ _ _ fun a => ?_)
  · match a with
    | ⟨0, _⟩ => exact h0.trans (Nat.zero_add _).symm
    | ⟨1, _⟩ => exact h1
  · have hx1 : (x 1).val < 128 := (x 1).isLt
    match a with
    | ⟨0, _⟩ => exact h0.trans (Nat.zero_add _).symm
    | ⟨1, _⟩ => show (y 1).val / 128 = j + 0; omega

/-- In case A the scratch is left holding the row tile's left factor. -/
theorem sout_A (c : Dev nD) (i : grid1.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : Whole.cond1_0 i)
    (x0 : Vec Ideal S512x12800 .fp8e4m3) (x1 : Vec Ideal S512x100 .f32) (x2 : Vec Ideal S12800x512 .fp8e4m3) (x3 : Vec Ideal S1x512 .f32) (x4 : Vec Ideal S1x512 .f32) :
    Whole.sout1_A_0 c i arg2 harg2 arg3 harg3 arg4 harg4 arg5 harg5 arg6 harg6 arg7 harg7 arg8 harg8 arg9 harg9 hc0 x0 x1 x2 x3 x4 = deq x0 x1 := by
  funext y
  frame_out
  canon_tiles x h
  all_goals exact piece x0 x1 _ _ (by rfl) _ _ x y (by omega) (by omega)

/-- The layer before the gelu, over one tile. -/
theorem lin_apply (a : Vec Ideal S512x12800 .bf16) (w : Vec Ideal S12800x512 .fp8e4m3) (s b : Vec Ideal S1x512 .f32) (y : S512x512.Idx) :
    Gen.k1_pay122 a w s b y = (∑ k : Fin 12800, (a (ix2 (y 0) k) : EReal) * (w (ix2 k (y 1)) : EReal)) * (s (ix2 0 (y 1)) : EReal) + (b (ix2 0 (y 1)) : EReal) := by
  unfold Gen.k1_pay122
  pointwise

/-- The gelu over one tile, given its parts: |v| / √2, the reciprocal, and Horner's rule half way. -/
theorem gelu_apply (v z t h : FVec Ideal S512x512 .f32) (y : S512x512.Idx) (hz : (z y : EReal) = max (v y) (-(v y)) * f 0x3F3504F3#32)
    (ht : (t y : EReal) = recip (z y)) (hh : (h y : EReal) = ((((f 0x3E2EF945#32 * t y + f 0xBF527892#32) * t y + f 0x3FBE87B0#32) * t y
      + f 0xBF914E5D#32) * t y + f 0x3E8EC7CC#32) * t y) :
    Gen.k1_pay126 (F := Ideal) v z t h y = gelu (v y) := by
  unfold Gen.k1_pay126 gelu tail horner
  pointwise
  rw [hh, ht, hz]

/-- |v| / √2, of the layer v. -/
theorem z_apply (a : Vec Ideal S512x12800 .bf16) (w : Vec Ideal S12800x512 .fp8e4m3) (s b : Vec Ideal S1x512 .f32) (y : S512x512.Idx) :
    (Gen.k1_pay123 a w s b y : EReal) = max (Gen.k1_pay122 a w s b y) (-(Gen.k1_pay122 a w s b y)) * f 0x3F3504F3#32 := by
  unfold Gen.k1_pay123
  pointwise
  rfl

/-- The reciprocal, of that. -/
theorem t_apply (a : Vec Ideal S512x12800 .bf16) (w : Vec Ideal S12800x512 .fp8e4m3) (s b : Vec Ideal S1x512 .f32) (y : S512x512.Idx) :
    (Gen.k1_pay124 a w s b y : EReal) = recip (Gen.k1_pay123 a w s b y) := by
  unfold Gen.k1_pay124 recip
  pointwise

/-- The first steps of Horner's rule, at the reciprocal. -/
theorem h_apply (a : Vec Ideal S512x12800 .bf16) (w : Vec Ideal S12800x512 .fp8e4m3) (s b : Vec Ideal S1x512 .f32) (y : S512x512.Idx) :
    (Gen.k1_pay125 a w s b y : EReal) = ((((f 0x3E2EF945#32 * Gen.k1_pay124 a w s b y + f 0xBF527892#32) * Gen.k1_pay124 a w s b y
      + f 0x3FBE87B0#32) * Gen.k1_pay124 a w s b y + f 0xBF914E5D#32) * Gen.k1_pay124 a w s b y + f 0x3E8EC7CC#32) * Gen.k1_pay124 a w s b y := by
  unfold Gen.k1_pay125
  pointwise

/-- The activation over one tile, as the body computes it. -/
abbrev act (a : Vec Ideal S512x12800 .bf16) (w : Vec Ideal S12800x512 .fp8e4m3) (s b : Vec Ideal S1x512 .f32) : FVec Ideal S512x512 .f32 :=
  Gen.k1_pay126 (Gen.k1_pay122 a w s b) (Gen.k1_pay123 a w s b) (Gen.k1_pay124 a w s b) (Gen.k1_pay125 a w s b)

/-- The activation at an index: the gelu of the layer there. -/
theorem act_apply (a : Vec Ideal S512x12800 .bf16) (w : Vec Ideal S12800x512 .fp8e4m3) (s b : Vec Ideal S1x512 .f32) (y : S512x512.Idx) :
    (act a w s b y : EReal) = gelu ((∑ k : Fin 12800, (a (ix2 (y 0) k) : EReal) * (w (ix2 k (y 1)) : EReal)) * (s (ix2 0 (y 1)) : EReal)
      + (b (ix2 0 (y 1)) : EReal)) :=
  (gelu_apply _ _ _ _ y (z_apply a w s b y) (t_apply a w s b y) (h_apply a w s b y)).trans (congrArg gelu (lin_apply a w s b y))

/-- The greatest magnitude in row r, block q, of a tile. -/
def blockMax (v : FVec Ideal S512x512 .f32) (r : Fin 512) (q : Fin 4) : EReal :=
  amax fun x => v (ix2 r ⟨128 * q.val + x.val, by omega⟩)

/-- The codes of a tile. -/
def codes (v : FVec Ideal S512x512 .f32) : Vec Ideal S512x512 .fp8e4m3 := fun y =>
  code (blockMax v (y 0) ⟨(y 1).val / 128, by have : (y 1).val < 512 := (y 1).isLt; omega⟩) (v y)

/-- The code of entry x of block q of a tile is the tile's code at column 128 q + x. -/
theorem codes_of (v : FVec Ideal S512x512 .f32) (q : Fin 4) (x : S512x128.Idx) (y : S512x512.Idx) (k : ℕ) (hk : k = 128 * q.val) (h0 : (y 0).val = (x 0).val)
    (h1 : (y 1).val = k + (x 1).val) :
    code (blockMax v (x 0) q) (v (ix2 (x 0) ⟨128 * q.val + (x 1).val, by have : (x 1).val < 128 := (x 1).isLt; omega⟩)) = codes v y := by
  have hx1 : (x 1).val < 128 := (x 1).isLt
  have e0 : y 0 = x 0 := Fin.ext h0
  have hy : y = ix2 (x 0) ⟨128 * q.val + (x 1).val, by omega⟩ := by
    funext a
    match a with
    | ⟨0, _⟩ => exact e0
    | ⟨1, _⟩ => exact Fin.ext (by show (y 1).val = 128 * q.val + (x 1).val; omega)
  unfold codes
  refine congrArg₂ code (congrArg₂ (blockMax v) e0.symm (Fin.ext ?_)) (congrArg v hy.symm)
  show q.val = (y 1).val / 128
  omega

/-- The codes that the body makes of block 0. -/
theorem codes_0 (a b c d : FVec Ideal S512x512 .f32) (x : S512x128.Idx) :
    (Gen.k1_pay133 (Gen.k1_pay128 a b c d) (Gen.k1_pay130 a b c d) (Gen.k1_pay131 a b c d) (FloatOps.ofBits .f32 0#32) x : EReal)
      = code (blockMax (Gen.k1_pay126 a b c d) (x 0) 0) (Gen.k1_pay126 a b c d (ix2 (x 0) ⟨128 * 0 + (x 1).val, by have : (x 1).val < 128 := (x 1).isLt; omega⟩)) := by
  unfold code blockMax amax
  rw [← expo_eq]
  unfold Gen.k1_pay133 Gen.k1_pay132 Gen.k1_pay130 Gen.k1_pay131 Gen.k1_pay129 Gen.k1_pay128
  pointwise
  rfl

/-- The codes that the body makes of block 1. -/
theorem codes_1 (v : FVec Ideal S512x512 .f32) (x : S512x128.Idx) :
    (Gen.k1_pay139 (Gen.k1_pay138 v) (FloatOps.ofBits .f32 3286237184#32) x : EReal)
      = code (blockMax v (x 0) 1) (v (ix2 (x 0) ⟨128 * 1 + (x 1).val, by have : (x 1).val < 128 := (x 1).isLt; omega⟩)) := by
  unfold code blockMax amax
  rw [← expo_eq]
  unfold Gen.k1_pay139 Gen.k1_pay138 Gen.k1_pay136 Gen.k1_pay135
  pointwise
  rfl

/-- The codes that the body makes of block 2. -/
theorem codes_2 (v : FVec Ideal S512x512 .f32) (x : S512x128.Idx) :
    (Gen.k1_pay144 v x : EReal)
      = code (blockMax v (x 0) 2) (v (ix2 (x 0) ⟨128 * 2 + (x 1).val, by have : (x 1).val < 128 := (x 1).isLt; omega⟩)) := by
  unfold code blockMax amax
  rw [← expo_eq]
  unfold Gen.k1_pay144 Gen.k1_pay142 Gen.k1_pay141
  pointwise
  rfl

/-- The codes that the body makes of block 3. -/
theorem codes_3 (v : FVec Ideal S512x512 .f32) (x : S512x128.Idx) :
    (Gen.k1_pay147 v x : EReal)
      = code (blockMax v (x 0) 3) (v (ix2 (x 0) ⟨128 * 3 + (x 1).val, by have : (x 1).val < 128 := (x 1).isLt; omega⟩)) := by
  unfold code blockMax amax
  rw [← expo_eq]
  unfold Gen.k1_pay147 Gen.k1_pay146 Gen.k1_pay145
  pointwise
  rfl

/-- The four stores of codes leave the tile's codes. -/
theorem codes_canon (a : Vec Ideal S512x12800 .bf16) (w : Vec Ideal S12800x512 .fp8e4m3) (s b : Vec Ideal S1x512 .f32) (y : S512x512.Idx) :
    View.canon
      [⟨Rect.unit ![0, 384] ![512, 128] Gen.inb_S512x512_S512x128_0_384, Gen.k1_pay147 (act a w s b)⟩,
        ⟨Rect.unit ![0, 256] ![512, 128] Gen.inb_S512x512_S512x128_0_256, Gen.k1_pay144 (act a w s b)⟩,
        ⟨Rect.unit ![0, 128] ![512, 128] Gen.inb_S512x512_S512x128_0_128,
          Gen.k1_pay139 (Gen.k1_pay138 (act a w s b)) (FloatOps.ofBits FTy.f32 3286237184#32)⟩,
        ⟨Rect.unit ![0, 0] ![512, 128] Gen.inb_S512x512_S512x128_0_0,
          Gen.k1_pay133
            (Gen.k1_pay128 (Gen.k1_pay122 a w s b) (Gen.k1_pay123 a w s b) (Gen.k1_pay124 a w s b) (Gen.k1_pay125 a w s b))
            (Gen.k1_pay130 (Gen.k1_pay122 a w s b) (Gen.k1_pay123 a w s b) (Gen.k1_pay124 a w s b) (Gen.k1_pay125 a w s b))
            (Gen.k1_pay131 (Gen.k1_pay122 a w s b) (Gen.k1_pay123 a w s b) (Gen.k1_pay124 a w s b) (Gen.k1_pay125 a w s b))
            (FloatOps.ofBits FTy.f32 0#32)⟩]
      y = codes (act a w s b) y := by
  canon_tiles x h
  · exact (codes_3 _ x).trans (codes_of _ 3 x y 384 rfl (by omega) (by omega))
  · exact (codes_2 _ x).trans (codes_of _ 2 x y 256 rfl (by omega) (by omega))
  · exact (codes_1 _ x).trans (codes_of _ 1 x y 128 rfl (by omega) (by omega))
  · exact (codes_0 _ _ _ _ x).trans (codes_of _ 0 x y 0 rfl (by omega) (by omega))

/-- The scales after column tile j: tile j's four scales in its four lanes, the other lanes as before. -/
def scales (j : ℕ) (v : FVec Ideal S512x512 .f32) (g : Vec Ideal S512x56 .f32) : Vec Ideal S512x56 .f32 := fun y =>
  if (y 1).val / 4 = j then scale (blockMax v (y 0) ⟨(y 1).val % 4, by omega⟩) else g y

/-- A lane's number against a block's, as words. -/
theorem lane_eq (n j q : ℕ) (hn : n < 56) (hj : j < 14) (hq : q < 4) (u v : EReal) :
    Scalar.select (IntOp.cmpi .eq (BitVec.ofNat 32 n) (Scalar.addi (Scalar.muli (BitVec.ofNat 32 j) 4#32) (BitVec.ofNat 32 q))) u v
      = if n = 4 * j + q then u else v := by
  have e : Scalar.addi (Scalar.muli (BitVec.ofNat 32 j) 4#32) (BitVec.ofNat 32 q) = BitVec.ofNat 32 (4 * j + q) := by
    show BitVec.ofNat 32 j * 4#32 + BitVec.ofNat 32 q = _
    apply BitVec.eq_of_toNat_eq
    simp only [BitVec.toNat_add, BitVec.toNat_mul, BitVec.toNat_ofNat]
    omega
  rw [e]
  by_cases h : n = 4 * j + q
  · rw [if_pos h, h]
    simp [Scalar.select, IntOp.cmpi]
  · rw [if_neg h]
    have h2 : BitVec.ofNat 32 n ≠ BitVec.ofNat 32 (4 * j + q) := fun hh => h (by
      have := congrArg BitVec.toNat hh
      simp only [BitVec.toNat_ofNat] at this
      omega)
    have h3 : (BitVec.ofNat 32 n == BitVec.ofNat 32 (4 * j + q)) = false := beq_eq_false_iff_ne.mpr h2
    simp only [Scalar.select, IntOp.cmpi, h3]
    rfl

/-- The block of scales that the body stores: its four blocks' scales put over what the block held. -/
theorem scales_apply (j : ℕ) (hj : j < 14) (a : Vec Ideal S512x12800 .bf16) (w : Vec Ideal S12800x512 .fp8e4m3) (s b : Vec Ideal S1x512 .f32) (g : Vec Ideal S512x56 .f32) (y : S512x56.Idx) :
    Gen.k1_pay148 (BitVec.ofNat 32 j) (act a w s b) (iota Kind.tc S512x56 32 [1] Gen.iota_S512x56_d1_w32)
      (Gen.k1_pay140 (BitVec.ofNat 32 j) (iota Kind.tc S512x56 32 [1] Gen.iota_S512x56_d1_w32)
        (Gen.k1_pay134 (BitVec.ofNat 32 j) (iota Kind.tc S512x56 32 [1] Gen.iota_S512x56_d1_w32)
          (Gen.k1_pay127 g)
          (Gen.k1_pay130 (Gen.k1_pay122 a w s b) (Gen.k1_pay123 a w s b) (Gen.k1_pay124 a w s b) (Gen.k1_pay125 a w s b))
          (Gen.k1_pay131 (Gen.k1_pay122 a w s b) (Gen.k1_pay123 a w s b) (Gen.k1_pay124 a w s b) (Gen.k1_pay125 a w s b))
          (FloatOps.ofBits FTy.f32 0#32))
        (Gen.k1_pay137 (act a w s b)))
      (Gen.k1_pay143 (act a w s b)) y = scales j (act a w s b) g y := by
  have e0 : (exp2 (Gen.k1_pay132 (Gen.k1_pay130 (Gen.k1_pay122 a w s b) (Gen.k1_pay123 a w s b) (Gen.k1_pay124 a w s b) (Gen.k1_pay125 a w s b))
          (Gen.k1_pay131 (Gen.k1_pay122 a w s b) (Gen.k1_pay123 a w s b) (Gen.k1_pay124 a w s b) (Gen.k1_pay125 a w s b))
          (FloatOps.ofBits FTy.f32 0#32)) (ix2 (y 0) 0) : EReal) = scale (blockMax (act a w s b) (y 0) 0) := by
    unfold scale blockMax amax
    rw [← expo_eq]
    unfold Gen.k1_pay132 Gen.k1_pay130 Gen.k1_pay131 Gen.k1_pay129 Gen.k1_pay128
    pointwise
    rfl
  have e1 : (Gen.k1_pay137 (act a w s b) (ix2 (y 0) 0) : EReal) = scale (blockMax (act a w s b) (y 0) 1) := by
    unfold scale blockMax amax
    rw [← expo_eq]
    unfold Gen.k1_pay137 Gen.k1_pay136 Gen.k1_pay135
    pointwise
    rfl
  have e2 : (Gen.k1_pay143 (act a w s b) (ix2 (y 0) 0) : EReal) = scale (blockMax (act a w s b) (y 0) 2) := by
    unfold scale blockMax amax
    rw [← expo_eq]
    unfold Gen.k1_pay143 Gen.k1_pay142 Gen.k1_pay141
    pointwise
    rfl
  have e3 : (exp2 (Gen.k1_pay146 (act a w s b)) (ix2 (y 0) 0) : EReal) = scale (blockMax (act a w s b) (y 0) 3) := by
    unfold scale blockMax amax
    rw [← expo_eq]
    unfold Gen.k1_pay146 Gen.k1_pay145
    pointwise
    rfl
  unfold Gen.k1_pay148 Gen.k1_pay140 Gen.k1_pay134 Gen.k1_pay127
  revert e0 e1 e2 e3
  generalize Gen.k1_pay146 (act a w s b) = w3
  generalize Gen.k1_pay143 (act a w s b) = w2
  generalize Gen.k1_pay137 (act a w s b) = w1
  generalize (Gen.k1_pay132 _ _ _) = w0
  intro e0 e1 e2 e3
  pointwise
  have hy : (y 1).val < 56 := (y 1).isLt
  refine (lane_eq (y 1).val j 3 hy hj (by omega) _ _).trans ?_
  refine (congrArg (fun u : EReal => if (y 1).val = 4 * j + 3 then _ else u) ((lane_eq (y 1).val j 2 hy hj (by omega) _ _).trans
    (congrArg (fun u : EReal => if (y 1).val = 4 * j + 2 then _ else u) ((lane_eq (y 1).val j 1 hy hj (by omega) _ _).trans
    (congrArg (fun u : EReal => if (y 1).val = 4 * j + 1 then _ else u) (lane_eq (y 1).val j 0 hy hj (by omega) _ _)))))).trans ?_
  have hq : ∀ q : Fin 4, (y 1).val = 4 * j + q.val →
      scale (blockMax (act a w s b) (y 0) q) = scales j (act a w s b) g y := fun q h => by
    unfold scales
    rw [if_pos (by omega)]
    exact congrArg (fun q => scale (blockMax (act a w s b) (y 0) q)) (Fin.ext (by show q.val = (y 1).val % 4; omega))
  split_ifs with h3 h2 h1 h0
  · exact e3.trans (hq 3 h3)
  · exact e2.trans (hq 2 h2)
  · exact e1.trans (hq 1 h1)
  · exact e0.trans (hq 0 h0)
  · unfold scales
    rw [if_neg (by omega)]

/-- Case A leaves the tile's codes, from the left factor just stored. -/
theorem out_A_5 (c : Dev nD) (i : grid1.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : Whole.cond1_0 i)
    (x0 : Vec Ideal S512x12800 .fp8e4m3) (x1 : Vec Ideal S512x100 .f32) (x2 : Vec Ideal S12800x512 .fp8e4m3) (x3 : Vec Ideal S1x512 .f32) (x4 : Vec Ideal S1x512 .f32) :
    Whole.out1_A_5 c i arg2 harg2 arg3 harg3 arg4 harg4 arg5 harg5 arg6 harg6 arg7 harg7 arg8 harg8 arg9 harg9 hc0 x0 x1 x2 x3 x4 = codes (act (deq x0 x1) x2 x3 x4) := by
  have h := sout_A c i arg2 harg2 arg3 harg3 arg4 harg4 arg5 harg5 arg6 harg6 arg7 harg7 arg8 harg8 arg9 harg9 hc0 x0 x1 x2 x3 x4
  revert h
  frame_out
  intro h
  funext y
  refine (codes_canon _ x2 x3 x4 y).trans (congrArg (fun v => codes (act v x2 x3 x4) y) ?_)
  rw [← h]
  rw [View.readCov_eq_canon']
  refine funext fun j => ?_
  refine congrArg _ (funext fun a => Fin.ext ((Rect.idx_unit_val _ _ _ _ a).trans ?_))
  match a with
  | ⟨0, _⟩ => exact Nat.zero_add _
  | ⟨1, _⟩ => exact Nat.zero_add _

/-- Case B leaves the tile's codes, from the left factor carried in the scratch. -/
theorem out_B_5 (c : Dev nD) (i : grid1.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : ¬ Whole.cond1_0 i)
    (x0 : Vec Ideal S512x12800 .fp8e4m3) (x1 : Vec Ideal S512x100 .f32) (x2 : Vec Ideal S12800x512 .fp8e4m3) (x3 : Vec Ideal S1x512 .f32) (x4 : Vec Ideal S1x512 .f32) (xo6 : Vec Ideal S512x56 .f32) (xs0 : Vec Ideal S512x12800 .bf16) :
    Whole.out1_B_5 c i arg2 harg2 arg3 harg3 arg4 harg4 arg5 harg5 arg6 harg6 arg7 harg7 arg8 harg8 arg9 harg9 hc0 x0 x1 x2 x3 x4 xo6 xs0 = codes (act xs0 x2 x3 x4) := by
  funext y
  frame_out
  exact codes_canon xs0 x2 x3 x4 y

/-- Case B leaves the tile's scales over those before. -/
theorem out_B_6 (c : Dev nD) (i : grid1.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : ¬ Whole.cond1_0 i)
    (x0 : Vec Ideal S512x12800 .fp8e4m3) (x1 : Vec Ideal S512x100 .f32) (x2 : Vec Ideal S12800x512 .fp8e4m3) (x3 : Vec Ideal S1x512 .f32) (x4 : Vec Ideal S1x512 .f32) (xo6 : Vec Ideal S512x56 .f32) (xs0 : Vec Ideal S512x12800 .bf16) :
    Whole.out1_B_6 c i arg2 harg2 arg3 harg3 arg4 harg4 arg5 harg5 arg6 harg6 arg7 harg7 arg8 harg8 arg9 harg9 hc0 x0 x1 x2 x3 x4 xo6 xs0 = scales (i 1).val (act xs0 x2 x3 x4) xo6 := by
  funext y
  frame_out
  exact scales_apply (i 1).val (i 1).isLt xs0 x2 x3 x4 xo6 y

/-- Case A leaves the tile's scales over zeros. -/
theorem out_A_6 (c : Dev nD) (i : grid1.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : Whole.cond1_0 i)
    (x0 : Vec Ideal S512x12800 .fp8e4m3) (x1 : Vec Ideal S512x100 .f32) (x2 : Vec Ideal S12800x512 .fp8e4m3) (x3 : Vec Ideal S1x512 .f32) (x4 : Vec Ideal S1x512 .f32) :
    Whole.out1_A_6 c i arg2 harg2 arg3 harg3 arg4 harg4 arg5 harg5 arg6 harg6 arg7 harg7 arg8 harg8 arg9 harg9 hc0 x0 x1 x2 x3 x4 = scales (i 1).val (act (deq x0 x1) x2 x3 x4) (fun _ => (0 : EReal)) := by
  have h := sout_A c i arg2 harg2 arg3 harg3 arg4 harg4 arg5 harg5 arg6 harg6 arg7 harg7 arg8 harg8 arg9 harg9 hc0 x0 x1 x2 x3 x4
  revert h
  frame_out
  intro h
  funext y
  refine (scales_apply (i 1).val (i 1).isLt _ x2 x3 x4 _ y).trans (congrArg₂ (fun v g => scales (i 1).val (act v x2 x3 x4) g y) ?_ ?_)
  · rw [← h]
    rw [View.readCov_eq_canon']
    refine funext fun j => ?_
    refine congrArg _ (funext fun a => Fin.ext ((Rect.idx_unit_val _ _ _ _ a).trans ?_))
    match a with
    | ⟨0, _⟩ => exact Nat.zero_add _
    | ⟨1, _⟩ => exact Nat.zero_add _
  · unfold Gen.k1_pay121
    funext j
    pointwise

end Cert.KernelIdeal.Linear1
-- ==== Proof.Linear1Math.lean ====
module

public import Idealize.ShloMosaic.Lib.Pipeline.ValueKit
public import proofs.«01_k».proof.Proof.QuantMath

/-!
What the first linear layer, its gelu and its quantiser compute, as a function of their five arrays, with no program in
sight.
-/

@[expose] public section

noncomputable section

namespace Cert.Linear1Math

open Idealize.ShloMosaic Cert.QuantMath

/-- The left factor at (r, k): the code times the scale of the block of 128 codes that k lies in. -/
def lhs (codes : (⟨2, ![6144, 12800]⟩ : Shape).Idx → EReal) (scales : (⟨2, ![6144, 100]⟩ : Shape).Idx → EReal)
    (r : Fin 6144) (k : Fin 12800) : EReal :=
  codes (ix2 r k) * scales (ix2 r ⟨k.val / 128, by omega⟩)

/-- The layer before its activation: the product of the left factor with the weight codes, times the column's weight
    scale, plus the column's bias. -/
def lin (codes : (⟨2, ![6144, 12800]⟩ : Shape).Idx → EReal) (scales : (⟨2, ![6144, 100]⟩ : Shape).Idx → EReal)
    (w : (⟨2, ![12800, 7168]⟩ : Shape).Idx → EReal) (ws b : (⟨1, ![7168]⟩ : Shape).Idx → EReal)
    (r : Fin 6144) (j : Fin 7168) : EReal :=
  (∑ k : Fin 12800, lhs codes scales r k * w (ix2 k j)) * ws (ix1 j) + b (ix1 j)

/-- The greatest magnitude of the activation in row r over the 128 columns of block q. -/
def blockMax (codes : (⟨2, ![6144, 12800]⟩ : Shape).Idx → EReal) (scales : (⟨2, ![6144, 100]⟩ : Shape).Idx → EReal)
    (w : (⟨2, ![12800, 7168]⟩ : Shape).Idx → EReal) (ws b : (⟨1, ![7168]⟩ : Shape).Idx → EReal)
    (r : Fin 6144) (q : Fin 56) : EReal :=
  amax fun x => gelu (lin codes scales w ws b r ⟨128 * q.val + x.val, by omega⟩)

/-- The codes of the activation. -/
def outCodes (codes : (⟨2, ![6144, 12800]⟩ : Shape).Idx → EReal) (scales : (⟨2, ![6144, 100]⟩ : Shape).Idx → EReal)
    (w : (⟨2, ![12800, 7168]⟩ : Shape).Idx → EReal) (ws b : (⟨1, ![7168]⟩ : Shape).Idx → EReal) :
    (⟨2, ![6144, 7168]⟩ : Shape).Idx → EReal := fun i =>
  code (blockMax codes scales w ws b (i 0) ⟨(i 1).val / 128, by have : (i 1).val < 7168 := (i 1).isLt; omega⟩)
    (gelu (lin codes scales w ws b (i 0) (i 1)))

/-- The scales of the activation's blocks. -/
def outScales (codes : (⟨2, ![6144, 12800]⟩ : Shape).Idx → EReal) (scales : (⟨2, ![6144, 100]⟩ : Shape).Idx → EReal)
    (w : (⟨2, ![12800, 7168]⟩ : Shape).Idx → EReal) (ws b : (⟨1, ![7168]⟩ : Shape).Idx → EReal) :
    (⟨2, ![6144, 56]⟩ : Shape).Idx → EReal := fun i => scale (blockMax codes scales w ws b (i 0) (i 1))

end Cert.Linear1Math
-- ==== Proof.Linear1Array.lean ====
module

public import proofs.«01_k».proof.Proof.Linear1Tile
public import proofs.«01_k».proof.Proof.Linear1Math

/-!
What the two results of the first linear layer hold after all 168 grid points: the codes, a tile a point, and the scales,
four lanes a point into the row tile's block.
-/

@[expose] public section

noncomputable section

namespace Cert.KernelIdeal.Linear1

open Idealize.ShloMosaic Idealize.ShloMosaic.TcCoe Idealize.SL.Sem Cert.KernelIdeal Cert.KernelIdeal.Gen Cert.KernelIdeal.Whole Cert.QuantMath

variable (V : (c : Dev nD) → (b : Ref sig .tc) → Buf (Elt Ideal) ((c : Thread nD τ).loc b))

/-- The block of each operand's array that a grid point sees: row tile t / 14, column tile t mod 14. -/
theorem idx : ∀ t : Fin cfg1.N, win1_0.index t = ![t.val / 14, 0] ∧ win1_1.index t = ![t.val / 14, 0]
    ∧ win1_2.index t = ![0, t.val % 14] ∧ win1_3.index t = ![0, t.val % 14] ∧ win1_4.index t = ![0, t.val % 14]
    ∧ win1_5.index t = ![t.val / 14, t.val % 14] ∧ win1_6.index t = ![t.val / 14, 0] :=
  (by decide +kernel : ∀ t : Fin grid1.N, _)

/-- The column coordinate of a grid point. -/
theorem col : ∀ t : Fin cfg1.N, (grid1.coords t 1).val = t.val % 14 :=
  (by decide +kernel : ∀ t : Fin grid1.N, _)

/-- The left factor, at the arrays the call is entered with. -/
def lhs (c : Dev nD) (r : Fin 6144) (k : Fin 12800) : EReal :=
  Linear1Math.lhs (V c main_v3_0) (V c main_v3_1) r k

/-- The layer before its activation, at the arrays the call is entered with. -/
def lin (c : Dev nD) (r : Fin 6144) (j : Fin 7168) : EReal :=
  Linear1Math.lin (V c main_v3_0) (V c main_v3_1) (V c main_arg3)
    (fun j => V c main_v4 (ix2 0 (j 0))) (fun j => V c main_v5 (ix2 0 (j 0))) r j

/-- What the first result holds: the codes of the activation, at the arrays the call is entered with. -/
def GC (c : Dev nD) : S6144x7168.Idx → Elt Ideal .fp8e4m3 :=
  Linear1Math.outCodes (V c main_v3_0) (V c main_v3_1) (V c main_arg3)
    (fun j => V c main_v4 (ix2 0 (j 0))) (fun j => V c main_v5 (ix2 0 (j 0)))

/-- What the second result holds: the scales of the activation, at the arrays the call is entered with. -/
def GS (c : Dev nD) : S6144x56.Idx → Elt Ideal .f32 :=
  Linear1Math.outScales (V c main_v3_0) (V c main_v3_1) (V c main_arg3)
    (fun j => V c main_v4 (ix2 0 (j 0))) (fun j => V c main_v5 (ix2 0 (j 0)))

/-- The left factor of a point's row tile is the array's, row by row. -/
theorem deq_blk (c : Dev nD) (t : Fin cfg1.N) (y : S512x12800.Idx) :
    deq (iblk1 V c 0 t) (iblk1 V c 1 t) y = lhs V c ⟨512 * (t.val / 14) + (y 0).val, by
      have h0 : (y 0).val < 512 := (y 0).isLt
      have ht : t.val < 168 := t.isLt
      omega⟩ (y 1) := by
  unfold deq lhs Linear1Math.lhs
  congr 1 <;> blk_ext [iblk1, idx t]

/-- The activation of a point's tile. -/
abbrev tile (c : Dev nD) (t : Fin cfg1.N) : FVec Ideal S512x512 .f32 :=
  act (deq (iblk1 V c 0 t) (iblk1 V c 1 t)) (iblk1 V c 2 t) (iblk1 V c 3 t) (iblk1 V c 4 t)

/-- The activation of a point's tile is the gelu of the layer, at the tile's place in the array. -/
theorem tile_apply (c : Dev nD) (t : Fin cfg1.N) (r : Fin 512) (j : Fin 512) :
    (tile V c t (ix2 r j) : EReal) = gelu (lin V c ⟨512 * (t.val / 14) + r.val, by have ht : t.val < 168 := t.isLt; omega⟩
      ⟨512 * (t.val % 14) + j.val, by omega⟩) := by
  unfold tile
  rw [act_apply]
  refine congrArg gelu ?_
  unfold lin Linear1Math.lin
  simp only [deq_blk]
  unfold lhs Linear1Math.lhs
  refine congrArg₂ (fun u v : EReal => u + v) (congrArg₂ (fun u v : EReal => u * v) (Finset.sum_congr rfl fun k _ => ?_) ?_) ?_
  · refine congrArg₂ (fun u v : EReal => u * v) rfl ?_
    blk_ext [iblk1, idx t]
  · blk_ext! [iblk1, idx t]
  · blk_ext! [iblk1, idx t]

/-- The greatest magnitude in a block of a tile is that of the block of the array it is part of. -/
theorem tile_max (c : Dev nD) (t : Fin cfg1.N) (r : Fin 512) (q : Fin 4) :
    blockMax (tile V c t) r q = Linear1Math.blockMax (V c main_v3_0) (V c main_v3_1) (V c main_arg3)
    (fun j => V c main_v4 (ix2 0 (j 0))) (fun j => V c main_v5 (ix2 0 (j 0))) ⟨512 * (t.val / 14) + r.val, by have ht : t.val < 168 := t.isLt; omega⟩ ⟨4 * (t.val % 14) + q.val, by omega⟩ := by
  unfold blockMax Linear1Math.blockMax
  refine congrArg amax (funext fun x => ?_)
  rw [tile_apply]
  refine congrArg gelu (congrArg (lin V c _) (Fin.ext ?_))
  show 512 * (t.val % 14) + (128 * q.val + x.val) = 128 * (4 * (t.val % 14) + q.val) + x.val
  omega

/-- Case A (the first column tile of a row tile): the left factor is stored, the codes made from it, and the scales
    put over zeros. -/
theorem outs_A (c : Dev nD) (n : ℕ) (hn : n < cfg1.N) (h0 : n % 14 = 0) :
    outsAt1 V c n hn = (codes (tile V c ⟨n, hn⟩), scales (n % 14) (tile V c ⟨n, hn⟩) (fun _ => (0 : EReal)),
      deq (iblk1 V c 0 ⟨n, hn⟩) (iblk1 V c 1 ⟨n, hn⟩)) := by
  have h := outsAt1_A V c ⟨n, hn⟩ h0
  unfold outsA1 at h; rw [sout_A, out_A_5, out_A_6, col] at h
  exact h

/-- Case B (the other column tiles): codes and scales are made from the left factor as the point before left it, and
    the scales put over those the point before left. -/
theorem outs_B (c : Dev nD) (n : ℕ) (hn : n < cfg1.N) (h0 : ¬ n % 14 = 0) :
    outsAt1 V c n hn = (codes (act (outsAt1 V c (n - 1) (by omega)).2.2 (iblk1 V c 2 ⟨n, hn⟩) (iblk1 V c 3 ⟨n, hn⟩) (iblk1 V c 4 ⟨n, hn⟩)),
      scales (n % 14) (act (outsAt1 V c (n - 1) (by omega)).2.2 (iblk1 V c 2 ⟨n, hn⟩) (iblk1 V c 3 ⟨n, hn⟩) (iblk1 V c 4 ⟨n, hn⟩))
        (outsAt1 V c (n - 1) (by omega)).2.1,
      (outsAt1 V c (n - 1) (by omega)).2.2) := by
  have h := outsAt1_B V c ⟨n, hn⟩ h0
  unfold outsB1 at h; rw [out_B_5, out_B_6, sout1_B_0, col] at h
  exact h

/-- The scratch after every point: the row tile's left factor, in case A just stored and in case B carried. -/
theorem scratch (c : Dev nD) (n : ℕ) : ∀ hn : n < cfg1.N,
    (outsAt1 V c n hn).2.2 = deq (iblk1 V c 0 ⟨n, hn⟩) (iblk1 V c 1 ⟨n, hn⟩) := by
  induction n using Nat.strong_induction_on with
  | _ n ih =>
    intro hn
    by_cases h0 : n % 14 = 0
    · rw [outs_A V c n hn h0]
    · rw [outs_B V c n hn h0]
      have hp : n - 1 < cfg1.N := lt_of_le_of_lt (Nat.sub_le n 1) hn
      have hl : n - 1 < n := Nat.sub_lt (Nat.pos_of_ne_zero fun h => h0 (by rw [h])) Nat.one_pos
      refine (ih (n - 1) hl hp).trans (funext fun y => ?_)
      rw [deq_blk, deq_blk]
      refine congrArg (fun r => lhs V c r (y 1)) (Fin.ext ?_)
      show 512 * ((n - 1) / 14) + _ = 512 * (n / 14) + _
      omega

/-- What a point leaves in the block of codes. -/
theorem outs_5 (c : Dev nD) (t : Fin cfg1.N) : (outsAt1 V c t.val t.isLt).1 = codes (tile V c t) := by
  have hs := scratch V c t.val t.isLt
  by_cases h0 : t.val % 14 = 0
  · rw [outs_A V c t.val t.isLt h0]
  · rw [outs_B V c t.val t.isLt h0] at hs ⊢
    exact congrArg (fun v => codes (act v (iblk1 V c 2 t) (iblk1 V c 3 t) (iblk1 V c 4 t))) hs

/-- What a point leaves in the block of scales, case B: the tile's scales over those of the point before. -/
theorem outs_6 (c : Dev nD) (t : Fin cfg1.N) (h0 : ¬ t.val % 14 = 0) : (outsAt1 V c t.val t.isLt).2.1
    = scales (t.val % 14) (tile V c t) (outsAt1 V c (t.val - 1) (lt_of_le_of_lt (Nat.sub_le _ 1) t.isLt)).2.1 := by
  have hs := scratch V c t.val t.isLt
  rw [outs_B V c t.val t.isLt h0] at hs ⊢
  exact congrArg (fun v => scales (t.val % 14) (act v (iblk1 V c 2 t) (iblk1 V c 3 t) (iblk1 V c 4 t))
    (outsAt1 V c (t.val - 1) (lt_of_le_of_lt (Nat.sub_le _ 1) t.isLt)).2.1) hs

/-- A lane of the point's own column tile, after the point: the block's scale. -/
theorem own (c : Dev nD) (t : Fin cfg1.N) (g : Vec Ideal S512x56 .f32) (y : S512x56.Idx) (h : (y 1).val / 4 = t.val % 14) :
    (scales (t.val % 14) (tile V c t) g y : EReal) = scale (Linear1Math.blockMax (V c main_v3_0) (V c main_v3_1) (V c main_arg3)
    (fun j => V c main_v4 (ix2 0 (j 0))) (fun j => V c main_v5 (ix2 0 (j 0)))
      ⟨512 * (t.val / 14) + (y 0).val, by have h0 : (y 0).val < 512 := (y 0).isLt; have ht : t.val < 168 := t.isLt; omega⟩ (y 1)) := by
  unfold scales
  rw [if_pos h]
  refine (congrArg scale (tile_max V c t (y 0) _)).trans ?_
  refine congrArg scale (congrArg (Linear1Math.blockMax _ _ _ _ _ _) (Fin.ext ?_))
  show 4 * (t.val % 14) + (y 1).val % 4 = (y 1).val
  omega

/-- After every point, the lanes of the column tiles so far hold their blocks' scales. -/
theorem lanes (c : Dev nD) (n : ℕ) : ∀ (hn : n < cfg1.N) (y : S512x56.Idx), (y 1).val / 4 ≤ n % 14 →
    ((outsAt1 V c n hn).2.1 y : EReal) = scale (Linear1Math.blockMax (V c main_v3_0) (V c main_v3_1) (V c main_arg3)
    (fun j => V c main_v4 (ix2 0 (j 0))) (fun j => V c main_v5 (ix2 0 (j 0)))
      ⟨512 * (n / 14) + (y 0).val, by have h0 : (y 0).val < 512 := (y 0).isLt; have ht : n < 168 := hn; omega⟩ (y 1)) := by
  induction n using Nat.strong_induction_on with
  | _ n ih =>
    intro hn y hy
    by_cases h0 : n % 14 = 0
    · rw [outs_A V c n hn h0]
      exact own V c ⟨n, hn⟩ (fun _ => (0 : EReal)) y (by show (y 1).val / 4 = n % 14; omega)
    · refine (congrFun (outs_6 V c ⟨n, hn⟩ h0) y).trans ?_
      by_cases h1 : (y 1).val / 4 = n % 14
      · exact own V c ⟨n, hn⟩ _ y h1
      · have hp : n - 1 < cfg1.N := lt_of_le_of_lt (Nat.sub_le n 1) hn
        have hl : n - 1 < n := Nat.sub_lt (Nat.pos_of_ne_zero fun h => h0 (by rw [h])) Nat.one_pos
        unfold scales
        rw [if_neg h1]
        refine (ih (n - 1) hl hp y (by omega)).trans ?_
        refine congrArg (fun r => scale (Linear1Math.blockMax _ _ _ _ _ r (y 1))) (Fin.ext ?_)
        show 512 * ((n - 1) / 14) + _ = 512 * (n / 14) + _
        omega

/-- A point's block of codes is the part of the whole result's codes at its place. -/
theorem point_5 (c : Dev nD) (t : Fin cfg1.N) (y : S512x512.Idx) :
    (outsAt1 V c t.val t.isLt).1 y = GC V c (((cfg1.win 5).blk t).view.emb y) := by
  have hy0 : (y 0).val < 512 := (y 0).isLt
  have hy1 : (y 1).val < 512 := (y 1).isLt
  have ht : t.val < 168 := t.isLt
  have he : ((cfg1.win 5).blk t).view.emb y = (ix2 (⟨512 * (t.val / 14) + (y 0).val, by omega⟩ : Fin 6144)
      (⟨512 * (t.val % 14) + (y 1).val, by omega⟩ : Fin 7168) : S6144x7168.Idx) := by
    blk_ext [idx t]
  rw [outs_5, he]
  unfold codes GC Linear1Math.outCodes
  refine congrArg₂ code ((tile_max V c t (y 0) _).trans ?_) ?_
  · refine congrArg (Linear1Math.blockMax _ _ _ _ _ _) (Fin.ext ?_)
    show 4 * (t.val % 14) + (y 1).val / 128 = (512 * (t.val % 14) + (y 1).val) / 128
    omega
  · exact (congrArg (tile V c t) (by funext a; match a with | ⟨0, _⟩ => rfl | ⟨1, _⟩ => rfl)).trans (tile_apply V c t (y 0) (y 1))

/-- A row tile's last block of scales is the part of the whole result's scales at its place. -/
theorem point_6 (c : Dev nD) (t : Fin cfg1.N) (h : t.val % 14 = 13) (y : S512x56.Idx) :
    (outsAt1 V c t.val t.isLt).2.1 y = GS V c (((cfg1.win 6).blk t).view.emb y) := by
  have hy0 : (y 0).val < 512 := (y 0).isLt
  have hy1 : (y 1).val < 56 := (y 1).isLt
  have ht : t.val < 168 := t.isLt
  have he : ((cfg1.win 6).blk t).view.emb y = (ix2 (⟨512 * (t.val / 14) + (y 0).val, by omega⟩ : Fin 6144)
      (⟨(y 1).val, by omega⟩ : Fin 56) : S6144x56.Idx) := by
    blk_ext [idx t]
  rw [he]
  exact lanes V c t.val t.isLt y (by omega)

/-- The scales are written back after the last column tile of a row tile. -/
theorem flush_6 : ∀ t : Fin cfg1.N, (cfg1.win 6).flush t = true → t.val % 14 = 13 :=
  (by decide +kernel : ∀ t : Fin grid1.N, _)

/-- The codes, whole. -/
theorem arr_5 (c : Dev nD) : (dat1 V c).arrAt 5 cfg1.N = GC V c := by
  refine (dat1 V c).arrAt_eq_of_covers 5 _ (by decide +kernel) fun t hf y => ?_
  blk_simp
  exact point_5 V c t y

/-- The scales, whole. -/
theorem arr_6 (c : Dev nD) : (dat1 V c).arrAt 6 cfg1.N = GS V c := by
  refine (dat1 V c).arrAt_eq_of_covers 6 _ (by decide +kernel) fun t hf y => ?_
  blk_simp
  exact point_6 V c t (flush_6 t hf) y

end Cert.KernelIdeal.Linear1
-- ==== Proof.Linear2Tile.lean ====
module

public import proofs.«01_k».proof.Proof.KernelIdealLinear2Call
public import Idealize.ShloMosaic.Lib.Pipeline.ValueKit

/-!
What one grid point of the second linear layer's kernel leaves in its scratch and its output block.
-/

@[expose] public section

noncomputable section

namespace Cert.KernelIdeal.Linear2

open Idealize.ShloMosaic Idealize.SL.Sem Cert.KernelIdeal

/-- A row tile of the left factor: code (r, k) times the scale of the 128-wide block that k lies in. -/
def deq (x0 : Vec Ideal S512x7168 .fp8e4m3) (x1 : Vec Ideal S512x56 .f32) : Vec Ideal S512x7168 .bf16 :=
  fun y => (x0 y : EReal) * (x1 (ix2 (y 0) ⟨(y 1).val / 128, by have : (y 1).val < 7168 := (y 1).isLt; omega⟩) : EReal)

/-- One 512 by 128 block that the body stores into the scratch: its codes times its column of scales. -/
theorem piece_apply (s : Vec Ideal S512x1 .f32) (b : Vec Ideal S512x128 .fp8e4m3) (x : S512x128.Idx) :
    Gen.k2_pay3 s b x = (b x : EReal) * (s (ix2 (x 0) 0) : EReal) := by
  unfold Gen.k2_pay3
  pointwise

/-- A block that the body stores at column k = 128 j holds the left factor's entries there. -/
theorem piece (x0 : Vec Ideal S512x7168 .fp8e4m3) (x1 : Vec Ideal S512x56 .f32) (j k : ℕ) (hk : k = 128 * j)
    (inb1 : ∀ a, ![0, j] a + ![512, 1] a ≤ S512x56.size a) (inb0 : ∀ a, ![0, k] a + ![512, 128] a ≤ S512x7168.size a)
    (x : S512x128.Idx) (y : S512x7168.Idx) (h0 : (y 0).val = (x 0).val) (h1 : (y 1).val = k + (x 1).val) :
    Gen.k2_pay3 (F := Ideal) (View.ld x1 (Rect.unit ![0, j] ![512, 1] inb1)) (View.ld x0 (Rect.unit ![0, k] ![512, 128] inb0)) x = deq x0 x1 y := by
  refine (piece_apply _ _ x).trans ?_
  unfold deq
  have hy1 : (y 1).val < 7168 := (y 1).isLt
  refine congrArg₂ (fun u v : EReal => u * v) (View.ld_unit_apply_of _ _ _ _ _ y fun a => ?_)
    (View.ld_unit_apply_of _ _ _ _ _ _ fun a => ?_)
  · match a with
    | ⟨0, _⟩ => exact h0.trans (Nat.zero_add _).symm
    | ⟨1, _⟩ => exact h1
  · have hx1 : (x 1).val < 128 := (x 1).isLt
    match a with
    | ⟨0, _⟩ => exact h0.trans (Nat.zero_add _).symm
    | ⟨1, _⟩ => show (y 1).val / 128 = j + 0; omega

/-- Case A (the first column tile): the scratch holds the row tile's left factor. -/
theorem sout_A (c : Dev nD) (i : grid2.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : Whole.cond2_0 i)
    (x0 : Vec Ideal S512x7168 .fp8e4m3) (x1 : Vec Ideal S512x56 .f32) (x2 : Vec Ideal S7168x512 .fp8e4m3) (x3 : Vec Ideal S1x512 .f32) (x4 : Vec Ideal S1x512 .f32) :
    Whole.sout2_A_0 c i arg2 harg2 arg3 harg3 arg4 harg4 arg5 harg5 arg6 harg6 arg7 harg7 arg8 harg8 hc0 x0 x1 x2 x3 x4 = deq x0 x1 := by
  funext y
  frame_out
  canon_tiles x h
  all_goals exact piece x0 x1 _ _ (by rfl) _ _ x y (by omega) (by omega)

/-- Case A: the output block is made from the left factor just stored. -/
theorem out_A (c : Dev nD) (i : grid2.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : Whole.cond2_0 i)
    (x0 : Vec Ideal S512x7168 .fp8e4m3) (x1 : Vec Ideal S512x56 .f32) (x2 : Vec Ideal S7168x512 .fp8e4m3) (x3 : Vec Ideal S1x512 .f32) (x4 : Vec Ideal S1x512 .f32) :
    Whole.out2_A_5 c i arg2 harg2 arg3 harg3 arg4 harg4 arg5 harg5 arg6 harg6 arg7 harg7 arg8 harg8 hc0 x0 x1 x2 x3 x4 = Gen.k2_pay2 (deq x0 x1) x2 x3 x4 := by
  have h := sout_A c i arg2 harg2 arg3 harg3 arg4 harg4 arg5 harg5 arg6 harg6 arg7 harg7 arg8 harg8 hc0 x0 x1 x2 x3 x4
  revert h
  frame_out
  intro h
  refine congrArg (fun v => Gen.k2_pay2 (F := Ideal) v x2 x3 x4) ?_
  rw [← h]
  rw [View.readCov_eq_canon']
  refine funext fun j => ?_
  refine congrArg _ (funext fun a => Fin.ext ((Rect.idx_unit_val _ _ _ _ a).trans ?_))
  match a with
  | ⟨0, _⟩ => exact Nat.zero_add _
  | ⟨1, _⟩ => exact Nat.zero_add _

/-- Case B (the other column tiles): the output block is made from the scratch as it is. -/
theorem out_B (c : Dev nD) (i : grid2.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : ¬ Whole.cond2_0 i)
    (x0 : Vec Ideal S512x7168 .fp8e4m3) (x1 : Vec Ideal S512x56 .f32) (x2 : Vec Ideal S7168x512 .fp8e4m3) (x3 : Vec Ideal S1x512 .f32) (x4 : Vec Ideal S1x512 .f32) (xs0 : Vec Ideal S512x7168 .bf16) :
    Whole.out2_B_5 c i arg2 harg2 arg3 harg3 arg4 harg4 arg5 harg5 arg6 harg6 arg7 harg7 arg8 harg8 hc0 x0 x1 x2 x3 x4 xs0 = Gen.k2_pay2 xs0 x2 x3 x4 := by
  frame_out

/-- The output block: the product of the left factor with the weights, times the columns' scales, plus their biases. -/
theorem pay2_apply (a : Vec Ideal S512x7168 .bf16) (w : Vec Ideal S7168x512 .fp8e4m3) (s b : Vec Ideal S1x512 .f32) (y : S512x512.Idx) :
    Gen.k2_pay2 a w s b y = (∑ k : Fin 7168, (a (ix2 (y 0) k) : EReal) * (w (ix2 k (y 1)) : EReal)) * (s (ix2 0 (y 1)) : EReal) + (b (ix2 0 (y 1)) : EReal) := by
  unfold Gen.k2_pay2
  pointwise

end Cert.KernelIdeal.Linear2
-- ==== Proof.Linear2Math.lean ====
module

public import Idealize.ShloMosaic.Lib.Pipeline.ValueKit

/-!
What the second linear layer computes, as a function of its five arrays, with no program in sight.
-/

@[expose] public section

noncomputable section

namespace Cert.Linear2Math

open Idealize.ShloMosaic

/-- The left factor at (r, k): the code times the scale of the block of 128 codes that k lies in. -/
def lhs (codes : (⟨2, ![6144, 7168]⟩ : Shape).Idx → EReal) (scales : (⟨2, ![6144, 56]⟩ : Shape).Idx → EReal)
    (r : Fin 6144) (k : Fin 7168) : EReal :=
  codes (ix2 r k) * scales (ix2 r ⟨k.val / 128, by omega⟩)

/-- The layer: the product of the left factor with the weight codes, times the column's weight scale, plus the column's
    bias. -/
def out (codes : (⟨2, ![6144, 7168]⟩ : Shape).Idx → EReal) (scales : (⟨2, ![6144, 56]⟩ : Shape).Idx → EReal)
    (w : (⟨2, ![7168, 7168]⟩ : Shape).Idx → EReal) (ws b : (⟨1, ![7168]⟩ : Shape).Idx → EReal) :
    (⟨2, ![6144, 7168]⟩ : Shape).Idx → EReal := fun i =>
  (∑ k : Fin 7168, lhs codes scales (i 0) k * w (ix2 k (i 1))) * ws (ix1 (i 1)) + b (ix1 (i 1))

end Cert.Linear2Math
-- ==== Proof.Linear2Array.lean ====
module

public import proofs.«01_k».proof.Proof.Linear2Tile
public import proofs.«01_k».proof.Proof.Linear2Math

/-!
What the result of the second linear layer holds after all 168 grid points, a tile a point.
-/

@[expose] public section

noncomputable section

namespace Cert.KernelIdeal.Linear2

open Idealize.ShloMosaic Idealize.ShloMosaic.TcCoe Idealize.SL.Sem Cert.KernelIdeal Cert.KernelIdeal.Gen Cert.KernelIdeal.Whole

variable (V : (c : Dev nD) → (b : Ref sig .tc) → Buf (Elt Ideal) ((c : Thread nD τ).loc b))

/-- The block of each operand's array that a grid point sees: row tile t / 14, column tile t mod 14. -/
theorem idx : ∀ t : Fin cfg2.N, win2_0.index t = ![t.val / 14, 0] ∧ win2_1.index t = ![t.val / 14, 0]
    ∧ win2_2.index t = ![0, t.val % 14] ∧ win2_3.index t = ![0, t.val % 14] ∧ win2_4.index t = ![0, t.val % 14]
    ∧ win2_5.index t = ![t.val / 14, t.val % 14] :=
  (by decide +kernel : ∀ t : Fin grid2.N, _)

/-- The left factor, at the arrays the call is entered with. -/
def lhs (c : Dev nD) (r : Fin 6144) (k : Fin 7168) : EReal :=
  Linear2Math.lhs (V c main_v6_0) (V c main_v6_1) r k

/-- What the result holds: the layer, at the arrays the call is entered with. -/
def G (c : Dev nD) : S6144x7168.Idx → Elt Ideal .bf16 :=
  Linear2Math.out (V c main_v6_0) (V c main_v6_1)
    (V c main_arg6) (fun j => V c main_v7 (ix2 0 (j 0))) (fun j => V c main_v8 (ix2 0 (j 0)))

/-- The left factor of a point's row tile is the array's, row by row. -/
theorem deq_blk (c : Dev nD) (t : Fin cfg2.N) (y : S512x7168.Idx) :
    deq (iblk2 V c 0 t) (iblk2 V c 1 t) y = lhs V c ⟨512 * (t.val / 14) + (y 0).val, by
      have h0 : (y 0).val < 512 := (y 0).isLt
      have ht : t.val < 168 := t.isLt
      omega⟩ (y 1) := by
  unfold deq lhs Linear2Math.lhs
  congr 1 <;> blk_ext [iblk2, idx t]

/-- Case A (the first column tile of a row tile): the scratch is stored and the output block made from it. -/
theorem outs_A (c : Dev nD) (n : ℕ) (hn : n < cfg2.N) (h0 : n % 14 = 0) :
    outsAt2 V c n hn = (k2_pay2 (deq (iblk2 V c 0 ⟨n, hn⟩) (iblk2 V c 1 ⟨n, hn⟩)) (iblk2 V c 2 ⟨n, hn⟩) (iblk2 V c 3 ⟨n, hn⟩) (iblk2 V c 4 ⟨n, hn⟩),
      deq (iblk2 V c 0 ⟨n, hn⟩) (iblk2 V c 1 ⟨n, hn⟩)) := by
  have h := outsAt2_A V c ⟨n, hn⟩ h0
  unfold outsA2 at h; rw [sout_A, out_A] at h
  exact h

/-- Case B (the other column tiles): the output block is made from the scratch as the point before left it. -/
theorem outs_B (c : Dev nD) (n : ℕ) (hn : n < cfg2.N) (h0 : ¬ n % 14 = 0) :
    outsAt2 V c n hn = (k2_pay2 (outsAt2 V c (n - 1) (by omega)).2 (iblk2 V c 2 ⟨n, hn⟩) (iblk2 V c 3 ⟨n, hn⟩) (iblk2 V c 4 ⟨n, hn⟩),
      (outsAt2 V c (n - 1) (by omega)).2) := by
  have h := outsAt2_B V c ⟨n, hn⟩ h0
  unfold outsB2 at h; rw [out_B, sout2_B_0] at h
  exact h

/-- The scratch after every point: the row tile's left factor, in case A just stored and in case B carried. -/
theorem scratch (c : Dev nD) (n : ℕ) : ∀ hn : n < cfg2.N,
    (outsAt2 V c n hn).2 = deq (iblk2 V c 0 ⟨n, hn⟩) (iblk2 V c 1 ⟨n, hn⟩) := by
  induction n using Nat.strong_induction_on with
  | _ n ih =>
    intro hn
    by_cases h0 : n % 14 = 0
    · rw [outs_A V c n hn h0]
    · rw [outs_B V c n hn h0]
      have hp : n - 1 < cfg2.N := lt_of_le_of_lt (Nat.sub_le n 1) hn
      have hl : n - 1 < n := Nat.sub_lt (Nat.pos_of_ne_zero fun h => h0 (by rw [h])) Nat.one_pos
      refine (ih (n - 1) hl hp).trans (funext fun y => ?_)
      rw [deq_blk, deq_blk]
      refine congrArg (fun r => lhs V c r (y 1)) (Fin.ext ?_)
      show 512 * ((n - 1) / 14) + _ = 512 * (n / 14) + _
      omega

/-- What a point leaves in the output block. -/
theorem outs (c : Dev nD) (t : Fin cfg2.N) :
    (outsAt2 V c t.val t.isLt).1
      = k2_pay2 (deq (iblk2 V c 0 t) (iblk2 V c 1 t)) (iblk2 V c 2 t) (iblk2 V c 3 t) (iblk2 V c 4 t) := by
  have hs := scratch V c t.val t.isLt
  by_cases h0 : t.val % 14 = 0
  · rw [outs_A V c t.val t.isLt h0]
  · rw [outs_B V c t.val t.isLt h0] at hs ⊢
    exact congrArg (fun v => k2_pay2 (F := Ideal) v (iblk2 V c 2 t) (iblk2 V c 3 t) (iblk2 V c 4 t)) hs

/-- A point's output block is the part of the whole result at its place. -/
theorem point (c : Dev nD) (t : Fin cfg2.N) (y : S512x512.Idx) :
    (outsAt2 V c t.val t.isLt).1 y = G V c (((cfg2.win 5).blk t).view.emb y) := by
  rw [outs, pay2_apply]
  unfold G Linear2Math.out Linear2Math.lhs
  simp only [deq_blk]
  unfold lhs Linear2Math.lhs
  refine congrArg₂ (fun u v : EReal => u + v) (congrArg₂ (fun u v : EReal => u * v) (Finset.sum_congr rfl fun k _ => ?_) ?_) ?_
  · refine congrArg₂ (fun u v : EReal => u * v) (congrArg₂ (fun u v : EReal => u * v) ?_ ?_) ?_ <;> blk_ext [iblk2, idx t]
  · blk_ext! [iblk2, idx t]
  · blk_ext! [iblk2, idx t]

/-- The result, whole. -/
theorem arr (c : Dev nD) : (dat2 V c).arrAt 5 cfg2.N = G V c := by
  refine (dat2 V c).arrAt_eq_of_covers 5 _ (by decide +kernel) fun t hf y => ?_
  blk_simp
  exact point V c t y

end Cert.KernelIdeal.Linear2
-- ==== Proof.KernelIdealResults.lean ====
module

public import proofs.«01_k».proof.Proof.KernelIdealFrame
public import proofs.«01_k».proof.Proof.LnQuantArray
public import proofs.«01_k».proof.Proof.Linear1Array
public import proofs.«01_k».proof.Proof.Linear2Array
public import Idealize.ShloMosaic.Lib.StableHlo.ReadAt

/-!
What the five results of the whole program hold, as functions of its nine arguments: the three calls' results, each call
entered with what the calls before it left.
-/

@[expose] public section

noncomputable section

namespace Cert.KernelIdeal.Results

open Idealize.ShloMosaic Idealize.ShloMosaic.TcCoe Idealize.SL.Sem Cert.KernelIdeal Cert.KernelIdeal.Gen Cert.KernelIdeal.Whole

variable (m : (ℓ : Loc nD τ sig) → Buf (Elt Ideal) ℓ) (ρ : Dev nD → PrngReg)

/-- The codes of the layer norm (result 2), at the arguments. -/
def hCodes (c : Dev nD) : S6144x12800.Idx → Elt Ideal .fp8e4m3 :=
  LnQuantMath.outCodes (m ((c : Thread nD τ).loc main_arg0)) (m ((c : Thread nD τ).loc main_arg1)) (m ((c : Thread nD τ).loc main_arg2))

/-- The scales of the layer norm (result 3), at the arguments. -/
def hScales (c : Dev nD) : S6144x100.Idx → Elt Ideal .f32 :=
  LnQuantMath.outScales (m ((c : Thread nD τ).loc main_arg0)) (m ((c : Thread nD τ).loc main_arg1)) (m ((c : Thread nD τ).loc main_arg2))

/-- The codes of the activation (result 4), at the arguments. -/
def gCodes (c : Dev nD) : S6144x7168.Idx → Elt Ideal .fp8e4m3 :=
  Linear1Math.outCodes (hCodes m c) (hScales m c) (m ((c : Thread nD τ).loc main_arg3)) (m ((c : Thread nD τ).loc main_arg4))
    (m ((c : Thread nD τ).loc main_arg5))

/-- The scales of the activation (result 5), at the arguments. -/
def gScales (c : Dev nD) : S6144x56.Idx → Elt Ideal .f32 :=
  Linear1Math.outScales (hCodes m c) (hScales m c) (m ((c : Thread nD τ).loc main_arg3)) (m ((c : Thread nD τ).loc main_arg4))
    (m ((c : Thread nD τ).loc main_arg5))

/-- The second linear layer (result 1), at the arguments. -/
def out (c : Dev nD) : S6144x7168.Idx → Elt Ideal .bf16 :=
  Linear2Math.out (gCodes m c) (gScales m c) (m ((c : Thread nD τ).loc main_arg6)) (m ((c : Thread nD τ).loc main_arg7))
    (m ((c : Thread nD τ).loc main_arg8))

/-! The host's reshapes before each call, read back. -/

/-- The images as the layer norm's call sees them are the first argument. -/
theorem images (c : Dev nD) : LnQuant.img (V1 m ρ c main_v0) = m ((c : Thread nD τ).loc main_arg0) := by
  funext i
  unfold LnQuant.img
  after_reads_at

/-- The first row of parameters is the second argument. -/
theorem gammas (c : Dev nD) : (fun j : S12800.Idx => V1 m ρ c main_v1 (ix2 0 (j 0))) = m ((c : Thread nD τ).loc main_arg1) := by
  funext i
  after_reads_at

/-- The second row of parameters is the third argument. -/
theorem betas (c : Dev nD) : (fun j : S12800.Idx => V1 m ρ c main_v2 (ix2 0 (j 0))) = m ((c : Thread nD τ).loc main_arg2) := by
  funext i
  after_reads_at

/-- The row of the first layer's weight scales is the fifth argument. -/
theorem wscales1 (c : Dev nD) : (fun j : S7168.Idx => V3 m ρ c main_v4 (ix2 0 (j 0))) = m ((c : Thread nD τ).loc main_arg4) := by
  refine Eq.trans ?_ (W2_args m ρ c main_arg4 (by decide))
  funext i
  after_reads_at

/-- The row of the first layer's biases is the sixth argument. -/
theorem biases1 (c : Dev nD) : (fun j : S7168.Idx => V3 m ρ c main_v5 (ix2 0 (j 0))) = m ((c : Thread nD τ).loc main_arg5) := by
  refine Eq.trans ?_ (W2_args m ρ c main_arg5 (by decide))
  funext i
  after_reads_at

/-- The row of the second layer's weight scales is the eighth argument. -/
theorem wscales2 (c : Dev nD) : (fun j : S7168.Idx => V5 m ρ c main_v7 (ix2 0 (j 0))) = m ((c : Thread nD τ).loc main_arg7) := by
  refine Eq.trans ?_ (W4_args m ρ c main_arg7 (by decide))
  funext i
  after_reads_at

/-- The row of the second layer's biases is the ninth argument. -/
theorem biases2 (c : Dev nD) : (fun j : S7168.Idx => V5 m ρ c main_v8 (ix2 0 (j 0))) = m ((c : Thread nD τ).loc main_arg8) := by
  refine Eq.trans ?_ (W4_args m ρ c main_arg8 (by decide))
  funext i
  after_reads_at

/-! What each call leaves, and what the later items keep of it. -/

/-- After the layer norm's call, its codes. -/
theorem W2_hCodes (c : Dev nD) : W2 m ρ c (Proc.devRef .tc main_v3_0) = hCodes m c := by
  refine (W2_arr m ρ c 3).trans ((LnQuant.arr_3 (V1 m ρ) c).trans ?_)
  unfold LnQuant.GC hCodes
  rw [images, gammas, betas]

/-- After the layer norm's call, its scales. -/
theorem W2_hScales (c : Dev nD) : W2 m ρ c (Proc.devRef .tc main_v3_1) = hScales m c := by
  refine (W2_arr m ρ c 4).trans ((LnQuant.arr_4 (V1 m ρ) c).trans ?_)
  unfold LnQuant.GS hScales
  rw [images, gammas, betas]

/-- The first linear layer's call is entered with those codes. -/
theorem V3_hCodes (c : Dev nD) : V3 m ρ c main_v3_0 = hCodes m c :=
  (W3_of m ρ c main_v3_0 (by decide)).trans (W2_hCodes m ρ c)

/-- The first linear layer's call is entered with those scales. -/
theorem V3_hScales (c : Dev nD) : V3 m ρ c main_v3_1 = hScales m c :=
  (W3_of m ρ c main_v3_1 (by decide)).trans (W2_hScales m ρ c)

/-- The first linear layer's call is entered with the fourth argument as its weights. -/
theorem V3_weights (c : Dev nD) : V3 m ρ c main_arg3 = m ((c : Thread nD τ).loc main_arg3) :=
  W3_args m ρ c main_arg3 (by decide)

/-- After the first linear layer's call, its codes. -/
theorem W4_gCodes (c : Dev nD) : W4 m ρ c (Proc.devRef .tc main_v6_0) = gCodes m c := by
  refine (W4_arr m ρ c 5).trans ((Linear1.arr_5 (V3 m ρ) c).trans ?_)
  unfold Linear1.GC gCodes
  rw [V3_hCodes, V3_hScales, V3_weights, wscales1, biases1]

/-- After the first linear layer's call, its scales. -/
theorem W4_gScales (c : Dev nD) : W4 m ρ c (Proc.devRef .tc main_v6_1) = gScales m c := by
  refine (W4_arr m ρ c 6).trans ((Linear1.arr_6 (V3 m ρ) c).trans ?_)
  unfold Linear1.GS gScales
  rw [V3_hCodes, V3_hScales, V3_weights, wscales1, biases1]

/-- The second linear layer's call is entered with those codes. -/
theorem V5_gCodes (c : Dev nD) : V5 m ρ c main_v6_0 = gCodes m c :=
  (W5_of m ρ c main_v6_0 (by decide)).trans (W4_gCodes m ρ c)

/-- The second linear layer's call is entered with those scales. -/
theorem V5_gScales (c : Dev nD) : V5 m ρ c main_v6_1 = gScales m c :=
  (W5_of m ρ c main_v6_1 (by decide)).trans (W4_gScales m ρ c)

/-- The second linear layer's call is entered with the seventh argument as its weights. -/
theorem V5_weights (c : Dev nD) : V5 m ρ c main_arg6 = m ((c : Thread nD τ).loc main_arg6) :=
  W5_args m ρ c main_arg6 (by decide)

/-- At the end, the second linear layer. -/
theorem W6_out (c : Dev nD) : W6 m ρ c (Proc.devRef .tc main_v9) = out m c := by
  refine (W6_arr m ρ c 5).trans ((Linear2.arr (V5 m ρ) c).trans ?_)
  unfold Linear2.G out
  rw [V5_gCodes, V5_gScales, V5_weights, wscales2, biases2]

/-- At the end, the layer norm's codes: the first linear layer's call reads them and changes nothing of them. -/
theorem W6_hCodes (c : Dev nD) : W6 m ρ c (Proc.devRef .tc main_v3_0) = hCodes m c :=
  (W6_of m ρ c main_v3_0 (by decide)).trans ((W5_of m ρ c main_v3_0 (by decide)).trans
    ((W4_of m ρ c main_v3_0 (by decide)).trans (V3_hCodes m ρ c)))

/-- At the end, the layer norm's scales. -/
theorem W6_hScales (c : Dev nD) : W6 m ρ c (Proc.devRef .tc main_v3_1) = hScales m c :=
  (W6_of m ρ c main_v3_1 (by decide)).trans ((W5_of m ρ c main_v3_1 (by decide)).trans
    ((W4_of m ρ c main_v3_1 (by decide)).trans (V3_hScales m ρ c)))

/-- At the end, the activation's codes. -/
theorem W6_gCodes (c : Dev nD) : W6 m ρ c (Proc.devRef .tc main_v6_0) = gCodes m c :=
  (W6_of m ρ c main_v6_0 (by decide)).trans (V5_gCodes m ρ c)

/-- At the end, the activation's scales. -/
theorem W6_gScales (c : Dev nD) : W6 m ρ c (Proc.devRef .tc main_v6_1) = gScales m c :=
  (W6_of m ρ c main_v6_1 (by decide)).trans (V5_gScales m ρ c)

/-- The whole run: the five results at the arguments, which stay as they were. -/
theorem run : θ_run defs (onTc (τ := τ) (main (F := Ideal))) ⟨m, fun _ => 0, ρ⟩ fun r => ∀ c : Dev nD,
    r.2.mem ((c : Thread nD τ).loc main_v9) = out m c
      ∧ r.2.mem ((c : Thread nD τ).loc main_v3_0) = hCodes m c
      ∧ r.2.mem ((c : Thread nD τ).loc main_v3_1) = hScales m c
      ∧ r.2.mem ((c : Thread nD τ).loc main_v6_0) = gCodes m c
      ∧ r.2.mem ((c : Thread nD τ).loc main_v6_1) = gScales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h.1 c _ (mem_uc main_v9 (by decide))).trans (W6_out m ρ c),
      (h.1 c _ (mem_uc main_v3_0 (by decide))).trans (W6_hCodes m ρ c),
      (h.1 c _ (mem_uc main_v3_1 (by decide))).trans (W6_hScales m ρ c),
      (h.1 c _ (mem_uc main_v6_0 (by decide))).trans (W6_gCodes m ρ c),
      (h.1 c _ (mem_uc main_v6_1 (by decide))).trans (W6_gScales m ρ c),
      (h.1 c _ (mem_uc main_arg0 (by decide))).trans (W6_main_arg0 m ρ c),
      (h.1 c _ (mem_uc main_arg1 (by decide))).trans (W6_main_arg1 m ρ c),
      (h.1 c _ (mem_uc main_arg2 (by decide))).trans (W6_main_arg2 m ρ c),
      (h.1 c _ (mem_uc main_arg3 (by decide))).trans (W6_main_arg3 m ρ c),
      (h.1 c _ (mem_uc main_arg4 (by decide))).trans (W6_main_arg4 m ρ c),
      (h.1 c _ (mem_uc main_arg5 (by decide))).trans (W6_main_arg5 m ρ c),
      (h.1 c _ (mem_uc main_arg6 (by decide))).trans (W6_main_arg6 m ρ c),
      (h.1 c _ (mem_uc main_arg7 (by decide))).trans (W6_main_arg7 m ρ c),
      (h.1 c _ (mem_uc main_arg8 (by decide))).trans (W6_main_arg8 m ρ c)⟩) (Whole.run m ρ)

end Cert.KernelIdeal.Results
-- ==== Proof.ReferenceNorm.lean ====
module

public import proofs.«01_k».proof.Proof.Gen.ReferenceIdeal.Frame
public import Idealize.ShloMosaic.Lib.Pipeline.ValueKit
public import proofs.«01_k».proof.Proof.LnQuantMath

/-!
The layer norm and its quantiser, as the reference's body computes them over whole arrays.
-/

@[expose] public section

noncomputable section

namespace Cert.ReferenceIdeal.Norm

open Idealize.ShloMosaic Idealize.ShloMosaic.TcCoe Idealize.SL.Sem Cert.ReferenceIdeal Cert.ReferenceIdeal.Gen Cert.QuantMath Cert.LnQuantMath

/-- The mean of a row: its sum divided by 12800. -/
def avg (v : Fin 12800 → EReal) : EReal := Ideal.div (∑ k, v k) (f 0x46480000#32)

/-- The layer norm over whole arrays, at (r, k). -/
def ln (x0 : Vec Ideal S6144x12800 .bf16) (g b : Vec Ideal S1x12800 .f32) (r : Fin 6144) (k : Fin 12800) : EReal :=
  ((x0 (ix2 r k) : EReal) - avg fun k => x0 (ix2 r k))
    * Ideal.rsqrt ((avg fun l => ((x0 (ix2 r l) : EReal) - avg fun k => x0 (ix2 r k)) * ((x0 (ix2 r l) : EReal) - avg fun k => x0 (ix2 r k)))
      + f 0x3727C5AC#32) * (g (ix2 0 k) : EReal) + (b (ix2 0 k) : EReal)

/-- The layer norm at block q and lane x, as the body computes it. -/
theorem pay2_apply (x0 : Vec Ideal S6144x12800 .bf16) (g b : Vec Ideal S1x12800 .f32) (r : Fin 6144) (q : Fin 100) (x : Fin 128) :
    (k0_pay2 x0 g b (ix3 r q x) : EReal) = ln x0 g b r ⟨q.val * 128 + x.val, by omega⟩ := by
  unfold ln avg k0_pay2
  pointwise

/-- The greatest magnitude over a block of a three-dimensional array. -/
theorem max_apply (v : FVec Ideal S6144x100x128 .f32) (y : S6144x100.Idx) :
    (multiReduction (F := Ideal) (φ := .f32) .maximumf [2] S6144x100 (absf v) 0xFF800000#32 reduces_S6144x100x128_S6144x100 (.inl rfl) rfl y : EReal)
      = amax fun x => v (ix3 (y 0) (y 1) x) := by
  unfold amax
  pointwise
  rfl

/-- The exponent of a block's scale. -/
theorem pay3_apply (x0 : Vec Ideal S6144x12800 .bf16) (g b : Vec Ideal S1x12800 .f32) (y : S6144x100.Idx) :
    (k0_pay3 x0 g b y : EReal) = expo (amax fun x => k0_pay2 x0 g b (ix3 (y 0) (y 1) x)) :=
  (expo_vec (multiReduction (F := Ideal) (φ := .f32) .maximumf [2] S6144x100 (absf (k0_pay2 x0 g b)) 0xFF800000#32 reduces_S6144x100x128_S6144x100 (.inl rfl) rfl) y).trans
    (congrArg expo (max_apply (k0_pay2 x0 g b) y))

/-- The codes of a three-dimensional array v over exponents e, laid out as rows again. -/
theorem code_vec (v : FVec Ideal S6144x100x128 .f32) (e : FVec Ideal S6144x100 .f32) (y : S6144x12800.Idx) :
    (shapeCast S6144x12800 (truncf (F := Ideal) .fp8e4m3 (minimumf (F := Ideal) (φ := .f32) (broadcast S6144x100x128 (Scalar.ofBits .f32 0x43E00000#32))
      (maximumf (F := Ideal) (φ := .f32) (broadcast S6144x100x128 (Scalar.ofBits .f32 0xC3E00000#32))
        (mulf (F := Ideal) (φ := .f32) v (broadcastTo S6144x100x128 (shapeCast S6144x100x1 (exp2 (F := Ideal) (φ := .f32) (subf (F := Ideal) (φ := .f32)
          (broadcast S6144x100 (Scalar.ofBits .f32 0x00000000#32)) e)) shapeCasts_S6144x100_S6144x100x1) broadcasts_S6144x100x1_S6144x100x128))))
        bitsLt_fp8e4m3_f32) shapeCasts_S6144x100x128_S6144x12800 y : EReal)
      = min (f 0x43E00000#32) (max (f 0xC3E00000#32) ((v (ix3 (y 0) ⟨(y 1).val / 128, by have : (y 1).val < 12800 := (y 1).isLt; omega⟩
        ⟨(y 1).val % 128, by omega⟩) : EReal) * Ideal.exp2 (0 - (e (ix2 (y 0) ⟨(y 1).val / 128, by have : (y 1).val < 12800 := (y 1).isLt; omega⟩) : EReal)))) := by
  pointwise
  rfl

/-- The codes. -/
theorem codes_apply (x0 : Vec Ideal S6144x12800 .bf16) (g b : Vec Ideal S1x12800 .f32) (y : S6144x12800.Idx) :
    (k0_pay4 (k0_pay2 x0 g b) (k0_pay3 x0 g b) y : EReal) = code (amax fun x => k0_pay2 x0 g b (ix3 (y 0) ⟨(y 1).val / 128, by have : (y 1).val < 12800 := (y 1).isLt; omega⟩ x))
      (k0_pay2 x0 g b (ix3 (y 0) ⟨(y 1).val / 128, by have : (y 1).val < 12800 := (y 1).isLt; omega⟩ ⟨(y 1).val % 128, by omega⟩)) :=
  (code_vec (k0_pay2 x0 g b) (k0_pay3 x0 g b) y).trans (congrArg (fun e => min (f 0x43E00000#32) (max (f 0xC3E00000#32) (_ * Ideal.exp2 (0 - e))))
    (pay3_apply x0 g b (ix2 (y 0) ⟨(y 1).val / 128, by have : (y 1).val < 12800 := (y 1).isLt; omega⟩)))

/-- Two to the power of each entry. -/
theorem exp2_vec (e : FVec Ideal S6144x100 .f32) (y : S6144x100.Idx) : (k0_pay5 e y : EReal) = Ideal.exp2 (e y) := rfl

attribute [local irreducible] k0_pay2 k0_pay3

/-- The scales. -/
theorem scales_apply (x0 : Vec Ideal S6144x12800 .bf16) (g b : Vec Ideal S1x12800 .f32) (y : S6144x100.Idx) :
    (k0_pay5 (k0_pay3 x0 g b) y : EReal) = scale (amax fun x => k0_pay2 x0 g b (ix3 (y 0) (y 1) x)) :=
  (exp2_vec (k0_pay3 x0 g b) y).trans (congrArg Ideal.exp2 (pay3_apply x0 g b y))

/-- Dividing the sum by 12800 is multiplying it by the reciprocal. -/
theorem avg_eq (v : ℕ → EReal) : (avg fun k => v k.val) = mean v := by
  have h : f 0x46480000#32 = ((12800 : ℝ) : EReal) := by
    show Ideal.ofBits .f32 0x46480000#32 = _
    simp [Ideal.ofBits, Ideal.ieee, -EReal.coe_mul]
    norm_num
  unfold avg mean invK
  rw [h, Ideal.div_coe (by norm_num : (12800 : ℝ) ≠ 0), Finset.sum_range]

end Cert.ReferenceIdeal.Norm
-- ==== Proof.ReferenceLayers.lean ====
module

public import proofs.«01_k».proof.Proof.Gen.ReferenceIdeal.Frame
public import Idealize.ShloMosaic.Lib.Pipeline.ValueKit
public import proofs.«01_k».proof.Proof.Linear1Math
public import proofs.«01_k».proof.Proof.Linear2Math

/-!
The two linear layers, the gelu between them and its quantiser, as the reference's body computes them over whole arrays: from
the blocks v of the layer norm and the exponents e of their scales.
-/

@[expose] public section

noncomputable section

namespace Cert.ReferenceIdeal.Layers

open Idealize.ShloMosaic Idealize.ShloMosaic.TcCoe Idealize.SL.Sem Cert.ReferenceIdeal Cert.ReferenceIdeal.Gen Cert.QuantMath

/-- The layer over whole arrays, at (r, j). -/
def lin (x0 : Vec Ideal S6144x12800 .fp8e4m3) (x1 : Vec Ideal S6144x100 .f32) (w : Vec Ideal S12800x7168 .fp8e4m3)
    (s b : Vec Ideal S1x7168 .f32) (r : Fin 6144) (j : Fin 7168) : EReal :=
  (∑ k : Fin 12800, (x0 (ix2 r k) : EReal) * (x1 (ix2 r ⟨k.val / 128, by omega⟩) : EReal) * (w (ix2 k j) : EReal))
    * (s (ix2 0 j) : EReal) + (b (ix2 0 j) : EReal)

/-- The layer, as the body computes it from its codes and scales. -/
theorem pay6_apply (v : FVec Ideal S6144x100x128 .f32) (e : FVec Ideal S6144x100 .f32) (w : Vec Ideal S12800x7168 .fp8e4m3)
    (s b : Vec Ideal S1x7168 .f32) (y : S6144x7168.Idx) :
    (k0_pay6 v e w s b y : EReal) = lin (k0_pay4 v e) (k0_pay5 e) w s b (y 0) (y 1) := by
  unfold k0_pay6
  generalize k0_pay4 v e = x0
  generalize k0_pay5 e = x1
  unfold lin
  pointwise

/-- Half of it. -/
theorem pay7_apply (v : FVec Ideal S6144x100x128 .f32) (e : FVec Ideal S6144x100 .f32) (w : Vec Ideal S12800x7168 .fp8e4m3)
    (s b : Vec Ideal S1x7168 .f32) (y : S6144x7168.Idx) :
    (k0_pay7 v e w s b y : EReal) = f 0x3F000000#32 * lin (k0_pay4 v e) (k0_pay5 e) w s b (y 0) (y 1) := by
  rw [← pay6_apply]
  unfold k0_pay7
  pointwise

/-- Minus it over the root of two. -/
theorem pay8_apply (v : FVec Ideal S6144x100x128 .f32) (e : FVec Ideal S6144x100 .f32) (w : Vec Ideal S12800x7168 .fp8e4m3)
    (s b : Vec Ideal S1x7168 .f32) (y : S6144x7168.Idx) :
    (k0_pay8 v e w s b y : EReal) = (0 - lin (k0_pay4 v e) (k0_pay5 e) w s b (y 0) (y 1)) * f 0x3F3504F3#32 := by
  rw [← pay6_apply]
  unfold k0_pay8
  pointwise

/-- The magnitude of that. -/
theorem pay9_apply (v : FVec Ideal S6144x100x128 .f32) (e : FVec Ideal S6144x100 .f32) (w : Vec Ideal S12800x7168 .fp8e4m3)
    (s b : Vec Ideal S1x7168 .f32) (y : S6144x7168.Idx) :
    (k0_pay9 v e w s b y : EReal) = max (k0_pay8 v e w s b y : EReal) (-(k0_pay8 v e w s b y : EReal)) := rfl

/-- The reciprocal that the fit of erfc is a polynomial in. -/
theorem pay10_apply (v : FVec Ideal S6144x100x128 .f32) (e : FVec Ideal S6144x100 .f32) (w : Vec Ideal S12800x7168 .fp8e4m3)
    (s b : Vec Ideal S1x7168 .f32) (y : S6144x7168.Idx) :
    (k0_pay10 v e w s b y : EReal) = recip (k0_pay9 v e w s b y) := by
  unfold recip k0_pay10
  pointwise

/-- The activation at column 128 q + x: the half a of the layer times erfc at t, fit at the magnitude z over its reciprocal p, with
    erfc's reflection below zero. -/
theorem pay13_apply (a t z p : FVec Ideal S6144x7168 .f32) (r : Fin 6144) (q : Fin 56) (x : Fin 128)
    (h : (p (ix2 r ⟨q.val * 128 + x.val, by omega⟩) : EReal) = recip (z (ix2 r ⟨q.val * 128 + x.val, by omega⟩))) :
    (k0_pay13 a t z p (k0_pay11 p) (k0_pay12 p) (ix3 r q x) : EReal)
      = (fun i : S6144x7168.Idx => (a i : EReal) * (if (0 : EReal) ≤ (t i : EReal) then tail powers (z i)
      else f 0x40000000#32 - tail powers (z i))) (ix2 r ⟨q.val * 128 + x.val, by omega⟩) := by
  unfold tail powers
  dsimp only
  rw [← h]
  unfold k0_pay13 k0_pay11 k0_pay12
  pointwise

/-- The greatest magnitude over a block of a three-dimensional array. -/
theorem max_apply (v : FVec Ideal S6144x56x128 .f32) (y : S6144x56.Idx) :
    (multiReduction (F := Ideal) (φ := .f32) .maximumf [2] S6144x56 (absf v) 0xFF800000#32 reduces_S6144x56x128_S6144x56 (.inl rfl) rfl y : EReal)
      = amax fun x => v (ix3 (y 0) (y 1) x) := by
  unfold amax
  pointwise
  rfl

/-- The exponent of a block's scale. -/
theorem pay14_apply (a t z p h k : FVec Ideal S6144x7168 .f32) (y : S6144x56.Idx) :
    (k0_pay14 a t z p h k y : EReal) = expo (amax fun x => k0_pay13 a t z p h k (ix3 (y 0) (y 1) x)) :=
  (expo_vec (multiReduction (F := Ideal) (φ := .f32) .maximumf [2] S6144x56 (absf (k0_pay13 a t z p h k)) 0xFF800000#32 reduces_S6144x56x128_S6144x56 (.inl rfl) rfl) y).trans
    (congrArg expo (max_apply (k0_pay13 a t z p h k) y))

/-- The codes of a three-dimensional array v over exponents e, laid out as rows again. -/
theorem code_vec (v : FVec Ideal S6144x56x128 .f32) (e : FVec Ideal S6144x56 .f32) (y : S6144x7168.Idx) :
    (shapeCast S6144x7168 (truncf (F := Ideal) .fp8e4m3 (minimumf (F := Ideal) (φ := .f32) (broadcast S6144x56x128 (Scalar.ofBits .f32 0x43E00000#32))
      (maximumf (F := Ideal) (φ := .f32) (broadcast S6144x56x128 (Scalar.ofBits .f32 0xC3E00000#32))
        (mulf (F := Ideal) (φ := .f32) v (broadcastTo S6144x56x128 (shapeCast S6144x56x1 (exp2 (F := Ideal) (φ := .f32) (subf (F := Ideal) (φ := .f32)
          (broadcast S6144x56 (Scalar.ofBits .f32 0x00000000#32)) e)) shapeCasts_S6144x56_S6144x56x1) broadcasts_S6144x56x1_S6144x56x128))))
        bitsLt_fp8e4m3_f32) shapeCasts_S6144x56x128_S6144x7168 y : EReal)
      = min (f 0x43E00000#32) (max (f 0xC3E00000#32) ((v (ix3 (y 0) ⟨(y 1).val / 128, by have : (y 1).val < 7168 := (y 1).isLt; omega⟩
        ⟨(y 1).val % 128, by omega⟩) : EReal) * Ideal.exp2 (0 - (e (ix2 (y 0) ⟨(y 1).val / 128, by have : (y 1).val < 7168 := (y 1).isLt; omega⟩) : EReal)))) := by
  pointwise
  rfl

/-- The codes. -/
theorem pay15_apply (a t z p h k : FVec Ideal S6144x7168 .f32) (y : S6144x7168.Idx) :
    (k0_pay15 a t z p h k y : EReal) = code (amax fun x => k0_pay13 a t z p h k (ix3 (y 0) ⟨(y 1).val / 128, by have : (y 1).val < 7168 := (y 1).isLt; omega⟩ x))
      (k0_pay13 a t z p h k (ix3 (y 0) ⟨(y 1).val / 128, by have : (y 1).val < 7168 := (y 1).isLt; omega⟩ ⟨(y 1).val % 128, by omega⟩)) :=
  (code_vec (k0_pay13 a t z p h k) (k0_pay14 a t z p h k) y).trans (congrArg (fun e => min (f 0x43E00000#32) (max (f 0xC3E00000#32) (_ * Ideal.exp2 (0 - e))))
    (pay14_apply a t z p h k (ix2 (y 0) ⟨(y 1).val / 128, by have : (y 1).val < 7168 := (y 1).isLt; omega⟩)))

/-- Two to the power of each entry. -/
theorem exp2_vec (e : FVec Ideal S6144x56 .f32) (y : S6144x56.Idx) :
    (exp2 (F := Ideal) (φ := .f32) e y : EReal) = Ideal.exp2 (e y) := rfl

attribute [local irreducible] k0_pay13 k0_pay14

/-- The scales. -/
theorem pay16_apply (a t z p h k : FVec Ideal S6144x7168 .f32) (y : S6144x56.Idx) :
    (k0_pay16 a t z p h k y : EReal) = scale (amax fun x => k0_pay13 a t z p h k (ix3 (y 0) (y 1) x)) :=
  (exp2_vec (k0_pay14 a t z p h k) y).trans (congrArg Ideal.exp2 (pay14_apply a t z p h k y))

/-- The activation over whole arrays, laid out in blocks, as the body computes it. -/
def act (v : FVec Ideal S6144x100x128 .f32) (e : FVec Ideal S6144x100 .f32) (w : Vec Ideal S12800x7168 .fp8e4m3)
    (s b : Vec Ideal S1x7168 .f32) : FVec Ideal S6144x56x128 .f32 :=
  k0_pay13 (k0_pay7 v e w s b) (k0_pay8 v e w s b) (k0_pay9 v e w s b) (k0_pay10 v e w s b) (k0_pay11 (k0_pay10 v e w s b))
    (k0_pay12 (k0_pay10 v e w s b))

/-- Its codes, as the body computes them. -/
def gc (v : FVec Ideal S6144x100x128 .f32) (e : FVec Ideal S6144x100 .f32) (w : Vec Ideal S12800x7168 .fp8e4m3)
    (s b : Vec Ideal S1x7168 .f32) : FVec Ideal S6144x7168 .fp8e4m3 :=
  k0_pay15 (k0_pay7 v e w s b) (k0_pay8 v e w s b) (k0_pay9 v e w s b) (k0_pay10 v e w s b) (k0_pay11 (k0_pay10 v e w s b))
    (k0_pay12 (k0_pay10 v e w s b))

/-- Its scales, as the body computes them. -/
def gs (v : FVec Ideal S6144x100x128 .f32) (e : FVec Ideal S6144x100 .f32) (w : Vec Ideal S12800x7168 .fp8e4m3)
    (s b : Vec Ideal S1x7168 .f32) : FVec Ideal S6144x56 .f32 :=
  k0_pay16 (k0_pay7 v e w s b) (k0_pay8 v e w s b) (k0_pay9 v e w s b) (k0_pay10 v e w s b) (k0_pay11 (k0_pay10 v e w s b))
    (k0_pay12 (k0_pay10 v e w s b))

/-- The activation is the gelu of the layer. -/
theorem act_apply (v : FVec Ideal S6144x100x128 .f32) (e : FVec Ideal S6144x100 .f32) (w : Vec Ideal S12800x7168 .fp8e4m3)
    (s b : Vec Ideal S1x7168 .f32) (r : Fin 6144) (q : Fin 56) (x : Fin 128) :
    (act v e w s b (ix3 r q x) : EReal) = gelu (lin (k0_pay4 v e) (k0_pay5 e) w s b r ⟨128 * q.val + x.val, by omega⟩) := by
  have e1 : (⟨128 * q.val + x.val, by omega⟩ : Fin 7168) = ⟨q.val * 128 + x.val, by omega⟩ :=
    Fin.ext (by show 128 * q.val + x.val = q.val * 128 + x.val; omega)
  unfold act
  rw [pay13_apply _ _ _ _ r q x (pay10_apply v e w s b _), e1]
  show (k0_pay7 v e w s b (ix2 r ⟨q.val * 128 + x.val, by omega⟩) : EReal) * _ = _
  rw [pay9_apply, pay7_apply, pay8_apply]
  exact geluErfc_eq (lin (k0_pay4 v e) (k0_pay5 e) w s b r ⟨q.val * 128 + x.val, by omega⟩)

/-- The codes of the activation. -/
theorem gc_apply (v : FVec Ideal S6144x100x128 .f32) (e : FVec Ideal S6144x100 .f32) (w : Vec Ideal S12800x7168 .fp8e4m3)
    (s b : Vec Ideal S1x7168 .f32) (y : S6144x7168.Idx) :
    (gc v e w s b y : EReal) = code (amax fun x => act v e w s b (ix3 (y 0) ⟨(y 1).val / 128, by have : (y 1).val < 7168 := (y 1).isLt; omega⟩ x))
      (act v e w s b (ix3 (y 0) ⟨(y 1).val / 128, by have : (y 1).val < 7168 := (y 1).isLt; omega⟩ ⟨(y 1).val % 128, by omega⟩)) := by
  unfold gc act
  exact pay15_apply _ _ _ _ _ _ y

/-- The scales of the activation. -/
theorem gs_apply (v : FVec Ideal S6144x100x128 .f32) (e : FVec Ideal S6144x100 .f32) (w : Vec Ideal S12800x7168 .fp8e4m3)
    (s b : Vec Ideal S1x7168 .f32) (y : S6144x56.Idx) :
    (gs v e w s b y : EReal) = scale (amax fun x => act v e w s b (ix3 (y 0) (y 1) x)) := by
  unfold gs act
  exact pay16_apply _ _ _ _ _ _ y

attribute [local irreducible] act

/-- The greatest magnitude in a block of the activation. -/
theorem max_eq (v : FVec Ideal S6144x100x128 .f32) (e : FVec Ideal S6144x100 .f32) (w : Vec Ideal S12800x7168 .fp8e4m3)
    (s b : Vec Ideal S1x7168 .f32) (r : Fin 6144) (q : Fin 56) :
    (amax fun x => act v e w s b (ix3 r q x))
      = Linear1Math.blockMax (k0_pay4 v e) (k0_pay5 e) w (fun j => s (ix2 0 (j 0))) (fun j => b (ix2 0 (j 0))) r q := by
  unfold Linear1Math.blockMax
  exact congrArg amax (funext fun x => act_apply v e w s b r q x)

/-- The codes are the codes of the first linear layer, at the body's codes and scales of the layer norm. -/
theorem gc_eq (v : FVec Ideal S6144x100x128 .f32) (e : FVec Ideal S6144x100 .f32) (w : Vec Ideal S12800x7168 .fp8e4m3)
    (s b : Vec Ideal S1x7168 .f32) :
    gc v e w s b = Linear1Math.outCodes (k0_pay4 v e) (k0_pay5 e) w (fun j => s (ix2 0 (j 0))) (fun j => b (ix2 0 (j 0))) := by
  funext y
  have hy1 : (y 1).val < 7168 := (y 1).isLt
  refine (gc_apply v e w s b y).trans ?_
  unfold Linear1Math.outCodes
  refine congrArg₂ code (max_eq v e w s b (y 0) _) ?_
  refine (act_apply v e w s b (y 0) _ _).trans (congrArg gelu ?_)
  refine congrArg (lin (k0_pay4 v e) (k0_pay5 e) w s b (y 0)) (Fin.ext ?_)
  show 128 * ((y 1).val / 128) + (y 1).val % 128 = (y 1).val
  omega

/-- The scales are the scales of the first linear layer. -/
theorem gs_eq (v : FVec Ideal S6144x100x128 .f32) (e : FVec Ideal S6144x100 .f32) (w : Vec Ideal S12800x7168 .fp8e4m3)
    (s b : Vec Ideal S1x7168 .f32) :
    gs v e w s b = Linear1Math.outScales (k0_pay4 v e) (k0_pay5 e) w (fun j => s (ix2 0 (j 0))) (fun j => b (ix2 0 (j 0))) := by
  funext y
  refine (gs_apply v e w s b y).trans ?_
  unfold Linear1Math.outScales
  exact congrArg scale (max_eq v e w s b (y 0) (y 1))

/-- The second layer, as the body computes it from codes and scales. -/
theorem out_eq (x0 : Vec Ideal S6144x7168 .fp8e4m3) (x1 : Vec Ideal S6144x56 .f32) (w : Vec Ideal S7168x7168 .fp8e4m3)
    (s b : Vec Ideal S1x7168 .f32) :
    k0_pay1 x0 x1 w s b = Linear2Math.out x0 x1 w (fun j => s (ix2 0 (j 0))) (fun j => b (ix2 0 (j 0))) := by
  funext y
  unfold k0_pay1 Linear2Math.out Linear2Math.lhs
  pointwise

end Cert.ReferenceIdeal.Layers
-- ==== Proof.ReferenceRun.lean ====
module

public import proofs.«01_k».proof.Proof.Gen.ReferenceIdeal.Frame
public import Idealize.ShloMosaic.Lib.Pipeline.Value

/-!
The run of the reference, with its five results named by the arrays its one grid point leaves.
-/

@[expose] public section

noncomputable section

namespace Cert.ReferenceIdeal.Run

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- After the run, argument 0 is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the run, argument 1 is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the run, argument 2 is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the run, argument 3 is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the run, argument 4 is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the run, argument 5 is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the run, argument 6 is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the run, argument 7 is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the run, argument 8 is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The whole run, each result named by the array it leaves, the arguments unchanged. -/
theorem run_blocks : θ_run defs (onTc (τ := τ) (main (F := F))) ⟨m, fun _ => 0, ρ⟩ fun r => ∀ c : Dev nD,
      r.2.mem ((c : Thread nD τ).loc main_v9_0) = (dats m 0 c).arrAt 9 cfg0.N
      ∧ r.2.mem ((c : Thread nD τ).loc main_v9_1) = (dats m 0 c).arrAt 10 cfg0.N
      ∧ r.2.mem ((c : Thread nD τ).loc main_v9_2) = (dats m 0 c).arrAt 11 cfg0.N
      ∧ r.2.mem ((c : Thread nD τ).loc main_v9_3) = (dats m 0 c).arrAt 12 cfg0.N
      ∧ r.2.mem ((c : Thread nD τ).loc main_v9_4) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 9, (h c).1 10, (h c).1 11, (h c).1 12, (h c).1 13,
      kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c⟩)
    (run_main m ρ)

end Cert.ReferenceIdeal.Run
-- ==== Proof.ReferenceResults.lean ====
module

public import proofs.«01_k».proof.Proof.ReferenceNorm
public import proofs.«01_k».proof.Proof.ReferenceLayers
public import proofs.«01_k».proof.Proof.ReferenceRun

/-!
What the five results of the reference hold, as functions of its nine arguments.
-/

@[expose] public section

noncomputable section

namespace Cert.ReferenceIdeal.Results

open Idealize.ShloMosaic Idealize.ShloMosaic.TcCoe Idealize.SL.Sem Cert.ReferenceIdeal Cert.ReferenceIdeal.Gen Cert.QuantMath Cert.LnQuantMath
open Cert.ReferenceIdeal.Norm (ln avg avg_eq)
open Cert.ReferenceIdeal.Layers (gc gs)

variable (m : (ℓ : Loc nD τ sig) → Buf (Elt Ideal) ℓ) (ρ : Dev nD → PrngReg)

/-- The codes of the layer norm (result 2), at the arguments. -/
def hCodes (c : Dev nD) : S6144x12800.Idx → Elt Ideal .fp8e4m3 :=
  LnQuantMath.outCodes (m ((c : Thread nD τ).loc main_arg0)) (m ((c : Thread nD τ).loc main_arg1)) (m ((c : Thread nD τ).loc main_arg2))

/-- The scales of the layer norm (result 3), at the arguments. -/
def hScales (c : Dev nD) : S6144x100.Idx → Elt Ideal .f32 :=
  LnQuantMath.outScales (m ((c : Thread nD τ).loc main_arg0)) (m ((c : Thread nD τ).loc main_arg1)) (m ((c : Thread nD τ).loc main_arg2))

/-- The codes of the activation (result 4), at the arguments. -/
def gCodes (c : Dev nD) : S6144x7168.Idx → Elt Ideal .fp8e4m3 :=
  Linear1Math.outCodes (hCodes m c) (hScales m c) (m ((c : Thread nD τ).loc main_arg3)) (m ((c : Thread nD τ).loc main_arg4))
    (m ((c : Thread nD τ).loc main_arg5))

/-- The scales of the activation (result 5), at the arguments. -/
def gScales (c : Dev nD) : S6144x56.Idx → Elt Ideal .f32 :=
  Linear1Math.outScales (hCodes m c) (hScales m c) (m ((c : Thread nD τ).loc main_arg3)) (m ((c : Thread nD τ).loc main_arg4))
    (m ((c : Thread nD τ).loc main_arg5))

/-- The second linear layer (result 1), at the arguments. -/
def out (c : Dev nD) : S6144x7168.Idx → Elt Ideal .bf16 :=
  Linear2Math.out (gCodes m c) (gScales m c) (m ((c : Thread nD τ).loc main_arg6)) (m ((c : Thread nD τ).loc main_arg7))
    (m ((c : Thread nD τ).loc main_arg8))

/-! What the one grid point leaves of each result, from the operands' blocks. -/

/-- What the point leaves of the codes of the layer norm. -/
theorem out_10 (x0 : Vec Ideal S6144x12800 .bf16) (x1 x2 : Vec Ideal S1x12800 .f32) (x3 : Vec Ideal S12800x7168 .fp8e4m3)
    (x4 x5 : Vec Ideal S1x7168 .f32) (x6 : Vec Ideal S7168x7168 .fp8e4m3) (x7 x8 : Vec Ideal S1x7168 .f32) (y : S6144x12800.Idx) :
    out0_10 x0 x1 x2 x3 x4 x5 x6 x7 x8 y = (k0_pay4 (k0_pay2 x0 x1 x2) (k0_pay3 x0 x1 x2)) y := by
  unfold_out out0_10
  frame_out

/-- What the point leaves of the scales of the layer norm. -/
theorem out_11 (x0 : Vec Ideal S6144x12800 .bf16) (x1 x2 : Vec Ideal S1x12800 .f32) (x3 : Vec Ideal S12800x7168 .fp8e4m3)
    (x4 x5 : Vec Ideal S1x7168 .f32) (x6 : Vec Ideal S7168x7168 .fp8e4m3) (x7 x8 : Vec Ideal S1x7168 .f32) (y : S6144x100.Idx) :
    out0_11 x0 x1 x2 x3 x4 x5 x6 x7 x8 y = (k0_pay5 (k0_pay3 x0 x1 x2)) y := by
  unfold_out out0_11
  frame_out

/-- What the point leaves of the codes of the activation. -/
theorem out_12 (x0 : Vec Ideal S6144x12800 .bf16) (x1 x2 : Vec Ideal S1x12800 .f32) (x3 : Vec Ideal S12800x7168 .fp8e4m3)
    (x4 x5 : Vec Ideal S1x7168 .f32) (x6 : Vec Ideal S7168x7168 .fp8e4m3) (x7 x8 : Vec Ideal S1x7168 .f32) (y : S6144x7168.Idx) :
    out0_12 x0 x1 x2 x3 x4 x5 x6 x7 x8 y = (gc (k0_pay2 x0 x1 x2) (k0_pay3 x0 x1 x2) x3 x4 x5) y := by
  unfold_out out0_12
  unfold gc
  frame_out

/-- What the point leaves of the scales of the activation. -/
theorem out_13 (x0 : Vec Ideal S6144x12800 .bf16) (x1 x2 : Vec Ideal S1x12800 .f32) (x3 : Vec Ideal S12800x7168 .fp8e4m3)
    (x4 x5 : Vec Ideal S1x7168 .f32) (x6 : Vec Ideal S7168x7168 .fp8e4m3) (x7 x8 : Vec Ideal S1x7168 .f32) (y : S6144x56.Idx) :
    out0_13 x0 x1 x2 x3 x4 x5 x6 x7 x8 y = (gs (k0_pay2 x0 x1 x2) (k0_pay3 x0 x1 x2) x3 x4 x5) y := by
  unfold_out out0_13
  unfold gs
  frame_out

/-- What the point leaves of the second layer. -/
theorem out_9 (x0 : Vec Ideal S6144x12800 .bf16) (x1 x2 : Vec Ideal S1x12800 .f32) (x3 : Vec Ideal S12800x7168 .fp8e4m3)
    (x4 x5 : Vec Ideal S1x7168 .f32) (x6 : Vec Ideal S7168x7168 .fp8e4m3) (x7 x8 : Vec Ideal S1x7168 .f32) (y : S6144x7168.Idx) :
    out0_9 x0 x1 x2 x3 x4 x5 x6 x7 x8 y = (k0_pay1 (gc (k0_pay2 x0 x1 x2) (k0_pay3 x0 x1 x2) x3 x4 x5) (gs (k0_pay2 x0 x1 x2) (k0_pay3 x0 x1 x2) x3 x4 x5) x6 x7 x8) y := by
  unfold_out out0_9
  unfold gc gs
  frame_out

/-- The one point sees every array whole. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

/-! The blocks of the operands are the arguments. -/

/-- A row of the first operand is a row of the patches. -/
theorem pixel_blk (c : Dev nD) (t : Fin cfg0.N) (r : Fin 6144) (k : Fin 12800) :
    (iblk m c 0 t (ix2 r k : S6144x12800.Idx) : EReal) = pixel (m ((c : Thread nD τ).loc main_arg0)) r k.val := by
  unfold pixel
  rw [dif_pos k.isLt]
  blk_ext! [iblk, V, idx t]

/-- The first row of parameters. -/
theorem gamma_blk (c : Dev nD) (t : Fin cfg0.N) (k : Fin 12800) :
    (iblk m c 1 t (ix2 0 k : S1x12800.Idx) : EReal) = param (m ((c : Thread nD τ).loc main_arg1)) k.val := by
  unfold param
  rw [dif_pos k.isLt]
  blk_ext! [iblk, V, idx t]

/-- The second row of parameters. -/
theorem beta_blk (c : Dev nD) (t : Fin cfg0.N) (k : Fin 12800) :
    (iblk m c 2 t (ix2 0 k : S1x12800.Idx) : EReal) = param (m ((c : Thread nD τ).loc main_arg2)) k.val := by
  unfold param
  rw [dif_pos k.isLt]
  blk_ext! [iblk, V, idx t]

/-- The first layer's weights. -/
theorem weights1_blk (c : Dev nD) (t : Fin cfg0.N) : (iblk m c 3 t : S12800x7168.Idx → EReal) = (m ((c : Thread nD τ).loc main_arg3)) := by
  funext y
  blk_ext [iblk, V, idx t]

/-- The second layer's weights. -/
theorem weights2_blk (c : Dev nD) (t : Fin cfg0.N) : (iblk m c 6 t : S7168x7168.Idx → EReal) = (m ((c : Thread nD τ).loc main_arg6)) := by
  funext y
  blk_ext [iblk, V, idx t]

/-- The first layer's weight scales. -/
theorem wscales1_blk (c : Dev nD) (t : Fin cfg0.N) :
    (fun j : S7168.Idx => (iblk m c 4 t (ix2 0 (j 0) : S1x7168.Idx) : EReal)) = (m ((c : Thread nD τ).loc main_arg4)) := by
  funext j
  blk_ext! [iblk, V, idx t]

/-- The first layer's biases. -/
theorem biases1_blk (c : Dev nD) (t : Fin cfg0.N) :
    (fun j : S7168.Idx => (iblk m c 5 t (ix2 0 (j 0) : S1x7168.Idx) : EReal)) = (m ((c : Thread nD τ).loc main_arg5)) := by
  funext j
  blk_ext! [iblk, V, idx t]

/-- The second layer's weight scales. -/
theorem wscales2_blk (c : Dev nD) (t : Fin cfg0.N) :
    (fun j : S7168.Idx => (iblk m c 7 t (ix2 0 (j 0) : S1x7168.Idx) : EReal)) = (m ((c : Thread nD τ).loc main_arg7)) := by
  funext j
  blk_ext! [iblk, V, idx t]

/-- The second layer's biases. -/
theorem biases2_blk (c : Dev nD) (t : Fin cfg0.N) :
    (fun j : S7168.Idx => (iblk m c 8 t (ix2 0 (j 0) : S1x7168.Idx) : EReal)) = (m ((c : Thread nD τ).loc main_arg8)) := by
  funext j
  blk_ext! [iblk, V, idx t]

/-- The layer norm at the point's blocks is that of the arguments. -/
theorem ln_blk (c : Dev nD) (t : Fin cfg0.N) (r : Fin 6144) (k : Fin 12800) :
    ln (iblk m c 0 t) (iblk m c 1 t) (iblk m c 2 t) r k
      = row (m ((c : Thread nD τ).loc main_arg0)) (m ((c : Thread nD τ).loc main_arg1)) (m ((c : Thread nD τ).loc main_arg2)) r k.val := by
  unfold ln row LnQuantMath.norm rstd
  simp only [pixel_blk, gamma_blk, beta_blk]
  rw [avg_eq (pixel (m ((c : Thread nD τ).loc main_arg0)) r),
    avg_eq fun l => (pixel (m ((c : Thread nD τ).loc main_arg0)) r l - mean (pixel (m ((c : Thread nD τ).loc main_arg0)) r))
      * (pixel (m ((c : Thread nD τ).loc main_arg0)) r l - mean (pixel (m ((c : Thread nD τ).loc main_arg0)) r))]
  rfl

/-- The greatest magnitude in a block of the layer norm. -/
theorem max_blk (c : Dev nD) (t : Fin cfg0.N) (r : Fin 6144) (q : Fin 100) :
    (amax fun x => k0_pay2 (F := Ideal) (iblk m c 0 t) (iblk m c 1 t) (iblk m c 2 t) (ix3 r q x))
      = rowMax (row (m ((c : Thread nD τ).loc main_arg0)) (m ((c : Thread nD τ).loc main_arg1)) (m ((c : Thread nD τ).loc main_arg2)) r) q.val := by
  unfold rowMax
  refine congrArg amax (funext fun x => (Norm.pay2_apply _ _ _ r q x).trans ((ln_blk m c t r _).trans (congrArg (row _ _ _ r) ?_)))
  show q.val * 128 + x.val = 128 * q.val + x.val
  omega

/-- The codes the body computes of the layer norm are those of the arguments. -/
theorem hCodes_blk (c : Dev nD) (t : Fin cfg0.N) :
    (k0_pay4 (F := Ideal) (k0_pay2 (iblk m c 0 t) (iblk m c 1 t) (iblk m c 2 t)) (k0_pay3 (iblk m c 0 t) (iblk m c 1 t) (iblk m c 2 t)) : S6144x12800.Idx → EReal) = hCodes m c := by
  funext y
  have hy1 : (y 1).val < 12800 := (y 1).isLt
  refine (Norm.codes_apply _ _ _ y).trans ?_
  unfold hCodes outCodes
  refine congrArg₂ code (max_blk m c t (y 0) _) ?_
  refine (Norm.pay2_apply _ _ _ (y 0) _ _).trans ((ln_blk m c t (y 0) _).trans (congrArg (row _ _ _ (y 0)) ?_))
  show (y 1).val / 128 * 128 + (y 1).val % 128 = (y 1).val
  omega

/-- The scales the body computes of the layer norm are those of the arguments. -/
theorem hScales_blk (c : Dev nD) (t : Fin cfg0.N) :
    (k0_pay5 (F := Ideal) (k0_pay3 (iblk m c 0 t) (iblk m c 1 t) (iblk m c 2 t)) : S6144x100.Idx → EReal) = hScales m c := by
  funext y
  refine (Norm.scales_apply _ _ _ y).trans ?_
  unfold hScales outScales
  exact congrArg scale (max_blk m c t (y 0) (y 1))

/-- The codes the body computes of the activation are those of the arguments. -/
theorem gCodes_blk (c : Dev nD) (t : Fin cfg0.N) :
    (gc (k0_pay2 (iblk m c 0 t) (iblk m c 1 t) (iblk m c 2 t)) (k0_pay3 (iblk m c 0 t) (iblk m c 1 t) (iblk m c 2 t)) (iblk m c 3 t) (iblk m c 4 t) (iblk m c 5 t) : S6144x7168.Idx → EReal) = gCodes m c := by
  refine (Layers.gc_eq _ _ _ _ _).trans ?_
  unfold gCodes
  rw [hCodes_blk, hScales_blk, weights1_blk, wscales1_blk, biases1_blk]

/-- The scales the body computes of the activation are those of the arguments. -/
theorem gScales_blk (c : Dev nD) (t : Fin cfg0.N) :
    (gs (k0_pay2 (iblk m c 0 t) (iblk m c 1 t) (iblk m c 2 t)) (k0_pay3 (iblk m c 0 t) (iblk m c 1 t) (iblk m c 2 t)) (iblk m c 3 t) (iblk m c 4 t) (iblk m c 5 t) : S6144x56.Idx → EReal) = gScales m c := by
  refine (Layers.gs_eq _ _ _ _ _).trans ?_
  unfold gScales
  rw [hCodes_blk, hScales_blk, weights1_blk, wscales1_blk, biases1_blk]

/-- The second layer at the point's blocks is that of the arguments. -/
theorem out_blk (c : Dev nD) (t : Fin cfg0.N) :
    (k0_pay1 (gc (k0_pay2 (iblk m c 0 t) (iblk m c 1 t) (iblk m c 2 t)) (k0_pay3 (iblk m c 0 t) (iblk m c 1 t) (iblk m c 2 t)) (iblk m c 3 t) (iblk m c 4 t) (iblk m c 5 t)) (gs (k0_pay2 (iblk m c 0 t) (iblk m c 1 t) (iblk m c 2 t)) (k0_pay3 (iblk m c 0 t) (iblk m c 1 t) (iblk m c 2 t)) (iblk m c 3 t) (iblk m c 4 t) (iblk m c 5 t))
      (iblk m c 6 t) (iblk m c 7 t) (iblk m c 8 t) : S6144x7168.Idx → EReal) = out m c := by
  refine (Layers.out_eq _ _ _ _ _).trans ?_
  unfold out
  rw [gCodes_blk, gScales_blk, weights2_blk, wscales2_blk, biases2_blk]

/-! The five results, whole. -/

/-- Result 2. -/
theorem arr_10 (c : Dev nD) : (dats m 0 c).arrAt 10 cfg0.N = hCodes m c := by
  refine (dats m 0 c).arrAt_eq_of_covers 10 _ (by decide +kernel) fun t hf y => ?_
  blk_simp
  rw [after0_10]
  refine (out_10 _ _ _ _ _ _ _ _ _ y).trans ((congrFun (hCodes_blk m c t) y).trans (congrArg (hCodes m c) ?_))
  blk_ext [idx t]

/-- Result 3. -/
theorem arr_11 (c : Dev nD) : (dats m 0 c).arrAt 11 cfg0.N = hScales m c := by
  refine (dats m 0 c).arrAt_eq_of_covers 11 _ (by decide +kernel) fun t hf y => ?_
  blk_simp
  rw [after0_11]
  refine (out_11 _ _ _ _ _ _ _ _ _ y).trans ((congrFun (hScales_blk m c t) y).trans (congrArg (hScales m c) ?_))
  blk_ext [idx t]

/-- Result 4. -/
theorem arr_12 (c : Dev nD) : (dats m 0 c).arrAt 12 cfg0.N = gCodes m c := by
  refine (dats m 0 c).arrAt_eq_of_covers 12 _ (by decide +kernel) fun t hf y => ?_
  blk_simp
  rw [after0_12]
  refine (out_12 _ _ _ _ _ _ _ _ _ y).trans ((congrFun (gCodes_blk m c t) y).trans (congrArg (gCodes m c) ?_))
  blk_ext [idx t]

/-- Result 5. -/
theorem arr_13 (c : Dev nD) : (dats m 0 c).arrAt 13 cfg0.N = gScales m c := by
  refine (dats m 0 c).arrAt_eq_of_covers 13 _ (by decide +kernel) fun t hf y => ?_
  blk_simp
  rw [after0_13]
  refine (out_13 _ _ _ _ _ _ _ _ _ y).trans ((congrFun (gScales_blk m c t) y).trans (congrArg (gScales m c) ?_))
  blk_ext [idx t]

/-- Result 1. -/
theorem arr_9 (c : Dev nD) : (dats m 0 c).arrAt 9 cfg0.N = out m c := by
  refine (dats m 0 c).arrAt_eq_of_covers 9 _ (by decide +kernel) fun t hf y => ?_
  blk_simp
  rw [after0_9]
  refine (out_9 _ _ _ _ _ _ _ _ _ y).trans ((congrFun (out_blk m c t) y).trans (congrArg (out m c) ?_))
  blk_ext [idx t]

/-- The whole run: the five results are these functions of the arguments, which stay as they were. -/
theorem run : θ_run defs (onTc (τ := τ) (main (F := Ideal))) ⟨m, fun _ => 0, ρ⟩ fun r => ∀ c : Dev nD,
      r.2.mem ((c : Thread nD τ).loc main_v9_0) = out m c
      ∧ r.2.mem ((c : Thread nD τ).loc main_v9_1) = hCodes m c
      ∧ r.2.mem ((c : Thread nD τ).loc main_v9_2) = hScales m c
      ∧ r.2.mem ((c : Thread nD τ).loc main_v9_3) = gCodes m c
      ∧ r.2.mem ((c : Thread nD τ).loc main_v9_4) = gScales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (arr_9 m c), (h c).2.1.trans (arr_10 m c), (h c).2.2.1.trans (arr_11 m c),
    (h c).2.2.2.1.trans (arr_12 m c), (h c).2.2.2.2.1.trans (arr_13 m c), (h c).2.2.2.2.2⟩) (Run.run_blocks m ρ)

end Cert.ReferenceIdeal.Results
-- ==== Proof.LnQuantIdealTile.lean ====
module

public import proofs.«01_k».proof.Proof.Gen.LnQuantIdeal.Value
public import proofs.«01_k».proof.Proof.LnQuantMath

/-!
What one trip of each loop of the layer norm's kernel computes: the pixels it reads, the sums it adds, the normed block, its
codes and its scale.
-/

@[expose] public section

noncomputable section

namespace Cert.LnQuantIdeal.Tile

open Idealize.ShloMosaic Idealize.SL.Sem Cert.LnQuantIdeal Cert.QuantMath Cert.LnQuantMath

/-- Row r of the 32 rows of patches in a block of the image, as a function of the column: column k of 12800 is channel k mod 3200 of
    the pixel at row k / 6400 and column (k / 3200) mod 2 of the patch. -/
def patch (x0 : Vec Ideal S2x2x32x3200 .bf16) (r : Fin 32) (k : ℕ) : EReal :=
  if h : k < 12800 then
    x0 (ix4 ⟨r.val / 16, by omega⟩ ⟨k / 6400, by omega⟩ ⟨2 * (r.val % 16) + k / 3200 % 2, by omega⟩ ⟨k % 3200, by omega⟩)
  else 0

/-- The pixels of parity p in two rows u and w of 32 pixels, the first row's before the second's. -/
def half (p : Fin 2) (u w : Vec Ideal S1x1x32x128 .bf16) (y : S32x128.Idx) : EReal :=
  if h : (y 0).val < 16 then u (ix4 0 0 ⟨2 * (y 0).val + p.val, by omega⟩ (y 1))
  else w (ix4 0 0 ⟨2 * ((y 0).val - 16) + p.val, by have : (y 0).val < 32 := (y 0).isLt; omega⟩ (y 1))

/-- Of two rows of pixels loaded from the block, at 128 channels, those are a block of 128 columns of the rows of patches. -/
theorem half_ld (x0 : Vec Ideal S2x2x32x3200 .bf16) (p : Fin 2) (q k : ℕ) (hq : q < 2) (hk : k < 25) (off off' : Fin 4 → ℕ)
    (inb : ∀ a, off a + ![1, 1, 32, 128] a ≤ S2x2x32x3200.size a) (inb' : ∀ a, off' a + ![1, 1, 32, 128] a ≤ S2x2x32x3200.size a)
    (h : off = ![0, q, 0, 128 * k]) (h' : off' = ![1, q, 0, 128 * k]) (y : S32x128.Idx) (n : ℕ) (hn : n = 6400 * q + 3200 * p.val + (128 * k + (y 1).val)) :
    half p (View.ld x0 (Rect.unit off ![1, 1, 32, 128] inb)) (View.ld x0 (Rect.unit off' ![1, 1, 32, 128] inb')) y = patch x0 (y 0) n := by
  subst h h'
  have hy0 : (y 0).val < 32 := (y 0).isLt
  have hy1 : (y 1).val < 128 := (y 1).isLt
  unfold half patch
  rw [dif_pos (by omega : n < 12800)]
  split_ifs with h
  · refine View.ld_unit_apply_of _ _ _ _ _ _ fun a => ?_
    match a with
    | ⟨0, _⟩ => show (y 0).val / 16 = 0 + 0; omega
    | ⟨1, _⟩ => show n / 6400 = q + 0; omega
    | ⟨2, _⟩ => show 2 * ((y 0).val % 16) + n / 3200 % 2 = 0 + (2 * (y 0).val + p.val); omega
    | ⟨3, _⟩ => show n % 3200 = 128 * k + (y 1).val; omega
  · refine View.ld_unit_apply_of _ _ _ _ _ _ fun a => ?_
    match a with
    | ⟨0, _⟩ => show (y 0).val / 16 = 1 + 0; omega
    | ⟨1, _⟩ => show n / 6400 = q + 0; omega
    | ⟨2, _⟩ => show 2 * ((y 0).val % 16) + n / 3200 % 2 = 0 + (2 * ((y 0).val - 16) + p.val); omega
    | ⟨3, _⟩ => show n % 3200 = 128 * k + (y 1).val; omega

/-- What a trip of the first loop carries on. -/
theorem sum_apply (acc : FVec Ideal S32x128 .f32) (a b c d : Vec Ideal S1x1x32x128 .bf16) (y : S32x128.Idx) :
    Gen.k0_pay2 acc a b c d y = (acc y : EReal) + (half 0 a b y + half 1 a b y) + (half 0 c d y + half 1 c d y) := by
  unfold Gen.k0_pay2 half
  pointwise

/-- The kernel's named factor. -/
theorem named_invK : Named.named (F := Ideal) (φ := .f32) κ "inv_k" 0x38A3D70A#32 = invK :=
  IdealRules.named_const.ideal_named_scalar _ _ _ _ rfl

/-- The means, from the sums per lane. -/
theorem mean_apply (v : FVec Ideal S32x128 .f32) (z : S32x1.Idx) :
    Gen.k0_pay3 v z = (∑ l : Fin 128, (v (ix2 (z 0) l) : EReal)) * invK := by
  unfold Gen.k0_pay3
  rw [← named_invK]
  pointwise

/-- What a trip of the second loop carries on. -/
theorem var_apply (v2 acc : FVec Ideal S32x128 .f32) (a b c d : Vec Ideal S1x1x32x128 .bf16) (y : S32x128.Idx) :
    Gen.k0_pay4 v2 (Gen.k0_pay9 (Gen.k0_pay3 v2) acc a b) (Gen.k0_pay12 c d) (Gen.k0_pay13 c d) y
      = (acc y : EReal)
        + (half 0 a b y - Gen.k0_pay3 v2 (ix2 (y 0) 0)) * (half 0 a b y - Gen.k0_pay3 v2 (ix2 (y 0) 0))
        + (half 1 a b y - Gen.k0_pay3 v2 (ix2 (y 0) 0)) * (half 1 a b y - Gen.k0_pay3 v2 (ix2 (y 0) 0))
        + (half 0 c d y - Gen.k0_pay3 v2 (ix2 (y 0) 0)) * (half 0 c d y - Gen.k0_pay3 v2 (ix2 (y 0) 0))
        + (half 1 c d y - Gen.k0_pay3 v2 (ix2 (y 0) 0)) * (half 1 c d y - Gen.k0_pay3 v2 (ix2 (y 0) 0)) := by
  unfold Gen.k0_pay4 Gen.k0_pay9 Gen.k0_pay12 Gen.k0_pay13 Gen.k0_pay10 Gen.k0_pay11 half
  generalize Gen.k0_pay3 v2 = m
  pointwise

/-- The reciprocal deviations, from the sums per lane. -/
theorem rstd_apply (v : FVec Ideal S32x128 .f32) (z : S32x1.Idx) :
    Gen.k0_pay5 v z = Ideal.rsqrt ((∑ l : Fin 128, (v (ix2 (z 0) l) : EReal)) * invK + f 0x3727C5AC#32) := by
  unfold Gen.k0_pay5
  rw [← named_invK]
  pointwise

/-- A block of the layer norm of the pixels h of one parity. -/
def normed (m r : FVec Ideal S32x1 .f32) (h : S32x128.Idx → EReal) (g b : Vec Ideal S1x128 .f32) (y : S32x128.Idx) : EReal :=
  (h y - m (ix2 (y 0) 0)) * r (ix2 (y 0) 0) * g (ix2 0 (y 1)) + b (ix2 0 (y 1))

/-- The body's first block of a trip is the layer norm of parity 0 of a row of pixels. -/
theorem normed_0 (m r : FVec Ideal S32x1 .f32) (a b : Vec Ideal S1x1x32x128 .bf16) (g e : Vec Ideal S1x128 .f32) (y : S32x128.Idx) :
    Gen.k0_pay17 m r a b g e y = normed m r (half 0 a b) g e y := by
  unfold Gen.k0_pay17 Gen.k0_pay14 Gen.k0_pay15 normed half
  pointwise

/-- The body's second block of a trip is the layer norm of parity 1 of a row of pixels. -/
theorem normed_1 (m r : FVec Ideal S32x1 .f32) (a b : Vec Ideal S1x1x32x128 .bf16) (g e : Vec Ideal S1x128 .f32) (y : S32x128.Idx) :
    Gen.k0_pay24 m r (Gen.k0_pay16 a b) g e y = normed m r (half 1 a b) g e y := by
  unfold Gen.k0_pay24 Gen.k0_pay16 Gen.k0_pay14 Gen.k0_pay15 normed half
  pointwise

/-- The body's third block of a trip is the layer norm of parity 0 of a row of pixels. -/
theorem normed_2 (m r : FVec Ideal S32x1 .f32) (a b : Vec Ideal S1x1x32x128 .bf16) (g e : Vec Ideal S1x128 .f32) (y : S32x128.Idx) :
    Gen.k0_pay35 m r (Gen.k0_pay33 a b) g e y = normed m r (half 0 a b) g e y := by
  unfold Gen.k0_pay35 Gen.k0_pay33 Gen.k0_pay29 Gen.k0_pay31 normed half
  pointwise

/-- The body's fourth block of a trip is the layer norm of parity 1 of a row of pixels. -/
theorem normed_3 (m r : FVec Ideal S32x1 .f32) (a b : Vec Ideal S1x1x32x128 .bf16) (g e : Vec Ideal S1x128 .f32) (y : S32x128.Idx) :
    Gen.k0_pay42 m r (Gen.k0_pay34 (Gen.k0_pay30 a) (Gen.k0_pay32 b)) g e y = normed m r (half 1 a b) g e y := by
  unfold Gen.k0_pay42 Gen.k0_pay34 Gen.k0_pay30 Gen.k0_pay32 Gen.k0_pay29 Gen.k0_pay31 normed half
  pointwise

/-- The greatest magnitudes of the rows of a block. -/
abbrev blockMax (v : FVec Ideal S32x128 .f32) (r : Fin 32) : EReal := amax fun l => v (ix2 r l)

/-- The codes that the body makes of the first block. -/
theorem codes_0 (m r : FVec Ideal S32x1 .f32) (a b : Vec Ideal S1x1x32x128 .bf16) (g e : Vec Ideal S1x128 .f32) (y : S32x128.Idx) :
    (Gen.k0_pay22 (Gen.k0_pay17 m r a b g e) (Gen.k0_pay19 m r a b g e) (Gen.k0_pay20 m r a b g e) y : EReal)
      = code (blockMax (Gen.k0_pay17 m r a b g e) (y 0)) (Gen.k0_pay17 m r a b g e y) := by
  unfold code blockMax amax
  rw [← expo_eq]
  unfold Gen.k0_pay22 Gen.k0_pay21 Gen.k0_pay19 Gen.k0_pay20 Gen.k0_pay18
  generalize Gen.k0_pay17 m r a b g e = v
  pointwise
  rfl

/-- The codes that the body makes of the second block. -/
theorem codes_1 (m r : FVec Ideal S32x1 .f32) (h : FVec Ideal S32x128 .f32) (g e : Vec Ideal S1x128 .f32) (y : S32x128.Idx) :
    (Gen.k0_pay27 (Gen.k0_pay24 m r h g e) (Gen.k0_pay25 m r h g e) (FloatOps.ofBits .f32 0x3B124925#32) y : EReal)
      = code (blockMax (Gen.k0_pay24 m r h g e) (y 0)) (Gen.k0_pay24 m r h g e y) := by
  unfold code blockMax amax
  rw [← expo_eq]
  unfold Gen.k0_pay27 Gen.k0_pay26 Gen.k0_pay25
  generalize Gen.k0_pay24 m r h g e = v
  pointwise
  rfl

/-- The codes that the body makes of the third block. -/
theorem codes_2 (m r : FVec Ideal S32x1 .f32) (h : FVec Ideal S32x128 .bf16) (g e : Vec Ideal S1x128 .f32) (y : S32x128.Idx) :
    (Gen.k0_pay40 (Gen.k0_pay38 m r h g e) (FloatOps.ofBits .f32 0x43E00000#32) (Gen.k0_pay39 (F := Ideal)) y : EReal)
      = code (blockMax (Gen.k0_pay35 m r h g e) (y 0)) (Gen.k0_pay35 m r h g e y) := by
  unfold code blockMax amax
  rw [← expo_eq]
  unfold Gen.k0_pay40 Gen.k0_pay38 Gen.k0_pay39 Gen.k0_pay36
  generalize Gen.k0_pay35 m r h g e = v
  pointwise
  rfl

/-- The codes that the body makes of the fourth block. -/
theorem codes_3 (m r : FVec Ideal S32x1 .f32) (h : FVec Ideal S32x128 .f32) (g e : Vec Ideal S1x128 .f32) (y : S32x128.Idx) :
    (Gen.k0_pay6 (Gen.k0_pay42 m r h g e) (Gen.k0_pay45 m r h g e) y : EReal)
      = code (blockMax (Gen.k0_pay42 m r h g e) (y 0)) (Gen.k0_pay42 m r h g e y) := by
  unfold code blockMax amax
  rw [← expo_eq]
  unfold Gen.k0_pay6 Gen.k0_pay45 Gen.k0_pay43
  generalize Gen.k0_pay42 m r h g e = v
  pointwise
  rfl

/-- A lane's number against a block's, as words. -/
theorem lane_eq (n : ℕ) (hn : n < 128) (b : BitVec 32) (u v : EReal) :
    Scalar.select (IntOp.cmpi .eq (BitVec.ofNat 32 n) b) u v = if n = b.toNat then u else v := by
  by_cases h : n = b.toNat
  · rw [if_pos h, h]
    simp [Scalar.select, IntOp.cmpi]
  · rw [if_neg h]
    have h2 : BitVec.ofNat 32 n ≠ b := fun hh => h (by
      have := congrArg BitVec.toNat hh
      simp only [BitVec.toNat_ofNat] at this
      omega)
    have h3 : (BitVec.ofNat 32 n == b) = false := beq_eq_false_iff_ne.mpr h2
    simp only [Scalar.select, IntOp.cmpi, h3]
    rfl

/-- The scales so far with one column put in: its lane takes the column, the other lanes are as before. -/
def put (acc : S32x128.Idx → EReal) (b : BitVec 32) (s : FVec Ideal S32x1 .f32) (y : S32x128.Idx) : EReal :=
  if (y 1).val = b.toNat then s (ix2 (y 0) 0) else acc y

/-- The lanes' numbers. -/
abbrev lanes : IVec S32x128 32 := iota .tc S32x128 32 [1] Gen.iota_S32x128_d1_w32

/-- The body puts the first block's scale s in lane b. -/
theorem put_0 (acc : FVec Ideal S32x128 .f32) (b : BitVec 32) (u : IVec S32x1 1) (w : FVec Ideal S32x1 .f32) (y : S32x128.Idx) :
    Gen.k0_pay23 lanes acc b u w y = put acc b (exp2 (Gen.k0_pay21 u w)) y := by
  unfold Gen.k0_pay23
  generalize Gen.k0_pay21 u w = s
  pointwise
  exact lane_eq _ (y 1).isLt _ _ _

/-- The body puts the second block's scale s in lane b. -/
theorem put_1 (acc : FVec Ideal S32x128 .f32) (b : BitVec 32) (w : FVec Ideal S32x1 .f32) (e : Ideal .f32) (y : S32x128.Idx) :
    Gen.k0_pay28 lanes acc b w e y = put acc b (exp2 (Gen.k0_pay26 w e)) y := by
  unfold Gen.k0_pay28
  generalize Gen.k0_pay26 w e = s
  pointwise
  exact lane_eq _ (y 1).isLt _ _ _

/-- The body puts the third block's scale s in lane b. -/
theorem put_2 (acc : FVec Ideal S32x128 .f32) (b : BitVec 32) (s : FVec Ideal S32x1 .f32) (y : S32x128.Idx) :
    Gen.k0_pay41 lanes acc b s y = put acc b s y := by
  unfold Gen.k0_pay41
  pointwise
  exact lane_eq _ (y 1).isLt _ _ _

/-- The body puts the fourth block's scale s in lane b. -/
theorem put_3 (acc : FVec Ideal S32x128 .f32) (b : BitVec 32) (s : FVec Ideal S32x1 .f32) (y : S32x128.Idx) :
    Gen.k0_pay7 acc b s y = put acc b s y := by
  unfold Gen.k0_pay7
  pointwise
  exact lane_eq _ (y 1).isLt _ _ _

/-- The scale that the body makes of the first block. -/
theorem scale_0 (m r : FVec Ideal S32x1 .f32) (a b : Vec Ideal S1x1x32x128 .bf16) (g e : Vec Ideal S1x128 .f32) (z : S32x1.Idx) :
    (exp2 (Gen.k0_pay21 (Gen.k0_pay19 m r a b g e) (Gen.k0_pay20 m r a b g e)) z : EReal) = scale (blockMax (Gen.k0_pay17 m r a b g e) (z 0)) := by
  unfold scale blockMax amax
  rw [← expo_eq]
  unfold Gen.k0_pay21 Gen.k0_pay19 Gen.k0_pay20 Gen.k0_pay18
  generalize Gen.k0_pay17 m r a b g e = v
  pointwise
  rfl

/-- The scale that the body makes of the second block. -/
theorem scale_1 (m r : FVec Ideal S32x1 .f32) (h : FVec Ideal S32x128 .f32) (g e : Vec Ideal S1x128 .f32) (z : S32x1.Idx) :
    (exp2 (Gen.k0_pay26 (Gen.k0_pay25 m r h g e) (FloatOps.ofBits .f32 0x3B124925#32)) z : EReal) = scale (blockMax (Gen.k0_pay24 m r h g e) (z 0)) := by
  unfold scale blockMax amax
  rw [← expo_eq]
  unfold Gen.k0_pay26 Gen.k0_pay25
  generalize Gen.k0_pay24 m r h g e = v
  pointwise
  rfl

/-- The scale that the body makes of the third block. -/
theorem scale_2 (m r : FVec Ideal S32x1 .f32) (h : FVec Ideal S32x128 .bf16) (g e : Vec Ideal S1x128 .f32) (z : S32x1.Idx) :
    (Gen.k0_pay37 m r h g e z : EReal) = scale (blockMax (Gen.k0_pay35 m r h g e) (z 0)) := by
  unfold scale blockMax amax
  rw [← expo_eq]
  unfold Gen.k0_pay37 Gen.k0_pay36
  generalize Gen.k0_pay35 m r h g e = v
  pointwise
  rfl

/-- The scale that the body makes of the fourth block. -/
theorem scale_3 (m r : FVec Ideal S32x1 .f32) (h : FVec Ideal S32x128 .f32) (g e : Vec Ideal S1x128 .f32) (z : S32x1.Idx) :
    (Gen.k0_pay44 m r h g e z : EReal) = scale (blockMax (Gen.k0_pay42 m r h g e) (z 0)) := by
  unfold scale blockMax amax
  rw [← expo_eq]
  unfold Gen.k0_pay44 Gen.k0_pay43
  generalize Gen.k0_pay42 m r h g e = v
  pointwise
  rfl

end Cert.LnQuantIdeal.Tile
-- ==== Proof.LnQuantIdealLoops.lean ====
module

public import proofs.«01_k».proof.Proof.LnQuantIdealTile

/-!
The three loops of the layer norm's kernel: what a trip adds or stores and, for the two loops of sums, what they carry.
-/

@[expose] public section

noncomputable section

namespace Cert.LnQuantIdeal.Tile

open Idealize.ShloMosaic Idealize.SL.Sem Cert.LnQuantIdeal Cert.QuantMath Cert.LnQuantMath

/-- The first loop has 25 trips. -/
theorem trips_1 : k0_t1_loop.trips = 25 := by decide +kernel

/-- The second loop has 25 trips. -/
theorem trips_2 : k0_t2_loop.trips = 25 := by decide +kernel

/-- The third loop has 25 trips. -/
theorem trips_3 : k0_t3_loop.trips = 25 := by decide +kernel

section trips

variable (𝒱 : Variants) (bd : Option 𝒱.V) (c : Dev nD) (i : grid0.Coords)
  (arg1 : Memref sig .tc .vmem S2x2x32x3200 .bf16) (harg1 : arg1.IsWhole)
  (arg2 : Memref sig .tc .vmem S1x12800 .f32) (harg2 : arg2.IsWhole)
  (arg3 : Memref sig .tc .vmem S1x12800 .f32) (harg3 : arg3.IsWhole)
  (arg4 : Memref sig .tc .vmem S32x12800 .fp8e4m3) (harg4 : arg4.IsWhole)
  (arg5 : Memref sig .tc .vmem S32x100 .f32) (harg5 : arg5.IsWhole)

/-- A trip of the first loop adds its four columns' pixels to each lane. -/
theorem trip_1 (x0 : Vec Ideal S2x2x32x3200 .bf16) (k : Fin k0_t1_loop.trips) (acc : FVec Ideal S32x128 .f32) (y : S32x128.Idx) :
    Gen.tripR_k0_t1 (F := Ideal) 𝒱 c bd i arg1 harg1 arg2 harg2 arg3 harg3 arg4 harg4 arg5 harg5 (harg1.unread x0) k acc y
      = (acc y : EReal) + four (patch x0 (y 0)) (128 * k.val + (y 1).val) := by
  have hk : k.val < 25 := lt_of_lt_of_eq k.isLt trips_1
  unfold Gen.tripR_k0_t1 Gen.trip_k0_t1
  dsimp only
  simp only [View.readAt_eq_ld, Memref.IsWhole.read_unread]
  refine (sum_apply _ _ _ _ _ y).trans ?_
  rw [half_ld x0 0 0 k.val (by omega) hk _ _ _ _ (Gen.k0_off1_eq k) (Gen.k0_off2_eq k) y (128 * k.val + (y 1).val) (by simp),
    half_ld x0 1 0 k.val (by omega) hk _ _ _ _ (Gen.k0_off1_eq k) (Gen.k0_off2_eq k) y (3200 + (128 * k.val + (y 1).val)) (by simp),
    half_ld x0 0 1 k.val (by omega) hk _ _ _ _ (Gen.k0_off3_eq k) (Gen.k0_off4_eq k) y (6400 + (128 * k.val + (y 1).val)) (by simp),
    half_ld x0 1 1 k.val (by omega) hk _ _ _ _ (Gen.k0_off3_eq k) (Gen.k0_off4_eq k) y (9600 + (128 * k.val + (y 1).val)) (by simp), add_assoc]
  rfl

/-- The first loop's carried sums before trip n. -/
theorem state_1 (x0 : Vec Ideal S2x2x32x3200 .bf16) (n : ℕ) (hn : n ≤ 25) (y : S32x128.Idx) :
    Gen.st_k0_t1 (F := Ideal) 𝒱 c bd i arg1 harg1 arg2 harg2 arg3 harg3 arg4 harg4 arg5 harg5 (harg1.unread x0) Gen.k0_pay1 n y
      = ∑ k ∈ Finset.range n, four (patch x0 (y 0)) (128 * k + (y 1).val) := by
  induction n with
  | zero =>
    rw [Finset.sum_range_zero, Gen.st_k0_t1_zero]
    unfold Gen.k0_pay1
    pointwise
  | succ n ih =>
    rw [Gen.st_k0_t1_succ 𝒱 c bd i arg1 harg1 arg2 harg2 arg3 harg3 arg4 harg4 arg5 harg5 (harg1.unread x0) Gen.k0_pay1 ⟨n, by rw [trips_1]; omega⟩, Finset.sum_range_succ, ← ih (by omega)]
    exact trip_1 𝒱 bd c i arg1 harg1 arg2 harg2 arg3 harg3 arg4 harg4 arg5 harg5 x0 ⟨n, _⟩ _ y

/-- A trip of the second loop adds its four columns' squared distances from the mean to each lane. -/
theorem trip_2 (x0 : Vec Ideal S2x2x32x3200 .bf16) (v2 : FVec Ideal S32x128 .f32) (k : Fin k0_t2_loop.trips) (acc : FVec Ideal S32x128 .f32) (y : S32x128.Idx) :
    Gen.tripR_k0_t2 (F := Ideal) 𝒱 c bd i arg1 harg1 arg2 harg2 arg3 harg3 arg4 harg4 arg5 harg5 v2 (harg1.unread x0) k acc y
      = (acc y : EReal) + four (fun n => (patch x0 (y 0) n - Gen.k0_pay3 v2 (ix2 (y 0) 0)) * (patch x0 (y 0) n - Gen.k0_pay3 v2 (ix2 (y 0) 0)))
          (128 * k.val + (y 1).val) := by
  have hk : k.val < 25 := lt_of_lt_of_eq k.isLt trips_2
  obtain ⟨X, hX⟩ : ∃ X, harg1.unread x0 = X := ⟨_, rfl⟩
  have e : x0 = View.read (Elt Ideal) arg1.view X := by rw [← hX, Memref.IsWhole.read_unread]
  rw [hX]
  unfold Gen.tripR_k0_t2 Gen.trip_k0_t2
  refine (var_apply v2 acc (View.ld (View.read (Elt Ideal) arg1.view X) (Rect.unit (k0_off5 k) ![1, 1, 32, 128] (Gen.k0_off5_inb k)))
    (View.ld (View.read (Elt Ideal) arg1.view X) (Rect.unit (k0_off6 k) ![1, 1, 32, 128] (Gen.k0_off6_inb k)))
    (View.ld (View.read (Elt Ideal) arg1.view X) (Rect.unit (k0_off7 k) ![1, 1, 32, 128] (Gen.k0_off7_inb k)))
    (View.ld (View.read (Elt Ideal) arg1.view X) (Rect.unit (k0_off8 k) ![1, 1, 32, 128] (Gen.k0_off8_inb k))) y).trans ?_
  rw [← e, half_ld x0 0 0 k.val (by omega) hk _ _ _ _ (Gen.k0_off5_eq k) (Gen.k0_off6_eq k) y (128 * k.val + (y 1).val) (by simp),
    half_ld x0 1 0 k.val (by omega) hk _ _ _ _ (Gen.k0_off5_eq k) (Gen.k0_off6_eq k) y (3200 + (128 * k.val + (y 1).val)) (by simp),
    half_ld x0 0 1 k.val (by omega) hk _ _ _ _ (Gen.k0_off7_eq k) (Gen.k0_off8_eq k) y (6400 + (128 * k.val + (y 1).val)) (by simp),
    half_ld x0 1 1 k.val (by omega) hk _ _ _ _ (Gen.k0_off7_eq k) (Gen.k0_off8_eq k) y (9600 + (128 * k.val + (y 1).val)) (by simp),
    add_assoc, add_assoc, add_assoc, ← add_assoc (_ * _) (_ * _) (_ + _)]
  rfl

/-- The second loop's carried sums before trip n. -/
theorem state_2 (x0 : Vec Ideal S2x2x32x3200 .bf16) (v2 : FVec Ideal S32x128 .f32) (n : ℕ) (hn : n ≤ 25) (y : S32x128.Idx) :
    Gen.st_k0_t2 (F := Ideal) 𝒱 c bd i arg1 harg1 arg2 harg2 arg3 harg3 arg4 harg4 arg5 harg5 v2 (harg1.unread x0) Gen.k0_pay1 n y
      = ∑ k ∈ Finset.range n, four (fun n => (patch x0 (y 0) n - Gen.k0_pay3 v2 (ix2 (y 0) 0)) * (patch x0 (y 0) n - Gen.k0_pay3 v2 (ix2 (y 0) 0)))
          (128 * k + (y 1).val) := by
  induction n with
  | zero =>
    rw [Finset.sum_range_zero, Gen.st_k0_t2_zero]
    unfold Gen.k0_pay1
    pointwise
  | succ n ih =>
    rw [Gen.st_k0_t2_succ 𝒱 c bd i arg1 harg1 arg2 harg2 arg3 harg3 arg4 harg4 arg5 harg5 v2 (harg1.unread x0) Gen.k0_pay1 ⟨n, by rw [trips_2]; omega⟩, Finset.sum_range_succ, ← ih (by omega)]
    exact trip_2 𝒱 bd c i arg1 harg1 arg2 harg2 arg3 harg3 arg4 harg4 arg5 harg5 x0 v2 ⟨n, _⟩ _ y

/-- After the first loop the means are the rows' means. -/
theorem mean_eq (x0 : Vec Ideal S2x2x32x3200 .bf16) (z : S32x1.Idx) :
    Gen.k0_pay3 (Gen.st_k0_t1 (F := Ideal) 𝒱 c bd i arg1 harg1 arg2 harg2 arg3 harg3 arg4 harg4 arg5 harg5 (harg1.unread x0) Gen.k0_pay1 25) z = mean (patch x0 (z 0)) := by
  refine (mean_apply _ z).trans ?_
  unfold mean
  rw [← sum_lanes]
  exact congrArg (fun u : EReal => u * invK) (Finset.sum_congr rfl fun l _ => state_1 𝒱 bd c i arg1 harg1 arg2 harg2 arg3 harg3 arg4 harg4 arg5 harg5 x0 25 le_rfl (ix2 (z 0) l))

/-- After the second loop, with the rows' means, the deviations are the rows' deviations. -/
theorem rstd_eq (x0 : Vec Ideal S2x2x32x3200 .bf16) (v2 : FVec Ideal S32x128 .f32) (hm : ∀ r, Gen.k0_pay3 v2 (ix2 r 0) = mean (patch x0 r)) (z : S32x1.Idx) :
    Gen.k0_pay5 (Gen.st_k0_t2 (F := Ideal) 𝒱 c bd i arg1 harg1 arg2 harg2 arg3 harg3 arg4 harg4 arg5 harg5 v2 (harg1.unread x0) Gen.k0_pay1 25) z = rstd (patch x0 (z 0)) := by
  refine (rstd_apply _ z).trans ?_
  unfold rstd
  rw [← sum_lanes]
  exact congrArg (fun u : EReal => Ideal.rsqrt (u * invK + f 0x3727C5AC#32))
    (Finset.sum_congr rfl fun l _ => (state_2 𝒱 bd c i arg1 harg1 arg2 harg2 arg3 harg3 arg4 harg4 arg5 harg5 x0 v2 25 le_rfl (ix2 (z 0) l)).trans
      (congrArg (fun m : EReal => ∑ n ∈ Finset.range 25, four (fun k => (patch x0 (z 0) k - m) * (patch x0 (z 0) k - m)) (128 * n + l.val)) (hm (z 0))))

end trips

/-- The entries of a row of parameters, as a function of the column. -/
def entry (x : Vec Ideal S1x12800 .f32) (k : ℕ) : EReal := if h : k < 12800 then x (ix2 0 ⟨k, h⟩) else 0

/-- The layer norm of row r of the patches. -/
def ln (x0 : Vec Ideal S2x2x32x3200 .bf16) (x1 : Vec Ideal S1x12800 .f32) (x2 : Vec Ideal S1x12800 .f32) (r : Fin 32) : ℕ → EReal := LnQuantMath.norm (patch x0 r) (entry x1) (entry x2)

/-- Of 128 columns of a row of parameters, lane l is column n. -/
theorem entry_ld (x : Vec Ideal S1x12800 .f32) (off : Fin 2 → ℕ) (inb : ∀ a, off a + ![1, 128] a ≤ S1x12800.size a) (j : ℕ) (h : off = ![0, j])
    (l : Fin 128) (n : ℕ) (hn : n = j + l.val) : (View.ld x (Rect.unit off ![1, 128] inb) (ix2 0 l) : EReal) = entry x n := by
  subst h
  have hb : j + 128 ≤ 12800 := inb 1
  unfold entry
  rw [dif_pos (by omega : n < 12800)]
  refine View.ld_unit_apply_of _ _ _ _ _ _ fun a => ?_
  match a with
  | ⟨0, _⟩ => rfl
  | ⟨1, _⟩ => exact hn

/-- The normed pixels of one parity of two rows of pixels are a block of the layer norm. -/
theorem normed_ld (x0 : Vec Ideal S2x2x32x3200 .bf16) (x1 : Vec Ideal S1x12800 .f32) (x2 : Vec Ideal S1x12800 .f32) (m r : FVec Ideal S32x1 .f32) (hm : ∀ z, m (ix2 z 0) = mean (patch x0 z)) (hr : ∀ z, r (ix2 z 0) = rstd (patch x0 z))
    (p : Fin 2) (q k : ℕ) (hq : q < 2) (hk : k < 25) (off off' : Fin 4 → ℕ)
    (inb : ∀ a, off a + ![1, 1, 32, 128] a ≤ S2x2x32x3200.size a) (inb' : ∀ a, off' a + ![1, 1, 32, 128] a ≤ S2x2x32x3200.size a)
    (h : off = ![0, q, 0, 128 * k]) (h' : off' = ![1, q, 0, 128 * k])
    (o : Fin 2 → ℕ) (ib : ∀ a, o a + ![1, 128] a ≤ S1x12800.size a) (j : ℕ) (hj : j = 2 * q + p.val) (ho : o = ![0, 3200 * j + 128 * k]) (y : S32x128.Idx) :
    normed m r (half p (View.ld x0 (Rect.unit off ![1, 1, 32, 128] inb)) (View.ld x0 (Rect.unit off' ![1, 1, 32, 128] inb')))
      (View.ld x1 (Rect.unit o ![1, 128] ib)) (View.ld x2 (Rect.unit o ![1, 128] ib)) y = ln x0 x1 x2 (y 0) (3200 * j + 128 * k + (y 1).val) := by
  unfold normed ln LnQuantMath.norm
  rw [half_ld x0 p q k hq hk off off' inb inb' h h' y (3200 * j + 128 * k + (y 1).val) (by omega)]
  exact congrArg₂ (fun u v : EReal => u + v) (congrArg₂ (fun u v : EReal => u * v)
      (congrArg₂ (fun u v : EReal => (patch x0 (y 0) (3200 * j + 128 * k + (y 1).val) - u) * v) (hm (y 0)) (hr (y 0))) (entry_ld x1 o ib _ ho (y 1) _ rfl))
    (entry_ld x2 o ib _ ho (y 1) _ rfl)

section trip3

variable (arg1 : Memref sig .tc .vmem S2x2x32x3200 .bf16) (arg2 : Memref sig .tc .vmem S1x12800 .f32)
  (arg3 : Memref sig .tc .vmem S1x12800 .f32) (v2 v8 : FVec Ideal S32x128 .f32)
  (X1 : BufTy.Contents (Elt Ideal) arg1.view.ty) (X2 : BufTy.Contents (Elt Ideal) arg2.view.ty) (X3 : BufTy.Contents (Elt Ideal) arg3.view.ty)
  (k : Fin k0_t3_loop.trips)

/-- The row of pixels that trip k loads at offsets off. -/
abbrev px (off : Fin 4 → ℕ) (inb : ∀ a, off a + ![1, 1, 32, 128] a ≤ S2x2x32x3200.size a) : Vec Ideal S1x1x32x128 .bf16 :=
  View.ld (View.read (Elt Ideal) arg1.view X1) (Rect.unit off ![1, 1, 32, 128] inb)

/-- The parameters that trip k loads for quarter j. -/
abbrev pg (arg : Memref sig .tc .vmem S1x12800 .f32) (X : BufTy.Contents (Elt Ideal) arg.view.ty) (j : Fin 4) : Vec Ideal S1x128 .f32 :=
  View.ld (View.read (Elt Ideal) arg.view X) (Rect.unit (k0_off11 k (BitVec.ofNat 32 (25 * j.val))) ![1, 128] (Gen.k0_off11_inb k j))

/-- The first block of the layer norm that trip k works out. -/
abbrev v_0 : FVec Ideal S32x128 .f32 := Gen.k0_pay17 (Gen.k0_pay3 v2) (Gen.k0_pay5 v8) (px arg1 X1 (k0_off9 k) (Gen.k0_off9_inb k)) (px arg1 X1 (k0_off10 k) (Gen.k0_off10_inb k)) (pg k arg2 X2 0) (pg k arg3 X3 0)
/-- The second block of the layer norm that trip k works out. -/
abbrev v_1 : FVec Ideal S32x128 .f32 := Gen.k0_pay24 (Gen.k0_pay3 v2) (Gen.k0_pay5 v8) (Gen.k0_pay16 (px arg1 X1 (k0_off9 k) (Gen.k0_off9_inb k)) (px arg1 X1 (k0_off10 k) (Gen.k0_off10_inb k))) (pg k arg2 X2 1) (pg k arg3 X3 1)
/-- The third block of the layer norm that trip k works out. -/
abbrev v_2 : FVec Ideal S32x128 .f32 := Gen.k0_pay35 (Gen.k0_pay3 v2) (Gen.k0_pay5 v8) (Gen.k0_pay33 (px arg1 X1 (k0_off13 k) (Gen.k0_off13_inb k)) (px arg1 X1 (k0_off14 k) (Gen.k0_off14_inb k))) (pg k arg2 X2 2) (pg k arg3 X3 2)
/-- The fourth block of the layer norm that trip k works out. -/
abbrev v_3 : FVec Ideal S32x128 .f32 := Gen.k0_pay42 (Gen.k0_pay3 v2) (Gen.k0_pay5 v8) (Gen.k0_pay34 (Gen.k0_pay30 (px arg1 X1 (k0_off13 k) (Gen.k0_off13_inb k))) (Gen.k0_pay32 (px arg1 X1 (k0_off14 k) (Gen.k0_off14_inb k)))) (pg k arg2 X2 3) (pg k arg3 X3 3)

/-- The first word that trip k stores: the codes of its first block. -/
theorem word_0 (x : S32x128.Idx) : (Gen.trip_k0_t3.sl.v81 arg1 arg2 arg3 v2 v8 X1 X2 X3 k x : EReal)
    = code (blockMax (v_0 arg1 arg2 arg3 v2 v8 X1 X2 X3 k) (x 0)) (v_0 arg1 arg2 arg3 v2 v8 X1 X2 X3 k x) :=
  (show _ = _ from rfl).trans (codes_0 (Gen.k0_pay3 v2) (Gen.k0_pay5 v8) _ _ _ _ x)

/-- The second word that trip k stores: the codes of its second block. -/
theorem word_1 (x : S32x128.Idx) : (Gen.trip_k0_t3.sl.v132 arg1 arg2 arg3 v2 v8 X1 X2 X3 k x : EReal)
    = code (blockMax (v_1 arg1 arg2 arg3 v2 v8 X1 X2 X3 k) (x 0)) (v_1 arg1 arg2 arg3 v2 v8 X1 X2 X3 k x) :=
  (show _ = _ from rfl).trans (codes_1 (Gen.k0_pay3 v2) (Gen.k0_pay5 v8) _ _ _ x)

/-- The third word that trip k stores: the codes of its third block. -/
theorem word_2 (x : S32x128.Idx) : (Gen.trip_k0_t3.sl.v200 arg1 arg2 arg3 v2 v8 X1 X2 X3 k x : EReal)
    = code (blockMax (v_2 arg1 arg2 arg3 v2 v8 X1 X2 X3 k) (x 0)) (v_2 arg1 arg2 arg3 v2 v8 X1 X2 X3 k x) :=
  (show _ = _ from rfl).trans (codes_2 (Gen.k0_pay3 v2) (Gen.k0_pay5 v8) _ _ _ x)

/-- The fourth word that trip k stores: the codes of its fourth block. -/
theorem word_3 (x : S32x128.Idx) : (Gen.k0_pay6 (Gen.trip_k0_t3.sl.v224 arg1 arg2 arg3 v2 v8 X1 X2 X3 k) (Gen.trip_k0_t3.sl.v243 arg1 arg2 arg3 v2 v8 X1 X2 X3 k) x : EReal)
    = code (blockMax (v_3 arg1 arg2 arg3 v2 v8 X1 X2 X3 k) (x 0)) (v_3 arg1 arg2 arg3 v2 v8 X1 X2 X3 k x) :=
  (show _ = _ from rfl).trans (codes_3 (Gen.k0_pay3 v2) (Gen.k0_pay5 v8) _ _ _ x)

end trip3

end Cert.LnQuantIdeal.Tile
-- ==== Proof.LnQuantIdealPoint.lean ====
module

public import proofs.«01_k».proof.Proof.LnQuantIdealLoops

@[expose] public section

/-! What one grid point of the layer norm kernel leaves in its two output blocks: the third loop's trips, and from them
the codes and the scales of 32 rows of the layer norm. -/

noncomputable section

namespace Cert.LnQuantIdeal.Tile

open Idealize.ShloMosaic Idealize.SL.Sem Cert.LnQuantIdeal Cert.QuantMath Cert.LnQuantMath

/-- The codes of 32 rows: each entry over its block's scale. -/
def codesOf (x0 : Vec Ideal S2x2x32x3200 .bf16) (x1 x2 : Vec Ideal S1x12800 .f32) (y : S32x12800.Idx) : EReal :=
  code (rowMax (ln x0 x1 x2 (y 0)) ((y 1).val / 128)) (ln x0 x1 x2 (y 0) (y 1).val)

/-- The scale of block q of row r. -/
def scaleOf (x0 : Vec Ideal S2x2x32x3200 .bf16) (x1 x2 : Vec Ideal S1x12800 .f32) (r : Fin 32) (q : ℕ) : EReal :=
  scale (rowMax (ln x0 x1 x2 r) q)

section trip3

variable (𝒱 : Variants) (bd : Option 𝒱.V) (c : Dev nD) (i : grid0.Coords)
  (arg1 : Memref sig .tc .vmem S2x2x32x3200 .bf16) (harg1 : arg1.IsWhole)
  (arg2 : Memref sig .tc .vmem S1x12800 .f32) (harg2 : arg2.IsWhole)
  (arg3 : Memref sig .tc .vmem S1x12800 .f32) (harg3 : arg3.IsWhole)
  (arg4 : Memref sig .tc .vmem S32x12800 .fp8e4m3) (harg4 : arg4.IsWhole)
  (arg5 : Memref sig .tc .vmem S32x100 .f32) (harg5 : arg5.IsWhole)
  (v2 v8 : FVec Ideal S32x128 .f32)
  (X1 : BufTy.Contents (Elt Ideal) arg1.view.ty) (X2 : BufTy.Contents (Elt Ideal) arg2.view.ty) (X3 : BufTy.Contents (Elt Ideal) arg3.view.ty)
  (x0 : Vec Ideal S2x2x32x3200 .bf16) (x1 x2 : Vec Ideal S1x12800 .f32)
  (e1 : View.read (Elt Ideal) arg1.view X1 = x0) (e2 : View.read (Elt Ideal) arg2.view X2 = x1) (e3 : View.read (Elt Ideal) arg3.view X3 = x2)
  (hm : ∀ r, Gen.k0_pay3 v2 (ix2 r 0) = mean (patch x0 r)) (hr : ∀ r, Gen.k0_pay5 v8 (ix2 r 0) = rstd (patch x0 r))
  (k : Fin k0_t3_loop.trips)

/-- A trip's number is under 25. -/
theorem lt_25 (k : Fin k0_t3_loop.trips) : k.val < 25 := lt_of_lt_of_eq k.isLt trips_3

include e1 e2 e3 hm hr

/-- Block 0 of trip k is columns 128 k to 128 k + 127 of the layer norm. -/
theorem v_0_apply (y : S32x128.Idx) :
    v_0 arg1 arg2 arg3 v2 v8 X1 X2 X3 k y = ln x0 x1 x2 (y 0) (3200 * 0 + 128 * k.val + (y 1).val) := by
  subst e1 e2 e3
  exact (normed_0 _ _ _ _ _ _ y).trans (normed_ld _ _ _ _ _ hm hr 0 0 k.val (by omega) (lt_25 k) _ _ _ _ (Gen.k0_off9_eq k) (Gen.k0_off10_eq k)
    _ _ 0 rfl (Gen.k0_off11_eq k 0) y)

/-- Block 1 of trip k is columns 3200 + 128 k on. -/
theorem v_1_apply (y : S32x128.Idx) :
    v_1 arg1 arg2 arg3 v2 v8 X1 X2 X3 k y = ln x0 x1 x2 (y 0) (3200 * 1 + 128 * k.val + (y 1).val) := by
  subst e1 e2 e3
  exact (normed_1 _ _ _ _ _ _ y).trans (normed_ld _ _ _ _ _ hm hr 1 0 k.val (by omega) (lt_25 k) _ _ _ _ (Gen.k0_off9_eq k) (Gen.k0_off10_eq k)
    _ _ 1 rfl (Gen.k0_off11_eq k 1) y)

/-- Block 2 of trip k is columns 6400 + 128 k on. -/
theorem v_2_apply (y : S32x128.Idx) :
    v_2 arg1 arg2 arg3 v2 v8 X1 X2 X3 k y = ln x0 x1 x2 (y 0) (3200 * 2 + 128 * k.val + (y 1).val) := by
  subst e1 e2 e3
  exact (normed_2 _ _ _ _ _ _ y).trans (normed_ld _ _ _ _ _ hm hr 0 1 k.val (by omega) (lt_25 k) _ _ _ _ (Gen.k0_off13_eq k) (Gen.k0_off14_eq k)
    _ _ 2 rfl (Gen.k0_off11_eq k 2) y)

/-- Block 3 of trip k is columns 9600 + 128 k on. -/
theorem v_3_apply (y : S32x128.Idx) :
    v_3 arg1 arg2 arg3 v2 v8 X1 X2 X3 k y = ln x0 x1 x2 (y 0) (3200 * 3 + 128 * k.val + (y 1).val) := by
  subst e1 e2 e3
  exact (normed_3 _ _ _ _ _ _ y).trans (normed_ld _ _ _ _ _ hm hr 1 1 k.val (by omega) (lt_25 k) _ _ _ _ (Gen.k0_off13_eq k) (Gen.k0_off14_eq k)
    _ _ 3 rfl (Gen.k0_off11_eq k 3) y)

omit e1 e2 e3 hm hr in
/-- A block of lanes that holds columns 3200 j + 128 k on has the largest magnitude of block 25 j + k. -/
theorem blockMax_eq (v : FVec Ideal S32x128 .f32) (j : ℕ)
    (h : ∀ y : S32x128.Idx, v y = ln x0 x1 x2 (y 0) (3200 * j + 128 * k.val + (y 1).val)) (r : Fin 32) :
    blockMax v r = rowMax (ln x0 x1 x2 r) (25 * j + k.val) := by
  refine congrArg amax (funext fun l => (h (ix2 r l)).trans (congrArg (ln x0 x1 x2 r) ?_))
  show 3200 * j + 128 * k.val + l.val = _
  ring

omit e1 e2 e3 hm hr in
/-- A piece at columns 3200 j + 128 k on that holds its own block's codes agrees with the codes of the rows. -/
theorem piece_eq (v : FVec Ideal S32x128 .f32) (j : Fin 4)
    (h : ∀ y : S32x128.Idx, v y = ln x0 x1 x2 (y 0) (3200 * j.val + 128 * k.val + (y 1).val))
    (off : Fin 2 → ℕ) (inb : ∀ a, off a + ![32, 128] a ≤ S32x12800.size a) (ho : off = ![0, 3200 * j.val + 128 * k.val]) (x : S32x128.Idx) :
    code (blockMax v (x 0)) (v x) = codesOf x0 x1 x2 ((Rect.unit (s := S32x12800) off ![32, 128] inb).emb x) := by
  subst ho
  have hx : (x 1).val < 128 := (x 1).isLt
  unfold codesOf
  have a0 : (Rect.unit (s := S32x12800) ![0, 3200 * j.val + 128 * k.val] ![32, 128] inb).emb x 0 = x 0 :=
    Fin.ext (by simp [Rect.unit, Rect.emb])
  have a1 : ((Rect.unit (s := S32x12800) ![0, 3200 * j.val + 128 * k.val] ![32, 128] inb).emb x 1).val = 3200 * j.val + 128 * k.val + (x 1).val := by
    simp [Rect.unit, Rect.emb]
  have a2 : (3200 * j.val + 128 * k.val + (x 1).val) / 128 = 25 * j.val + k.val := by omega
  rw [a1, a2]
  refine congrArg₂ code ((blockMax_eq x0 x1 x2 k v j.val h (x 0)).trans ?_) ((h x).trans ?_)
  · exact congrArg (fun r => rowMax (ln x0 x1 x2 r) (25 * j.val + k.val)) a0.symm
  · exact congrArg (fun r => ln x0 x1 x2 r (3200 * j.val + 128 * k.val + (x 1).val)) a0.symm

/-- Every piece that trip k writes holds the codes of the columns that it covers. -/
theorem trip_3_codes (acc : FVec Ideal S32x128 .f32) :
    ∀ p ∈ Gen.tripL_k0_t3 (F := Ideal) 𝒱 c bd i arg1 harg1 arg2 harg2 arg3 harg3 arg4 harg4 arg5 harg5 v2 v8 lanes X1 X2 X3 k acc,
      ∀ x, p.2 x = codesOf x0 x1 x2 (p.1.emb x) := by
  unfold Gen.tripL_k0_t3 Gen.trip_k0_t3
  intro p hp
  simp only [List.mem_cons, List.not_mem_nil, or_false] at hp
  rcases hp with rfl | rfl | rfl | rfl
  · intro x
    exact (word_3 arg1 arg2 arg3 v2 v8 X1 X2 X3 k x).trans
      (piece_eq x0 x1 x2 k _ 3 (v_3_apply arg1 arg2 arg3 v2 v8 X1 X2 X3 x0 x1 x2 e1 e2 e3 hm hr k) _ (Gen.k0_off12_inb k 3) (Gen.k0_off12_eq k 3) x)
  · intro x
    exact (word_2 arg1 arg2 arg3 v2 v8 X1 X2 X3 k x).trans
      (piece_eq x0 x1 x2 k _ 2 (v_2_apply arg1 arg2 arg3 v2 v8 X1 X2 X3 x0 x1 x2 e1 e2 e3 hm hr k) _ (Gen.k0_off12_inb k 2) (Gen.k0_off12_eq k 2) x)
  · intro x
    exact (word_1 arg1 arg2 arg3 v2 v8 X1 X2 X3 k x).trans
      (piece_eq x0 x1 x2 k _ 1 (v_1_apply arg1 arg2 arg3 v2 v8 X1 X2 X3 x0 x1 x2 e1 e2 e3 hm hr k) _ (Gen.k0_off12_inb k 1) (Gen.k0_off12_eq k 1) x)
  · intro x
    exact (word_0 arg1 arg2 arg3 v2 v8 X1 X2 X3 k x).trans
      (piece_eq x0 x1 x2 k _ 0 (v_0_apply arg1 arg2 arg3 v2 v8 X1 X2 X3 x0 x1 x2 e1 e2 e3 hm hr k) _ (Gen.k0_off12_inb k 0) (Gen.k0_off12_eq k 0) x)

omit e1 e2 e3 hm hr in
/-- Trip k puts its four blocks' scales in lanes k, 25 + k, 50 + k and 75 + k. -/
theorem trip_3_put (acc : FVec Ideal S32x128 .f32) (y : S32x128.Idx) :
    Gen.tripR_k0_t3 (F := Ideal) 𝒱 c bd i arg1 harg1 arg2 harg2 arg3 harg3 arg4 harg4 arg5 harg5 v2 v8 lanes X1 X2 X3 k acc y
      = if (y 1).val = 75 + k.val then scale (blockMax (v_3 arg1 arg2 arg3 v2 v8 X1 X2 X3 k) (y 0))
        else if (y 1).val = 50 + k.val then scale (blockMax (v_2 arg1 arg2 arg3 v2 v8 X1 X2 X3 k) (y 0))
        else if (y 1).val = 25 + k.val then scale (blockMax (v_1 arg1 arg2 arg3 v2 v8 X1 X2 X3 k) (y 0))
        else if (y 1).val = k.val then scale (blockMax (v_0 arg1 arg2 arg3 v2 v8 X1 X2 X3 k) (y 0)) else acc y := by
  have b0 : ∀ k : Fin k0_t3_loop.trips, (Scalar.addi 0#32 (Scf.iv 0#32 1#32 k.val)).toNat = k.val := by decide +kernel
  have b1 : ∀ k : Fin k0_t3_loop.trips, (Scalar.addi 25#32 (Scf.iv 0#32 1#32 k.val)).toNat = 25 + k.val := by decide +kernel
  have b2 : ∀ k : Fin k0_t3_loop.trips, (Scalar.addi 50#32 (Scf.iv 0#32 1#32 k.val)).toNat = 50 + k.val := by decide +kernel
  have b3 : ∀ k : Fin k0_t3_loop.trips, (Scalar.addi 75#32 (Scf.iv 0#32 1#32 k.val)).toNat = 75 + k.val := by decide +kernel
  unfold Gen.tripR_k0_t3 Gen.trip_k0_t3
  refine (show _ = Gen.k0_pay7 (Gen.k0_pay41 lanes (Gen.k0_pay28 lanes (Gen.k0_pay23 lanes acc (Scalar.addi 0#32 (Scf.iv 0#32 1#32 k.val))
      (Gen.k0_pay19 (Gen.k0_pay3 v2) (Gen.k0_pay5 v8) _ _ _ _) (Gen.k0_pay20 (Gen.k0_pay3 v2) (Gen.k0_pay5 v8) _ _ _ _))
      (Scalar.addi 25#32 (Scf.iv 0#32 1#32 k.val)) (Gen.k0_pay25 (Gen.k0_pay3 v2) (Gen.k0_pay5 v8) _ _ _) (FloatOps.ofBits .f32 0x3B124925#32))
      (Scalar.addi 50#32 (Scf.iv 0#32 1#32 k.val)) (Gen.k0_pay37 (Gen.k0_pay3 v2) (Gen.k0_pay5 v8) _ _ _))
      (Scalar.addi 75#32 (Scf.iv 0#32 1#32 k.val)) (Gen.k0_pay44 (Gen.k0_pay3 v2) (Gen.k0_pay5 v8) _ _ _) y from rfl).trans ?_
  refine (put_3 _ _ _ y).trans ?_
  unfold put
  rw [b3]
  refine if_congr Iff.rfl (scale_3 _ _ _ _ _ (ix2 (y 0) 0)) ?_
  refine (put_2 _ _ _ y).trans ?_
  unfold put
  rw [b2]
  refine if_congr Iff.rfl (scale_2 _ _ _ _ _ (ix2 (y 0) 0)) ?_
  refine (put_1 _ _ _ _ y).trans ?_
  unfold put
  rw [b1]
  refine if_congr Iff.rfl (scale_1 _ _ _ _ _ (ix2 (y 0) 0)) ?_
  refine (put_0 _ _ _ _ y).trans ?_
  unfold put
  rw [b0]
  exact if_congr Iff.rfl (scale_0 _ _ _ _ _ _ (ix2 (y 0) 0)) rfl

/-- What the third loop has written before trip n: pieces of the codes. -/
theorem state_3_codes (init : FVec Ideal S32x128 .f32) (n : ℕ) (hn : n ≤ 25) :
    ∀ p ∈ (Gen.st_k0_t3 (F := Ideal) 𝒱 c bd i arg1 harg1 arg2 harg2 arg3 harg3 arg4 harg4 arg5 harg5 v2 v8 lanes X1 X2 X3 init n).2,
      ∀ x, p.2 x = codesOf x0 x1 x2 (p.1.emb x) := by
  induction n with
  | zero =>
    intro p hp
    exact absurd hp (List.not_mem_nil)
  | succ n ih =>
    rw [Gen.st_k0_t3_succ 𝒱 c bd i arg1 harg1 arg2 harg2 arg3 harg3 arg4 harg4 arg5 harg5 v2 v8 lanes X1 X2 X3 init ⟨n, by rw [trips_3]; omega⟩]
    intro p hp
    rcases List.mem_append.mp hp with h | h
    · exact trip_3_codes 𝒱 bd c i arg1 harg1 arg2 harg2 arg3 harg3 arg4 harg4 arg5 harg5 v2 v8 X1 X2 X3 x0 x1 x2 e1 e2 e3 hm hr ⟨n, _⟩ _ p h
    · exact ih (by omega) p h

/-- What the third loop carries before trip n: in lanes k, 25 + k, 50 + k and 75 + k for k < n, the scales of these blocks. -/
theorem state_3_scales (init : FVec Ideal S32x128 .f32) (n : ℕ) (hn : n ≤ 25) (y : S32x128.Idx) (hy : (y 1).val < 100) (hyn : (y 1).val % 25 < n) :
    (Gen.st_k0_t3 (F := Ideal) 𝒱 c bd i arg1 harg1 arg2 harg2 arg3 harg3 arg4 harg4 arg5 harg5 v2 v8 lanes X1 X2 X3 init n).1 y
      = scaleOf x0 x1 x2 (y 0) (y 1).val := by
  induction n with
  | zero => exact absurd hyn (Nat.not_lt_zero _)
  | succ n ih =>
    rw [Gen.st_k0_t3_succ 𝒱 c bd i arg1 harg1 arg2 harg2 arg3 harg3 arg4 harg4 arg5 harg5 v2 v8 lanes X1 X2 X3 init ⟨n, by rw [trips_3]; omega⟩]
    refine (trip_3_put 𝒱 bd c i arg1 harg1 arg2 harg2 arg3 harg3 arg4 harg4 arg5 harg5 v2 v8 X1 X2 X3 ⟨n, _⟩ _ y).trans ?_
    have hk : n < k0_t3_loop.trips := by rw [trips_3]; omega
    have hb (v : FVec Ideal S32x128 .f32) (j : ℕ)
        (h : ∀ y : S32x128.Idx, v y = ln x0 x1 x2 (y 0) (3200 * j + 128 * n + (y 1).val)) (hj : (y 1).val = 25 * j + n) :
        scale (blockMax v (y 0)) = scaleOf x0 x1 x2 (y 0) (y 1).val := by
      rw [hj]
      exact congrArg scale (blockMax_eq x0 x1 x2 ⟨n, hk⟩ v j h (y 0))
    split_ifs with h3 h2 h1 h0
    · exact hb _ 3 (v_3_apply arg1 arg2 arg3 v2 v8 X1 X2 X3 x0 x1 x2 e1 e2 e3 hm hr ⟨n, hk⟩) h3
    · exact hb _ 2 (v_2_apply arg1 arg2 arg3 v2 v8 X1 X2 X3 x0 x1 x2 e1 e2 e3 hm hr ⟨n, hk⟩) h2
    · exact hb _ 1 (v_1_apply arg1 arg2 arg3 v2 v8 X1 X2 X3 x0 x1 x2 e1 e2 e3 hm hr ⟨n, hk⟩) h1
    · exact hb _ 0 (v_0_apply arg1 arg2 arg3 v2 v8 X1 X2 X3 x0 x1 x2 e1 e2 e3 hm hr ⟨n, hk⟩) (by simpa using h0)
    · exact ih (by omega) (by simp only at h0 h1 h2 h3; omega)

end trip3

/-- The block of scales is the first 100 of the 128 lanes. -/
theorem first_100 (v : FVec Ideal S32x128 .f32) (z : S32x100.Idx) :
    Gen.k0_pay8 v z = v (ix2 (z 0) ⟨(z 1).val, lt_trans (z 1).isLt (by decide)⟩) := by
  unfold Gen.k0_pay8
  pointwise

section point

variable (c : Dev nD) (i : grid0.Coords)
  (arg1 : Memref sig .tc .vmem S2x2x32x3200 .bf16) (harg1 : arg1.IsWhole)
  (arg2 : Memref sig .tc .vmem S1x12800 .f32) (harg2 : arg2.IsWhole)
  (arg3 : Memref sig .tc .vmem S1x12800 .f32) (harg3 : arg3.IsWhole)
  (arg4 : Memref sig .tc .vmem S32x12800 .fp8e4m3) (harg4 : arg4.IsWhole)
  (arg5 : Memref sig .tc .vmem S32x100 .f32) (harg5 : arg5.IsWhole)
  (x0 : Vec Ideal S2x2x32x3200 .bf16) (x1 x2 : Vec Ideal S1x12800 .f32)

/-- A grid point leaves the codes of its 32 rows in the block of codes. -/
theorem out_3 : Gen.out0_A_3 c i arg1 harg1 arg2 harg2 arg3 harg3 arg4 harg4 arg5 harg5 x0 x1 x2 = codesOf x0 x1 x2 := by
  have hcov := Gen.cover0_A_3 (F := Ideal) c i arg1 harg1 arg2 harg2 arg3 harg3 arg4 harg4 arg5 harg5 x0 x1 x2
  funext y
  have hy := hcov y
  unfold Gen.kernelRun0_A at hy
  frame_out
  refine View.canon_apply_of_pieces (codesOf x0 x1 x2) _ ?_ y hy
  exact state_3_codes Variants.none none c i arg1 harg1 arg2 harg2 arg3 harg3 arg4 harg4 arg5 harg5 _ _ _ _ _ x0 x1 x2
    (harg1.read_unread x0) (harg2.read_unread x1) (harg3.read_unread x2)
    (fun r => mean_eq Variants.none none c i arg1 harg1 arg2 harg2 arg3 harg3 arg4 harg4 arg5 harg5 x0 (ix2 r 0))
    (fun r => rstd_eq Variants.none none c i arg1 harg1 arg2 harg2 arg3 harg3 arg4 harg4 arg5 harg5 x0 _
      (fun r => mean_eq Variants.none none c i arg1 harg1 arg2 harg2 arg3 harg3 arg4 harg4 arg5 harg5 x0 (ix2 r 0)) (ix2 r 0)) _ 25 le_rfl

/-- A grid point leaves the scales of its 32 rows in the block of scales. -/
theorem out_4 (z : S32x100.Idx) :
    Gen.out0_A_4 c i arg1 harg1 arg2 harg2 arg3 harg3 arg4 harg4 arg5 harg5 x0 x1 x2 z = scaleOf x0 x1 x2 (z 0) (z 1).val := by
  have hz : (z 1).val < 100 := (z 1).isLt
  have h := state_3_scales Variants.none none c i arg1 harg1 arg2 harg2 arg3 harg3 arg4 harg4 arg5 harg5 _ _ _ _ _ x0 x1 x2
    (harg1.read_unread x0) (harg2.read_unread x1) (harg3.read_unread x2)
    (fun r => mean_eq Variants.none none c i arg1 harg1 arg2 harg2 arg3 harg3 arg4 harg4 arg5 harg5 x0 (ix2 r 0))
    (fun r => rstd_eq Variants.none none c i arg1 harg1 arg2 harg2 arg3 harg3 arg4 harg4 arg5 harg5 x0 _
      (fun r => mean_eq Variants.none none c i arg1 harg1 arg2 harg2 arg3 harg3 arg4 harg4 arg5 harg5 x0 (ix2 r 0)) (ix2 r 0)) Gen.k0_pay1 25 le_rfl
    (ix2 (z 0) ⟨(z 1).val, by omega⟩) hz (by show (z 1).val % 25 < 25; omega)
  refine Eq.trans ?_ h
  frame_out
  exact first_100 _ z

end point

end Cert.LnQuantIdeal.Tile
-- ==== Proof.LnQuantIdealArray.lean ====
module

public import proofs.«01_k».proof.Proof.LnQuantIdealPoint
public import Idealize.ShloMosaic.Lib.Pipeline.ValueKit

/-!
What the two results of the layer norm hold after all 192 grid points: 32 rows of codes and of scales a point.
-/

@[expose] public section

noncomputable section

namespace Cert.LnQuantIdeal.Tile

open Idealize.ShloMosaic Idealize.ShloMosaic.TcCoe Idealize.SL.Sem Cert.LnQuantIdeal Cert.LnQuantIdeal.Gen Cert.QuantMath Cert.LnQuantMath

variable (m : (ℓ : Loc nD τ sig) → Buf (Elt Ideal) ℓ)

/-- The block of each operand's array that a grid point sees. -/
theorem idx : ∀ t : Fin cfg0.N, win0_0.index t = ![t.val, 0, 0, 0] ∧ win0_1.index t = ![0, 0]
    ∧ win0_2.index t = ![0, 0] ∧ win0_3.index t = ![t.val, 0] ∧ win0_4.index t = ![t.val, 0] :=
  (by decide +kernel : ∀ t : Fin grid0.N, _)

/-- What the first result holds: the codes of the layer norm, at the argument arrays. -/
def GC (c : Dev nD) : S6144x12800.Idx → Elt Ideal .fp8e4m3 :=
  outCodes (m ((c : Thread nD τ).loc main_arg0)) (m ((c : Thread nD τ).loc main_arg1)) (m ((c : Thread nD τ).loc main_arg2))

/-- What the second result holds: the scales of the layer norm, at the argument arrays. -/
def GS (c : Dev nD) : S6144x100.Idx → Elt Ideal .f32 :=
  outScales (m ((c : Thread nD τ).loc main_arg0)) (m ((c : Thread nD τ).loc main_arg1)) (m ((c : Thread nD τ).loc main_arg2))

/-- The patches of a point are rows 32 t on of all patches. -/
theorem patch_blk (c : Dev nD) (t : Fin cfg0.N) (r : Fin 32) :
    patch (iblk m c 0 t) r = pixel (m ((c : Thread nD τ).loc main_arg0)) ⟨32 * t.val + r.val, by have ht : t.val < 192 := t.isLt; omega⟩ := by
  funext k
  unfold patch pixel
  have ht : t.val < 192 := t.isLt
  split_ifs with h
  · blk_ext! [iblk, V, idx t]
  · rfl

/-- The first parameters of a point are those of the argument. -/
theorem gamma_blk (c : Dev nD) (t : Fin cfg0.N) : entry (iblk m c 1 t) = param (m ((c : Thread nD τ).loc main_arg1)) := by
  funext k
  unfold entry param
  split_ifs with h
  · blk_ext! [iblk, V, idx t]
  · rfl

/-- The second parameters of a point are those of the argument. -/
theorem beta_blk (c : Dev nD) (t : Fin cfg0.N) : entry (iblk m c 2 t) = param (m ((c : Thread nD τ).loc main_arg2)) := by
  funext k
  unfold entry param
  split_ifs with h
  · blk_ext! [iblk, V, idx t]
  · rfl

/-- The layer norm of a point's row is that of the whole array's row. -/
theorem ln_blk (c : Dev nD) (t : Fin cfg0.N) (r : Fin 32) (R : Fin 6144) (h : R.val = 32 * t.val + r.val) :
    ln (iblk m c 0 t) (iblk m c 1 t) (iblk m c 2 t) r
      = row (m ((c : Thread nD τ).loc main_arg0)) (m ((c : Thread nD τ).loc main_arg1)) (m ((c : Thread nD τ).loc main_arg2)) R := by
  have e : (⟨32 * t.val + r.val, by have ht : t.val < 192 := t.isLt; omega⟩ : Fin 6144) = R := Fin.ext h.symm
  unfold ln row
  rw [patch_blk, gamma_blk, beta_blk, e]

/-- A point's block of codes is the part of the whole result's codes at its place. -/
theorem point_3 (c : Dev nD) (t : Fin cfg0.N) (y : S32x12800.Idx) :
    (outsAt0 m c t).1 y = GC m c (((cfg0.win 3).blk t).view.emb y) := by
  have hy0 : (y 0).val < 32 := (y 0).isLt
  have hy1 : (y 1).val < 12800 := (y 1).isLt
  have ht : t.val < 192 := t.isLt
  have he : ((cfg0.win 3).blk t).view.emb y = (ix2 (⟨32 * t.val + (y 0).val, by omega⟩ : Fin 6144) (⟨(y 1).val, by omega⟩ : Fin 12800) : S6144x12800.Idx) := by
    blk_ext [idx t]
  rw [he]
  unfold outsAt0
  refine (congrFun (out_3 c _ _ _ _ _ _ _ _ _ _ _ (iblk m c 0 t) (iblk m c 1 t) (iblk m c 2 t)) y).trans ?_
  exact congrArg (fun v => code (rowMax v ((y 1).val / 128)) (v (y 1).val)) (ln_blk m c t (y 0) ⟨32 * t.val + (y 0).val, by omega⟩ rfl)

/-- A point's block of scales is the part of the whole result's scales at its place. -/
theorem point_4 (c : Dev nD) (t : Fin cfg0.N) (y : S32x100.Idx) :
    (outsAt0 m c t).2 y = GS m c (((cfg0.win 4).blk t).view.emb y) := by
  have hy0 : (y 0).val < 32 := (y 0).isLt
  have hy1 : (y 1).val < 100 := (y 1).isLt
  have ht : t.val < 192 := t.isLt
  have he : ((cfg0.win 4).blk t).view.emb y = (ix2 (⟨32 * t.val + (y 0).val, by omega⟩ : Fin 6144) (⟨(y 1).val, by omega⟩ : Fin 100) : S6144x100.Idx) := by
    blk_ext [idx t]
  rw [he]
  unfold outsAt0
  refine (out_4 c _ _ _ _ _ _ _ _ _ _ _ (iblk m c 0 t) (iblk m c 1 t) (iblk m c 2 t) y).trans ?_
  exact congrArg (fun v => scale (rowMax v (y 1).val)) (ln_blk m c t (y 0) ⟨32 * t.val + (y 0).val, by omega⟩ rfl)

/-- The codes, whole. -/
theorem arr_3 (c : Dev nD) : (dats m 0 c).arrAt 3 cfg0.N = GC m c := by
  refine (dats m 0 c).arrAt_eq_of_covers 3 _ (by decide +kernel) fun t hf y => ?_
  blk_simp
  exact point_3 m c t y

/-- The scales, whole. -/
theorem arr_4 (c : Dev nD) : (dats m 0 c).arrAt 4 cfg0.N = GS m c := by
  refine (dats m 0 c).arrAt_eq_of_covers 4 _ (by decide +kernel) fun t hf y => ?_
  blk_simp
  exact point_4 m c t y

/-- The whole run: the two results are `GC` and `GS` of the arguments, which stay as they were. -/
theorem run (ρ : Dev nD → PrngReg) : θ_run defs (onTc (τ := τ) (main (F := Ideal))) ⟨m, fun _ => 0, ρ⟩ fun r => ∀ c : Dev nD,
    r.2.mem ((c : Thread nD τ).loc main_v3_0) = GC m c
      ∧ r.2.mem ((c : Thread nD τ).loc main_v3_1) = GS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr_3 m c), (h c).2.1.trans (arr_4 m c), (h c).2.2⟩) (Value.run_blocks m ρ)

end Cert.LnQuantIdeal.Tile
-- ==== Proof.LnQuantRefIdealRun.lean ====
module

public import proofs.«01_k».proof.Proof.Gen.LnQuantRefIdeal.Frame
public import Idealize.ShloMosaic.Lib.Pipeline.Value

/-!
The run of the layer norm's reference, with its two results named by the arrays its one grid point leaves.
-/

@[expose] public section

noncomputable section

namespace Cert.LnQuantRefIdeal.Run

open Cert.LnQuantRefIdeal Cert.LnQuantRefIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v5_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v5_1) = (dats m 0 c).arrAt 4 cfg0.N :=
  (h c).1 4

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The whole run, each result named by the array it leaves, the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 3 cfg0.N
      ∧ r.2.mem ((c : Thread nD τ).loc main_v5_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      kept_main_arg0 m r h c,
      kept_main_arg1 m r h c,
      kept_main_arg2 m r h c⟩)
    (run_main m ρ)

end Cert.LnQuantRefIdeal.Run
-- ==== Proof.LnQuantRefIdealReference.lean ====
module

public import proofs.«01_k».proof.Proof.LnQuantRefIdealRun
public import proofs.«01_k».proof.Proof.LnQuantMath
public import Idealize.ShloMosaic.Lib.Pipeline.ValueKit

/-!
What the layer norm's reference computes: its one point sees every array whole and leaves the codes and scales of
`LnQuantMath`.
-/

@[expose] public section

noncomputable section

namespace Cert.LnQuantRefIdeal.Ref

open Idealize.ShloMosaic Idealize.ShloMosaic.TcCoe Idealize.SL.Sem Cert.LnQuantRefIdeal Cert.LnQuantRefIdeal.Gen Cert.QuantMath Cert.LnQuantMath

variable (m : (ℓ : Loc nD τ sig) → Buf (Elt Ideal) ℓ)

/-- The mean of a row: its sum divided by 12800. -/
def avg (v : Fin 12800 → EReal) : EReal := Ideal.div (∑ k, v k) (f 0x46480000#32)

/-- The layer norm over whole arrays, at (r, k). -/
def ln (x0 : Vec Ideal S6144x12800 .bf16) (g b : Vec Ideal S1x12800 .f32) (r : Fin 6144) (k : Fin 12800) : EReal :=
  ((x0 (ix2 r k) : EReal) - avg fun k => x0 (ix2 r k))
    * Ideal.rsqrt ((avg fun l => ((x0 (ix2 r l) : EReal) - avg fun k => x0 (ix2 r k)) * ((x0 (ix2 r l) : EReal) - avg fun k => x0 (ix2 r k)))
      + f 0x3727C5AC#32) * (g (ix2 0 k) : EReal) + (b (ix2 0 k) : EReal)

/-- The layer norm at block q and lane x, as the body computes it. -/
theorem pay3_apply (x0 : Vec Ideal S6144x12800 .bf16) (g b : Vec Ideal S1x12800 .f32) (r : Fin 6144) (q : Fin 100) (x : Fin 128) :
    (k0_pay3 x0 g b (ix3 r q x) : EReal) = ln x0 g b r ⟨q.val * 128 + x.val, by omega⟩ := by
  unfold ln avg k0_pay3
  pointwise

/-- The greatest magnitude over a block of a three-dimensional array. -/
theorem max_apply (v : FVec Ideal S6144x100x128 .f32) (y : S6144x100.Idx) :
    (multiReduction (F := Ideal) (φ := .f32) .maximumf [2] S6144x100 (absf v) 0xFF800000#32 reduces_S6144x100x128_S6144x100 (.inl rfl) rfl y : EReal)
      = amax fun x => v (ix3 (y 0) (y 1) x) := by
  unfold amax
  pointwise
  rfl

/-- The exponent of a block's scale. -/
theorem pay4_apply (x0 : Vec Ideal S6144x12800 .bf16) (g b : Vec Ideal S1x12800 .f32) (y : S6144x100.Idx) :
    (k0_pay4 x0 g b y : EReal) = expo (amax fun x => k0_pay3 x0 g b (ix3 (y 0) (y 1) x)) :=
  (expo_vec (multiReduction (F := Ideal) (φ := .f32) .maximumf [2] S6144x100 (absf (k0_pay3 x0 g b)) 0xFF800000#32 reduces_S6144x100x128_S6144x100 (.inl rfl) rfl) y).trans
    (congrArg expo (max_apply (k0_pay3 x0 g b) y))

/-- The codes of a three-dimensional array v over exponents e, laid out as rows again. -/
theorem code_vec (v : FVec Ideal S6144x100x128 .f32) (e : FVec Ideal S6144x100 .f32) (y : S6144x12800.Idx) :
    (shapeCast S6144x12800 (truncf (F := Ideal) .fp8e4m3 (minimumf (F := Ideal) (φ := .f32) (broadcast S6144x100x128 (Scalar.ofBits .f32 0x43E00000#32))
      (maximumf (F := Ideal) (φ := .f32) (broadcast S6144x100x128 (Scalar.ofBits .f32 0xC3E00000#32))
        (mulf (F := Ideal) (φ := .f32) v (broadcastTo S6144x100x128 (shapeCast S6144x100x1 (exp2 (F := Ideal) (φ := .f32) (subf (F := Ideal) (φ := .f32)
          (broadcast S6144x100 (Scalar.ofBits .f32 0x00000000#32)) e)) shapeCasts_S6144x100_S6144x100x1) broadcasts_S6144x100x1_S6144x100x128))))
        bitsLt_fp8e4m3_f32) shapeCasts_S6144x100x128_S6144x12800 y : EReal)
      = min (f 0x43E00000#32) (max (f 0xC3E00000#32) ((v (ix3 (y 0) ⟨(y 1).val / 128, by have : (y 1).val < 12800 := (y 1).isLt; omega⟩
        ⟨(y 1).val % 128, by omega⟩) : EReal) * Ideal.exp2 (0 - (e (ix2 (y 0) ⟨(y 1).val / 128, by have : (y 1).val < 12800 := (y 1).isLt; omega⟩) : EReal)))) := by
  pointwise
  rfl

/-- The codes. -/
theorem codes_apply (x0 : Vec Ideal S6144x12800 .bf16) (g b : Vec Ideal S1x12800 .f32) (y : S6144x12800.Idx) :
    (k0_pay1 (k0_pay3 x0 g b) (k0_pay4 x0 g b) y : EReal) = code (amax fun x => k0_pay3 x0 g b (ix3 (y 0) ⟨(y 1).val / 128, by have : (y 1).val < 12800 := (y 1).isLt; omega⟩ x))
      (k0_pay3 x0 g b (ix3 (y 0) ⟨(y 1).val / 128, by have : (y 1).val < 12800 := (y 1).isLt; omega⟩ ⟨(y 1).val % 128, by omega⟩)) :=
  (code_vec (k0_pay3 x0 g b) (k0_pay4 x0 g b) y).trans (congrArg (fun e => min (f 0x43E00000#32) (max (f 0xC3E00000#32) (_ * Ideal.exp2 (0 - e))))
    (pay4_apply x0 g b (ix2 (y 0) ⟨(y 1).val / 128, by have : (y 1).val < 12800 := (y 1).isLt; omega⟩)))

attribute [local irreducible] k0_pay3 k0_pay4

/-- Two to the power of each entry. -/
theorem exp2_vec (e : FVec Ideal S6144x100 .f32) (y : S6144x100.Idx) : (k0_pay2 e y : EReal) = Ideal.exp2 (e y) := rfl

/-- What the point leaves of codes. -/
theorem out_3 (x0 : Vec Ideal S6144x12800 .bf16) (g b : Vec Ideal S1x12800 .f32) (y : S6144x12800.Idx) :
    (out0_3 x0 g b y : EReal) = code (amax fun x => k0_pay3 x0 g b (ix3 (y 0) ⟨(y 1).val / 128, by have : (y 1).val < 12800 := (y 1).isLt; omega⟩ x))
      (k0_pay3 x0 g b (ix3 (y 0) ⟨(y 1).val / 128, by have : (y 1).val < 12800 := (y 1).isLt; omega⟩ ⟨(y 1).val % 128, by omega⟩)) := by
  unfold_out out0_3
  frame_out
  exact codes_apply _ _ _ y

/-- What the point leaves of scales. -/
theorem out_4 (x0 : Vec Ideal S6144x12800 .bf16) (g b : Vec Ideal S1x12800 .f32) (y : S6144x100.Idx) :
    (out0_4 x0 g b y : EReal) = scale (amax fun x => k0_pay3 x0 g b (ix3 (y 0) (y 1) x)) := by
  unfold_out out0_4
  frame_out
  exact (exp2_vec (k0_pay4 _ _ _) y).trans (congrArg Ideal.exp2 (pay4_apply _ _ _ y))

/-- What the first result holds: the codes of the layer norm, at the argument arrays. -/
def GC (c : Dev nD) : S6144x12800.Idx → Elt Ideal .fp8e4m3 :=
  outCodes (m ((c : Thread nD τ).loc main_arg0)) (m ((c : Thread nD τ).loc main_arg1)) (m ((c : Thread nD τ).loc main_arg2))

/-- What the second result holds: the scales of the layer norm, at the argument arrays. -/
def GS (c : Dev nD) : S6144x100.Idx → Elt Ideal .f32 :=
  outScales (m ((c : Thread nD τ).loc main_arg0)) (m ((c : Thread nD τ).loc main_arg1)) (m ((c : Thread nD τ).loc main_arg2))

/-- The one point sees every array whole. -/
theorem idx : ∀ t : Fin cfg0.N, win0_0.index t = ![0, 0] ∧ win0_1.index t = ![0, 0]
    ∧ win0_2.index t = ![0, 0] ∧ win0_3.index t = ![0, 0] ∧ win0_4.index t = ![0, 0] :=
  (by decide +kernel : ∀ t : Fin grid0.N, _)

/-- Dividing the sum by 12800 is multiplying it by the reciprocal. -/
theorem avg_eq (v : ℕ → EReal) : (avg fun k => v k.val) = mean v := by
  have h : f 0x46480000#32 = ((12800 : ℝ) : EReal) := by
    show Ideal.ofBits .f32 0x46480000#32 = _
    simp [Ideal.ofBits, Ideal.ieee, -EReal.coe_mul]
    norm_num
  unfold avg mean invK
  rw [h, Ideal.div_coe (by norm_num : (12800 : ℝ) ≠ 0), Finset.sum_range]

/-- A row of the first operand is a row of the patches. -/
theorem pixel_blk (c : Dev nD) (t : Fin cfg0.N) (r : Fin 6144) (k : Fin 12800) :
    (iblk m c 0 t (ix2 r k : S6144x12800.Idx) : EReal) = pixel (m ((c : Thread nD τ).loc main_arg0)) r k.val := by
  unfold pixel
  rw [dif_pos k.isLt]
  blk_ext! [iblk, V, idx t]

/-- The first parameters. -/
theorem gamma_blk (c : Dev nD) (t : Fin cfg0.N) (k : Fin 12800) :
    (iblk m c 1 t (ix2 0 k : S1x12800.Idx) : EReal) = param (m ((c : Thread nD τ).loc main_arg1)) k.val := by
  unfold param
  rw [dif_pos k.isLt]
  blk_ext! [iblk, V, idx t]

/-- The second parameters. -/
theorem beta_blk (c : Dev nD) (t : Fin cfg0.N) (k : Fin 12800) :
    (iblk m c 2 t (ix2 0 k : S1x12800.Idx) : EReal) = param (m ((c : Thread nD τ).loc main_arg2)) k.val := by
  unfold param
  rw [dif_pos k.isLt]
  blk_ext! [iblk, V, idx t]

/-- The layer norm at the point's blocks is that of the argument arrays. -/
theorem ln_blk (c : Dev nD) (t : Fin cfg0.N) (r : Fin 6144) (k : Fin 12800) :
    ln (iblk m c 0 t) (iblk m c 1 t) (iblk m c 2 t) r k
      = row (m ((c : Thread nD τ).loc main_arg0)) (m ((c : Thread nD τ).loc main_arg1)) (m ((c : Thread nD τ).loc main_arg2)) r k.val := by
  unfold ln row LnQuantMath.norm rstd
  simp only [pixel_blk, gamma_blk, beta_blk]
  rw [avg_eq (pixel (m ((c : Thread nD τ).loc main_arg0)) r),
    avg_eq fun l => (pixel (m ((c : Thread nD τ).loc main_arg0)) r l - mean (pixel (m ((c : Thread nD τ).loc main_arg0)) r))
      * (pixel (m ((c : Thread nD τ).loc main_arg0)) r l - mean (pixel (m ((c : Thread nD τ).loc main_arg0)) r))]
  rfl

/-- The greatest magnitude in a block of the layer norm. -/
theorem max_blk (c : Dev nD) (t : Fin cfg0.N) (r : Fin 6144) (q : Fin 100) :
    (amax fun x => k0_pay3 (F := Ideal) (iblk m c 0 t) (iblk m c 1 t) (iblk m c 2 t) (ix3 r q x))
      = rowMax (row (m ((c : Thread nD τ).loc main_arg0)) (m ((c : Thread nD τ).loc main_arg1)) (m ((c : Thread nD τ).loc main_arg2)) r) q.val := by
  unfold rowMax
  refine congrArg amax (funext fun x => (pay3_apply _ _ _ r q x).trans ((ln_blk m c t r _).trans (congrArg (row _ _ _ r) ?_)))
  show q.val * 128 + x.val = 128 * q.val + x.val
  omega

/-- The codes, whole. -/
theorem arr_3 (c : Dev nD) : (dats m 0 c).arrAt 3 cfg0.N = GC m c := by
  refine (dats m 0 c).arrAt_eq_of_covers 3 _ (by decide +kernel) fun t hf y => ?_
  blk_simp
  rw [after0_3]
  refine (out_3 _ _ _ y).trans ?_
  have he : ((cfg0.win 3).blk t).view.emb y = y := by
    blk_ext [idx t]
  rw [he]
  have hy1 : (y 1).val < 12800 := (y 1).isLt
  unfold GC outCodes
  refine congrArg₂ code (max_blk m c t (y 0) _) ?_
  refine (pay3_apply _ _ _ (y 0) _ _).trans ((ln_blk m c t (y 0) _).trans (congrArg (row _ _ _ (y 0)) ?_))
  show (y 1).val / 128 * 128 + (y 1).val % 128 = (y 1).val
  omega

/-- The scales, whole. -/
theorem arr_4 (c : Dev nD) : (dats m 0 c).arrAt 4 cfg0.N = GS m c := by
  refine (dats m 0 c).arrAt_eq_of_covers 4 _ (by decide +kernel) fun t hf y => ?_
  blk_simp
  rw [after0_4]
  refine (out_4 _ _ _ y).trans ?_
  have he : ((cfg0.win 4).blk t).view.emb y = y := by
    blk_ext [idx t]
  rw [he]
  unfold GS outScales
  exact congrArg scale (max_blk m c t (y 0) (y 1))

/-- The whole run: the two results are `GC` and `GS` of the arguments, which stay as they were. -/
theorem run (ρ : Dev nD → PrngReg) : θ_run defs (onTc (τ := τ) (main (F := Ideal))) ⟨m, fun _ => 0, ρ⟩ fun r => ∀ c : Dev nD,
    r.2.mem ((c : Thread nD τ).loc main_v5_0) = GC m c
      ∧ r.2.mem ((c : Thread nD τ).loc main_v5_1) = GS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr_3 m c), (h c).2.1.trans (arr_4 m c), (h c).2.2⟩) (Run.run_blocks m ρ)

end Cert.LnQuantRefIdeal.Ref
-- ==== Proof.Linear1IdealTile.lean ====
module

public import proofs.«01_k».proof.Proof.Gen.Linear1Ideal.Value
public import proofs.«01_k».proof.Proof.QuantMath

/-!
What one grid point of the first linear layer's kernel leaves in its scratch and its two output blocks.
-/

@[expose] public section

noncomputable section

namespace Cert.Linear1Ideal.Tile

open Idealize.ShloMosaic Idealize.SL.Sem Cert.Linear1Ideal Cert.QuantMath

/-- A row tile of the left factor: code (r, k) times the scale of the 128-wide block that k lies in. -/
def deq (x0 : Vec Ideal S512x12800 .fp8e4m3) (x1 : Vec Ideal S512x100 .f32) : Vec Ideal S512x12800 .bf16 :=
  fun y => (x0 y : EReal) * (x1 (ix2 (y 0) ⟨(y 1).val / 128, by have : (y 1).val < 12800 := (y 1).isLt; omega⟩) : EReal)

/-- One 512 by 128 block that the body stores into the scratch: its codes times its column of scales. -/
theorem piece_apply (s : Vec Ideal S512x1 .f32) (b : Vec Ideal S512x128 .fp8e4m3) (x : S512x128.Idx) :
    Gen.k0_pay1 s b x = (b x : EReal) * (s (ix2 (x 0) 0) : EReal) := by
  unfold Gen.k0_pay1
  pointwise

/-- … which is its part of the row tile of the left factor. -/
theorem piece (x0 : Vec Ideal S512x12800 .fp8e4m3) (x1 : Vec Ideal S512x100 .f32) (j k : ℕ) (hk : k = 128 * j)
    (inb1 : ∀ a, ![0, j] a + ![512, 1] a ≤ S512x100.size a) (inb0 : ∀ a, ![0, k] a + ![512, 128] a ≤ S512x12800.size a)
    (x : S512x128.Idx) (y : S512x12800.Idx) (h0 : (y 0).val = (x 0).val) (h1 : (y 1).val = k + (x 1).val) :
    Gen.k0_pay1 (F := Ideal) (View.ld x1 (Rect.unit ![0, j] ![512, 1] inb1)) (View.ld x0 (Rect.unit ![0, k] ![512, 128] inb0)) x = deq x0 x1 y := by
  refine (piece_apply _ _ x).trans ?_
  unfold deq
  have hy1 : (y 1).val < 12800 := (y 1).isLt
  refine congrArg₂ (fun u v : EReal => u * v) (View.ld_unit_apply_of _ _ _ _ _ y fun a => ?_)
    (View.ld_unit_apply_of _ _ _ _ _ _ fun a => ?_)
  · match a with
    | ⟨0, _⟩ => exact h0.trans (Nat.zero_add _).symm
    | ⟨1, _⟩ => exact h1
  · have hx1 : (x 1).val < 128 := (x 1).isLt
    match a with
    | ⟨0, _⟩ => exact h0.trans (Nat.zero_add _).symm
    | ⟨1, _⟩ => show (y 1).val / 128 = j + 0; omega

/-- In case A the scratch is left holding the row tile's left factor. -/
theorem sout_A (c : Dev nD) (i : grid0.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : Gen.cond0_0 i)
    (x0 : Vec Ideal S512x12800 .fp8e4m3) (x1 : Vec Ideal S512x100 .f32) (x2 : Vec Ideal S12800x512 .fp8e4m3) (x3 : Vec Ideal S1x512 .f32) (x4 : Vec Ideal S1x512 .f32) :
    Gen.sout0_A_0 c i arg2 harg2 arg3 harg3 arg4 harg4 arg5 harg5 arg6 harg6 arg7 harg7 arg8 harg8 arg9 harg9 hc0 x0 x1 x2 x3 x4 = deq x0 x1 := by
  funext y
  frame_out
  canon_tiles x h
  all_goals exact piece x0 x1 _ _ (by rfl) _ _ x y (by omega) (by omega)

/-- The layer before the gelu, over one tile. -/
theorem lin_apply (a : Vec Ideal S512x12800 .bf16) (w : Vec Ideal S12800x512 .fp8e4m3) (s b : Vec Ideal S1x512 .f32) (y : S512x512.Idx) :
    Gen.k0_pay130 a w s b y = (∑ k : Fin 12800, (a (ix2 (y 0) k) : EReal) * (w (ix2 k (y 1)) : EReal)) * (s (ix2 0 (y 1)) : EReal) + (b (ix2 0 (y 1)) : EReal) := by
  unfold Gen.k0_pay130
  pointwise

/-- The gelu over one tile, given its parts: |v| / √2, the reciprocal, and Horner's rule half way. -/
theorem gelu_apply (v z t h : FVec Ideal S512x512 .f32) (y : S512x512.Idx) (hz : (z y : EReal) = max (v y) (-(v y)) * f 0x3F3504F3#32)
    (ht : (t y : EReal) = recip (z y)) (hh : (h y : EReal) = ((((f 0x3E2EF945#32 * t y + f 0xBF527892#32) * t y + f 0x3FBE87B0#32) * t y
      + f 0xBF914E5D#32) * t y + f 0x3E8EC7CC#32) * t y) :
    Gen.k0_pay134 (F := Ideal) v z t h y = gelu (v y) := by
  unfold Gen.k0_pay134 gelu tail horner
  pointwise
  rw [hh, ht, hz]

/-- |v| / √2, of the layer v. -/
theorem z_apply (a : Vec Ideal S512x12800 .bf16) (w : Vec Ideal S12800x512 .fp8e4m3) (s b : Vec Ideal S1x512 .f32) (y : S512x512.Idx) :
    (Gen.k0_pay131 a w s b y : EReal) = max (Gen.k0_pay130 a w s b y) (-(Gen.k0_pay130 a w s b y)) * f 0x3F3504F3#32 := by
  unfold Gen.k0_pay131
  pointwise
  rfl

/-- The reciprocal, of that. -/
theorem t_apply (a : Vec Ideal S512x12800 .bf16) (w : Vec Ideal S12800x512 .fp8e4m3) (s b : Vec Ideal S1x512 .f32) (y : S512x512.Idx) :
    (Gen.k0_pay132 a w s b y : EReal) = recip (Gen.k0_pay131 a w s b y) := by
  unfold Gen.k0_pay132 recip
  pointwise

/-- The first steps of Horner's rule, at the reciprocal. -/
theorem h_apply (a : Vec Ideal S512x12800 .bf16) (w : Vec Ideal S12800x512 .fp8e4m3) (s b : Vec Ideal S1x512 .f32) (y : S512x512.Idx) :
    (Gen.k0_pay133 a w s b y : EReal) = ((((f 0x3E2EF945#32 * Gen.k0_pay132 a w s b y + f 0xBF527892#32) * Gen.k0_pay132 a w s b y
      + f 0x3FBE87B0#32) * Gen.k0_pay132 a w s b y + f 0xBF914E5D#32) * Gen.k0_pay132 a w s b y + f 0x3E8EC7CC#32) * Gen.k0_pay132 a w s b y := by
  unfold Gen.k0_pay133
  pointwise

/-- The activation over one tile, as the body computes it. -/
abbrev act (a : Vec Ideal S512x12800 .bf16) (w : Vec Ideal S12800x512 .fp8e4m3) (s b : Vec Ideal S1x512 .f32) : FVec Ideal S512x512 .f32 :=
  Gen.k0_pay134 (Gen.k0_pay130 a w s b) (Gen.k0_pay131 a w s b) (Gen.k0_pay132 a w s b) (Gen.k0_pay133 a w s b)

/-- The activation at an index: the gelu of the layer there. -/
theorem act_apply (a : Vec Ideal S512x12800 .bf16) (w : Vec Ideal S12800x512 .fp8e4m3) (s b : Vec Ideal S1x512 .f32) (y : S512x512.Idx) :
    (act a w s b y : EReal) = gelu ((∑ k : Fin 12800, (a (ix2 (y 0) k) : EReal) * (w (ix2 k (y 1)) : EReal)) * (s (ix2 0 (y 1)) : EReal)
      + (b (ix2 0 (y 1)) : EReal)) :=
  (gelu_apply _ _ _ _ y (z_apply a w s b y) (t_apply a w s b y) (h_apply a w s b y)).trans (congrArg gelu (lin_apply a w s b y))

/-- The greatest magnitude in row r, block q, of a tile. -/
def blockMax (v : FVec Ideal S512x512 .f32) (r : Fin 512) (q : Fin 4) : EReal :=
  amax fun x => v (ix2 r ⟨128 * q.val + x.val, by omega⟩)

/-- The codes of a tile. -/
def codes (v : FVec Ideal S512x512 .f32) : Vec Ideal S512x512 .fp8e4m3 := fun y =>
  code (blockMax v (y 0) ⟨(y 1).val / 128, by have : (y 1).val < 512 := (y 1).isLt; omega⟩) (v y)

/-- The code of entry x of block q of a tile is the tile's code at column 128 q + x. -/
theorem codes_of (v : FVec Ideal S512x512 .f32) (q : Fin 4) (x : S512x128.Idx) (y : S512x512.Idx) (k : ℕ) (hk : k = 128 * q.val) (h0 : (y 0).val = (x 0).val)
    (h1 : (y 1).val = k + (x 1).val) :
    code (blockMax v (x 0) q) (v (ix2 (x 0) ⟨128 * q.val + (x 1).val, by have : (x 1).val < 128 := (x 1).isLt; omega⟩)) = codes v y := by
  have hx1 : (x 1).val < 128 := (x 1).isLt
  have e0 : y 0 = x 0 := Fin.ext h0
  have hy : y = ix2 (x 0) ⟨128 * q.val + (x 1).val, by omega⟩ := by
    funext a
    match a with
    | ⟨0, _⟩ => exact e0
    | ⟨1, _⟩ => exact Fin.ext (by show (y 1).val = 128 * q.val + (x 1).val; omega)
  unfold codes
  refine congrArg₂ code (congrArg₂ (blockMax v) e0.symm (Fin.ext ?_)) (congrArg v hy.symm)
  show q.val = (y 1).val / 128
  omega

/-- The codes that the body makes of block 0. -/
theorem codes_0 (a b c d : FVec Ideal S512x512 .f32) (x : S512x128.Idx) :
    (Gen.k0_pay141 (Gen.k0_pay136 a b c d) (Gen.k0_pay138 a b c d) (Gen.k0_pay139 a b c d) (FloatOps.ofBits .f32 0#32) x : EReal)
      = code (blockMax (Gen.k0_pay134 a b c d) (x 0) 0) (Gen.k0_pay134 a b c d (ix2 (x 0) ⟨128 * 0 + (x 1).val, by have : (x 1).val < 128 := (x 1).isLt; omega⟩)) := by
  unfold code blockMax amax
  rw [← expo_eq]
  unfold Gen.k0_pay141 Gen.k0_pay140 Gen.k0_pay138 Gen.k0_pay139 Gen.k0_pay137 Gen.k0_pay136
  pointwise
  rfl

/-- The codes that the body makes of block 1. -/
theorem codes_1 (v : FVec Ideal S512x512 .f32) (x : S512x128.Idx) :
    (Gen.k0_pay147 (Gen.k0_pay146 v) (FloatOps.ofBits .f32 3286237184#32) x : EReal)
      = code (blockMax v (x 0) 1) (v (ix2 (x 0) ⟨128 * 1 + (x 1).val, by have : (x 1).val < 128 := (x 1).isLt; omega⟩)) := by
  unfold code blockMax amax
  rw [← expo_eq]
  unfold Gen.k0_pay147 Gen.k0_pay146 Gen.k0_pay144 Gen.k0_pay143
  pointwise
  rfl

/-- The codes that the body makes of block 2. -/
theorem codes_2 (v : FVec Ideal S512x512 .f32) (x : S512x128.Idx) :
    (Gen.k0_pay152 v x : EReal)
      = code (blockMax v (x 0) 2) (v (ix2 (x 0) ⟨128 * 2 + (x 1).val, by have : (x 1).val < 128 := (x 1).isLt; omega⟩)) := by
  unfold code blockMax amax
  rw [← expo_eq]
  unfold Gen.k0_pay152 Gen.k0_pay150 Gen.k0_pay149
  pointwise
  rfl

/-- The codes that the body makes of block 3. -/
theorem codes_3 (v : FVec Ideal S512x512 .f32) (x : S512x128.Idx) :
    (Gen.k0_pay155 v x : EReal)
      = code (blockMax v (x 0) 3) (v (ix2 (x 0) ⟨128 * 3 + (x 1).val, by have : (x 1).val < 128 := (x 1).isLt; omega⟩)) := by
  unfold code blockMax amax
  rw [← expo_eq]
  unfold Gen.k0_pay155 Gen.k0_pay154 Gen.k0_pay153
  pointwise
  rfl

/-- The four stores of codes leave the tile's codes. -/
theorem codes_canon (a : Vec Ideal S512x12800 .bf16) (w : Vec Ideal S12800x512 .fp8e4m3) (s b : Vec Ideal S1x512 .f32) (y : S512x512.Idx) :
    View.canon
      [⟨Rect.unit ![0, 384] ![512, 128] Gen.inb_S512x512_S512x128_0_384, Gen.k0_pay155 (act a w s b)⟩,
        ⟨Rect.unit ![0, 256] ![512, 128] Gen.inb_S512x512_S512x128_0_256, Gen.k0_pay152 (act a w s b)⟩,
        ⟨Rect.unit ![0, 128] ![512, 128] Gen.inb_S512x512_S512x128_0_128,
          Gen.k0_pay147 (Gen.k0_pay146 (act a w s b)) (FloatOps.ofBits FTy.f32 3286237184#32)⟩,
        ⟨Rect.unit ![0, 0] ![512, 128] Gen.inb_S512x512_S512x128_0_0,
          Gen.k0_pay141
            (Gen.k0_pay136 (Gen.k0_pay130 a w s b) (Gen.k0_pay131 a w s b) (Gen.k0_pay132 a w s b) (Gen.k0_pay133 a w s b))
            (Gen.k0_pay138 (Gen.k0_pay130 a w s b) (Gen.k0_pay131 a w s b) (Gen.k0_pay132 a w s b) (Gen.k0_pay133 a w s b))
            (Gen.k0_pay139 (Gen.k0_pay130 a w s b) (Gen.k0_pay131 a w s b) (Gen.k0_pay132 a w s b) (Gen.k0_pay133 a w s b))
            (FloatOps.ofBits FTy.f32 0#32)⟩]
      y = codes (act a w s b) y := by
  canon_tiles x h
  · exact (codes_3 _ x).trans (codes_of _ 3 x y 384 rfl (by omega) (by omega))
  · exact (codes_2 _ x).trans (codes_of _ 2 x y 256 rfl (by omega) (by omega))
  · exact (codes_1 _ x).trans (codes_of _ 1 x y 128 rfl (by omega) (by omega))
  · exact (codes_0 _ _ _ _ x).trans (codes_of _ 0 x y 0 rfl (by omega) (by omega))

/-- The scales after column tile j: tile j's four scales in its four lanes, the other lanes as before. -/
def scales (j : ℕ) (v : FVec Ideal S512x512 .f32) (g : Vec Ideal S512x56 .f32) : Vec Ideal S512x56 .f32 := fun y =>
  if (y 1).val / 4 = j then scale (blockMax v (y 0) ⟨(y 1).val % 4, by omega⟩) else g y

/-- A lane's number against a block's, as words. -/
theorem lane_eq (n j q : ℕ) (hn : n < 56) (hj : j < 14) (hq : q < 4) (u v : EReal) :
    Scalar.select (IntOp.cmpi .eq (BitVec.ofNat 32 n) (Scalar.addi (Scalar.muli (BitVec.ofNat 32 j) 4#32) (BitVec.ofNat 32 q))) u v
      = if n = 4 * j + q then u else v := by
  have e : Scalar.addi (Scalar.muli (BitVec.ofNat 32 j) 4#32) (BitVec.ofNat 32 q) = BitVec.ofNat 32 (4 * j + q) := by
    show BitVec.ofNat 32 j * 4#32 + BitVec.ofNat 32 q = _
    apply BitVec.eq_of_toNat_eq
    simp only [BitVec.toNat_add, BitVec.toNat_mul, BitVec.toNat_ofNat]
    omega
  rw [e]
  by_cases h : n = 4 * j + q
  · rw [if_pos h, h]
    simp [Scalar.select, IntOp.cmpi]
  · rw [if_neg h]
    have h2 : BitVec.ofNat 32 n ≠ BitVec.ofNat 32 (4 * j + q) := fun hh => h (by
      have := congrArg BitVec.toNat hh
      simp only [BitVec.toNat_ofNat] at this
      omega)
    have h3 : (BitVec.ofNat 32 n == BitVec.ofNat 32 (4 * j + q)) = false := beq_eq_false_iff_ne.mpr h2
    simp only [Scalar.select, IntOp.cmpi, h3]
    rfl

/-- The block of scales that the body stores: its four blocks' scales put over what the block held. -/
theorem scales_apply (j : ℕ) (hj : j < 14) (a : Vec Ideal S512x12800 .bf16) (w : Vec Ideal S12800x512 .fp8e4m3) (s b : Vec Ideal S1x512 .f32) (g : Vec Ideal S512x56 .f32) (y : S512x56.Idx) :
    Gen.k0_pay156 (BitVec.ofNat 32 j) (act a w s b) (iota Kind.tc S512x56 32 [1] Gen.iota_S512x56_d1_w32)
      (Gen.k0_pay148 (BitVec.ofNat 32 j) (iota Kind.tc S512x56 32 [1] Gen.iota_S512x56_d1_w32)
        (Gen.k0_pay142 (BitVec.ofNat 32 j) (iota Kind.tc S512x56 32 [1] Gen.iota_S512x56_d1_w32)
          (Gen.k0_pay135 g)
          (Gen.k0_pay138 (Gen.k0_pay130 a w s b) (Gen.k0_pay131 a w s b) (Gen.k0_pay132 a w s b) (Gen.k0_pay133 a w s b))
          (Gen.k0_pay139 (Gen.k0_pay130 a w s b) (Gen.k0_pay131 a w s b) (Gen.k0_pay132 a w s b) (Gen.k0_pay133 a w s b))
          (FloatOps.ofBits FTy.f32 0#32))
        (Gen.k0_pay145 (act a w s b)))
      (Gen.k0_pay151 (act a w s b)) y = scales j (act a w s b) g y := by
  have e0 : (exp2 (Gen.k0_pay140 (Gen.k0_pay138 (Gen.k0_pay130 a w s b) (Gen.k0_pay131 a w s b) (Gen.k0_pay132 a w s b) (Gen.k0_pay133 a w s b))
          (Gen.k0_pay139 (Gen.k0_pay130 a w s b) (Gen.k0_pay131 a w s b) (Gen.k0_pay132 a w s b) (Gen.k0_pay133 a w s b))
          (FloatOps.ofBits FTy.f32 0#32)) (ix2 (y 0) 0) : EReal) = scale (blockMax (act a w s b) (y 0) 0) := by
    unfold scale blockMax amax
    rw [← expo_eq]
    unfold Gen.k0_pay140 Gen.k0_pay138 Gen.k0_pay139 Gen.k0_pay137 Gen.k0_pay136
    pointwise
    rfl
  have e1 : (Gen.k0_pay145 (act a w s b) (ix2 (y 0) 0) : EReal) = scale (blockMax (act a w s b) (y 0) 1) := by
    unfold scale blockMax amax
    rw [← expo_eq]
    unfold Gen.k0_pay145 Gen.k0_pay144 Gen.k0_pay143
    pointwise
    rfl
  have e2 : (Gen.k0_pay151 (act a w s b) (ix2 (y 0) 0) : EReal) = scale (blockMax (act a w s b) (y 0) 2) := by
    unfold scale blockMax amax
    rw [← expo_eq]
    unfold Gen.k0_pay151 Gen.k0_pay150 Gen.k0_pay149
    pointwise
    rfl
  have e3 : (exp2 (Gen.k0_pay154 (act a w s b)) (ix2 (y 0) 0) : EReal) = scale (blockMax (act a w s b) (y 0) 3) := by
    unfold scale blockMax amax
    rw [← expo_eq]
    unfold Gen.k0_pay154 Gen.k0_pay153
    pointwise
    rfl
  unfold Gen.k0_pay156 Gen.k0_pay148 Gen.k0_pay142 Gen.k0_pay135
  revert e0 e1 e2 e3
  generalize Gen.k0_pay154 (act a w s b) = w3
  generalize Gen.k0_pay151 (act a w s b) = w2
  generalize Gen.k0_pay145 (act a w s b) = w1
  generalize (Gen.k0_pay140 _ _ _) = w0
  intro e0 e1 e2 e3
  pointwise
  have hy : (y 1).val < 56 := (y 1).isLt
  refine (lane_eq (y 1).val j 3 hy hj (by omega) _ _).trans ?_
  refine (congrArg (fun u : EReal => if (y 1).val = 4 * j + 3 then _ else u) ((lane_eq (y 1).val j 2 hy hj (by omega) _ _).trans
    (congrArg (fun u : EReal => if (y 1).val = 4 * j + 2 then _ else u) ((lane_eq (y 1).val j 1 hy hj (by omega) _ _).trans
    (congrArg (fun u : EReal => if (y 1).val = 4 * j + 1 then _ else u) (lane_eq (y 1).val j 0 hy hj (by omega) _ _)))))).trans ?_
  have hq : ∀ q : Fin 4, (y 1).val = 4 * j + q.val →
      scale (blockMax (act a w s b) (y 0) q) = scales j (act a w s b) g y := fun q h => by
    unfold scales
    rw [if_pos (by omega)]
    exact congrArg (fun q => scale (blockMax (act a w s b) (y 0) q)) (Fin.ext (by show q.val = (y 1).val % 4; omega))
  split_ifs with h3 h2 h1 h0
  · exact e3.trans (hq 3 h3)
  · exact e2.trans (hq 2 h2)
  · exact e1.trans (hq 1 h1)
  · exact e0.trans (hq 0 h0)
  · unfold scales
    rw [if_neg (by omega)]

/-- Case A leaves the tile's codes, from the left factor just stored. -/
theorem out_A_5 (c : Dev nD) (i : grid0.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : Gen.cond0_0 i)
    (x0 : Vec Ideal S512x12800 .fp8e4m3) (x1 : Vec Ideal S512x100 .f32) (x2 : Vec Ideal S12800x512 .fp8e4m3) (x3 : Vec Ideal S1x512 .f32) (x4 : Vec Ideal S1x512 .f32) :
    Gen.out0_A_5 c i arg2 harg2 arg3 harg3 arg4 harg4 arg5 harg5 arg6 harg6 arg7 harg7 arg8 harg8 arg9 harg9 hc0 x0 x1 x2 x3 x4 = codes (act (deq x0 x1) x2 x3 x4) := by
  have h := sout_A c i arg2 harg2 arg3 harg3 arg4 harg4 arg5 harg5 arg6 harg6 arg7 harg7 arg8 harg8 arg9 harg9 hc0 x0 x1 x2 x3 x4
  revert h
  frame_out
  intro h
  funext y
  refine (codes_canon _ x2 x3 x4 y).trans (congrArg (fun v => codes (act v x2 x3 x4) y) ?_)
  rw [← h]
  rw [View.readCov_eq_canon']
  refine funext fun j => ?_
  refine congrArg _ (funext fun a => Fin.ext ((Rect.idx_unit_val _ _ _ _ a).trans ?_))
  match a with
  | ⟨0, _⟩ => exact Nat.zero_add _
  | ⟨1, _⟩ => exact Nat.zero_add _

/-- Case B leaves the tile's codes, from the left factor carried in the scratch. -/
theorem out_B_5 (c : Dev nD) (i : grid0.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : ¬ Gen.cond0_0 i)
    (x0 : Vec Ideal S512x12800 .fp8e4m3) (x1 : Vec Ideal S512x100 .f32) (x2 : Vec Ideal S12800x512 .fp8e4m3) (x3 : Vec Ideal S1x512 .f32) (x4 : Vec Ideal S1x512 .f32) (xo6 : Vec Ideal S512x56 .f32) (xs0 : Vec Ideal S512x12800 .bf16) :
    Gen.out0_B_5 c i arg2 harg2 arg3 harg3 arg4 harg4 arg5 harg5 arg6 harg6 arg7 harg7 arg8 harg8 arg9 harg9 hc0 x0 x1 x2 x3 x4 xo6 xs0 = codes (act xs0 x2 x3 x4) := by
  funext y
  frame_out
  exact codes_canon xs0 x2 x3 x4 y

/-- Case B leaves the tile's scales over those before. -/
theorem out_B_6 (c : Dev nD) (i : grid0.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : ¬ Gen.cond0_0 i)
    (x0 : Vec Ideal S512x12800 .fp8e4m3) (x1 : Vec Ideal S512x100 .f32) (x2 : Vec Ideal S12800x512 .fp8e4m3) (x3 : Vec Ideal S1x512 .f32) (x4 : Vec Ideal S1x512 .f32) (xo6 : Vec Ideal S512x56 .f32) (xs0 : Vec Ideal S512x12800 .bf16) :
    Gen.out0_B_6 c i arg2 harg2 arg3 harg3 arg4 harg4 arg5 harg5 arg6 harg6 arg7 harg7 arg8 harg8 arg9 harg9 hc0 x0 x1 x2 x3 x4 xo6 xs0 = scales (i 1).val (act xs0 x2 x3 x4) xo6 := by
  funext y
  frame_out
  exact scales_apply (i 1).val (i 1).isLt xs0 x2 x3 x4 xo6 y

/-- Case A leaves the tile's scales over zeros. -/
theorem out_A_6 (c : Dev nD) (i : grid0.Coords) (arg2 : Memref sig .tc .vmem S512x12800 .fp8e4m3) (harg2 : arg2.IsWhole) (arg3 : Memref sig .tc .vmem S512x100 .f32) (harg3 : arg3.IsWhole) (arg4 : Memref sig .tc .vmem S12800x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .fp8e4m3) (harg7 : arg7.IsWhole) (arg8 : Memref sig .tc .vmem S512x56 .f32) (harg8 : arg8.IsWhole) (arg9 : Memref sig .tc .vmem S512x12800 .bf16) (harg9 : arg9.IsWhole) (hc0 : Gen.cond0_0 i)
    (x0 : Vec Ideal S512x12800 .fp8e4m3) (x1 : Vec Ideal S512x100 .f32) (x2 : Vec Ideal S12800x512 .fp8e4m3) (x3 : Vec Ideal S1x512 .f32) (x4 : Vec Ideal S1x512 .f32) :
    Gen.out0_A_6 c i arg2 harg2 arg3 harg3 arg4 harg4 arg5 harg5 arg6 harg6 arg7 harg7 arg8 harg8 arg9 harg9 hc0 x0 x1 x2 x3 x4 = scales (i 1).val (act (deq x0 x1) x2 x3 x4) (fun _ => (0 : EReal)) := by
  have h := sout_A c i arg2 harg2 arg3 harg3 arg4 harg4 arg5 harg5 arg6 harg6 arg7 harg7 arg8 harg8 arg9 harg9 hc0 x0 x1 x2 x3 x4
  revert h
  frame_out
  intro h
  funext y
  refine (scales_apply (i 1).val (i 1).isLt _ x2 x3 x4 _ y).trans (congrArg₂ (fun v g => scales (i 1).val (act v x2 x3 x4) g y) ?_ ?_)
  · rw [← h]
    rw [View.readCov_eq_canon']
    refine funext fun j => ?_
    refine congrArg _ (funext fun a => Fin.ext ((Rect.idx_unit_val _ _ _ _ a).trans ?_))
    match a with
    | ⟨0, _⟩ => exact Nat.zero_add _
    | ⟨1, _⟩ => exact Nat.zero_add _
  · unfold Gen.k0_pay129
    funext j
    pointwise

end Cert.Linear1Ideal.Tile
-- ==== Proof.Linear1IdealArray.lean ====
module

public import proofs.«01_k».proof.Proof.Linear1IdealTile
public import proofs.«01_k».proof.Proof.Linear1Math

/-!
What the two results of the first linear layer hold after all 168 grid points: the codes, a tile a point, and the scales,
four lanes a point into the row tile's block.
-/

@[expose] public section

noncomputable section

namespace Cert.Linear1Ideal.Tile

open Idealize.ShloMosaic Idealize.ShloMosaic.TcCoe Idealize.SL.Sem Cert.Linear1Ideal Cert.Linear1Ideal.Gen Cert.QuantMath

variable (m : (ℓ : Loc nD τ sig) → Buf (Elt Ideal) ℓ)

/-- The block of each operand's array that a grid point sees: row tile t / 14, column tile t mod 14. -/
theorem idx : ∀ t : Fin cfg0.N, win0_0.index t = ![t.val / 14, 0] ∧ win0_1.index t = ![t.val / 14, 0]
    ∧ win0_2.index t = ![0, t.val % 14] ∧ win0_3.index t = ![0, t.val % 14] ∧ win0_4.index t = ![0, t.val % 14]
    ∧ win0_5.index t = ![t.val / 14, t.val % 14] ∧ win0_6.index t = ![t.val / 14, 0] :=
  (by decide +kernel : ∀ t : Fin grid0.N, _)

/-- The column coordinate of a grid point. -/
theorem col : ∀ t : Fin cfg0.N, (grid0.coords t 1).val = t.val % 14 :=
  (by decide +kernel : ∀ t : Fin grid0.N, _)

/-- The left factor, at the argument arrays. -/
def lhs (c : Dev nD) (r : Fin 6144) (k : Fin 12800) : EReal :=
  Linear1Math.lhs (m ((c : Thread nD τ).loc main_arg0)) (m ((c : Thread nD τ).loc main_arg1)) r k

/-- The layer before its activation, at the argument arrays. -/
def lin (c : Dev nD) (r : Fin 6144) (j : Fin 7168) : EReal :=
  Linear1Math.lin (m ((c : Thread nD τ).loc main_arg0)) (m ((c : Thread nD τ).loc main_arg1)) (m ((c : Thread nD τ).loc main_arg2))
    (m ((c : Thread nD τ).loc main_arg3)) (m ((c : Thread nD τ).loc main_arg4)) r j

/-- What the first result holds: the codes of the activation, at the argument arrays. -/
def GC (c : Dev nD) : S6144x7168.Idx → Elt Ideal .fp8e4m3 :=
  Linear1Math.outCodes (m ((c : Thread nD τ).loc main_arg0)) (m ((c : Thread nD τ).loc main_arg1)) (m ((c : Thread nD τ).loc main_arg2))
    (m ((c : Thread nD τ).loc main_arg3)) (m ((c : Thread nD τ).loc main_arg4))

/-- What the second result holds: the scales of the activation, at the argument arrays. -/
def GS (c : Dev nD) : S6144x56.Idx → Elt Ideal .f32 :=
  Linear1Math.outScales (m ((c : Thread nD τ).loc main_arg0)) (m ((c : Thread nD τ).loc main_arg1)) (m ((c : Thread nD τ).loc main_arg2))
    (m ((c : Thread nD τ).loc main_arg3)) (m ((c : Thread nD τ).loc main_arg4))

/-- The left factor of a point's row tile is the array's, row by row. -/
theorem deq_blk (c : Dev nD) (t : Fin cfg0.N) (y : S512x12800.Idx) :
    deq (iblk m c 0 t) (iblk m c 1 t) y = lhs m c ⟨512 * (t.val / 14) + (y 0).val, by
      have h0 : (y 0).val < 512 := (y 0).isLt
      have ht : t.val < 168 := t.isLt
      omega⟩ (y 1) := by
  unfold deq lhs Linear1Math.lhs
  congr 1 <;> blk_ext [iblk, V, idx t]

/-- The activation of a point's tile. -/
abbrev tile (c : Dev nD) (t : Fin cfg0.N) : FVec Ideal S512x512 .f32 :=
  act (deq (iblk m c 0 t) (iblk m c 1 t)) (iblk m c 2 t) (iblk m c 3 t) (iblk m c 4 t)

/-- The activation of a point's tile is the gelu of the layer, at the tile's place in the array. -/
theorem tile_apply (c : Dev nD) (t : Fin cfg0.N) (r : Fin 512) (j : Fin 512) :
    (tile m c t (ix2 r j) : EReal) = gelu (lin m c ⟨512 * (t.val / 14) + r.val, by have ht : t.val < 168 := t.isLt; omega⟩
      ⟨512 * (t.val % 14) + j.val, by omega⟩) := by
  unfold tile
  rw [act_apply]
  refine congrArg gelu ?_
  unfold lin Linear1Math.lin
  simp only [deq_blk]
  unfold lhs Linear1Math.lhs
  refine congrArg₂ (fun u v : EReal => u + v) (congrArg₂ (fun u v : EReal => u * v) (Finset.sum_congr rfl fun k _ => ?_) ?_) ?_
  · refine congrArg₂ (fun u v : EReal => u * v) rfl ?_
    blk_ext [iblk, V, idx t]
  · blk_ext! [iblk, V, idx t]
  · blk_ext! [iblk, V, idx t]

/-- The greatest magnitude in a block of a tile is that of the block of the array it is part of. -/
theorem tile_max (c : Dev nD) (t : Fin cfg0.N) (r : Fin 512) (q : Fin 4) :
    blockMax (tile m c t) r q = Linear1Math.blockMax (m ((c : Thread nD τ).loc main_arg0)) (m ((c : Thread nD τ).loc main_arg1)) (m ((c : Thread nD τ).loc main_arg2))
    (m ((c : Thread nD τ).loc main_arg3)) (m ((c : Thread nD τ).loc main_arg4)) ⟨512 * (t.val / 14) + r.val, by have ht : t.val < 168 := t.isLt; omega⟩ ⟨4 * (t.val % 14) + q.val, by omega⟩ := by
  unfold blockMax Linear1Math.blockMax
  refine congrArg amax (funext fun x => ?_)
  rw [tile_apply]
  refine congrArg gelu (congrArg (lin m c _) (Fin.ext ?_))
  show 512 * (t.val % 14) + (128 * q.val + x.val) = 128 * (4 * (t.val % 14) + q.val) + x.val
  omega

/-- Case A (the first column tile of a row tile): the left factor is stored, the codes made from it, and the scales
    put over zeros. -/
theorem outs_A (c : Dev nD) (n : ℕ) (hn : n < cfg0.N) (h0 : n % 14 = 0) :
    outsAt0 m c n hn = (codes (tile m c ⟨n, hn⟩), scales (n % 14) (tile m c ⟨n, hn⟩) (fun _ => (0 : EReal)),
      deq (iblk m c 0 ⟨n, hn⟩) (iblk m c 1 ⟨n, hn⟩)) := by
  have h := outsAt0_A m c ⟨n, hn⟩ h0
  rw [sout_A, out_A_5, out_A_6, col] at h
  exact h

/-- Case B (the other column tiles): codes and scales are made from the left factor as the point before left it, and
    the scales put over those the point before left. -/
theorem outs_B (c : Dev nD) (n : ℕ) (hn : n < cfg0.N) (h0 : ¬ n % 14 = 0) :
    outsAt0 m c n hn = (codes (act (outsAt0 m c (n - 1) (by omega)).2.2 (iblk m c 2 ⟨n, hn⟩) (iblk m c 3 ⟨n, hn⟩) (iblk m c 4 ⟨n, hn⟩)),
      scales (n % 14) (act (outsAt0 m c (n - 1) (by omega)).2.2 (iblk m c 2 ⟨n, hn⟩) (iblk m c 3 ⟨n, hn⟩) (iblk m c 4 ⟨n, hn⟩))
        (outsAt0 m c (n - 1) (by omega)).2.1,
      (outsAt0 m c (n - 1) (by omega)).2.2) := by
  have h := outsAt0_B m c ⟨n, hn⟩ h0
  rw [out_B_5, out_B_6, sout0_B_0, col] at h
  exact h

/-- The scratch after every point: the row tile's left factor, in case A just stored and in case B carried. -/
theorem scratch (c : Dev nD) (n : ℕ) : ∀ hn : n < cfg0.N,
    (outsAt0 m c n hn).2.2 = deq (iblk m c 0 ⟨n, hn⟩) (iblk m c 1 ⟨n, hn⟩) := by
  induction n using Nat.strong_induction_on with
  | _ n ih =>
    intro hn
    by_cases h0 : n % 14 = 0
    · rw [outs_A m c n hn h0]
    · rw [outs_B m c n hn h0]
      have hp : n - 1 < cfg0.N := lt_of_le_of_lt (Nat.sub_le n 1) hn
      have hl : n - 1 < n := Nat.sub_lt (Nat.pos_of_ne_zero fun h => h0 (by rw [h])) Nat.one_pos
      refine (ih (n - 1) hl hp).trans (funext fun y => ?_)
      rw [deq_blk, deq_blk]
      refine congrArg (fun r => lhs m c r (y 1)) (Fin.ext ?_)
      show 512 * ((n - 1) / 14) + _ = 512 * (n / 14) + _
      omega

/-- What a point leaves in the block of codes. -/
theorem outs_5 (c : Dev nD) (t : Fin cfg0.N) : (outsAt0 m c t.val t.isLt).1 = codes (tile m c t) := by
  have hs := scratch m c t.val t.isLt
  by_cases h0 : t.val % 14 = 0
  · rw [outs_A m c t.val t.isLt h0]
  · rw [outs_B m c t.val t.isLt h0] at hs ⊢
    exact congrArg (fun v => codes (act v (iblk m c 2 t) (iblk m c 3 t) (iblk m c 4 t))) hs

/-- What a point leaves in the block of scales, case B: the tile's scales over those of the point before. -/
theorem outs_6 (c : Dev nD) (t : Fin cfg0.N) (h0 : ¬ t.val % 14 = 0) : (outsAt0 m c t.val t.isLt).2.1
    = scales (t.val % 14) (tile m c t) (outsAt0 m c (t.val - 1) (lt_of_le_of_lt (Nat.sub_le _ 1) t.isLt)).2.1 := by
  have hs := scratch m c t.val t.isLt
  rw [outs_B m c t.val t.isLt h0] at hs ⊢
  exact congrArg (fun v => scales (t.val % 14) (act v (iblk m c 2 t) (iblk m c 3 t) (iblk m c 4 t))
    (outsAt0 m c (t.val - 1) (lt_of_le_of_lt (Nat.sub_le _ 1) t.isLt)).2.1) hs

/-- A lane of the point's own column tile, after the point: the block's scale. -/
theorem own (c : Dev nD) (t : Fin cfg0.N) (g : Vec Ideal S512x56 .f32) (y : S512x56.Idx) (h : (y 1).val / 4 = t.val % 14) :
    (scales (t.val % 14) (tile m c t) g y : EReal) = scale (Linear1Math.blockMax (m ((c : Thread nD τ).loc main_arg0)) (m ((c : Thread nD τ).loc main_arg1)) (m ((c : Thread nD τ).loc main_arg2))
    (m ((c : Thread nD τ).loc main_arg3)) (m ((c : Thread nD τ).loc main_arg4))
      ⟨512 * (t.val / 14) + (y 0).val, by have h0 : (y 0).val < 512 := (y 0).isLt; have ht : t.val < 168 := t.isLt; omega⟩ (y 1)) := by
  unfold scales
  rw [if_pos h]
  refine (congrArg scale (tile_max m c t (y 0) _)).trans ?_
  refine congrArg scale (congrArg (Linear1Math.blockMax _ _ _ _ _ _) (Fin.ext ?_))
  show 4 * (t.val % 14) + (y 1).val % 4 = (y 1).val
  omega

/-- After every point, the lanes of the column tiles so far hold their blocks' scales. -/
theorem lanes (c : Dev nD) (n : ℕ) : ∀ (hn : n < cfg0.N) (y : S512x56.Idx), (y 1).val / 4 ≤ n % 14 →
    ((outsAt0 m c n hn).2.1 y : EReal) = scale (Linear1Math.blockMax (m ((c : Thread nD τ).loc main_arg0)) (m ((c : Thread nD τ).loc main_arg1)) (m ((c : Thread nD τ).loc main_arg2))
    (m ((c : Thread nD τ).loc main_arg3)) (m ((c : Thread nD τ).loc main_arg4))
      ⟨512 * (n / 14) + (y 0).val, by have h0 : (y 0).val < 512 := (y 0).isLt; have ht : n < 168 := hn; omega⟩ (y 1)) := by
  induction n using Nat.strong_induction_on with
  | _ n ih =>
    intro hn y hy
    by_cases h0 : n % 14 = 0
    · rw [outs_A m c n hn h0]
      exact own m c ⟨n, hn⟩ (fun _ => (0 : EReal)) y (by show (y 1).val / 4 = n % 14; omega)
    · refine (congrFun (outs_6 m c ⟨n, hn⟩ h0) y).trans ?_
      by_cases h1 : (y 1).val / 4 = n % 14
      · exact own m c ⟨n, hn⟩ _ y h1
      · have hp : n - 1 < cfg0.N := lt_of_le_of_lt (Nat.sub_le n 1) hn
        have hl : n - 1 < n := Nat.sub_lt (Nat.pos_of_ne_zero fun h => h0 (by rw [h])) Nat.one_pos
        unfold scales
        rw [if_neg h1]
        refine (ih (n - 1) hl hp y (by omega)).trans ?_
        refine congrArg (fun r => scale (Linear1Math.blockMax _ _ _ _ _ r (y 1))) (Fin.ext ?_)
        show 512 * ((n - 1) / 14) + _ = 512 * (n / 14) + _
        omega

/-- A point's block of codes is the part of the whole result's codes at its place. -/
theorem point_5 (c : Dev nD) (t : Fin cfg0.N) (y : S512x512.Idx) :
    (outsAt0 m c t.val t.isLt).1 y = GC m c (((cfg0.win 5).blk t).view.emb y) := by
  have hy0 : (y 0).val < 512 := (y 0).isLt
  have hy1 : (y 1).val < 512 := (y 1).isLt
  have ht : t.val < 168 := t.isLt
  have he : ((cfg0.win 5).blk t).view.emb y = (ix2 (⟨512 * (t.val / 14) + (y 0).val, by omega⟩ : Fin 6144)
      (⟨512 * (t.val % 14) + (y 1).val, by omega⟩ : Fin 7168) : S6144x7168.Idx) := by
    blk_ext [idx t]
  rw [outs_5, he]
  unfold codes GC Linear1Math.outCodes
  refine congrArg₂ code ((tile_max m c t (y 0) _).trans ?_) ?_
  · refine congrArg (Linear1Math.blockMax _ _ _ _ _ _) (Fin.ext ?_)
    show 4 * (t.val % 14) + (y 1).val / 128 = (512 * (t.val % 14) + (y 1).val) / 128
    omega
  · exact (congrArg (tile m c t) (by funext a; match a with | ⟨0, _⟩ => rfl | ⟨1, _⟩ => rfl)).trans (tile_apply m c t (y 0) (y 1))

/-- A row tile's last block of scales is the part of the whole result's scales at its place. -/
theorem point_6 (c : Dev nD) (t : Fin cfg0.N) (h : t.val % 14 = 13) (y : S512x56.Idx) :
    (outsAt0 m c t.val t.isLt).2.1 y = GS m c (((cfg0.win 6).blk t).view.emb y) := by
  have hy0 : (y 0).val < 512 := (y 0).isLt
  have hy1 : (y 1).val < 56 := (y 1).isLt
  have ht : t.val < 168 := t.isLt
  have he : ((cfg0.win 6).blk t).view.emb y = (ix2 (⟨512 * (t.val / 14) + (y 0).val, by omega⟩ : Fin 6144)
      (⟨(y 1).val, by omega⟩ : Fin 56) : S6144x56.Idx) := by
    blk_ext [idx t]
  rw [he]
  exact lanes m c t.val t.isLt y (by omega)

/-- The scales are written back after the last column tile of a row tile. -/
theorem flush_6 : ∀ t : Fin cfg0.N, (cfg0.win 6).flush t = true → t.val % 14 = 13 :=
  (by decide +kernel : ∀ t : Fin grid0.N, _)

/-- The codes, whole. -/
theorem arr_5 (c : Dev nD) : (dats m 0 c).arrAt 5 cfg0.N = GC m c := by
  refine (dats m 0 c).arrAt_eq_of_covers 5 _ (by decide +kernel) fun t hf y => ?_
  blk_simp
  exact point_5 m c t y

/-- The scales, whole. -/
theorem arr_6 (c : Dev nD) : (dats m 0 c).arrAt 6 cfg0.N = GS m c := by
  refine (dats m 0 c).arrAt_eq_of_covers 6 _ (by decide +kernel) fun t hf y => ?_
  blk_simp
  exact point_6 m c t (flush_6 t hf) y

/-- The whole run: the two results are `GC` and `GS` of the arguments, which stay as they were. -/
theorem run (ρ : Dev nD → PrngReg) : θ_run defs (onTc (τ := τ) (main (F := Ideal))) ⟨m, fun _ => 0, ρ⟩ fun r => ∀ c : Dev nD,
    r.2.mem ((c : Thread nD τ).loc main_v2_0) = GC m c
      ∧ r.2.mem ((c : Thread nD τ).loc main_v2_1) = GS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (arr_5 m c), (h c).2.1.trans (arr_6 m c), (h c).2.2⟩) (Value.run_blocks m ρ)

end Cert.Linear1Ideal.Tile
-- ==== Proof.Linear1RefIdealRun.lean ====
module

public import proofs.«01_k».proof.Proof.Gen.Linear1RefIdeal.Frame
public import Idealize.ShloMosaic.Lib.Pipeline.Value

/-!
The run of the first linear layer's reference, with its two results named by the arrays its one grid point leaves.
-/

@[expose] public section

noncomputable section

namespace Cert.Linear1RefIdeal.Run

open Cert.Linear1RefIdeal Cert.Linear1RefIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_1) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The whole run, each result named by the array it leaves, the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 5 cfg0.N
      ∧ r.2.mem ((c : Thread nD τ).loc main_v2_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

end Cert.Linear1RefIdeal.Run
-- ==== Proof.Linear1RefIdealReference.lean ====
module

public import proofs.«01_k».proof.Proof.Linear1RefIdealRun
public import proofs.«01_k».proof.Proof.Linear1Math
public import Idealize.ShloMosaic.Lib.Pipeline.ValueKit

/-!
What the reference of the first linear layer computes: its one point sees every array whole and leaves the codes and
scales of `Linear1Math`.
-/

@[expose] public section

noncomputable section

namespace Cert.Linear1RefIdeal.Ref

open Idealize.ShloMosaic Idealize.ShloMosaic.TcCoe Idealize.SL.Sem Cert.Linear1RefIdeal Cert.Linear1RefIdeal.Gen Cert.QuantMath

variable (m : (ℓ : Loc nD τ sig) → Buf (Elt Ideal) ℓ)

/-- The layer over whole arrays, at (r, j). -/
def lin (x0 : Vec Ideal S6144x12800 .fp8e4m3) (x1 : Vec Ideal S6144x100 .f32) (w : Vec Ideal S12800x7168 .fp8e4m3)
    (s b : Vec Ideal S1x7168 .f32) (r : Fin 6144) (j : Fin 7168) : EReal :=
  (∑ k : Fin 12800, (x0 (ix2 r k) : EReal) * (x1 (ix2 r ⟨k.val / 128, by omega⟩) : EReal) * (w (ix2 k j) : EReal))
    * (s (ix2 0 j) : EReal) + (b (ix2 0 j) : EReal)

/-- The layer, as the body computes it. -/
theorem pay5_apply (x0 : Vec Ideal S6144x12800 .fp8e4m3) (x1 : Vec Ideal S6144x100 .f32) (w : Vec Ideal S12800x7168 .fp8e4m3)
    (s b : Vec Ideal S1x7168 .f32) (y : S6144x7168.Idx) : (k0_pay5 x0 x1 w s b y : EReal) = lin x0 x1 w s b (y 0) (y 1) := by
  unfold lin k0_pay5
  pointwise

/-- Half of it. -/
theorem pay6_apply (x0 : Vec Ideal S6144x12800 .fp8e4m3) (x1 : Vec Ideal S6144x100 .f32) (w : Vec Ideal S12800x7168 .fp8e4m3)
    (s b : Vec Ideal S1x7168 .f32) (y : S6144x7168.Idx) :
    (k0_pay6 x0 x1 w s b y : EReal) = f 0x3F000000#32 * lin x0 x1 w s b (y 0) (y 1) := by
  rw [← pay5_apply]
  unfold k0_pay6
  pointwise

/-- Minus it over the root of two. -/
theorem pay7_apply (x0 : Vec Ideal S6144x12800 .fp8e4m3) (x1 : Vec Ideal S6144x100 .f32) (w : Vec Ideal S12800x7168 .fp8e4m3)
    (s b : Vec Ideal S1x7168 .f32) (y : S6144x7168.Idx) :
    (k0_pay7 x0 x1 w s b y : EReal) = (0 - lin x0 x1 w s b (y 0) (y 1)) * f 0x3F3504F3#32 := by
  rw [← pay5_apply]
  unfold k0_pay7
  pointwise

/-- The magnitude of that. -/
theorem pay8_apply (x0 : Vec Ideal S6144x12800 .fp8e4m3) (x1 : Vec Ideal S6144x100 .f32) (w : Vec Ideal S12800x7168 .fp8e4m3)
    (s b : Vec Ideal S1x7168 .f32) (y : S6144x7168.Idx) :
    (k0_pay8 x0 x1 w s b y : EReal) = max (k0_pay7 x0 x1 w s b y : EReal) (-(k0_pay7 x0 x1 w s b y : EReal)) := rfl

/-- The reciprocal that the fit of erfc is a polynomial in. -/
theorem pay9_apply (x0 : Vec Ideal S6144x12800 .fp8e4m3) (x1 : Vec Ideal S6144x100 .f32) (w : Vec Ideal S12800x7168 .fp8e4m3)
    (s b : Vec Ideal S1x7168 .f32) (y : S6144x7168.Idx) :
    (k0_pay9 x0 x1 w s b y : EReal) = recip (k0_pay8 x0 x1 w s b y) := by
  unfold recip k0_pay9
  pointwise

/-- The fit of erfc at p, over the reciprocal q of p. -/
theorem pay12_apply (p q : FVec Ideal S6144x7168 .f32) (y : S6144x7168.Idx) (h : (q y : EReal) = recip (p y)) :
    (k0_pay12 p q k0_pay10 k0_pay11 y : EReal) = tail powers (p y) := by
  unfold tail powers
  rw [← h]
  unfold k0_pay12 k0_pay10 k0_pay11
  pointwise

/-- The activation at column 128 q + x: the half of x times erfc, with erfc's reflection below zero. -/
theorem pay1_apply (a t p : FVec Ideal S6144x7168 .f32) (r : Fin 6144) (q : Fin 56) (x : Fin 128) :
    (k0_pay1 a t p (ix3 r q x) : EReal) = (fun i : S6144x7168.Idx => (a i : EReal) * (if (0 : EReal) ≤ (t i : EReal) then (p i : EReal)
      else f 0x40000000#32 - (p i : EReal))) (ix2 r ⟨q.val * 128 + x.val, by omega⟩) := by
  unfold k0_pay1
  pointwise

/-- The greatest magnitude over a block of a three-dimensional array. -/
theorem max_apply (v : FVec Ideal S6144x56x128 .f32) (y : S6144x56.Idx) :
    (multiReduction (F := Ideal) (φ := .f32) .maximumf [2] S6144x56 (absf v) 0xFF800000#32 reduces_S6144x56x128_S6144x56 (.inl rfl) rfl y : EReal)
      = amax fun x => v (ix3 (y 0) (y 1) x) := by
  unfold amax
  pointwise
  rfl

/-- The exponent of a block's scale. -/
theorem pay2_apply (a t p : FVec Ideal S6144x7168 .f32) (y : S6144x56.Idx) :
    (k0_pay2 a t p y : EReal) = expo (amax fun x => k0_pay1 a t p (ix3 (y 0) (y 1) x)) :=
  (expo_vec (multiReduction (F := Ideal) (φ := .f32) .maximumf [2] S6144x56 (absf (k0_pay1 a t p)) 0xFF800000#32 reduces_S6144x56x128_S6144x56 (.inl rfl) rfl) y).trans
    (congrArg expo (max_apply (k0_pay1 a t p) y))

/-- The codes of a three-dimensional array v over exponents e, laid out as rows again. -/
theorem code_vec (v : FVec Ideal S6144x56x128 .f32) (e : FVec Ideal S6144x56 .f32) (y : S6144x7168.Idx) :
    (shapeCast S6144x7168 (truncf (F := Ideal) .fp8e4m3 (minimumf (F := Ideal) (φ := .f32) (broadcast S6144x56x128 (Scalar.ofBits .f32 0x43E00000#32))
      (maximumf (F := Ideal) (φ := .f32) (broadcast S6144x56x128 (Scalar.ofBits .f32 0xC3E00000#32))
        (mulf (F := Ideal) (φ := .f32) v (broadcastTo S6144x56x128 (shapeCast S6144x56x1 (exp2 (F := Ideal) (φ := .f32) (subf (F := Ideal) (φ := .f32)
          (broadcast S6144x56 (Scalar.ofBits .f32 0x00000000#32)) e)) shapeCasts_S6144x56_S6144x56x1) broadcasts_S6144x56x1_S6144x56x128))))
        bitsLt_fp8e4m3_f32) shapeCasts_S6144x56x128_S6144x7168 y : EReal)
      = min (f 0x43E00000#32) (max (f 0xC3E00000#32) ((v (ix3 (y 0) ⟨(y 1).val / 128, by have : (y 1).val < 7168 := (y 1).isLt; omega⟩
        ⟨(y 1).val % 128, by omega⟩) : EReal) * Ideal.exp2 (0 - (e (ix2 (y 0) ⟨(y 1).val / 128, by have : (y 1).val < 7168 := (y 1).isLt; omega⟩) : EReal)))) := by
  pointwise
  rfl

/-- The codes. -/
theorem pay3_apply (a t p : FVec Ideal S6144x7168 .f32) (y : S6144x7168.Idx) :
    (k0_pay3 a t p y : EReal) = code (amax fun x => k0_pay1 a t p (ix3 (y 0) ⟨(y 1).val / 128, by have : (y 1).val < 7168 := (y 1).isLt; omega⟩ x))
      (k0_pay1 a t p (ix3 (y 0) ⟨(y 1).val / 128, by have : (y 1).val < 7168 := (y 1).isLt; omega⟩ ⟨(y 1).val % 128, by omega⟩)) :=
  (code_vec (k0_pay1 a t p) (k0_pay2 a t p) y).trans (congrArg (fun e => min (f 0x43E00000#32) (max (f 0xC3E00000#32) (_ * Ideal.exp2 (0 - e))))
    (pay2_apply a t p (ix2 (y 0) ⟨(y 1).val / 128, by have : (y 1).val < 7168 := (y 1).isLt; omega⟩)))

/-- Two to the power of each entry. -/
theorem exp2_vec (e : FVec Ideal S6144x56 .f32) (y : S6144x56.Idx) :
    (exp2 (F := Ideal) (φ := .f32) e y : EReal) = Ideal.exp2 (e y) := rfl

attribute [local irreducible] k0_pay1 k0_pay2

/-- The scales. -/
theorem pay4_apply (a t p : FVec Ideal S6144x7168 .f32) (y : S6144x56.Idx) :
    (k0_pay4 a t p y : EReal) = scale (amax fun x => k0_pay1 a t p (ix3 (y 0) (y 1) x)) :=
  (exp2_vec (k0_pay2 a t p) y).trans (congrArg Ideal.exp2 (pay2_apply a t p y))

/-- The activation over whole arrays, laid out in blocks, as the body computes it. -/
def act (x0 : Vec Ideal S6144x12800 .fp8e4m3) (x1 : Vec Ideal S6144x100 .f32) (w : Vec Ideal S12800x7168 .fp8e4m3)
    (s b : Vec Ideal S1x7168 .f32) : FVec Ideal S6144x56x128 .f32 :=
  k0_pay1 (k0_pay6 x0 x1 w s b) (k0_pay7 x0 x1 w s b) (k0_pay12 (k0_pay8 x0 x1 w s b) (k0_pay9 x0 x1 w s b) k0_pay10 k0_pay11)

/-- It is the gelu of the layer. -/
theorem act_apply (x0 : Vec Ideal S6144x12800 .fp8e4m3) (x1 : Vec Ideal S6144x100 .f32) (w : Vec Ideal S12800x7168 .fp8e4m3)
    (s b : Vec Ideal S1x7168 .f32) (r : Fin 6144) (q : Fin 56) (x : Fin 128) :
    (act x0 x1 w s b (ix3 r q x) : EReal) = gelu (lin x0 x1 w s b r ⟨128 * q.val + x.val, by omega⟩) := by
  have e : (⟨128 * q.val + x.val, by omega⟩ : Fin 7168) = ⟨q.val * 128 + x.val, by omega⟩ :=
    Fin.ext (by show 128 * q.val + x.val = q.val * 128 + x.val; omega)
  unfold act
  rw [pay1_apply, e]
  show (k0_pay6 x0 x1 w s b (ix2 r ⟨q.val * 128 + x.val, by omega⟩) : EReal) * _ = _
  rw [pay12_apply _ _ _ (pay9_apply x0 x1 w s b _), pay8_apply, pay6_apply, pay7_apply]
  exact geluErfc_eq (lin x0 x1 w s b r ⟨q.val * 128 + x.val, by omega⟩)

attribute [local irreducible] act

/-- What the point leaves of codes. -/
theorem out_5 (x0 : Vec Ideal S6144x12800 .fp8e4m3) (x1 : Vec Ideal S6144x100 .f32) (w : Vec Ideal S12800x7168 .fp8e4m3)
    (s b : Vec Ideal S1x7168 .f32) (y : S6144x7168.Idx) :
    (out0_5 x0 x1 w s b y : EReal) = code (amax fun x => act x0 x1 w s b (ix3 (y 0) ⟨(y 1).val / 128, by have : (y 1).val < 7168 := (y 1).isLt; omega⟩ x))
      (act x0 x1 w s b (ix3 (y 0) ⟨(y 1).val / 128, by have : (y 1).val < 7168 := (y 1).isLt; omega⟩ ⟨(y 1).val % 128, by omega⟩)) := by
  unfold_out out0_5
  frame_out
  unfold act
  exact pay3_apply _ _ _ y

/-- What the point leaves of scales. -/
theorem out_6 (x0 : Vec Ideal S6144x12800 .fp8e4m3) (x1 : Vec Ideal S6144x100 .f32) (w : Vec Ideal S12800x7168 .fp8e4m3)
    (s b : Vec Ideal S1x7168 .f32) (y : S6144x56.Idx) :
    (out0_6 x0 x1 w s b y : EReal) = scale (amax fun x => act x0 x1 w s b (ix3 (y 0) (y 1) x)) := by
  unfold_out out0_6
  frame_out
  unfold act
  exact pay4_apply _ _ _ y

/-- What the first result holds: the codes of the activation, at the argument arrays. -/
def GC (c : Dev nD) : S6144x7168.Idx → Elt Ideal .fp8e4m3 :=
  Linear1Math.outCodes (m ((c : Thread nD τ).loc main_arg0)) (m ((c : Thread nD τ).loc main_arg1)) (m ((c : Thread nD τ).loc main_arg2))
    (m ((c : Thread nD τ).loc main_arg3)) (m ((c : Thread nD τ).loc main_arg4))

/-- What the second result holds: the scales of the activation, at the argument arrays. -/
def GS (c : Dev nD) : S6144x56.Idx → Elt Ideal .f32 :=
  Linear1Math.outScales (m ((c : Thread nD τ).loc main_arg0)) (m ((c : Thread nD τ).loc main_arg1)) (m ((c : Thread nD τ).loc main_arg2))
    (m ((c : Thread nD τ).loc main_arg3)) (m ((c : Thread nD τ).loc main_arg4))

/-- The one point sees every array whole. -/
theorem idx : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0]
    ∧ win0_6.index t = ![0, 0] :=
  (by decide +kernel : ∀ t : Fin grid0.N, _)

/-- The layer at the point's blocks is the layer at the argument arrays. -/
theorem lin_blk (c : Dev nD) (t : Fin cfg0.N) (r : Fin 6144) (j : Fin 7168) :
    lin (iblk m c 0 t) (iblk m c 1 t) (iblk m c 2 t) (iblk m c 3 t) (iblk m c 4 t) r j = Linear1Math.lin (m ((c : Thread nD τ).loc main_arg0)) (m ((c : Thread nD τ).loc main_arg1)) (m ((c : Thread nD τ).loc main_arg2))
    (m ((c : Thread nD τ).loc main_arg3)) (m ((c : Thread nD τ).loc main_arg4)) r j := by
  unfold lin Linear1Math.lin Linear1Math.lhs
  refine congrArg₂ (fun u v : EReal => u + v) (congrArg₂ (fun u v : EReal => u * v) (Finset.sum_congr rfl fun k _ => ?_) ?_) ?_
  · refine congrArg₂ (fun u v : EReal => u * v) (congrArg₂ (fun u v : EReal => u * v) ?_ ?_) ?_ <;> blk_ext [iblk, V, idx t]
  · blk_ext! [iblk, V, idx t]
  · blk_ext! [iblk, V, idx t]

/-- The greatest magnitude in a block of the activation. -/
theorem max_blk (c : Dev nD) (t : Fin cfg0.N) (r : Fin 6144) (q : Fin 56) :
    (amax fun x => act (iblk m c 0 t) (iblk m c 1 t) (iblk m c 2 t) (iblk m c 3 t) (iblk m c 4 t) (ix3 r q x))
      = Linear1Math.blockMax (m ((c : Thread nD τ).loc main_arg0)) (m ((c : Thread nD τ).loc main_arg1)) (m ((c : Thread nD τ).loc main_arg2))
    (m ((c : Thread nD τ).loc main_arg3)) (m ((c : Thread nD τ).loc main_arg4)) r q := by
  unfold Linear1Math.blockMax
  refine congrArg amax (funext fun x => ?_)
  rw [act_apply, lin_blk]

/-- The codes, whole. -/
theorem arr_5 (c : Dev nD) : (dats m 0 c).arrAt 5 cfg0.N = GC m c := by
  refine (dats m 0 c).arrAt_eq_of_covers 5 _ (by decide +kernel) fun t hf y => ?_
  blk_simp
  rw [after0_5]
  refine (out_5 _ _ _ _ _ y).trans ?_
  have he : ((cfg0.win 5).blk t).view.emb y = y := by
    blk_ext [idx t]
  rw [he]
  have hy1 : (y 1).val < 7168 := (y 1).isLt
  unfold GC Linear1Math.outCodes
  refine congrArg₂ code (max_blk m c t (y 0) _) ?_
  refine (act_apply (iblk m c 0 t) (iblk m c 1 t) (iblk m c 2 t) (iblk m c 3 t) (iblk m c 4 t) (y 0) _ _).trans (congrArg gelu ?_)
  refine (lin_blk m c t (y 0) _).trans ?_
  refine congrArg (Linear1Math.lin _ _ _ _ _ _) (Fin.ext ?_)
  show 128 * ((y 1).val / 128) + (y 1).val % 128 = (y 1).val
  omega

/-- The scales, whole. -/
theorem arr_6 (c : Dev nD) : (dats m 0 c).arrAt 6 cfg0.N = GS m c := by
  refine (dats m 0 c).arrAt_eq_of_covers 6 _ (by decide +kernel) fun t hf y => ?_
  blk_simp
  rw [after0_6]
  refine (out_6 _ _ _ _ _ y).trans ?_
  have he : ((cfg0.win 6).blk t).view.emb y = y := by
    blk_ext [idx t]
  rw [he]
  unfold GS Linear1Math.outScales
  exact congrArg scale (max_blk m c t (y 0) (y 1))

/-- The whole run: the two results are `GC` and `GS` of the arguments, which stay as they were. -/
theorem run (ρ : Dev nD → PrngReg) : θ_run defs (onTc (τ := τ) (main (F := Ideal))) ⟨m, fun _ => 0, ρ⟩ fun r => ∀ c : Dev nD,
    r.2.mem ((c : Thread nD τ).loc main_v2_0) = GC m c
      ∧ r.2.mem ((c : Thread nD τ).loc main_v2_1) = GS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (arr_5 m c), (h c).2.1.trans (arr_6 m c), (h c).2.2⟩) (Run.run_blocks m ρ)

end Cert.Linear1RefIdeal.Ref
-- ==== Proof.Linear2IdealTile.lean ====
module

public import proofs.«01_k».proof.Proof.Gen.Linear2Ideal.Value
public import Idealize.ShloMosaic.Lib.Pipeline.ValueKit

/-!
What one grid point of the second linear layer's kernel leaves in its scratch and its output block.
-/

@[expose] public section

noncomputable section

namespace Cert.Linear2Ideal.Tile

open Idealize.ShloMosaic Idealize.SL.Sem Cert.Linear2Ideal

/-- A row tile of the left factor: code (r, k) times the scale of the 128-wide block that k lies in. -/
def deq (x0 : Vec Ideal S512x7168 .fp8e4m3) (x1 : Vec Ideal S512x56 .f32) : Vec Ideal S512x7168 .bf16 :=
  fun y => (x0 y : EReal) * (x1 (ix2 (y 0) ⟨(y 1).val / 128, by have : (y 1).val < 7168 := (y 1).isLt; omega⟩) : EReal)

/-- One 512 by 128 block that the body stores into the scratch: its codes times its column of scales. -/
theorem piece_apply (s : Vec Ideal S512x1 .f32) (b : Vec Ideal S512x128 .fp8e4m3) (x : S512x128.Idx) :
    Gen.k0_pay3 s b x = (b x : EReal) * (s (ix2 (x 0) 0) : EReal) := by
  unfold Gen.k0_pay3
  pointwise

/-- A block that the body stores at column k = 128 j holds the left factor's entries there. -/
theorem piece (x0 : Vec Ideal S512x7168 .fp8e4m3) (x1 : Vec Ideal S512x56 .f32) (j k : ℕ) (hk : k = 128 * j)
    (inb1 : ∀ a, ![0, j] a + ![512, 1] a ≤ S512x56.size a) (inb0 : ∀ a, ![0, k] a + ![512, 128] a ≤ S512x7168.size a)
    (x : S512x128.Idx) (y : S512x7168.Idx) (h0 : (y 0).val = (x 0).val) (h1 : (y 1).val = k + (x 1).val) :
    Gen.k0_pay3 (F := Ideal) (View.ld x1 (Rect.unit ![0, j] ![512, 1] inb1)) (View.ld x0 (Rect.unit ![0, k] ![512, 128] inb0)) x = deq x0 x1 y := by
  refine (piece_apply _ _ x).trans ?_
  unfold deq
  have hy1 : (y 1).val < 7168 := (y 1).isLt
  refine congrArg₂ (fun u v : EReal => u * v) (View.ld_unit_apply_of _ _ _ _ _ y fun a => ?_)
    (View.ld_unit_apply_of _ _ _ _ _ _ fun a => ?_)
  · match a with
    | ⟨0, _⟩ => exact h0.trans (Nat.zero_add _).symm
    | ⟨1, _⟩ => exact h1
  · have hx1 : (x 1).val < 128 := (x 1).isLt
    match a with
    | ⟨0, _⟩ => exact h0.trans (Nat.zero_add _).symm
    | ⟨1, _⟩ => show (y 1).val / 128 = j + 0; omega

/-- Case A (the first column tile): the scratch holds the row tile's left factor. -/
theorem sout_A (c : Dev nD) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : Gen.cond0_0 i)
    (x0 : Vec Ideal S512x7168 .fp8e4m3) (x1 : Vec Ideal S512x56 .f32) (x2 : Vec Ideal S7168x512 .fp8e4m3) (x3 : Vec Ideal S1x512 .f32) (x4 : Vec Ideal S1x512 .f32) :
    Gen.sout0_A_0 c i arg2 harg2 arg3 harg3 arg4 harg4 arg5 harg5 arg6 harg6 arg7 harg7 arg8 harg8 hc0 x0 x1 x2 x3 x4 = deq x0 x1 := by
  funext y
  frame_out
  canon_tiles x h
  all_goals exact piece x0 x1 _ _ (by rfl) _ _ x y (by omega) (by omega)

/-- Case A: the output block is made from the left factor just stored. -/
theorem out_A (c : Dev nD) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : Gen.cond0_0 i)
    (x0 : Vec Ideal S512x7168 .fp8e4m3) (x1 : Vec Ideal S512x56 .f32) (x2 : Vec Ideal S7168x512 .fp8e4m3) (x3 : Vec Ideal S1x512 .f32) (x4 : Vec Ideal S1x512 .f32) :
    Gen.out0_A_5 c i arg2 harg2 arg3 harg3 arg4 harg4 arg5 harg5 arg6 harg6 arg7 harg7 arg8 harg8 hc0 x0 x1 x2 x3 x4 = Gen.k0_pay2 (deq x0 x1) x2 x3 x4 := by
  have h := sout_A c i arg2 harg2 arg3 harg3 arg4 harg4 arg5 harg5 arg6 harg6 arg7 harg7 arg8 harg8 hc0 x0 x1 x2 x3 x4
  revert h
  frame_out
  intro h
  refine congrArg (fun v => Gen.k0_pay2 (F := Ideal) v x2 x3 x4) ?_
  rw [← h]
  rw [View.readCov_eq_canon']
  refine funext fun j => ?_
  refine congrArg _ (funext fun a => Fin.ext ((Rect.idx_unit_val _ _ _ _ a).trans ?_))
  match a with
  | ⟨0, _⟩ => exact Nat.zero_add _
  | ⟨1, _⟩ => exact Nat.zero_add _

/-- Case B (the other column tiles): the output block is made from the scratch as it is. -/
theorem out_B (c : Dev nD) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x7168 .bf16) (harg8 : arg8.IsWhole) (hc0 : ¬ Gen.cond0_0 i)
    (x0 : Vec Ideal S512x7168 .fp8e4m3) (x1 : Vec Ideal S512x56 .f32) (x2 : Vec Ideal S7168x512 .fp8e4m3) (x3 : Vec Ideal S1x512 .f32) (x4 : Vec Ideal S1x512 .f32) (xs0 : Vec Ideal S512x7168 .bf16) :
    Gen.out0_B_5 c i arg2 harg2 arg3 harg3 arg4 harg4 arg5 harg5 arg6 harg6 arg7 harg7 arg8 harg8 hc0 x0 x1 x2 x3 x4 xs0 = Gen.k0_pay2 xs0 x2 x3 x4 := by
  frame_out

/-- The output block: the product of the left factor with the weights, times the columns' scales, plus their biases. -/
theorem pay2_apply (a : Vec Ideal S512x7168 .bf16) (w : Vec Ideal S7168x512 .fp8e4m3) (s b : Vec Ideal S1x512 .f32) (y : S512x512.Idx) :
    Gen.k0_pay2 a w s b y = (∑ k : Fin 7168, (a (ix2 (y 0) k) : EReal) * (w (ix2 k (y 1)) : EReal)) * (s (ix2 0 (y 1)) : EReal) + (b (ix2 0 (y 1)) : EReal) := by
  unfold Gen.k0_pay2
  pointwise

end Cert.Linear2Ideal.Tile
-- ==== Proof.Linear2IdealArray.lean ====
module

public import proofs.«01_k».proof.Proof.Linear2IdealTile
public import proofs.«01_k».proof.Proof.Linear2Math

/-!
What the result of the second linear layer holds after all 168 grid points, a tile a point.
-/

@[expose] public section

noncomputable section

namespace Cert.Linear2Ideal.Tile

open Idealize.ShloMosaic Idealize.ShloMosaic.TcCoe Idealize.SL.Sem Cert.Linear2Ideal Cert.Linear2Ideal.Gen

variable (m : (ℓ : Loc nD τ sig) → Buf (Elt Ideal) ℓ)

/-- The block of each operand's array that a grid point sees: row tile t / 14, column tile t mod 14. -/
theorem idx : ∀ t : Fin cfg0.N, win0_0.index t = ![t.val / 14, 0] ∧ win0_1.index t = ![t.val / 14, 0]
    ∧ win0_2.index t = ![0, t.val % 14] ∧ win0_3.index t = ![0, t.val % 14] ∧ win0_4.index t = ![0, t.val % 14]
    ∧ win0_5.index t = ![t.val / 14, t.val % 14] :=
  (by decide +kernel : ∀ t : Fin grid0.N, _)

/-- The left factor, at the argument arrays. -/
def lhs (c : Dev nD) (r : Fin 6144) (k : Fin 7168) : EReal :=
  Linear2Math.lhs (m ((c : Thread nD τ).loc main_arg0)) (m ((c : Thread nD τ).loc main_arg1)) r k

/-- What the result holds: the layer, at the argument arrays. -/
def G (c : Dev nD) : S6144x7168.Idx → Elt Ideal .bf16 :=
  Linear2Math.out (m ((c : Thread nD τ).loc main_arg0)) (m ((c : Thread nD τ).loc main_arg1))
    (m ((c : Thread nD τ).loc main_arg2)) (m ((c : Thread nD τ).loc main_arg3)) (m ((c : Thread nD τ).loc main_arg4))

/-- The left factor of a point's row tile is the array's, row by row. -/
theorem deq_blk (c : Dev nD) (t : Fin cfg0.N) (y : S512x7168.Idx) :
    deq (iblk m c 0 t) (iblk m c 1 t) y = lhs m c ⟨512 * (t.val / 14) + (y 0).val, by
      have h0 : (y 0).val < 512 := (y 0).isLt
      have ht : t.val < 168 := t.isLt
      omega⟩ (y 1) := by
  unfold deq lhs Linear2Math.lhs
  congr 1 <;> blk_ext [iblk, V, idx t]

/-- Case A (the first column tile of a row tile): the scratch is stored and the output block made from it. -/
theorem outs_A (c : Dev nD) (n : ℕ) (hn : n < cfg0.N) (h0 : n % 14 = 0) :
    outsAt0 m c n hn = (k0_pay2 (deq (iblk m c 0 ⟨n, hn⟩) (iblk m c 1 ⟨n, hn⟩)) (iblk m c 2 ⟨n, hn⟩) (iblk m c 3 ⟨n, hn⟩) (iblk m c 4 ⟨n, hn⟩),
      deq (iblk m c 0 ⟨n, hn⟩) (iblk m c 1 ⟨n, hn⟩)) := by
  have h := outsAt0_A m c ⟨n, hn⟩ h0
  rw [sout_A, out_A] at h
  exact h

/-- Case B (the other column tiles): the output block is made from the scratch as the point before left it. -/
theorem outs_B (c : Dev nD) (n : ℕ) (hn : n < cfg0.N) (h0 : ¬ n % 14 = 0) :
    outsAt0 m c n hn = (k0_pay2 (outsAt0 m c (n - 1) (by omega)).2 (iblk m c 2 ⟨n, hn⟩) (iblk m c 3 ⟨n, hn⟩) (iblk m c 4 ⟨n, hn⟩),
      (outsAt0 m c (n - 1) (by omega)).2) := by
  have h := outsAt0_B m c ⟨n, hn⟩ h0
  rw [out_B, sout0_B_0] at h
  exact h

/-- The scratch after every point: the row tile's left factor, in case A just stored and in case B carried. -/
theorem scratch (c : Dev nD) (n : ℕ) : ∀ hn : n < cfg0.N,
    (outsAt0 m c n hn).2 = deq (iblk m c 0 ⟨n, hn⟩) (iblk m c 1 ⟨n, hn⟩) := by
  induction n using Nat.strong_induction_on with
  | _ n ih =>
    intro hn
    by_cases h0 : n % 14 = 0
    · rw [outs_A m c n hn h0]
    · rw [outs_B m c n hn h0]
      have hp : n - 1 < cfg0.N := lt_of_le_of_lt (Nat.sub_le n 1) hn
      have hl : n - 1 < n := Nat.sub_lt (Nat.pos_of_ne_zero fun h => h0 (by rw [h])) Nat.one_pos
      refine (ih (n - 1) hl hp).trans (funext fun y => ?_)
      rw [deq_blk, deq_blk]
      refine congrArg (fun r => lhs m c r (y 1)) (Fin.ext ?_)
      show 512 * ((n - 1) / 14) + _ = 512 * (n / 14) + _
      omega

/-- What a point leaves in the output block. -/
theorem outs (c : Dev nD) (t : Fin cfg0.N) :
    (outsAt0 m c t.val t.isLt).1
      = k0_pay2 (deq (iblk m c 0 t) (iblk m c 1 t)) (iblk m c 2 t) (iblk m c 3 t) (iblk m c 4 t) := by
  have hs := scratch m c t.val t.isLt
  by_cases h0 : t.val % 14 = 0
  · rw [outs_A m c t.val t.isLt h0]
  · rw [outs_B m c t.val t.isLt h0] at hs ⊢
    exact congrArg (fun v => k0_pay2 (F := Ideal) v (iblk m c 2 t) (iblk m c 3 t) (iblk m c 4 t)) hs

/-- A point's output block is the part of the whole result at its place. -/
theorem point (c : Dev nD) (t : Fin cfg0.N) (y : S512x512.Idx) :
    (outsAt0 m c t.val t.isLt).1 y = G m c (((cfg0.win 5).blk t).view.emb y) := by
  rw [outs, pay2_apply]
  unfold G Linear2Math.out Linear2Math.lhs
  simp only [deq_blk]
  unfold lhs Linear2Math.lhs
  refine congrArg₂ (fun u v : EReal => u + v) (congrArg₂ (fun u v : EReal => u * v) (Finset.sum_congr rfl fun k _ => ?_) ?_) ?_
  · refine congrArg₂ (fun u v : EReal => u * v) (congrArg₂ (fun u v : EReal => u * v) ?_ ?_) ?_ <;> blk_ext [iblk, V, idx t]
  · blk_ext! [iblk, V, idx t]
  · blk_ext! [iblk, V, idx t]

/-- The result, whole. -/
theorem arr (c : Dev nD) : (dats m 0 c).arrAt 5 cfg0.N = G m c := by
  refine (dats m 0 c).arrAt_eq_of_covers 5 _ (by decide +kernel) fun t hf y => ?_
  blk_simp
  exact point m c t y

/-- The whole run: the result is `G` of the arguments, which stay as they were. -/
theorem run (ρ : Dev nD → PrngReg) : θ_run defs (onTc (τ := τ) (main (F := Ideal))) ⟨m, fun _ => 0, ρ⟩ fun r => ∀ c : Dev nD,
    r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (arr m c), (h c).2⟩) (Value.run_blocks m ρ)

end Cert.Linear2Ideal.Tile
-- ==== Proof.Linear2RefIdealReference.lean ====
module

public import proofs.«01_k».proof.Proof.Gen.Linear2RefIdeal.Value
public import proofs.«01_k».proof.Proof.Linear2Math
public import Idealize.ShloMosaic.Lib.Pipeline.ValueKit

/-!
What the reference of the second linear layer computes: its one point sees every array whole and leaves the layer of
`Linear2Math`.
-/

@[expose] public section

noncomputable section

namespace Cert.Linear2RefIdeal.Ref

open Idealize.ShloMosaic Idealize.ShloMosaic.TcCoe Idealize.SL.Sem Cert.Linear2RefIdeal Cert.Linear2RefIdeal.Gen

variable (m : (ℓ : Loc nD τ sig) → Buf (Elt Ideal) ℓ)

/-- The layer over whole arrays, as the body computes it. -/
theorem pay1_apply (x0 : Vec Ideal S6144x7168 .fp8e4m3) (x1 : Vec Ideal S6144x56 .f32) (w : Vec Ideal S7168x7168 .fp8e4m3)
    (s b : Vec Ideal S1x7168 .f32) (y : S6144x7168.Idx) :
    k0_pay1 x0 x1 w s b y = (∑ k : Fin 7168, (x0 (ix2 (y 0) k) : EReal) * (x1 (ix2 (y 0) ⟨k.val / 128, by omega⟩) : EReal)
        * (w (ix2 k (y 1)) : EReal)) * (s (ix2 0 (y 1)) : EReal) + (b (ix2 0 (y 1)) : EReal) := by
  unfold k0_pay1
  pointwise

/-- What the result holds: the layer, at the argument arrays. -/
def G (c : Dev nD) : S6144x7168.Idx → Elt Ideal .bf16 :=
  Linear2Math.out (m ((c : Thread nD τ).loc main_arg0)) (m ((c : Thread nD τ).loc main_arg1))
    (m ((c : Thread nD τ).loc main_arg2)) (m ((c : Thread nD τ).loc main_arg3)) (m ((c : Thread nD τ).loc main_arg4))

/-- The one point sees every array whole. -/
theorem idx : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0] :=
  (by decide +kernel : ∀ t : Fin grid0.N, _)

/-- The result, whole. -/
theorem arr (c : Dev nD) : (dats m 0 c).arrAt 5 cfg0.N = G m c := by
  refine (dats m 0 c).arrAt_eq_of_covers 5 _ (by decide +kernel) fun t hf y => ?_
  blk_simp
  rw [after0_5]
  frame_out
  rw [pay1_apply]
  unfold G Linear2Math.out Linear2Math.lhs
  refine congrArg₂ (fun u v : EReal => u + v) (congrArg₂ (fun u v : EReal => u * v) (Finset.sum_congr rfl fun k _ => ?_) ?_) ?_
  · refine congrArg₂ (fun u v : EReal => u * v) (congrArg₂ (fun u v : EReal => u * v) ?_ ?_) ?_ <;> blk_ext [iblk, V, idx t]
  · blk_ext! [iblk, V, idx t]
  · blk_ext! [iblk, V, idx t]

/-- The whole run: the result is `G` of the arguments, which stay as they were. -/
theorem run (ρ : Dev nD → PrngReg) : θ_run defs (onTc (τ := τ) (main (F := Ideal))) ⟨m, fun _ => 0, ρ⟩ fun r => ∀ c : Dev nD,
    r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (arr m c), (h c).2⟩) (Value.run_blocks m ρ)

end Cert.Linear2RefIdeal.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.KernelFrame
public import proofs.«01_k».proof.Proof.KernelIdealResults
public import proofs.«01_k».proof.Proof.ReferenceResults
public import Idealize.ShloMosaic.Lib.Bf16Pair
public import proofs.«01_k».proof.Proof.Gen.LnQuant
public import proofs.«01_k».proof.Proof.Gen.LnQuant.Frame
public import proofs.«01_k».proof.Proof.Gen.LnQuantIdeal
public import proofs.«01_k».proof.Proof.Gen.LnQuantIdeal.Frame
public import proofs.«01_k».proof.Proof.Gen.LnQuantRefIdeal
public import proofs.«01_k».proof.Proof.Gen.LnQuantRefIdeal.Frame
public import proofs.«01_k».proof.Proof.Gen.Linear1
public import proofs.«01_k».proof.Proof.Gen.Linear1.Frame
public import proofs.«01_k».proof.Proof.Gen.Linear1Ideal
public import proofs.«01_k».proof.Proof.Gen.Linear1Ideal.Frame
public import proofs.«01_k».proof.Proof.Gen.Linear1RefIdeal
public import proofs.«01_k».proof.Proof.Gen.Linear1RefIdeal.Frame
public import proofs.«01_k».proof.Proof.Gen.Linear2
public import proofs.«01_k».proof.Proof.Gen.Linear2.Frame
public import proofs.«01_k».proof.Proof.Gen.Linear2Ideal
public import proofs.«01_k».proof.Proof.Gen.Linear2Ideal.Frame
public import proofs.«01_k».proof.Proof.Gen.Linear2RefIdeal
public import proofs.«01_k».proof.Proof.Gen.Linear2RefIdeal.Frame
public import proofs.«01_k».proof.Proof.Gen.Linear1Ideal.Value
public import proofs.«01_k».proof.Proof.Gen.Linear2Ideal.Value
public import proofs.«01_k».proof.Proof.Gen.Linear2RefIdeal.Value
public import proofs.«01_k».proof.Proof.Gen.LnQuantIdeal.Value
public import proofs.«01_k».proof.Proof.LnQuantIdealArray
public import proofs.«01_k».proof.Proof.LnQuantRefIdealReference
public import proofs.«01_k».proof.Proof.Linear1IdealArray
public import proofs.«01_k».proof.Proof.Linear1RefIdealReference
public import proofs.«01_k».proof.Proof.Linear2IdealArray
public import proofs.«01_k».proof.Proof.Linear2RefIdealReference

/-!
The claims. Of the whole kernel: its frame, its idealized program's and the reference's; the rewrites that idealization makes;
and the equality of the five results of the idealized kernel and the reference over the reals. Then the same five of each of
its three calls taken alone, at any inputs of its own.
-/

@[expose] public section

noncomputable section

namespace Cert.Proof

open Idealize.ShloMosaic Idealize.SL.Sem

/-- The rewrites of the kernel, all in its layer norm: a bfloat16 pair in a word is its two halves, and the named reciprocal
    of 12800 is the constant up to its rounding. -/
theorem rewrites : Cert.preserves_Kernel_KernelIdeal :=
  ⟨IdealRules.bf16_pair.statement _ _ Cert.KernelIdeal.Gen.bitcasts_S32x128_w16_S16x128_w32,
    IdealRules.bf16_pair.statement _ _ Cert.KernelIdeal.Gen.bitcasts_S64x128_w16_S32x128_w32,
    IdealRules.named_const.statement Cert.KernelIdeal.κ "inv_k" .f32 0x38A3D70A#32 _ rfl⟩

/-- A memory of the kernel and one of the reference that hold the same nine arguments. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

/-- From the same arguments, the same codes of the layer norm. -/
theorem hCodes_eq (h : Agree m m' c) : Cert.ReferenceIdeal.Results.hCodes m' c = Cert.KernelIdeal.Results.hCodes m c := by
  unfold Cert.ReferenceIdeal.Results.hCodes Cert.KernelIdeal.Results.hCodes
  rw [h.1, h.2.1, h.2.2.1]

/-- From the same arguments, the same scales of the layer norm. -/
theorem hScales_eq (h : Agree m m' c) : Cert.ReferenceIdeal.Results.hScales m' c = Cert.KernelIdeal.Results.hScales m c := by
  unfold Cert.ReferenceIdeal.Results.hScales Cert.KernelIdeal.Results.hScales
  rw [h.1, h.2.1, h.2.2.1]

/-- From the same arguments, the same codes of the activation. -/
theorem gCodes_eq (h : Agree m m' c) : Cert.ReferenceIdeal.Results.gCodes m' c = Cert.KernelIdeal.Results.gCodes m c := by
  unfold Cert.ReferenceIdeal.Results.gCodes Cert.KernelIdeal.Results.gCodes
  rw [hCodes_eq h, hScales_eq h, h.2.2.2.1, h.2.2.2.2.1, h.2.2.2.2.2.1]

/-- From the same arguments, the same scales of the activation. -/
theorem gScales_eq (h : Agree m m' c) : Cert.ReferenceIdeal.Results.gScales m' c = Cert.KernelIdeal.Results.gScales m c := by
  unfold Cert.ReferenceIdeal.Results.gScales Cert.KernelIdeal.Results.gScales
  rw [hCodes_eq h, hScales_eq h, h.2.2.2.1, h.2.2.2.2.1, h.2.2.2.2.2.1]

/-- From the same arguments, the same second linear layers. -/
theorem out_eq (h : Agree m m' c) : Cert.ReferenceIdeal.Results.out m' c = Cert.KernelIdeal.Results.out m c := by
  unfold Cert.ReferenceIdeal.Results.out Cert.KernelIdeal.Results.out
  rw [gCodes_eq h, gScales_eq h, h.2.2.2.2.2.2.1, h.2.2.2.2.2.2.2.1, h.2.2.2.2.2.2.2.2]

/-- Layer norm, quantiser, linear layer, gelu, quantiser, linear layer: over the reals the kernel's three tiled calls and the
    plain reference compute the same five arrays from the same arguments. -/
theorem values : Cert.algebraic_KernelIdeal_ReferenceIdeal (hKernelIdeal := Cert.KernelIdeal.Gen.facts)
    (hReferenceIdeal := Cert.ReferenceIdeal.Gen.facts) := fun m ρ m' ρ' _ hag =>
  ⟨Cert.KernelIdeal.Results.out m, Cert.KernelIdeal.Results.hCodes m, Cert.KernelIdeal.Results.hScales m, Cert.KernelIdeal.Results.gCodes m, Cert.KernelIdeal.Results.gScales m,
    Cert.KernelIdeal.Results.run m ρ,
    (θ_run _ _ _).mono (fun _ h c => ⟨(h c).1.trans (out_eq (hag c)), (h c).2.1.trans (hCodes_eq (hag c)), (h c).2.2.1.trans (hScales_eq (hag c)), (h c).2.2.2.1.trans (gCodes_eq (hag c)), (h c).2.2.2.2.1.trans (gScales_eq (hag c)), (h c).2.2.2.2.2⟩)
      (Cert.ReferenceIdeal.Results.run m' ρ')⟩

/-- The rewrites of the layer norm: a bfloat16 pair in a word is its two halves, and the named reciprocal of 12800 is the
    constant up to its rounding. -/
theorem lnRewrites : Cert.preserves_LnQuant_LnQuantIdeal :=
  ⟨IdealRules.bf16_pair.statement _ _ Cert.LnQuantIdeal.Gen.bitcasts_S32x128_w16_S16x128_w32,
    IdealRules.bf16_pair.statement _ _ Cert.LnQuantIdeal.Gen.bitcasts_S64x128_w16_S32x128_w32,
    IdealRules.named_const.statement Cert.LnQuantIdeal.κ "inv_k" .f32 0x38A3D70A#32 _ rfl⟩

/-- The layer norm with its quantiser: over the reals the kernel's three passes over 32 rows a point and the plain
    reference compute the same codes and the same scales. -/
theorem lnQuant : Cert.algebraic_LnQuantIdeal_LnQuantRefIdeal (hLnQuantIdeal := Cert.LnQuantIdeal.Gen.facts)
    (hLnQuantRefIdeal := Cert.LnQuantRefIdeal.Gen.facts) := fun m ρ m' ρ' _ hag =>
  ⟨Cert.LnQuantIdeal.Tile.GC m, Cert.LnQuantIdeal.Tile.GS m, Cert.LnQuantIdeal.Tile.run m ρ,
    (θ_run _ _ _).mono (fun _ h c => ⟨(h c).1.trans (by
      unfold Cert.LnQuantRefIdeal.Ref.GC Cert.LnQuantIdeal.Tile.GC
      rw [(hag c).1, (hag c).2.1, (hag c).2.2]), (h c).2.1.trans (by
      unfold Cert.LnQuantRefIdeal.Ref.GS Cert.LnQuantIdeal.Tile.GS
      rw [(hag c).1, (hag c).2.1, (hag c).2.2]), (h c).2.2⟩) (Cert.LnQuantRefIdeal.Ref.run m' ρ')⟩

/-- The first linear layer with its gelu and quantiser: over the reals the tiled kernel and the plain reference compute
    the same codes and the same scales. -/
theorem linear1 : Cert.algebraic_Linear1Ideal_Linear1RefIdeal (hLinear1Ideal := Cert.Linear1Ideal.Gen.facts)
    (hLinear1RefIdeal := Cert.Linear1RefIdeal.Gen.facts) := fun m ρ m' ρ' _ hag =>
  ⟨Cert.Linear1Ideal.Tile.GC m, Cert.Linear1Ideal.Tile.GS m, Cert.Linear1Ideal.Tile.run m ρ,
    (θ_run _ _ _).mono (fun _ h c => ⟨(h c).1.trans (by
      unfold Cert.Linear1RefIdeal.Ref.GC Cert.Linear1Ideal.Tile.GC
      rw [(hag c).1, (hag c).2.1, (hag c).2.2.1, (hag c).2.2.2.1, (hag c).2.2.2.2]), (h c).2.1.trans (by
      unfold Cert.Linear1RefIdeal.Ref.GS Cert.Linear1Ideal.Tile.GS
      rw [(hag c).1, (hag c).2.1, (hag c).2.2.1, (hag c).2.2.2.1, (hag c).2.2.2.2]), (h c).2.2⟩) (Cert.Linear1RefIdeal.Ref.run m' ρ')⟩

/-- The second linear layer: over the reals the tiled kernel and the plain reference compute the same array. -/
theorem linear2 : Cert.algebraic_Linear2Ideal_Linear2RefIdeal (hLinear2Ideal := Cert.Linear2Ideal.Gen.facts)
    (hLinear2RefIdeal := Cert.Linear2RefIdeal.Gen.facts) := fun m ρ m' ρ' _ hag =>
  ⟨Cert.Linear2Ideal.Tile.G m, Cert.Linear2Ideal.Tile.run m ρ,
    (θ_run _ _ _).mono (fun _ h c => ⟨(h c).1.trans (by
      unfold Cert.Linear2RefIdeal.Ref.G Cert.Linear2Ideal.Tile.G
      rw [(hag c).1, (hag c).2.1, (hag c).2.2.1, (hag c).2.2.2.1, (hag c).2.2.2.2]), (h c).2⟩) (Cert.Linear2RefIdeal.Ref.run m' ρ')⟩

/-- Every claim. -/
theorem claim : Cert.Claim := ⟨Cert.Kernel.Gen.facts, Cert.KernelIdeal.Gen.facts, Cert.ReferenceIdeal.Gen.facts,
  Cert.LnQuant.Gen.facts, Cert.LnQuantIdeal.Gen.facts, Cert.LnQuantRefIdeal.Gen.facts,
  Cert.Linear1.Gen.facts, Cert.Linear1Ideal.Gen.facts, Cert.Linear1RefIdeal.Gen.facts,
  Cert.Linear2.Gen.facts, Cert.Linear2Ideal.Gen.facts, Cert.Linear2RefIdeal.Gen.facts,
  fun m ρ _ => Cert.Kernel.Whole.frame m ρ, fun m ρ _ => Cert.KernelIdeal.Whole.frame m ρ,
  fun m ρ _ => Cert.ReferenceIdeal.Gen.frame m ρ,
  fun m ρ _ => Cert.LnQuant.Gen.frame m ρ, fun m ρ _ => Cert.LnQuantIdeal.Gen.frame m ρ,
  fun m ρ _ => Cert.LnQuantRefIdeal.Gen.frame m ρ,
  fun m ρ _ => Cert.Linear1.Gen.frame m ρ, fun m ρ _ => Cert.Linear1Ideal.Gen.frame m ρ,
  fun m ρ _ => Cert.Linear1RefIdeal.Gen.frame m ρ,
  fun m ρ _ => Cert.Linear2.Gen.frame m ρ, fun m ρ _ => Cert.Linear2Ideal.Gen.frame m ρ,
  fun m ρ _ => Cert.Linear2RefIdeal.Gen.frame m ρ,
  rewrites, values, lnRewrites, lnQuant, trivial, linear1, trivial, linear2⟩

end Cert.Proof

end
